-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S64x2x512x512 : Shape := ⟨4, ![64, 2, 512, 512]⟩
abbrev S64x500 : Shape := ⟨2, ![64, 500]⟩
abbrev S64x500x2 : Shape := ⟨3, ![64, 500, 2]⟩
abbrev S_ : Shape := ⟨0, ![]⟩

class Facts : Prop where
  bcast_S_S64x500 : S_.BroadcastsInDim S64x500 (![] : Fin 0 → Fin S64x500.rank)
  reducesTo_S64x500_S_d0_1 : S64x500.ReducesTo [0, 1] S_
  h_S_ : 0 < S_.numel

variable [Facts]

def fn {F : FTy → Type} [FloatOps F] (main_arg0 : FVec F S64x2x512x512 .f32) (main_arg1 : IVec S64x500 32) (main_arg2 : IVec S64x500 32) (main_arg3 : FVec F S64x500x2 .f32) : IVec S_ 1 :=
  let main_c : IVec S_ 32 := constantI S_ 32 0#32
  let main_v0 : IVec S64x500 32 := broadcastInDim S64x500 ![] bcast_S_S64x500 main_c
  let main_v1 : IVec S64x500 1 := cmpi .sge main_arg2 main_v0
  let main_c_0 : IVec S_ 32 := constantI S_ 32 262144#32
  let main_v2 : IVec S64x500 32 := broadcastInDim S64x500 ![] bcast_S_S64x500 main_c_0
  let main_v3 : IVec S64x500 1 := cmpi .slt main_arg2 main_v2
  let main_v4 : IVec S64x500 1 := andi main_v1 main_v3
  let main_c_1 : IVec S_ 1 := constantI S_ 1 1#1
  let main_v5 : IVec S_ 1 := (fun x v => Host.reduce IntOp.andi x v reducesTo_S64x500_S_d0_1 h_S_) main_v4 main_c_1
  main_v5
-- ==== Kernel.lean ====
abbrev S64x2x512x512 : Shape := ⟨4, ![64, 2, 512, 512]⟩
abbrev S64x500 : Shape := ⟨2, ![64, 500]⟩
abbrev S64x500x2 : Shape := ⟨3, ![64, 500, 2]⟩
abbrev S32x1000 : Shape := ⟨2, ![32, 1000]⟩
abbrev S32x2000 : Shape := ⟨2, ![32, 2000]⟩
abbrev S1000 : Shape := ⟨1, ![1000]⟩
abbrev S2000 : Shape := ⟨1, ![2000]⟩
abbrev S2048 : Shape := ⟨1, ![2048]⟩
abbrev S32 : Shape := ⟨1, ![32]⟩
abbrev S64x512 : Shape := ⟨2, ![64, 512]⟩
abbrev S_ : Shape := ⟨0, ![]⟩
abbrev S1x1000 : Shape := ⟨2, ![1, 1000]⟩
abbrev S16 : Shape := ⟨1, ![16]⟩
abbrev S1 : Shape := ⟨1, ![1]⟩
abbrev S65536x512 : Shape := ⟨2, ![65536, 512]⟩
abbrev S1x2000 : Shape := ⟨2, ![1, 2000]⟩
abbrev S1x1 : Shape := ⟨2, ![1, 1]⟩
abbrev S1x32x2000 : Shape := ⟨3, ![1, 32, 2000]⟩
abbrev S1x1x1 : Shape := ⟨3, ![1, 1, 1]⟩

abbrev nBuf : Table → Nat
  | .hbm => 11
  | .local .tc .vmem => 3
  | .local .tc .smem => 1
  | .local .scVector .vmem => 10
  | _ => 0

abbrev bufTy : (tb : Table) → Fin (nBuf tb) → BufTy
  | .hbm, ⟨0, _⟩ => ⟨S64x2x512x512, .f32⟩
  | .hbm, ⟨1, _⟩ => ⟨S64x500, .i32⟩
  | .hbm, ⟨2, _⟩ => ⟨S64x500, .i32⟩
  | .hbm, ⟨3, _⟩ => ⟨S64x500x2, .f32⟩
  | .hbm, ⟨4, _⟩ => ⟨S32x1000, .i32⟩
  | .hbm, ⟨5, _⟩ => ⟨S32x1000, .i32⟩
  | .hbm, ⟨6, _⟩ => ⟨S32x2000, .f32⟩
  | .hbm, ⟨7, _⟩ => ⟨S32x2000, .f32⟩
  | .hbm, ⟨8, _⟩ => ⟨S32x2000, .f32⟩
  | .hbm, ⟨9, _⟩ => ⟨S1x1, .f32⟩
  | .hbm, ⟨10, _⟩ => ⟨S_, .f32⟩
  | .local .tc .vmem, ⟨0, _⟩ => ⟨S32x2000, .f32⟩
  | .local .tc .vmem, ⟨1, _⟩ => ⟨S32x2000, .f32⟩
  | .local .tc .vmem, ⟨2, _⟩ => ⟨S32x2000, .f32⟩
  | .local .tc .smem, ⟨0, _⟩ => ⟨S1x1, .f32⟩
  | .local .scVector .vmem, ⟨0, _⟩ => ⟨S1000, .i32⟩
  | .local .scVector .vmem, ⟨1, _⟩ => ⟨S1000, .i32⟩
  | .local .scVector .vmem, ⟨2, _⟩ => ⟨S2000, .f32⟩
  | .local .scVector .vmem, ⟨3, _⟩ => ⟨S2000, .f32⟩
  | .local .scVector .vmem, ⟨4, _⟩ => ⟨S2000, .i32⟩
  | .local .scVector .vmem, ⟨5, _⟩ => ⟨S2048, .i32⟩
  | .local .scVector .vmem, ⟨6, _⟩ => ⟨S32, .i32⟩
  | .local .scVector .vmem, ⟨7, _⟩ => ⟨S32, .i32⟩
  | .local .scVector .vmem, ⟨8, _⟩ => ⟨S64x512, .f32⟩
  | .local .scVector .vmem, ⟨9, _⟩ => ⟨S64x512, .f32⟩
  | _, _ => ⟨S64x2x512x512, .f32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_arg0_scv : Ref sig .scVector := ⟨.hbm, 0, rfl⟩
abbrev main_v0_scv : Ref sig .scVector := ⟨.hbm, 4, rfl⟩
abbrev main_v1_scv : Ref sig .scVector := ⟨.hbm, 5, rfl⟩
abbrev main_v3_0_scv : Ref sig .scVector := ⟨.hbm, 7, rfl⟩
abbrev main_v3_1_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc1_sem0_0 : DmaSem sig := 6
abbrev cc1_sem1_0 : DmaSem sig := 7
abbrev cc1_sem2_0 : DmaSem sig := 8
abbrev cc1_sem3_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_394_r0 : BitVec 32 := 0#32
  ![v1.toNat, 0]
@[reducible] def k0_t1_loop : Scf.Loop 32 :=
  let c0_i32_1 : BitVec 32 := 0#32
  let c125_i32 : BitVec 32 := 125#32
  let v7 : BitVec 32 := Scalar.addi c0_i32_1 c125_i32
  let c1_i32 : BitVec 32 := 1#32
  ⟨c0_i32_1, v7, c1_i32⟩

def k0_chk1 (v830 : IVec S16 32) : Prop :=
  (∀ a x, ((![v830] : Fin 1 → IVec S16 32) a x).toNat < S1000.size a) ∧
  (∀ a x, ((![v830] : Fin 1 → IVec S16 32) a x).toNat < S1000.size a)
theorem k0_idx1_inb : ∀ (v830 : IVec S16 32) (k0_hw1 : k0_chk1 v830), ∀ a x, ((![v830] : Fin 1 → IVec S16 32) a x).toNat < S1000.size a := fun v830 k0_hw1 => k0_hw1.1
theorem k0_idx2_inb : ∀ (v830 : IVec S16 32) (k0_hw1 : k0_chk1 v830), ∀ a x, ((![v830] : Fin 1 → IVec S16 32) a x).toNat < S1000.size a := fun v830 k0_hw1 => k0_hw1.2
def k0_off2 (k0_t1 : Fin k0_t1_loop.trips) : Fin 1 → Nat :=
  let c0_i32_1 : BitVec 32 := 0#32
  let c1_i32 : BitVec 32 := 1#32
  let arg19 : BitVec 32 := Scf.iv c0_i32_1 c1_i32 k0_t1
  let c16_i32_398 : BitVec 32 := 16#32
  let v850 : BitVec 32 := Scalar.muli arg19 c16_i32_398
  let v851 : Index := Scalar.indexCast v850
  ![v851.toNat]

def k0_chk2 (v849 : IVec S16 32) : Prop :=
  (∀ a x, ((![v849] : Fin 1 → IVec S16 32) a x).toNat < S32.size a)
theorem k0_idx3_inb : ∀ (v849 : IVec S16 32) (k0_hw2 : k0_chk2 v849), ∀ a x, ((![v849] : Fin 1 → IVec S16 32) a x).toNat < S32.size a := fun v849 k0_hw2 => k0_hw2
@[reducible] def k0_t2_loop : Scf.Loop 32 :=
  let c0_i32_9 : BitVec 32 := 0#32
  let c125_i32_10 : BitVec 32 := 125#32
  let v25 : BitVec 32 := Scalar.addi c0_i32_9 c125_i32_10
  let c1_i32_11 : BitVec 32 := 1#32
  ⟨c0_i32_9, v25, c1_i32_11⟩
def k0_off3 (k0_t2 : Fin k0_t2_loop.trips) : Fin 1 → Nat :=
  let c0_i32_9 : BitVec 32 := 0#32
  let c1_i32_11 : BitVec 32 := 1#32
  let arg19 : BitVec 32 := Scf.iv c0_i32_9 c1_i32_11 k0_t2
  let c16_i32_395 : BitVec 32 := 16#32
  let v829 : BitVec 32 := Scalar.muli arg19 c16_i32_395
  let v830 : Index := Scalar.indexCast v829
  ![v830.toNat]

def k0_chk4 (v836 : IVec S16 32) : Prop :=
  (∀ a x, ((![v836] : Fin 1 → IVec S16 32) a x).toNat < S2048.size a)
theorem k0_idx5_inb : ∀ (v836 : IVec S16 32) (k0_hw4 : k0_chk4 v836), ∀ a x, ((![v836] : Fin 1 → IVec S16 32) a x).toNat < S2048.size a := fun v836 k0_hw4 => k0_hw4

def k0_chk3 (v831 : IVec S16 32) : Prop :=
  (∀ a x, ((![v831] : Fin 1 → IVec S16 32) a x).toNat < S32.size a) ∧
  (∀ a x, ((![v831] : Fin 1 → IVec S16 32) a x).toNat < S32.size a)
theorem k0_idx4_inb : ∀ (v831 : IVec S16 32) (k0_hw3 : k0_chk3 v831), ∀ a x, ((![v831] : Fin 1 → IVec S16 32) a x).toNat < S32.size a := fun v831 k0_hw3 => k0_hw3.1
theorem k0_idx6_inb : ∀ (v831 : IVec S16 32) (k0_hw3 : k0_chk3 v831), ∀ a x, ((![v831] : Fin 1 → IVec S16 32) a x).toNat < S32.size a := fun v831 k0_hw3 => k0_hw3.2
def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32 : BitVec 32 := 2048#32
  let v27 : BitVec 32 := Scalar.muli v1 c2048_i32
  v27
def k0_off4 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32 : BitVec 32 := 2048#32
  let v27 : BitVec 32 := Scalar.muli v1 c2048_i32
  let v28 : BitVec 32 := v27
  let c0_i32_13 : BitVec 32 := 0#32
  ![v28.toNat, 0]
def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_17 : BitVec 32 := 2048#32
  let v37 : BitVec 32 := Scalar.muli v1 c2048_i32_17
  let c64_i32 : BitVec 32 := 64#32
  let v38 : BitVec 32 := Scalar.addi v37 c64_i32
  v38
def k0_off5 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_17 : BitVec 32 := 2048#32
  let v37 : BitVec 32 := Scalar.muli v1 c2048_i32_17
  let c64_i32 : BitVec 32 := 64#32
  let v38 : BitVec 32 := Scalar.addi v37 c64_i32
  let v39 : BitVec 32 := v38
  let c0_i32_18 : BitVec 32 := 0#32
  ![v39.toNat, 0]
@[reducible] def k0_t3_loop (v45 : BitVec 32) (v47 : BitVec 32) : Scf.Loop 32 :=
  let c0_i32_20 : BitVec 32 := 0#32
  let v48 : BitVec 32 := Scalar.subi v47 v45
  let c15_i32 : BitVec 32 := 15#32
  let v49 : BitVec 32 := Scalar.addi v48 c15_i32
  let c4_i32 : BitVec 32 := 4#32
  let v50 : BitVec 32 := Scalar.shrsi v49 c4_i32
  let v51 : BitVec 32 := Scalar.subi v50 c0_i32_20
  let c1_i32_22 : BitVec 32 := 1#32
  let v53 : BitVec 32 := Scalar.divsi v51 c1_i32_22
  let v54 : BitVec 32 := Scalar.muli v53 c1_i32_22
  let v55 : BitVec 32 := Scalar.addi c0_i32_20 v54
  let c1_i32_23 : BitVec 32 := 1#32
  ⟨c0_i32_20, v55, c1_i32_23⟩

def k0_chk6 (v833 : IVec S16 32) : Prop :=
  (∀ a x, ((![v833] : Fin 1 → IVec S16 32) a x).toNat < S2048.size a)
theorem k0_idx7_inb : ∀ (v833 : IVec S16 32) (k0_hw6 : k0_chk6 v833), ∀ a x, ((![v833] : Fin 1 → IVec S16 32) a x).toNat < S2048.size a := fun v833 k0_hw6 => k0_hw6

def k0_chk7 (v840 : IVec S16 32) : Prop :=
  (∀ a x, ((![v840] : Fin 1 → IVec S16 32) a x).toNat < S1000.size a) ∧
  (∀ a x, ((![v840] : Fin 1 → IVec S16 32) a x).toNat < S1000.size a)
theorem k0_idx8_inb : ∀ (v840 : IVec S16 32) (k0_hw7 : k0_chk7 v840), ∀ a x, ((![v840] : Fin 1 → IVec S16 32) a x).toNat < S1000.size a := fun v840 k0_hw7 => k0_hw7.1
theorem k0_idx9_inb : ∀ (v840 : IVec S16 32) (k0_hw7 : k0_chk7 v840), ∀ a x, ((![v840] : Fin 1 → IVec S16 32) a x).toNat < S1000.size a := fun v840 k0_hw7 => k0_hw7.2

def k0_chk8 (v859 : IVec S16 32) (v861 : IVec S16 32) : Prop :=
  (∀ a x, ((![v859, v861] : Fin 2 → IVec S16 32) a x).toNat < S64x512.size a)
theorem k0_idx10_inb : ∀ (v859 : IVec S16 32) (v861 : IVec S16 32) (k0_hw8 : k0_chk8 v859 v861), ∀ a x, ((![v859, v861] : Fin 2 → IVec S16 32) a x).toNat < S64x512.size a := fun v859 v861 k0_hw8 => k0_hw8

def k0_chk9 (v838 : IVec S16 32) : Prop :=
  (∀ a x, ((![v838] : Fin 1 → IVec S16 32) a x).toNat < S2000.size a)
theorem k0_idx11_inb : ∀ (v838 : IVec S16 32) (k0_hw9 : k0_chk9 v838), ∀ a x, ((![v838] : Fin 1 → IVec S16 32) a x).toNat < S2000.size a := fun v838 k0_hw9 => k0_hw9
@[reducible] def k0_t4_loop (v45 : BitVec 32) (v47 : BitVec 32) : Scf.Loop 32 :=
  let c0_i32_20 : BitVec 32 := 0#32
  let v48 : BitVec 32 := Scalar.subi v47 v45
  let c15_i32 : BitVec 32 := 15#32
  let v49 : BitVec 32 := Scalar.addi v48 c15_i32
  let c4_i32 : BitVec 32 := 4#32
  let v50 : BitVec 32 := Scalar.shrsi v49 c4_i32
  let v51 : BitVec 32 := Scalar.subi v50 c0_i32_20
  let c1_i32_22 : BitVec 32 := 1#32
  let v53 : BitVec 32 := Scalar.divsi v51 c1_i32_22
  let v54 : BitVec 32 := Scalar.muli v53 c1_i32_22
  let v55 : BitVec 32 := Scalar.addi c0_i32_20 v54
  let v52 : BitVec 32 := Scalar.addi c0_i32_20 v51
  let c1_i32_24 : BitVec 32 := 1#32
  ⟨v55, v52, c1_i32_24⟩

def k0_chk5 (v45 : BitVec 32) (v47 : BitVec 32) : Prop :=
  ((k0_t3_loop v45 v47).OK) ∧
  ((k0_t4_loop v45 v47).OK)
theorem k0_t3_ok : ∀ (v45 : BitVec 32) (v47 : BitVec 32) (k0_hw5 : k0_chk5 v45 v47), (k0_t3_loop v45 v47).OK := fun v45 v47 k0_hw5 => k0_hw5.1
theorem k0_t4_ok : ∀ (v45 : BitVec 32) (v47 : BitVec 32) (k0_hw5 : k0_chk5 v45 v47), (k0_t4_loop v45 v47).OK := fun v45 v47 k0_hw5 => k0_hw5.2

def k0_chk10 (v833 : IVec S16 32) : Prop :=
  (∀ a x, ((![v833] : Fin 1 → IVec S16 32) a x).toNat < S2048.size a)
theorem k0_idx12_inb : ∀ (v833 : IVec S16 32) (k0_hw10 : k0_chk10 v833), ∀ a x, ((![v833] : Fin 1 → IVec S16 32) a x).toNat < S2048.size a := fun v833 k0_hw10 => k0_hw10

def k0_chk11 (v840 : IVec S16 32) : Prop :=
  (∀ a x, ((![v840] : Fin 1 → IVec S16 32) a x).toNat < S1000.size a) ∧
  (∀ a x, ((![v840] : Fin 1 → IVec S16 32) a x).toNat < S1000.size a)
theorem k0_idx13_inb : ∀ (v840 : IVec S16 32) (k0_hw11 : k0_chk11 v840), ∀ a x, ((![v840] : Fin 1 → IVec S16 32) a x).toNat < S1000.size a := fun v840 k0_hw11 => k0_hw11.1
theorem k0_idx14_inb : ∀ (v840 : IVec S16 32) (k0_hw11 : k0_chk11 v840), ∀ a x, ((![v840] : Fin 1 → IVec S16 32) a x).toNat < S1000.size a := fun v840 k0_hw11 => k0_hw11.2

def k0_chk12 (v859 : IVec S16 32) (v861 : IVec S16 32) : Prop :=
  (∀ a x, ((![v859, v861] : Fin 2 → IVec S16 32) a x).toNat < S64x512.size a)
theorem k0_idx15_inb : ∀ (v859 : IVec S16 32) (v861 : IVec S16 32) (k0_hw12 : k0_chk12 v859 v861), ∀ a x, ((![v859, v861] : Fin 2 → IVec S16 32) a x).toNat < S64x512.size a := fun v859 v861 k0_hw12 => k0_hw12

def k0_chk13 (v838 : IVec S16 32) : Prop :=
  (∀ a x, ((![v838] : Fin 1 → IVec S16 32) a x).toNat < S2000.size a)
theorem k0_idx16_inb : ∀ (v838 : IVec S16 32) (k0_hw13 : k0_chk13 v838), ∀ a x, ((![v838] : Fin 1 → IVec S16 32) a x).toNat < S2000.size a := fun v838 k0_hw13 => k0_hw13
def k0_off6 (i : grid0.Coords) (c64_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_17 : BitVec 32 := 2048#32
  let v37 : BitVec 32 := Scalar.muli v1 c2048_i32_17
  let v38 : BitVec 32 := Scalar.addi v37 c64_i32
  let v39 : BitVec 32 := v38
  let c0_i32_25 : BitVec 32 := 0#32
  ![v39.toNat, 0]
def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_27 : BitVec 32 := 2048#32
  let v62 : BitVec 32 := Scalar.muli v1 c2048_i32_27
  let c128_i32 : BitVec 32 := 128#32
  let v63 : BitVec 32 := Scalar.addi v62 c128_i32
  v63
@[reducible] def k0_t5_loop (v70 : BitVec 32) (v72 : BitVec 32) : Scf.Loop 32 :=
  let c0_i32_32 : BitVec 32 := 0#32
  let v73 : BitVec 32 := Scalar.subi v72 v70
  let c15_i32_30 : BitVec 32 := 15#32
  let v74 : BitVec 32 := Scalar.addi v73 c15_i32_30
  let c4_i32_31 : BitVec 32 := 4#32
  let v75 : BitVec 32 := Scalar.shrsi v74 c4_i32_31
  let v76 : BitVec 32 := Scalar.subi v75 c0_i32_32
  let c1_i32_34 : BitVec 32 := 1#32
  let v78 : BitVec 32 := Scalar.divsi v76 c1_i32_34
  let v79 : BitVec 32 := Scalar.muli v78 c1_i32_34
  let v80 : BitVec 32 := Scalar.addi c0_i32_32 v79
  let c1_i32_35 : BitVec 32 := 1#32
  ⟨c0_i32_32, v80, c1_i32_35⟩

def k0_chk15 (v833 : IVec S16 32) : Prop :=
  (∀ a x, ((![v833] : Fin 1 → IVec S16 32) a x).toNat < S2048.size a)
theorem k0_idx17_inb : ∀ (v833 : IVec S16 32) (k0_hw15 : k0_chk15 v833), ∀ a x, ((![v833] : Fin 1 → IVec S16 32) a x).toNat < S2048.size a := fun v833 k0_hw15 => k0_hw15

def k0_chk16 (v840 : IVec S16 32) : Prop :=
  (∀ a x, ((![v840] : Fin 1 → IVec S16 32) a x).toNat < S1000.size a) ∧
  (∀ a x, ((![v840] : Fin 1 → IVec S16 32) a x).toNat < S1000.size a)
theorem k0_idx18_inb : ∀ (v840 : IVec S16 32) (k0_hw16 : k0_chk16 v840), ∀ a x, ((![v840] : Fin 1 → IVec S16 32) a x).toNat < S1000.size a := fun v840 k0_hw16 => k0_hw16.1
theorem k0_idx19_inb : ∀ (v840 : IVec S16 32) (k0_hw16 : k0_chk16 v840), ∀ a x, ((![v840] : Fin 1 → IVec S16 32) a x).toNat < S1000.size a := fun v840 k0_hw16 => k0_hw16.2

def k0_chk17 (v859 : IVec S16 32) (v861 : IVec S16 32) : Prop :=
  (∀ a x, ((![v859, v861] : Fin 2 → IVec S16 32) a x).toNat < S64x512.size a)
theorem k0_idx20_inb : ∀ (v859 : IVec S16 32) (v861 : IVec S16 32) (k0_hw17 : k0_chk17 v859 v861), ∀ a x, ((![v859, v861] : Fin 2 → IVec S16 32) a x).toNat < S64x512.size a := fun v859 v861 k0_hw17 => k0_hw17

def k0_chk18 (v838 : IVec S16 32) : Prop :=
  (∀ a x, ((![v838] : Fin 1 → IVec S16 32) a x).toNat < S2000.size a)
theorem k0_idx21_inb : ∀ (v838 : IVec S16 32) (k0_hw18 : k0_chk18 v838), ∀ a x, ((![v838] : Fin 1 → IVec S16 32) a x).toNat < S2000.size a := fun v838 k0_hw18 => k0_hw18
@[reducible] def k0_t6_loop (v70 : BitVec 32) (v72 : BitVec 32) : Scf.Loop 32 :=
  let c0_i32_32 : BitVec 32 := 0#32
  let v73 : BitVec 32 := Scalar.subi v72 v70
  let c15_i32_30 : BitVec 32 := 15#32
  let v74 : BitVec 32 := Scalar.addi v73 c15_i32_30
  let c4_i32_31 : BitVec 32 := 4#32
  let v75 : BitVec 32 := Scalar.shrsi v74 c4_i32_31
  let v76 : BitVec 32 := Scalar.subi v75 c0_i32_32
  let c1_i32_34 : BitVec 32 := 1#32
  let v78 : BitVec 32 := Scalar.divsi v76 c1_i32_34
  let v79 : BitVec 32 := Scalar.muli v78 c1_i32_34
  let v80 : BitVec 32 := Scalar.addi c0_i32_32 v79
  let v77 : BitVec 32 := Scalar.addi c0_i32_32 v76
  let c1_i32_36 : BitVec 32 := 1#32
  ⟨v80, v77, c1_i32_36⟩

def k0_chk14 (v70 : BitVec 32) (v72 : BitVec 32) : Prop :=
  ((k0_t5_loop v70 v72).OK) ∧
  ((k0_t6_loop v70 v72).OK)
theorem k0_t5_ok : ∀ (v70 : BitVec 32) (v72 : BitVec 32) (k0_hw14 : k0_chk14 v70 v72), (k0_t5_loop v70 v72).OK := fun v70 v72 k0_hw14 => k0_hw14.1
theorem k0_t6_ok : ∀ (v70 : BitVec 32) (v72 : BitVec 32) (k0_hw14 : k0_chk14 v70 v72), (k0_t6_loop v70 v72).OK := fun v70 v72 k0_hw14 => k0_hw14.2

def k0_chk19 (v833 : IVec S16 32) : Prop :=
  (∀ a x, ((![v833] : Fin 1 → IVec S16 32) a x).toNat < S2048.size a)
theorem k0_idx22_inb : ∀ (v833 : IVec S16 32) (k0_hw19 : k0_chk19 v833), ∀ a x, ((![v833] : Fin 1 → IVec S16 32) a x).toNat < S2048.size a := fun v833 k0_hw19 => k0_hw19

def k0_chk20 (v840 : IVec S16 32) : Prop :=
  (∀ a x, ((![v840] : Fin 1 → IVec S16 32) a x).toNat < S1000.size a) ∧
  (∀ a x, ((![v840] : Fin 1 → IVec S16 32) a x).toNat < S1000.size a)
theorem k0_idx23_inb : ∀ (v840 : IVec S16 32) (k0_hw20 : k0_chk20 v840), ∀ a x, ((![v840] : Fin 1 → IVec S16 32) a x).toNat < S1000.size a := fun v840 k0_hw20 => k0_hw20.1
theorem k0_idx24_inb : ∀ (v840 : IVec S16 32) (k0_hw20 : k0_chk20 v840), ∀ a x, ((![v840] : Fin 1 → IVec S16 32) a x).toNat < S1000.size a := fun v840 k0_hw20 => k0_hw20.2

def k0_chk21 (v859 : IVec S16 32) (v861 : IVec S16 32) : Prop :=
  (∀ a x, ((![v859, v861] : Fin 2 → IVec S16 32) a x).toNat < S64x512.size a)
theorem k0_idx25_inb : ∀ (v859 : IVec S16 32) (v861 : IVec S16 32) (k0_hw21 : k0_chk21 v859 v861), ∀ a x, ((![v859, v861] : Fin 2 → IVec S16 32) a x).toNat < S64x512.size a := fun v859 v861 k0_hw21 => k0_hw21

def k0_chk22 (v838 : IVec S16 32) : Prop :=
  (∀ a x, ((![v838] : Fin 1 → IVec S16 32) a x).toNat < S2000.size a)
theorem k0_idx26_inb : ∀ (v838 : IVec S16 32) (k0_hw22 : k0_chk22 v838), ∀ a x, ((![v838] : Fin 1 → IVec S16 32) a x).toNat < S2000.size a := fun v838 k0_hw22 => k0_hw22
def k0_off7 (i : grid0.Coords) (c128_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_27 : BitVec 32 := 2048#32
  let v62 : BitVec 32 := Scalar.muli v1 c2048_i32_27
  let v63 : BitVec 32 := Scalar.addi v62 c128_i32
  let v64 : BitVec 32 := v63
  let c0_i32_37 : BitVec 32 := 0#32
  ![v64.toNat, 0]
def k0_mult4 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_39 : BitVec 32 := 2048#32
  let v87 : BitVec 32 := Scalar.muli v1 c2048_i32_39
  let c192_i32 : BitVec 32 := 192#32
  let v88 : BitVec 32 := Scalar.addi v87 c192_i32
  v88
@[reducible] def k0_t7_loop (v95 : BitVec 32) (v97 : BitVec 32) : Scf.Loop 32 :=
  let c0_i32_44 : BitVec 32 := 0#32
  let v98 : BitVec 32 := Scalar.subi v97 v95
  let c15_i32_42 : BitVec 32 := 15#32
  let v99 : BitVec 32 := Scalar.addi v98 c15_i32_42
  let c4_i32_43 : BitVec 32 := 4#32
  let v100 : BitVec 32 := Scalar.shrsi v99 c4_i32_43
  let v101 : BitVec 32 := Scalar.subi v100 c0_i32_44
  let c1_i32_46 : BitVec 32 := 1#32
  let v103 : BitVec 32 := Scalar.divsi v101 c1_i32_46
  let v104 : BitVec 32 := Scalar.muli v103 c1_i32_46
  let v105 : BitVec 32 := Scalar.addi c0_i32_44 v104
  let c1_i32_47 : BitVec 32 := 1#32
  ⟨c0_i32_44, v105, c1_i32_47⟩

def k0_chk24 (v833 : IVec S16 32) : Prop :=
  (∀ a x, ((![v833] : Fin 1 → IVec S16 32) a x).toNat < S2048.size a)
theorem k0_idx27_inb : ∀ (v833 : IVec S16 32) (k0_hw24 : k0_chk24 v833), ∀ a x, ((![v833] : Fin 1 → IVec S16 32) a x).toNat < S2048.size a := fun v833 k0_hw24 => k0_hw24

def k0_chk25 (v840 : IVec S16 32) : Prop :=
  (∀ a x, ((![v840] : Fin 1 → IVec S16 32) a x).toNat < S1000.size a) ∧
  (∀ a x, ((![v840] : Fin 1 → IVec S16 32) a x).toNat < S1000.size a)
theorem k0_idx28_inb : ∀ (v840 : IVec S16 32) (k0_hw25 : k0_chk25 v840), ∀ a x, ((![v840] : Fin 1 → IVec S16 32) a x).toNat < S1000.size a := fun v840 k0_hw25 => k0_hw25.1
theorem k0_idx29_inb : ∀ (v840 : IVec S16 32) (k0_hw25 : k0_chk25 v840), ∀ a x, ((![v840] : Fin 1 → IVec S16 32) a x).toNat < S1000.size a := fun v840 k0_hw25 => k0_hw25.2

def k0_chk26 (v859 : IVec S16 32) (v861 : IVec S16 32) : Prop :=
  (∀ a x, ((![v859, v861] : Fin 2 → IVec S16 32) a x).toNat < S64x512.size a)
theorem k0_idx30_inb : ∀ (v859 : IVec S16 32) (v861 : IVec S16 32) (k0_hw26 : k0_chk26 v859 v861), ∀ a x, ((![v859, v861] : Fin 2 → IVec S16 32) a x).toNat < S64x512.size a := fun v859 v861 k0_hw26 => k0_hw26

def k0_chk27 (v838 : IVec S16 32) : Prop :=
  (∀ a x, ((![v838] : Fin 1 → IVec S16 32) a x).toNat < S2000.size a)
theorem k0_idx31_inb : ∀ (v838 : IVec S16 32) (k0_hw27 : k0_chk27 v838), ∀ a x, ((![v838] : Fin 1 → IVec S16 32) a x).toNat < S2000.size a := fun v838 k0_hw27 => k0_hw27
@[reducible] def k0_t8_loop (v95 : BitVec 32) (v97 : BitVec 32) : Scf.Loop 32 :=
  let c0_i32_44 : BitVec 32 := 0#32
  let v98 : BitVec 32 := Scalar.subi v97 v95
  let c15_i32_42 : BitVec 32 := 15#32
  let v99 : BitVec 32 := Scalar.addi v98 c15_i32_42
  let c4_i32_43 : BitVec 32 := 4#32
  let v100 : BitVec 32 := Scalar.shrsi v99 c4_i32_43
  let v101 : BitVec 32 := Scalar.subi v100 c0_i32_44
  let c1_i32_46 : BitVec 32 := 1#32
  let v103 : BitVec 32 := Scalar.divsi v101 c1_i32_46
  let v104 : BitVec 32 := Scalar.muli v103 c1_i32_46
  let v105 : BitVec 32 := Scalar.addi c0_i32_44 v104
  let v102 : BitVec 32 := Scalar.addi c0_i32_44 v101
  let c1_i32_48 : BitVec 32 := 1#32
  ⟨v105, v102, c1_i32_48⟩

def k0_chk23 (v95 : BitVec 32) (v97 : BitVec 32) : Prop :=
  ((k0_t7_loop v95 v97).OK) ∧
  ((k0_t8_loop v95 v97).OK)
theorem k0_t7_ok : ∀ (v95 : BitVec 32) (v97 : BitVec 32) (k0_hw23 : k0_chk23 v95 v97), (k0_t7_loop v95 v97).OK := fun v95 v97 k0_hw23 => k0_hw23.1
theorem k0_t8_ok : ∀ (v95 : BitVec 32) (v97 : BitVec 32) (k0_hw23 : k0_chk23 v95 v97), (k0_t8_loop v95 v97).OK := fun v95 v97 k0_hw23 => k0_hw23.2

def k0_chk28 (v833 : IVec S16 32) : Prop :=
  (∀ a x, ((![v833] : Fin 1 → IVec S16 32) a x).toNat < S2048.size a)
theorem k0_idx32_inb : ∀ (v833 : IVec S16 32) (k0_hw28 : k0_chk28 v833), ∀ a x, ((![v833] : Fin 1 → IVec S16 32) a x).toNat < S2048.size a := fun v833 k0_hw28 => k0_hw28

def k0_chk29 (v840 : IVec S16 32) : Prop :=
  (∀ a x, ((![v840] : Fin 1 → IVec S16 32) a x).toNat < S1000.size a) ∧
  (∀ a x, ((![v840] : Fin 1 → IVec S16 32) a x).toNat < S1000.size a)
theorem k0_idx33_inb : ∀ (v840 : IVec S16 32) (k0_hw29 : k0_chk29 v840), ∀ a x, ((![v840] : Fin 1 → IVec S16 32) a x).toNat < S1000.size a := fun v840 k0_hw29 => k0_hw29.1
theorem k0_idx34_inb : ∀ (v840 : IVec S16 32) (k0_hw29 : k0_chk29 v840), ∀ a x, ((![v840] : Fin 1 → IVec S16 32) a x).toNat < S1000.size a := fun v840 k0_hw29 => k0_hw29.2

def k0_chk30 (v859 : IVec S16 32) (v861 : IVec S16 32) : Prop :=
  (∀ a x, ((![v859, v861] : Fin 2 → IVec S16 32) a x).toNat < S64x512.size a)
theorem k0_idx35_inb : ∀ (v859 : IVec S16 32) (v861 : IVec S16 32) (k0_hw30 : k0_chk30 v859 v861), ∀ a x, ((![v859, v861] : Fin 2 → IVec S16 32) a x).toNat < S64x512.size a := fun v859 v861 k0_hw30 => k0_hw30

def k0_chk31 (v838 : IVec S16 32) : Prop :=
  (∀ a x, ((![v838] : Fin 1 → IVec S16 32) a x).toNat < S2000.size a)
theorem k0_idx36_inb : ∀ (v838 : IVec S16 32) (k0_hw31 : k0_chk31 v838), ∀ a x, ((![v838] : Fin 1 → IVec S16 32) a x).toNat < S2000.size a := fun v838 k0_hw31 => k0_hw31
def k0_off8 (i : grid0.Coords) (c192_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_39 : BitVec 32 := 2048#32
  let v87 : BitVec 32 := Scalar.muli v1 c2048_i32_39
  let v88 : BitVec 32 := Scalar.addi v87 c192_i32
  let v89 : BitVec 32 := v88
  let c0_i32_49 : BitVec 32 := 0#32
  ![v89.toNat, 0]
def k0_mult5 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_51 : BitVec 32 := 2048#32
  let v112 : BitVec 32 := Scalar.muli v1 c2048_i32_51
  let c256_i32 : BitVec 32 := 256#32
  let v113 : BitVec 32 := Scalar.addi v112 c256_i32
  v113
@[reducible] def k0_t9_loop (v120 : BitVec 32) (v122 : BitVec 32) : Scf.Loop 32 :=
  let c0_i32_56 : BitVec 32 := 0#32
  let v123 : BitVec 32 := Scalar.subi v122 v120
  let c15_i32_54 : BitVec 32 := 15#32
  let v124 : BitVec 32 := Scalar.addi v123 c15_i32_54
  let c4_i32_55 : BitVec 32 := 4#32
  let v125 : BitVec 32 := Scalar.shrsi v124 c4_i32_55
  let v126 : BitVec 32 := Scalar.subi v125 c0_i32_56
  let c1_i32_58 : BitVec 32 := 1#32
  let v128 : BitVec 32 := Scalar.divsi v126 c1_i32_58
  let v129 : BitVec 32 := Scalar.muli v128 c1_i32_58
  let v130 : BitVec 32 := Scalar.addi c0_i32_56 v129
  let c1_i32_59 : BitVec 32 := 1#32
  ⟨c0_i32_56, v130, c1_i32_59⟩

def k0_chk33 (v833 : IVec S16 32) : Prop :=
  (∀ a x, ((![v833] : Fin 1 → IVec S16 32) a x).toNat < S2048.size a)
theorem k0_idx37_inb : ∀ (v833 : IVec S16 32) (k0_hw33 : k0_chk33 v833), ∀ a x, ((![v833] : Fin 1 → IVec S16 32) a x).toNat < S2048.size a := fun v833 k0_hw33 => k0_hw33

def k0_chk34 (v840 : IVec S16 32) : Prop :=
  (∀ a x, ((![v840] : Fin 1 → IVec S16 32) a x).toNat < S1000.size a) ∧
  (∀ a x, ((![v840] : Fin 1 → IVec S16 32) a x).toNat < S1000.size a)
theorem k0_idx38_inb : ∀ (v840 : IVec S16 32) (k0_hw34 : k0_chk34 v840), ∀ a x, ((![v840] : Fin 1 → IVec S16 32) a x).toNat < S1000.size a := fun v840 k0_hw34 => k0_hw34.1
theorem k0_idx39_inb : ∀ (v840 : IVec S16 32) (k0_hw34 : k0_chk34 v840), ∀ a x, ((![v840] : Fin 1 → IVec S16 32) a x).toNat < S1000.size a := fun v840 k0_hw34 => k0_hw34.2

def k0_chk35 (v859 : IVec S16 32) (v861 : IVec S16 32) : Prop :=
  (∀ a x, ((![v859, v861] : Fin 2 → IVec S16 32) a x).toNat < S64x512.size a)
theorem k0_idx40_inb : ∀ (v859 : IVec S16 32) (v861 : IVec S16 32) (k0_hw35 : k0_chk35 v859 v861), ∀ a x, ((![v859, v861] : Fin 2 → IVec S16 32) a x).toNat < S64x512.size a := fun v859 v861 k0_hw35 => k0_hw35

def k0_chk36 (v838 : IVec S16 32) : Prop :=
  (∀ a x, ((![v838] : Fin 1 → IVec S16 32) a x).toNat < S2000.size a)
theorem k0_idx41_inb : ∀ (v838 : IVec S16 32) (k0_hw36 : k0_chk36 v838), ∀ a x, ((![v838] : Fin 1 → IVec S16 32) a x).toNat < S2000.size a := fun v838 k0_hw36 => k0_hw36
@[reducible] def k0_t10_loop (v120 : BitVec 32) (v122 : BitVec 32) : Scf.Loop 32 :=
  let c0_i32_56 : BitVec 32 := 0#32
  let v123 : BitVec 32 := Scalar.subi v122 v120
  let c15_i32_54 : BitVec 32 := 15#32
  let v124 : BitVec 32 := Scalar.addi v123 c15_i32_54
  let c4_i32_55 : BitVec 32 := 4#32
  let v125 : BitVec 32 := Scalar.shrsi v124 c4_i32_55
  let v126 : BitVec 32 := Scalar.subi v125 c0_i32_56
  let c1_i32_58 : BitVec 32 := 1#32
  let v128 : BitVec 32 := Scalar.divsi v126 c1_i32_58
  let v129 : BitVec 32 := Scalar.muli v128 c1_i32_58
  let v130 : BitVec 32 := Scalar.addi c0_i32_56 v129
  let v127 : BitVec 32 := Scalar.addi c0_i32_56 v126
  let c1_i32_60 : BitVec 32 := 1#32
  ⟨v130, v127, c1_i32_60⟩

def k0_chk32 (v120 : BitVec 32) (v122 : BitVec 32) : Prop :=
  ((k0_t9_loop v120 v122).OK) ∧
  ((k0_t10_loop v120 v122).OK)
theorem k0_t9_ok : ∀ (v120 : BitVec 32) (v122 : BitVec 32) (k0_hw32 : k0_chk32 v120 v122), (k0_t9_loop v120 v122).OK := fun v120 v122 k0_hw32 => k0_hw32.1
theorem k0_t10_ok : ∀ (v120 : BitVec 32) (v122 : BitVec 32) (k0_hw32 : k0_chk32 v120 v122), (k0_t10_loop v120 v122).OK := fun v120 v122 k0_hw32 => k0_hw32.2

def k0_chk37 (v833 : IVec S16 32) : Prop :=
  (∀ a x, ((![v833] : Fin 1 → IVec S16 32) a x).toNat < S2048.size a)
theorem k0_idx42_inb : ∀ (v833 : IVec S16 32) (k0_hw37 : k0_chk37 v833), ∀ a x, ((![v833] : Fin 1 → IVec S16 32) a x).toNat < S2048.size a := fun v833 k0_hw37 => k0_hw37

def k0_chk38 (v840 : IVec S16 32) : Prop :=
  (∀ a x, ((![v840] : Fin 1 → IVec S16 32) a x).toNat < S1000.size a) ∧
  (∀ a x, ((![v840] : Fin 1 → IVec S16 32) a x).toNat < S1000.size a)
theorem k0_idx43_inb : ∀ (v840 : IVec S16 32) (k0_hw38 : k0_chk38 v840), ∀ a x, ((![v840] : Fin 1 → IVec S16 32) a x).toNat < S1000.size a := fun v840 k0_hw38 => k0_hw38.1
theorem k0_idx44_inb : ∀ (v840 : IVec S16 32) (k0_hw38 : k0_chk38 v840), ∀ a x, ((![v840] : Fin 1 → IVec S16 32) a x).toNat < S1000.size a := fun v840 k0_hw38 => k0_hw38.2

def k0_chk39 (v859 : IVec S16 32) (v861 : IVec S16 32) : Prop :=
  (∀ a x, ((![v859, v861] : Fin 2 → IVec S16 32) a x).toNat < S64x512.size a)
theorem k0_idx45_inb : ∀ (v859 : IVec S16 32) (v861 : IVec S16 32) (k0_hw39 : k0_chk39 v859 v861), ∀ a x, ((![v859, v861] : Fin 2 → IVec S16 32) a x).toNat < S64x512.size a := fun v859 v861 k0_hw39 => k0_hw39

def k0_chk40 (v838 : IVec S16 32) : Prop :=
  (∀ a x, ((![v838] : Fin 1 → IVec S16 32) a x).toNat < S2000.size a)
theorem k0_idx46_inb : ∀ (v838 : IVec S16 32) (k0_hw40 : k0_chk40 v838), ∀ a x, ((![v838] : Fin 1 → IVec S16 32) a x).toNat < S2000.size a := fun v838 k0_hw40 => k0_hw40
def k0_off9 (i : grid0.Coords) (c256_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_51 : BitVec 32 := 2048#32
  let v112 : BitVec 32 := Scalar.muli v1 c2048_i32_51
  let v113 : BitVec 32 := Scalar.addi v112 c256_i32
  let v114 : BitVec 32 := v113
  let c0_i32_61 : BitVec 32 := 0#32
  ![v114.toNat, 0]
def k0_mult6 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_63 : BitVec 32 := 2048#32
  let v137 : BitVec 32 := Scalar.muli v1 c2048_i32_63
  let c320_i32 : BitVec 32 := 320#32
  let v138 : BitVec 32 := Scalar.addi v137 c320_i32
  v138
@[reducible] def k0_t11_loop (v145 : BitVec 32) (v147 : BitVec 32) : Scf.Loop 32 :=
  let c0_i32_68 : BitVec 32 := 0#32
  let v148 : BitVec 32 := Scalar.subi v147 v145
  let c15_i32_66 : BitVec 32 := 15#32
  let v149 : BitVec 32 := Scalar.addi v148 c15_i32_66
  let c4_i32_67 : BitVec 32 := 4#32
  let v150 : BitVec 32 := Scalar.shrsi v149 c4_i32_67
  let v151 : BitVec 32 := Scalar.subi v150 c0_i32_68
  let c1_i32_70 : BitVec 32 := 1#32
  let v153 : BitVec 32 := Scalar.divsi v151 c1_i32_70
  let v154 : BitVec 32 := Scalar.muli v153 c1_i32_70
  let v155 : BitVec 32 := Scalar.addi c0_i32_68 v154
  let c1_i32_71 : BitVec 32 := 1#32
  ⟨c0_i32_68, v155, c1_i32_71⟩

def k0_chk42 (v833 : IVec S16 32) : Prop :=
  (∀ a x, ((![v833] : Fin 1 → IVec S16 32) a x).toNat < S2048.size a)
theorem k0_idx47_inb : ∀ (v833 : IVec S16 32) (k0_hw42 : k0_chk42 v833), ∀ a x, ((![v833] : Fin 1 → IVec S16 32) a x).toNat < S2048.size a := fun v833 k0_hw42 => k0_hw42

def k0_chk43 (v840 : IVec S16 32) : Prop :=
  (∀ a x, ((![v840] : Fin 1 → IVec S16 32) a x).toNat < S1000.size a) ∧
  (∀ a x, ((![v840] : Fin 1 → IVec S16 32) a x).toNat < S1000.size a)
theorem k0_idx48_inb : ∀ (v840 : IVec S16 32) (k0_hw43 : k0_chk43 v840), ∀ a x, ((![v840] : Fin 1 → IVec S16 32) a x).toNat < S1000.size a := fun v840 k0_hw43 => k0_hw43.1
theorem k0_idx49_inb : ∀ (v840 : IVec S16 32) (k0_hw43 : k0_chk43 v840), ∀ a x, ((![v840] : Fin 1 → IVec S16 32) a x).toNat < S1000.size a := fun v840 k0_hw43 => k0_hw43.2

def k0_chk44 (v859 : IVec S16 32) (v861 : IVec S16 32) : Prop :=
  (∀ a x, ((![v859, v861] : Fin 2 → IVec S16 32) a x).toNat < S64x512.size a)
theorem k0_idx50_inb : ∀ (v859 : IVec S16 32) (v861 : IVec S16 32) (k0_hw44 : k0_chk44 v859 v861), ∀ a x, ((![v859, v861] : Fin 2 → IVec S16 32) a x).toNat < S64x512.size a := fun v859 v861 k0_hw44 => k0_hw44

def k0_chk45 (v838 : IVec S16 32) : Prop :=
  (∀ a x, ((![v838] : Fin 1 → IVec S16 32) a x).toNat < S2000.size a)
theorem k0_idx51_inb : ∀ (v838 : IVec S16 32) (k0_hw45 : k0_chk45 v838), ∀ a x, ((![v838] : Fin 1 → IVec S16 32) a x).toNat < S2000.size a := fun v838 k0_hw45 => k0_hw45
@[reducible] def k0_t12_loop (v145 : BitVec 32) (v147 : BitVec 32) : Scf.Loop 32 :=
  let c0_i32_68 : BitVec 32 := 0#32
  let v148 : BitVec 32 := Scalar.subi v147 v145
  let c15_i32_66 : BitVec 32 := 15#32
  let v149 : BitVec 32 := Scalar.addi v148 c15_i32_66
  let c4_i32_67 : BitVec 32 := 4#32
  let v150 : BitVec 32 := Scalar.shrsi v149 c4_i32_67
  let v151 : BitVec 32 := Scalar.subi v150 c0_i32_68
  let c1_i32_70 : BitVec 32 := 1#32
  let v153 : BitVec 32 := Scalar.divsi v151 c1_i32_70
  let v154 : BitVec 32 := Scalar.muli v153 c1_i32_70
  let v155 : BitVec 32 := Scalar.addi c0_i32_68 v154
  let v152 : BitVec 32 := Scalar.addi c0_i32_68 v151
  let c1_i32_72 : BitVec 32 := 1#32
  ⟨v155, v152, c1_i32_72⟩

def k0_chk41 (v145 : BitVec 32) (v147 : BitVec 32) : Prop :=
  ((k0_t11_loop v145 v147).OK) ∧
  ((k0_t12_loop v145 v147).OK)
theorem k0_t11_ok : ∀ (v145 : BitVec 32) (v147 : BitVec 32) (k0_hw41 : k0_chk41 v145 v147), (k0_t11_loop v145 v147).OK := fun v145 v147 k0_hw41 => k0_hw41.1
theorem k0_t12_ok : ∀ (v145 : BitVec 32) (v147 : BitVec 32) (k0_hw41 : k0_chk41 v145 v147), (k0_t12_loop v145 v147).OK := fun v145 v147 k0_hw41 => k0_hw41.2

def k0_chk46 (v833 : IVec S16 32) : Prop :=
  (∀ a x, ((![v833] : Fin 1 → IVec S16 32) a x).toNat < S2048.size a)
theorem k0_idx52_inb : ∀ (v833 : IVec S16 32) (k0_hw46 : k0_chk46 v833), ∀ a x, ((![v833] : Fin 1 → IVec S16 32) a x).toNat < S2048.size a := fun v833 k0_hw46 => k0_hw46

def k0_chk47 (v840 : IVec S16 32) : Prop :=
  (∀ a x, ((![v840] : Fin 1 → IVec S16 32) a x).toNat < S1000.size a) ∧
  (∀ a x, ((![v840] : Fin 1 → IVec S16 32) a x).toNat < S1000.size a)
theorem k0_idx53_inb : ∀ (v840 : IVec S16 32) (k0_hw47 : k0_chk47 v840), ∀ a x, ((![v840] : Fin 1 → IVec S16 32) a x).toNat < S1000.size a := fun v840 k0_hw47 => k0_hw47.1
theorem k0_idx54_inb : ∀ (v840 : IVec S16 32) (k0_hw47 : k0_chk47 v840), ∀ a x, ((![v840] : Fin 1 → IVec S16 32) a x).toNat < S1000.size a := fun v840 k0_hw47 => k0_hw47.2

def k0_chk48 (v859 : IVec S16 32) (v861 : IVec S16 32) : Prop :=
  (∀ a x, ((![v859, v861] : Fin 2 → IVec S16 32) a x).toNat < S64x512.size a)
theorem k0_idx55_inb : ∀ (v859 : IVec S16 32) (v861 : IVec S16 32) (k0_hw48 : k0_chk48 v859 v861), ∀ a x, ((![v859, v861] : Fin 2 → IVec S16 32) a x).toNat < S64x512.size a := fun v859 v861 k0_hw48 => k0_hw48

def k0_chk49 (v838 : IVec S16 32) : Prop :=
  (∀ a x, ((![v838] : Fin 1 → IVec S16 32) a x).toNat < S2000.size a)
theorem k0_idx56_inb : ∀ (v838 : IVec S16 32) (k0_hw49 : k0_chk49 v838), ∀ a x, ((![v838] : Fin 1 → IVec S16 32) a x).toNat < S2000.size a := fun v838 k0_hw49 => k0_hw49
def k0_off10 (i : grid0.Coords) (c320_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_63 : BitVec 32 := 2048#32
  let v137 : BitVec 32 := Scalar.muli v1 c2048_i32_63
  let v138 : BitVec 32 := Scalar.addi v137 c320_i32
  let v139 : BitVec 32 := v138
  let c0_i32_73 : BitVec 32 := 0#32
  ![v139.toNat, 0]
def k0_mult7 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_75 : BitVec 32 := 2048#32
  let v162 : BitVec 32 := Scalar.muli v1 c2048_i32_75
  let c384_i32 : BitVec 32 := 384#32
  let v163 : BitVec 32 := Scalar.addi v162 c384_i32
  v163
@[reducible] def k0_t13_loop (v170 : BitVec 32) (v172 : BitVec 32) : Scf.Loop 32 :=
  let c0_i32_80 : BitVec 32 := 0#32
  let v173 : BitVec 32 := Scalar.subi v172 v170
  let c15_i32_78 : BitVec 32 := 15#32
  let v174 : BitVec 32 := Scalar.addi v173 c15_i32_78
  let c4_i32_79 : BitVec 32 := 4#32
  let v175 : BitVec 32 := Scalar.shrsi v174 c4_i32_79
  let v176 : BitVec 32 := Scalar.subi v175 c0_i32_80
  let c1_i32_82 : BitVec 32 := 1#32
  let v178 : BitVec 32 := Scalar.divsi v176 c1_i32_82
  let v179 : BitVec 32 := Scalar.muli v178 c1_i32_82
  let v180 : BitVec 32 := Scalar.addi c0_i32_80 v179
  let c1_i32_83 : BitVec 32 := 1#32
  ⟨c0_i32_80, v180, c1_i32_83⟩

def k0_chk51 (v833 : IVec S16 32) : Prop :=
  (∀ a x, ((![v833] : Fin 1 → IVec S16 32) a x).toNat < S2048.size a)
theorem k0_idx57_inb : ∀ (v833 : IVec S16 32) (k0_hw51 : k0_chk51 v833), ∀ a x, ((![v833] : Fin 1 → IVec S16 32) a x).toNat < S2048.size a := fun v833 k0_hw51 => k0_hw51

def k0_chk52 (v840 : IVec S16 32) : Prop :=
  (∀ a x, ((![v840] : Fin 1 → IVec S16 32) a x).toNat < S1000.size a) ∧
  (∀ a x, ((![v840] : Fin 1 → IVec S16 32) a x).toNat < S1000.size a)
theorem k0_idx58_inb : ∀ (v840 : IVec S16 32) (k0_hw52 : k0_chk52 v840), ∀ a x, ((![v840] : Fin 1 → IVec S16 32) a x).toNat < S1000.size a := fun v840 k0_hw52 => k0_hw52.1
theorem k0_idx59_inb : ∀ (v840 : IVec S16 32) (k0_hw52 : k0_chk52 v840), ∀ a x, ((![v840] : Fin 1 → IVec S16 32) a x).toNat < S1000.size a := fun v840 k0_hw52 => k0_hw52.2

def k0_chk53 (v859 : IVec S16 32) (v861 : IVec S16 32) : Prop :=
  (∀ a x, ((![v859, v861] : Fin 2 → IVec S16 32) a x).toNat < S64x512.size a)
theorem k0_idx60_inb : ∀ (v859 : IVec S16 32) (v861 : IVec S16 32) (k0_hw53 : k0_chk53 v859 v861), ∀ a x, ((![v859, v861] : Fin 2 → IVec S16 32) a x).toNat < S64x512.size a := fun v859 v861 k0_hw53 => k0_hw53

def k0_chk54 (v838 : IVec S16 32) : Prop :=
  (∀ a x, ((![v838] : Fin 1 → IVec S16 32) a x).toNat < S2000.size a)
theorem k0_idx61_inb : ∀ (v838 : IVec S16 32) (k0_hw54 : k0_chk54 v838), ∀ a x, ((![v838] : Fin 1 → IVec S16 32) a x).toNat < S2000.size a := fun v838 k0_hw54 => k0_hw54
@[reducible] def k0_t14_loop (v170 : BitVec 32) (v172 : BitVec 32) : Scf.Loop 32 :=
  let c0_i32_80 : BitVec 32 := 0#32
  let v173 : BitVec 32 := Scalar.subi v172 v170
  let c15_i32_78 : BitVec 32 := 15#32
  let v174 : BitVec 32 := Scalar.addi v173 c15_i32_78
  let c4_i32_79 : BitVec 32 := 4#32
  let v175 : BitVec 32 := Scalar.shrsi v174 c4_i32_79
  let v176 : BitVec 32 := Scalar.subi v175 c0_i32_80
  let c1_i32_82 : BitVec 32 := 1#32
  let v178 : BitVec 32 := Scalar.divsi v176 c1_i32_82
  let v179 : BitVec 32 := Scalar.muli v178 c1_i32_82
  let v180 : BitVec 32 := Scalar.addi c0_i32_80 v179
  let v177 : BitVec 32 := Scalar.addi c0_i32_80 v176
  let c1_i32_84 : BitVec 32 := 1#32
  ⟨v180, v177, c1_i32_84⟩

def k0_chk50 (v170 : BitVec 32) (v172 : BitVec 32) : Prop :=
  ((k0_t13_loop v170 v172).OK) ∧
  ((k0_t14_loop v170 v172).OK)
theorem k0_t13_ok : ∀ (v170 : BitVec 32) (v172 : BitVec 32) (k0_hw50 : k0_chk50 v170 v172), (k0_t13_loop v170 v172).OK := fun v170 v172 k0_hw50 => k0_hw50.1
theorem k0_t14_ok : ∀ (v170 : BitVec 32) (v172 : BitVec 32) (k0_hw50 : k0_chk50 v170 v172), (k0_t14_loop v170 v172).OK := fun v170 v172 k0_hw50 => k0_hw50.2

def k0_chk55 (v833 : IVec S16 32) : Prop :=
  (∀ a x, ((![v833] : Fin 1 → IVec S16 32) a x).toNat < S2048.size a)
theorem k0_idx62_inb : ∀ (v833 : IVec S16 32) (k0_hw55 : k0_chk55 v833), ∀ a x, ((![v833] : Fin 1 → IVec S16 32) a x).toNat < S2048.size a := fun v833 k0_hw55 => k0_hw55

def k0_chk56 (v840 : IVec S16 32) : Prop :=
  (∀ a x, ((![v840] : Fin 1 → IVec S16 32) a x).toNat < S1000.size a) ∧
  (∀ a x, ((![v840] : Fin 1 → IVec S16 32) a x).toNat < S1000.size a)
theorem k0_idx63_inb : ∀ (v840 : IVec S16 32) (k0_hw56 : k0_chk56 v840), ∀ a x, ((![v840] : Fin 1 → IVec S16 32) a x).toNat < S1000.size a := fun v840 k0_hw56 => k0_hw56.1
theorem k0_idx64_inb : ∀ (v840 : IVec S16 32) (k0_hw56 : k0_chk56 v840), ∀ a x, ((![v840] : Fin 1 → IVec S16 32) a x).toNat < S1000.size a := fun v840 k0_hw56 => k0_hw56.2

def k0_chk57 (v859 : IVec S16 32) (v861 : IVec S16 32) : Prop :=
  (∀ a x, ((![v859, v861] : Fin 2 → IVec S16 32) a x).toNat < S64x512.size a)
theorem k0_idx65_inb : ∀ (v859 : IVec S16 32) (v861 : IVec S16 32) (k0_hw57 : k0_chk57 v859 v861), ∀ a x, ((![v859, v861] : Fin 2 → IVec S16 32) a x).toNat < S64x512.size a := fun v859 v861 k0_hw57 => k0_hw57

def k0_chk58 (v838 : IVec S16 32) : Prop :=
  (∀ a x, ((![v838] : Fin 1 → IVec S16 32) a x).toNat < S2000.size a)
theorem k0_idx66_inb : ∀ (v838 : IVec S16 32) (k0_hw58 : k0_chk58 v838), ∀ a x, ((![v838] : Fin 1 → IVec S16 32) a x).toNat < S2000.size a := fun v838 k0_hw58 => k0_hw58
def k0_off11 (i : grid0.Coords) (c384_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_75 : BitVec 32 := 2048#32
  let v162 : BitVec 32 := Scalar.muli v1 c2048_i32_75
  let v163 : BitVec 32 := Scalar.addi v162 c384_i32
  let v164 : BitVec 32 := v163
  let c0_i32_85 : BitVec 32 := 0#32
  ![v164.toNat, 0]
def k0_mult8 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_87 : BitVec 32 := 2048#32
  let v187 : BitVec 32 := Scalar.muli v1 c2048_i32_87
  let c448_i32 : BitVec 32 := 448#32
  let v188 : BitVec 32 := Scalar.addi v187 c448_i32
  v188
@[reducible] def k0_t15_loop (v195 : BitVec 32) (v197 : BitVec 32) : Scf.Loop 32 :=
  let c0_i32_92 : BitVec 32 := 0#32
  let v198 : BitVec 32 := Scalar.subi v197 v195
  let c15_i32_90 : BitVec 32 := 15#32
  let v199 : BitVec 32 := Scalar.addi v198 c15_i32_90
  let c4_i32_91 : BitVec 32 := 4#32
  let v200 : BitVec 32 := Scalar.shrsi v199 c4_i32_91
  let v201 : BitVec 32 := Scalar.subi v200 c0_i32_92
  let c1_i32_94 : BitVec 32 := 1#32
  let v203 : BitVec 32 := Scalar.divsi v201 c1_i32_94
  let v204 : BitVec 32 := Scalar.muli v203 c1_i32_94
  let v205 : BitVec 32 := Scalar.addi c0_i32_92 v204
  let c1_i32_95 : BitVec 32 := 1#32
  ⟨c0_i32_92, v205, c1_i32_95⟩

def k0_chk60 (v833 : IVec S16 32) : Prop :=
  (∀ a x, ((![v833] : Fin 1 → IVec S16 32) a x).toNat < S2048.size a)
theorem k0_idx67_inb : ∀ (v833 : IVec S16 32) (k0_hw60 : k0_chk60 v833), ∀ a x, ((![v833] : Fin 1 → IVec S16 32) a x).toNat < S2048.size a := fun v833 k0_hw60 => k0_hw60

def k0_chk61 (v840 : IVec S16 32) : Prop :=
  (∀ a x, ((![v840] : Fin 1 → IVec S16 32) a x).toNat < S1000.size a) ∧
  (∀ a x, ((![v840] : Fin 1 → IVec S16 32) a x).toNat < S1000.size a)
theorem k0_idx68_inb : ∀ (v840 : IVec S16 32) (k0_hw61 : k0_chk61 v840), ∀ a x, ((![v840] : Fin 1 → IVec S16 32) a x).toNat < S1000.size a := fun v840 k0_hw61 => k0_hw61.1
theorem k0_idx69_inb : ∀ (v840 : IVec S16 32) (k0_hw61 : k0_chk61 v840), ∀ a x, ((![v840] : Fin 1 → IVec S16 32) a x).toNat < S1000.size a := fun v840 k0_hw61 => k0_hw61.2

def k0_chk62 (v859 : IVec S16 32) (v861 : IVec S16 32) : Prop :=
  (∀ a x, ((![v859, v861] : Fin 2 → IVec S16 32) a x).toNat < S64x512.size a)
theorem k0_idx70_inb : ∀ (v859 : IVec S16 32) (v861 : IVec S16 32) (k0_hw62 : k0_chk62 v859 v861), ∀ a x, ((![v859, v861] : Fin 2 → IVec S16 32) a x).toNat < S64x512.size a := fun v859 v861 k0_hw62 => k0_hw62

def k0_chk63 (v838 : IVec S16 32) : Prop :=
  (∀ a x, ((![v838] : Fin 1 → IVec S16 32) a x).toNat < S2000.size a)
theorem k0_idx71_inb : ∀ (v838 : IVec S16 32) (k0_hw63 : k0_chk63 v838), ∀ a x, ((![v838] : Fin 1 → IVec S16 32) a x).toNat < S2000.size a := fun v838 k0_hw63 => k0_hw63
@[reducible] def k0_t16_loop (v195 : BitVec 32) (v197 : BitVec 32) : Scf.Loop 32 :=
  let c0_i32_92 : BitVec 32 := 0#32
  let v198 : BitVec 32 := Scalar.subi v197 v195
  let c15_i32_90 : BitVec 32 := 15#32
  let v199 : BitVec 32 := Scalar.addi v198 c15_i32_90
  let c4_i32_91 : BitVec 32 := 4#32
  let v200 : BitVec 32 := Scalar.shrsi v199 c4_i32_91
  let v201 : BitVec 32 := Scalar.subi v200 c0_i32_92
  let c1_i32_94 : BitVec 32 := 1#32
  let v203 : BitVec 32 := Scalar.divsi v201 c1_i32_94
  let v204 : BitVec 32 := Scalar.muli v203 c1_i32_94
  let v205 : BitVec 32 := Scalar.addi c0_i32_92 v204
  let v202 : BitVec 32 := Scalar.addi c0_i32_92 v201
  let c1_i32_96 : BitVec 32 := 1#32
  ⟨v205, v202, c1_i32_96⟩

def k0_chk59 (v195 : BitVec 32) (v197 : BitVec 32) : Prop :=
  ((k0_t15_loop v195 v197).OK) ∧
  ((k0_t16_loop v195 v197).OK)
theorem k0_t15_ok : ∀ (v195 : BitVec 32) (v197 : BitVec 32) (k0_hw59 : k0_chk59 v195 v197), (k0_t15_loop v195 v197).OK := fun v195 v197 k0_hw59 => k0_hw59.1
theorem k0_t16_ok : ∀ (v195 : BitVec 32) (v197 : BitVec 32) (k0_hw59 : k0_chk59 v195 v197), (k0_t16_loop v195 v197).OK := fun v195 v197 k0_hw59 => k0_hw59.2

def k0_chk64 (v833 : IVec S16 32) : Prop :=
  (∀ a x, ((![v833] : Fin 1 → IVec S16 32) a x).toNat < S2048.size a)
theorem k0_idx72_inb : ∀ (v833 : IVec S16 32) (k0_hw64 : k0_chk64 v833), ∀ a x, ((![v833] : Fin 1 → IVec S16 32) a x).toNat < S2048.size a := fun v833 k0_hw64 => k0_hw64

def k0_chk65 (v840 : IVec S16 32) : Prop :=
  (∀ a x, ((![v840] : Fin 1 → IVec S16 32) a x).toNat < S1000.size a) ∧
  (∀ a x, ((![v840] : Fin 1 → IVec S16 32) a x).toNat < S1000.size a)
theorem k0_idx73_inb : ∀ (v840 : IVec S16 32) (k0_hw65 : k0_chk65 v840), ∀ a x, ((![v840] : Fin 1 → IVec S16 32) a x).toNat < S1000.size a := fun v840 k0_hw65 => k0_hw65.1
theorem k0_idx74_inb : ∀ (v840 : IVec S16 32) (k0_hw65 : k0_chk65 v840), ∀ a x, ((![v840] : Fin 1 → IVec S16 32) a x).toNat < S1000.size a := fun v840 k0_hw65 => k0_hw65.2

def k0_chk66 (v859 : IVec S16 32) (v861 : IVec S16 32) : Prop :=
  (∀ a x, ((![v859, v861] : Fin 2 → IVec S16 32) a x).toNat < S64x512.size a)
theorem k0_idx75_inb : ∀ (v859 : IVec S16 32) (v861 : IVec S16 32) (k0_hw66 : k0_chk66 v859 v861), ∀ a x, ((![v859, v861] : Fin 2 → IVec S16 32) a x).toNat < S64x512.size a := fun v859 v861 k0_hw66 => k0_hw66

def k0_chk67 (v838 : IVec S16 32) : Prop :=
  (∀ a x, ((![v838] : Fin 1 → IVec S16 32) a x).toNat < S2000.size a)
theorem k0_idx76_inb : ∀ (v838 : IVec S16 32) (k0_hw67 : k0_chk67 v838), ∀ a x, ((![v838] : Fin 1 → IVec S16 32) a x).toNat < S2000.size a := fun v838 k0_hw67 => k0_hw67
def k0_off12 (i : grid0.Coords) (c448_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_87 : BitVec 32 := 2048#32
  let v187 : BitVec 32 := Scalar.muli v1 c2048_i32_87
  let v188 : BitVec 32 := Scalar.addi v187 c448_i32
  let v189 : BitVec 32 := v188
  let c0_i32_97 : BitVec 32 := 0#32
  ![v189.toNat, 0]
def k0_mult9 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_99 : BitVec 32 := 2048#32
  let v212 : BitVec 32 := Scalar.muli v1 c2048_i32_99
  let c512_i32 : BitVec 32 := 512#32
  let v213 : BitVec 32 := Scalar.addi v212 c512_i32
  v213
@[reducible] def k0_t17_loop (v220 : BitVec 32) (v222 : BitVec 32) : Scf.Loop 32 :=
  let c0_i32_104 : BitVec 32 := 0#32
  let v223 : BitVec 32 := Scalar.subi v222 v220
  let c15_i32_102 : BitVec 32 := 15#32
  let v224 : BitVec 32 := Scalar.addi v223 c15_i32_102
  let c4_i32_103 : BitVec 32 := 4#32
  let v225 : BitVec 32 := Scalar.shrsi v224 c4_i32_103
  let v226 : BitVec 32 := Scalar.subi v225 c0_i32_104
  let c1_i32_106 : BitVec 32 := 1#32
  let v228 : BitVec 32 := Scalar.divsi v226 c1_i32_106
  let v229 : BitVec 32 := Scalar.muli v228 c1_i32_106
  let v230 : BitVec 32 := Scalar.addi c0_i32_104 v229
  let c1_i32_107 : BitVec 32 := 1#32
  ⟨c0_i32_104, v230, c1_i32_107⟩

def k0_chk69 (v833 : IVec S16 32) : Prop :=
  (∀ a x, ((![v833] : Fin 1 → IVec S16 32) a x).toNat < S2048.size a)
theorem k0_idx77_inb : ∀ (v833 : IVec S16 32) (k0_hw69 : k0_chk69 v833), ∀ a x, ((![v833] : Fin 1 → IVec S16 32) a x).toNat < S2048.size a := fun v833 k0_hw69 => k0_hw69

def k0_chk70 (v840 : IVec S16 32) : Prop :=
  (∀ a x, ((![v840] : Fin 1 → IVec S16 32) a x).toNat < S1000.size a) ∧
  (∀ a x, ((![v840] : Fin 1 → IVec S16 32) a x).toNat < S1000.size a)
theorem k0_idx78_inb : ∀ (v840 : IVec S16 32) (k0_hw70 : k0_chk70 v840), ∀ a x, ((![v840] : Fin 1 → IVec S16 32) a x).toNat < S1000.size a := fun v840 k0_hw70 => k0_hw70.1
theorem k0_idx79_inb : ∀ (v840 : IVec S16 32) (k0_hw70 : k0_chk70 v840), ∀ a x, ((![v840] : Fin 1 → IVec S16 32) a x).toNat < S1000.size a := fun v840 k0_hw70 => k0_hw70.2

def k0_chk71 (v859 : IVec S16 32) (v861 : IVec S16 32) : Prop :=
  (∀ a x, ((![v859, v861] : Fin 2 → IVec S16 32) a x).toNat < S64x512.size a)
theorem k0_idx80_inb : ∀ (v859 : IVec S16 32) (v861 : IVec S16 32) (k0_hw71 : k0_chk71 v859 v861), ∀ a x, ((![v859, v861] : Fin 2 → IVec S16 32) a x).toNat < S64x512.size a := fun v859 v861 k0_hw71 => k0_hw71

def k0_chk72 (v838 : IVec S16 32) : Prop :=
  (∀ a x, ((![v838] : Fin 1 → IVec S16 32) a x).toNat < S2000.size a)
theorem k0_idx81_inb : ∀ (v838 : IVec S16 32) (k0_hw72 : k0_chk72 v838), ∀ a x, ((![v838] : Fin 1 → IVec S16 32) a x).toNat < S2000.size a := fun v838 k0_hw72 => k0_hw72
@[reducible] def k0_t18_loop (v220 : BitVec 32) (v222 : BitVec 32) : Scf.Loop 32 :=
  let c0_i32_104 : BitVec 32 := 0#32
  let v223 : BitVec 32 := Scalar.subi v222 v220
  let c15_i32_102 : BitVec 32 := 15#32
  let v224 : BitVec 32 := Scalar.addi v223 c15_i32_102
  let c4_i32_103 : BitVec 32 := 4#32
  let v225 : BitVec 32 := Scalar.shrsi v224 c4_i32_103
  let v226 : BitVec 32 := Scalar.subi v225 c0_i32_104
  let c1_i32_106 : BitVec 32 := 1#32
  let v228 : BitVec 32 := Scalar.divsi v226 c1_i32_106
  let v229 : BitVec 32 := Scalar.muli v228 c1_i32_106
  let v230 : BitVec 32 := Scalar.addi c0_i32_104 v229
  let v227 : BitVec 32 := Scalar.addi c0_i32_104 v226
  let c1_i32_108 : BitVec 32 := 1#32
  ⟨v230, v227, c1_i32_108⟩

def k0_chk68 (v220 : BitVec 32) (v222 : BitVec 32) : Prop :=
  ((k0_t17_loop v220 v222).OK) ∧
  ((k0_t18_loop v220 v222).OK)
theorem k0_t17_ok : ∀ (v220 : BitVec 32) (v222 : BitVec 32) (k0_hw68 : k0_chk68 v220 v222), (k0_t17_loop v220 v222).OK := fun v220 v222 k0_hw68 => k0_hw68.1
theorem k0_t18_ok : ∀ (v220 : BitVec 32) (v222 : BitVec 32) (k0_hw68 : k0_chk68 v220 v222), (k0_t18_loop v220 v222).OK := fun v220 v222 k0_hw68 => k0_hw68.2

def k0_chk73 (v833 : IVec S16 32) : Prop :=
  (∀ a x, ((![v833] : Fin 1 → IVec S16 32) a x).toNat < S2048.size a)
theorem k0_idx82_inb : ∀ (v833 : IVec S16 32) (k0_hw73 : k0_chk73 v833), ∀ a x, ((![v833] : Fin 1 → IVec S16 32) a x).toNat < S2048.size a := fun v833 k0_hw73 => k0_hw73

def k0_chk74 (v840 : IVec S16 32) : Prop :=
  (∀ a x, ((![v840] : Fin 1 → IVec S16 32) a x).toNat < S1000.size a) ∧
  (∀ a x, ((![v840] : Fin 1 → IVec S16 32) a x).toNat < S1000.size a)
theorem k0_idx83_inb : ∀ (v840 : IVec S16 32) (k0_hw74 : k0_chk74 v840), ∀ a x, ((![v840] : Fin 1 → IVec S16 32) a x).toNat < S1000.size a := fun v840 k0_hw74 => k0_hw74.1
theorem k0_idx84_inb : ∀ (v840 : IVec S16 32) (k0_hw74 : k0_chk74 v840), ∀ a x, ((![v840] : Fin 1 → IVec S16 32) a x).toNat < S1000.size a := fun v840 k0_hw74 => k0_hw74.2

def k0_chk75 (v859 : IVec S16 32) (v861 : IVec S16 32) : Prop :=
  (∀ a x, ((![v859, v861] : Fin 2 → IVec S16 32) a x).toNat < S64x512.size a)
theorem k0_idx85_inb : ∀ (v859 : IVec S16 32) (v861 : IVec S16 32) (k0_hw75 : k0_chk75 v859 v861), ∀ a x, ((![v859, v861] : Fin 2 → IVec S16 32) a x).toNat < S64x512.size a := fun v859 v861 k0_hw75 => k0_hw75

def k0_chk76 (v838 : IVec S16 32) : Prop :=
  (∀ a x, ((![v838] : Fin 1 → IVec S16 32) a x).toNat < S2000.size a)
theorem k0_idx86_inb : ∀ (v838 : IVec S16 32) (k0_hw76 : k0_chk76 v838), ∀ a x, ((![v838] : Fin 1 → IVec S16 32) a x).toNat < S2000.size a := fun v838 k0_hw76 => k0_hw76
def k0_off13 (i : grid0.Coords) (c512_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_99 : BitVec 32 := 2048#32
  let v212 : BitVec 32 := Scalar.muli v1 c2048_i32_99
  let v213 : BitVec 32 := Scalar.addi v212 c512_i32
  let v214 : BitVec 32 := v213
  let c0_i32_109 : BitVec 32 := 0#32
  ![v214.toNat, 0]
def k0_mult10 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_111 : BitVec 32 := 2048#32
  let v237 : BitVec 32 := Scalar.muli v1 c2048_i32_111
  let c576_i32 : BitVec 32 := 576#32
  let v238 : BitVec 32 := Scalar.addi v237 c576_i32
  v238
@[reducible] def k0_t19_loop (v245 : BitVec 32) (v247 : BitVec 32) : Scf.Loop 32 :=
  let c0_i32_116 : BitVec 32 := 0#32
  let v248 : BitVec 32 := Scalar.subi v247 v245
  let c15_i32_114 : BitVec 32 := 15#32
  let v249 : BitVec 32 := Scalar.addi v248 c15_i32_114
  let c4_i32_115 : BitVec 32 := 4#32
  let v250 : BitVec 32 := Scalar.shrsi v249 c4_i32_115
  let v251 : BitVec 32 := Scalar.subi v250 c0_i32_116
  let c1_i32_118 : BitVec 32 := 1#32
  let v253 : BitVec 32 := Scalar.divsi v251 c1_i32_118
  let v254 : BitVec 32 := Scalar.muli v253 c1_i32_118
  let v255 : BitVec 32 := Scalar.addi c0_i32_116 v254
  let c1_i32_119 : BitVec 32 := 1#32
  ⟨c0_i32_116, v255, c1_i32_119⟩

def k0_chk78 (v833 : IVec S16 32) : Prop :=
  (∀ a x, ((![v833] : Fin 1 → IVec S16 32) a x).toNat < S2048.size a)
theorem k0_idx87_inb : ∀ (v833 : IVec S16 32) (k0_hw78 : k0_chk78 v833), ∀ a x, ((![v833] : Fin 1 → IVec S16 32) a x).toNat < S2048.size a := fun v833 k0_hw78 => k0_hw78

def k0_chk79 (v840 : IVec S16 32) : Prop :=
  (∀ a x, ((![v840] : Fin 1 → IVec S16 32) a x).toNat < S1000.size a) ∧
  (∀ a x, ((![v840] : Fin 1 → IVec S16 32) a x).toNat < S1000.size a)
theorem k0_idx88_inb : ∀ (v840 : IVec S16 32) (k0_hw79 : k0_chk79 v840), ∀ a x, ((![v840] : Fin 1 → IVec S16 32) a x).toNat < S1000.size a := fun v840 k0_hw79 => k0_hw79.1
theorem k0_idx89_inb : ∀ (v840 : IVec S16 32) (k0_hw79 : k0_chk79 v840), ∀ a x, ((![v840] : Fin 1 → IVec S16 32) a x).toNat < S1000.size a := fun v840 k0_hw79 => k0_hw79.2

def k0_chk80 (v859 : IVec S16 32) (v861 : IVec S16 32) : Prop :=
  (∀ a x, ((![v859, v861] : Fin 2 → IVec S16 32) a x).toNat < S64x512.size a)
theorem k0_idx90_inb : ∀ (v859 : IVec S16 32) (v861 : IVec S16 32) (k0_hw80 : k0_chk80 v859 v861), ∀ a x, ((![v859, v861] : Fin 2 → IVec S16 32) a x).toNat < S64x512.size a := fun v859 v861 k0_hw80 => k0_hw80

def k0_chk81 (v838 : IVec S16 32) : Prop :=
  (∀ a x, ((![v838] : Fin 1 → IVec S16 32) a x).toNat < S2000.size a)
theorem k0_idx91_inb : ∀ (v838 : IVec S16 32) (k0_hw81 : k0_chk81 v838), ∀ a x, ((![v838] : Fin 1 → IVec S16 32) a x).toNat < S2000.size a := fun v838 k0_hw81 => k0_hw81
@[reducible] def k0_t20_loop (v245 : BitVec 32) (v247 : BitVec 32) : Scf.Loop 32 :=
  let c0_i32_116 : BitVec 32 := 0#32
  let v248 : BitVec 32 := Scalar.subi v247 v245
  let c15_i32_114 : BitVec 32 := 15#32
  let v249 : BitVec 32 := Scalar.addi v248 c15_i32_114
  let c4_i32_115 : BitVec 32 := 4#32
  let v250 : BitVec 32 := Scalar.shrsi v249 c4_i32_115
  let v251 : BitVec 32 := Scalar.subi v250 c0_i32_116
  let c1_i32_118 : BitVec 32 := 1#32
  let v253 : BitVec 32 := Scalar.divsi v251 c1_i32_118
  let v254 : BitVec 32 := Scalar.muli v253 c1_i32_118
  let v255 : BitVec 32 := Scalar.addi c0_i32_116 v254
  let v252 : BitVec 32 := Scalar.addi c0_i32_116 v251
  let c1_i32_120 : BitVec 32 := 1#32
  ⟨v255, v252, c1_i32_120⟩

def k0_chk77 (v245 : BitVec 32) (v247 : BitVec 32) : Prop :=
  ((k0_t19_loop v245 v247).OK) ∧
  ((k0_t20_loop v245 v247).OK)
theorem k0_t19_ok : ∀ (v245 : BitVec 32) (v247 : BitVec 32) (k0_hw77 : k0_chk77 v245 v247), (k0_t19_loop v245 v247).OK := fun v245 v247 k0_hw77 => k0_hw77.1
theorem k0_t20_ok : ∀ (v245 : BitVec 32) (v247 : BitVec 32) (k0_hw77 : k0_chk77 v245 v247), (k0_t20_loop v245 v247).OK := fun v245 v247 k0_hw77 => k0_hw77.2

def k0_chk82 (v833 : IVec S16 32) : Prop :=
  (∀ a x, ((![v833] : Fin 1 → IVec S16 32) a x).toNat < S2048.size a)
theorem k0_idx92_inb : ∀ (v833 : IVec S16 32) (k0_hw82 : k0_chk82 v833), ∀ a x, ((![v833] : Fin 1 → IVec S16 32) a x).toNat < S2048.size a := fun v833 k0_hw82 => k0_hw82

def k0_chk83 (v840 : IVec S16 32) : Prop :=
  (∀ a x, ((![v840] : Fin 1 → IVec S16 32) a x).toNat < S1000.size a) ∧
  (∀ a x, ((![v840] : Fin 1 → IVec S16 32) a x).toNat < S1000.size a)
theorem k0_idx93_inb : ∀ (v840 : IVec S16 32) (k0_hw83 : k0_chk83 v840), ∀ a x, ((![v840] : Fin 1 → IVec S16 32) a x).toNat < S1000.size a := fun v840 k0_hw83 => k0_hw83.1
theorem k0_idx94_inb : ∀ (v840 : IVec S16 32) (k0_hw83 : k0_chk83 v840), ∀ a x, ((![v840] : Fin 1 → IVec S16 32) a x).toNat < S1000.size a := fun v840 k0_hw83 => k0_hw83.2

def k0_chk84 (v859 : IVec S16 32) (v861 : IVec S16 32) : Prop :=
  (∀ a x, ((![v859, v861] : Fin 2 → IVec S16 32) a x).toNat < S64x512.size a)
theorem k0_idx95_inb : ∀ (v859 : IVec S16 32) (v861 : IVec S16 32) (k0_hw84 : k0_chk84 v859 v861), ∀ a x, ((![v859, v861] : Fin 2 → IVec S16 32) a x).toNat < S64x512.size a := fun v859 v861 k0_hw84 => k0_hw84

def k0_chk85 (v838 : IVec S16 32) : Prop :=
  (∀ a x, ((![v838] : Fin 1 → IVec S16 32) a x).toNat < S2000.size a)
theorem k0_idx96_inb : ∀ (v838 : IVec S16 32) (k0_hw85 : k0_chk85 v838), ∀ a x, ((![v838] : Fin 1 → IVec S16 32) a x).toNat < S2000.size a := fun v838 k0_hw85 => k0_hw85
def k0_off14 (i : grid0.Coords) (c576_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_111 : BitVec 32 := 2048#32
  let v237 : BitVec 32 := Scalar.muli v1 c2048_i32_111
  let v238 : BitVec 32 := Scalar.addi v237 c576_i32
  let v239 : BitVec 32 := v238
  let c0_i32_121 : BitVec 32 := 0#32
  ![v239.toNat, 0]
def k0_mult11 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_123 : BitVec 32 := 2048#32
  let v262 : BitVec 32 := Scalar.muli v1 c2048_i32_123
  let c640_i32 : BitVec 32 := 640#32
  let v263 : BitVec 32 := Scalar.addi v262 c640_i32
  v263
@[reducible] def k0_t21_loop (v270 : BitVec 32) (v272 : BitVec 32) : Scf.Loop 32 :=
  let c0_i32_128 : BitVec 32 := 0#32
  let v273 : BitVec 32 := Scalar.subi v272 v270
  let c15_i32_126 : BitVec 32 := 15#32
  let v274 : BitVec 32 := Scalar.addi v273 c15_i32_126
  let c4_i32_127 : BitVec 32 := 4#32
  let v275 : BitVec 32 := Scalar.shrsi v274 c4_i32_127
  let v276 : BitVec 32 := Scalar.subi v275 c0_i32_128
  let c1_i32_130 : BitVec 32 := 1#32
  let v278 : BitVec 32 := Scalar.divsi v276 c1_i32_130
  let v279 : BitVec 32 := Scalar.muli v278 c1_i32_130
  let v280 : BitVec 32 := Scalar.addi c0_i32_128 v279
  let c1_i32_131 : BitVec 32 := 1#32
  ⟨c0_i32_128, v280, c1_i32_131⟩

def k0_chk87 (v833 : IVec S16 32) : Prop :=
  (∀ a x, ((![v833] : Fin 1 → IVec S16 32) a x).toNat < S2048.size a)
theorem k0_idx97_inb : ∀ (v833 : IVec S16 32) (k0_hw87 : k0_chk87 v833), ∀ a x, ((![v833] : Fin 1 → IVec S16 32) a x).toNat < S2048.size a := fun v833 k0_hw87 => k0_hw87

def k0_chk88 (v840 : IVec S16 32) : Prop :=
  (∀ a x, ((![v840] : Fin 1 → IVec S16 32) a x).toNat < S1000.size a) ∧
  (∀ a x, ((![v840] : Fin 1 → IVec S16 32) a x).toNat < S1000.size a)
theorem k0_idx98_inb : ∀ (v840 : IVec S16 32) (k0_hw88 : k0_chk88 v840), ∀ a x, ((![v840] : Fin 1 → IVec S16 32) a x).toNat < S1000.size a := fun v840 k0_hw88 => k0_hw88.1
theorem k0_idx99_inb : ∀ (v840 : IVec S16 32) (k0_hw88 : k0_chk88 v840), ∀ a x, ((![v840] : Fin 1 → IVec S16 32) a x).toNat < S1000.size a := fun v840 k0_hw88 => k0_hw88.2

def k0_chk89 (v859 : IVec S16 32) (v861 : IVec S16 32) : Prop :=
  (∀ a x, ((![v859, v861] : Fin 2 → IVec S16 32) a x).toNat < S64x512.size a)
theorem k0_idx100_inb : ∀ (v859 : IVec S16 32) (v861 : IVec S16 32) (k0_hw89 : k0_chk89 v859 v861), ∀ a x, ((![v859, v861] : Fin 2 → IVec S16 32) a x).toNat < S64x512.size a := fun v859 v861 k0_hw89 => k0_hw89

def k0_chk90 (v838 : IVec S16 32) : Prop :=
  (∀ a x, ((![v838] : Fin 1 → IVec S16 32) a x).toNat < S2000.size a)
theorem k0_idx101_inb : ∀ (v838 : IVec S16 32) (k0_hw90 : k0_chk90 v838), ∀ a x, ((![v838] : Fin 1 → IVec S16 32) a x).toNat < S2000.size a := fun v838 k0_hw90 => k0_hw90
@[reducible] def k0_t22_loop (v270 : BitVec 32) (v272 : BitVec 32) : Scf.Loop 32 :=
  let c0_i32_128 : BitVec 32 := 0#32
  let v273 : BitVec 32 := Scalar.subi v272 v270
  let c15_i32_126 : BitVec 32 := 15#32
  let v274 : BitVec 32 := Scalar.addi v273 c15_i32_126
  let c4_i32_127 : BitVec 32 := 4#32
  let v275 : BitVec 32 := Scalar.shrsi v274 c4_i32_127
  let v276 : BitVec 32 := Scalar.subi v275 c0_i32_128
  let c1_i32_130 : BitVec 32 := 1#32
  let v278 : BitVec 32 := Scalar.divsi v276 c1_i32_130
  let v279 : BitVec 32 := Scalar.muli v278 c1_i32_130
  let v280 : BitVec 32 := Scalar.addi c0_i32_128 v279
  let v277 : BitVec 32 := Scalar.addi c0_i32_128 v276
  let c1_i32_132 : BitVec 32 := 1#32
  ⟨v280, v277, c1_i32_132⟩

def k0_chk86 (v270 : BitVec 32) (v272 : BitVec 32) : Prop :=
  ((k0_t21_loop v270 v272).OK) ∧
  ((k0_t22_loop v270 v272).OK)
theorem k0_t21_ok : ∀ (v270 : BitVec 32) (v272 : BitVec 32) (k0_hw86 : k0_chk86 v270 v272), (k0_t21_loop v270 v272).OK := fun v270 v272 k0_hw86 => k0_hw86.1
theorem k0_t22_ok : ∀ (v270 : BitVec 32) (v272 : BitVec 32) (k0_hw86 : k0_chk86 v270 v272), (k0_t22_loop v270 v272).OK := fun v270 v272 k0_hw86 => k0_hw86.2

def k0_chk91 (v833 : IVec S16 32) : Prop :=
  (∀ a x, ((![v833] : Fin 1 → IVec S16 32) a x).toNat < S2048.size a)
theorem k0_idx102_inb : ∀ (v833 : IVec S16 32) (k0_hw91 : k0_chk91 v833), ∀ a x, ((![v833] : Fin 1 → IVec S16 32) a x).toNat < S2048.size a := fun v833 k0_hw91 => k0_hw91

def k0_chk92 (v840 : IVec S16 32) : Prop :=
  (∀ a x, ((![v840] : Fin 1 → IVec S16 32) a x).toNat < S1000.size a) ∧
  (∀ a x, ((![v840] : Fin 1 → IVec S16 32) a x).toNat < S1000.size a)
theorem k0_idx103_inb : ∀ (v840 : IVec S16 32) (k0_hw92 : k0_chk92 v840), ∀ a x, ((![v840] : Fin 1 → IVec S16 32) a x).toNat < S1000.size a := fun v840 k0_hw92 => k0_hw92.1
theorem k0_idx104_inb : ∀ (v840 : IVec S16 32) (k0_hw92 : k0_chk92 v840), ∀ a x, ((![v840] : Fin 1 → IVec S16 32) a x).toNat < S1000.size a := fun v840 k0_hw92 => k0_hw92.2

def k0_chk93 (v859 : IVec S16 32) (v861 : IVec S16 32) : Prop :=
  (∀ a x, ((![v859, v861] : Fin 2 → IVec S16 32) a x).toNat < S64x512.size a)
theorem k0_idx105_inb : ∀ (v859 : IVec S16 32) (v861 : IVec S16 32) (k0_hw93 : k0_chk93 v859 v861), ∀ a x, ((![v859, v861] : Fin 2 → IVec S16 32) a x).toNat < S64x512.size a := fun v859 v861 k0_hw93 => k0_hw93

def k0_chk94 (v838 : IVec S16 32) : Prop :=
  (∀ a x, ((![v838] : Fin 1 → IVec S16 32) a x).toNat < S2000.size a)
theorem k0_idx106_inb : ∀ (v838 : IVec S16 32) (k0_hw94 : k0_chk94 v838), ∀ a x, ((![v838] : Fin 1 → IVec S16 32) a x).toNat < S2000.size a := fun v838 k0_hw94 => k0_hw94
def k0_off15 (i : grid0.Coords) (c640_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_123 : BitVec 32 := 2048#32
  let v262 : BitVec 32 := Scalar.muli v1 c2048_i32_123
  let v263 : BitVec 32 := Scalar.addi v262 c640_i32
  let v264 : BitVec 32 := v263
  let c0_i32_133 : BitVec 32 := 0#32
  ![v264.toNat, 0]
def k0_mult12 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_135 : BitVec 32 := 2048#32
  let v287 : BitVec 32 := Scalar.muli v1 c2048_i32_135
  let c704_i32 : BitVec 32 := 704#32
  let v288 : BitVec 32 := Scalar.addi v287 c704_i32
  v288
@[reducible] def k0_t23_loop (v295 : BitVec 32) (v297 : BitVec 32) : Scf.Loop 32 :=
  let c0_i32_140 : BitVec 32 := 0#32
  let v298 : BitVec 32 := Scalar.subi v297 v295
  let c15_i32_138 : BitVec 32 := 15#32
  let v299 : BitVec 32 := Scalar.addi v298 c15_i32_138
  let c4_i32_139 : BitVec 32 := 4#32
  let v300 : BitVec 32 := Scalar.shrsi v299 c4_i32_139
  let v301 : BitVec 32 := Scalar.subi v300 c0_i32_140
  let c1_i32_142 : BitVec 32 := 1#32
  let v303 : BitVec 32 := Scalar.divsi v301 c1_i32_142
  let v304 : BitVec 32 := Scalar.muli v303 c1_i32_142
  let v305 : BitVec 32 := Scalar.addi c0_i32_140 v304
  let c1_i32_143 : BitVec 32 := 1#32
  ⟨c0_i32_140, v305, c1_i32_143⟩

def k0_chk96 (v833 : IVec S16 32) : Prop :=
  (∀ a x, ((![v833] : Fin 1 → IVec S16 32) a x).toNat < S2048.size a)
theorem k0_idx107_inb : ∀ (v833 : IVec S16 32) (k0_hw96 : k0_chk96 v833), ∀ a x, ((![v833] : Fin 1 → IVec S16 32) a x).toNat < S2048.size a := fun v833 k0_hw96 => k0_hw96

def k0_chk97 (v840 : IVec S16 32) : Prop :=
  (∀ a x, ((![v840] : Fin 1 → IVec S16 32) a x).toNat < S1000.size a) ∧
  (∀ a x, ((![v840] : Fin 1 → IVec S16 32) a x).toNat < S1000.size a)
theorem k0_idx108_inb : ∀ (v840 : IVec S16 32) (k0_hw97 : k0_chk97 v840), ∀ a x, ((![v840] : Fin 1 → IVec S16 32) a x).toNat < S1000.size a := fun v840 k0_hw97 => k0_hw97.1
theorem k0_idx109_inb : ∀ (v840 : IVec S16 32) (k0_hw97 : k0_chk97 v840), ∀ a x, ((![v840] : Fin 1 → IVec S16 32) a x).toNat < S1000.size a := fun v840 k0_hw97 => k0_hw97.2

def k0_chk98 (v859 : IVec S16 32) (v861 : IVec S16 32) : Prop :=
  (∀ a x, ((![v859, v861] : Fin 2 → IVec S16 32) a x).toNat < S64x512.size a)
theorem k0_idx110_inb : ∀ (v859 : IVec S16 32) (v861 : IVec S16 32) (k0_hw98 : k0_chk98 v859 v861), ∀ a x, ((![v859, v861] : Fin 2 → IVec S16 32) a x).toNat < S64x512.size a := fun v859 v861 k0_hw98 => k0_hw98

def k0_chk99 (v838 : IVec S16 32) : Prop :=
  (∀ a x, ((![v838] : Fin 1 → IVec S16 32) a x).toNat < S2000.size a)
theorem k0_idx111_inb : ∀ (v838 : IVec S16 32) (k0_hw99 : k0_chk99 v838), ∀ a x, ((![v838] : Fin 1 → IVec S16 32) a x).toNat < S2000.size a := fun v838 k0_hw99 => k0_hw99
@[reducible] def k0_t24_loop (v295 : BitVec 32) (v297 : BitVec 32) : Scf.Loop 32 :=
  let c0_i32_140 : BitVec 32 := 0#32
  let v298 : BitVec 32 := Scalar.subi v297 v295
  let c15_i32_138 : BitVec 32 := 15#32
  let v299 : BitVec 32 := Scalar.addi v298 c15_i32_138
  let c4_i32_139 : BitVec 32 := 4#32
  let v300 : BitVec 32 := Scalar.shrsi v299 c4_i32_139
  let v301 : BitVec 32 := Scalar.subi v300 c0_i32_140
  let c1_i32_142 : BitVec 32 := 1#32
  let v303 : BitVec 32 := Scalar.divsi v301 c1_i32_142
  let v304 : BitVec 32 := Scalar.muli v303 c1_i32_142
  let v305 : BitVec 32 := Scalar.addi c0_i32_140 v304
  let v302 : BitVec 32 := Scalar.addi c0_i32_140 v301
  let c1_i32_144 : BitVec 32 := 1#32
  ⟨v305, v302, c1_i32_144⟩

def k0_chk95 (v295 : BitVec 32) (v297 : BitVec 32) : Prop :=
  ((k0_t23_loop v295 v297).OK) ∧
  ((k0_t24_loop v295 v297).OK)
theorem k0_t23_ok : ∀ (v295 : BitVec 32) (v297 : BitVec 32) (k0_hw95 : k0_chk95 v295 v297), (k0_t23_loop v295 v297).OK := fun v295 v297 k0_hw95 => k0_hw95.1
theorem k0_t24_ok : ∀ (v295 : BitVec 32) (v297 : BitVec 32) (k0_hw95 : k0_chk95 v295 v297), (k0_t24_loop v295 v297).OK := fun v295 v297 k0_hw95 => k0_hw95.2

def k0_chk100 (v833 : IVec S16 32) : Prop :=
  (∀ a x, ((![v833] : Fin 1 → IVec S16 32) a x).toNat < S2048.size a)
theorem k0_idx112_inb : ∀ (v833 : IVec S16 32) (k0_hw100 : k0_chk100 v833), ∀ a x, ((![v833] : Fin 1 → IVec S16 32) a x).toNat < S2048.size a := fun v833 k0_hw100 => k0_hw100

def k0_chk101 (v840 : IVec S16 32) : Prop :=
  (∀ a x, ((![v840] : Fin 1 → IVec S16 32) a x).toNat < S1000.size a) ∧
  (∀ a x, ((![v840] : Fin 1 → IVec S16 32) a x).toNat < S1000.size a)
theorem k0_idx113_inb : ∀ (v840 : IVec S16 32) (k0_hw101 : k0_chk101 v840), ∀ a x, ((![v840] : Fin 1 → IVec S16 32) a x).toNat < S1000.size a := fun v840 k0_hw101 => k0_hw101.1
theorem k0_idx114_inb : ∀ (v840 : IVec S16 32) (k0_hw101 : k0_chk101 v840), ∀ a x, ((![v840] : Fin 1 → IVec S16 32) a x).toNat < S1000.size a := fun v840 k0_hw101 => k0_hw101.2

def k0_chk102 (v859 : IVec S16 32) (v861 : IVec S16 32) : Prop :=
  (∀ a x, ((![v859, v861] : Fin 2 → IVec S16 32) a x).toNat < S64x512.size a)
theorem k0_idx115_inb : ∀ (v859 : IVec S16 32) (v861 : IVec S16 32) (k0_hw102 : k0_chk102 v859 v861), ∀ a x, ((![v859, v861] : Fin 2 → IVec S16 32) a x).toNat < S64x512.size a := fun v859 v861 k0_hw102 => k0_hw102

def k0_chk103 (v838 : IVec S16 32) : Prop :=
  (∀ a x, ((![v838] : Fin 1 → IVec S16 32) a x).toNat < S2000.size a)
theorem k0_idx116_inb : ∀ (v838 : IVec S16 32) (k0_hw103 : k0_chk103 v838), ∀ a x, ((![v838] : Fin 1 → IVec S16 32) a x).toNat < S2000.size a := fun v838 k0_hw103 => k0_hw103
def k0_off16 (i : grid0.Coords) (c704_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_135 : BitVec 32 := 2048#32
  let v287 : BitVec 32 := Scalar.muli v1 c2048_i32_135
  let v288 : BitVec 32 := Scalar.addi v287 c704_i32
  let v289 : BitVec 32 := v288
  let c0_i32_145 : BitVec 32 := 0#32
  ![v289.toNat, 0]
def k0_mult13 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_147 : BitVec 32 := 2048#32
  let v312 : BitVec 32 := Scalar.muli v1 c2048_i32_147
  let c768_i32 : BitVec 32 := 768#32
  let v313 : BitVec 32 := Scalar.addi v312 c768_i32
  v313
@[reducible] def k0_t25_loop (v320 : BitVec 32) (v322 : BitVec 32) : Scf.Loop 32 :=
  let c0_i32_152 : BitVec 32 := 0#32
  let v323 : BitVec 32 := Scalar.subi v322 v320
  let c15_i32_150 : BitVec 32 := 15#32
  let v324 : BitVec 32 := Scalar.addi v323 c15_i32_150
  let c4_i32_151 : BitVec 32 := 4#32
  let v325 : BitVec 32 := Scalar.shrsi v324 c4_i32_151
  let v326 : BitVec 32 := Scalar.subi v325 c0_i32_152
  let c1_i32_154 : BitVec 32 := 1#32
  let v328 : BitVec 32 := Scalar.divsi v326 c1_i32_154
  let v329 : BitVec 32 := Scalar.muli v328 c1_i32_154
  let v330 : BitVec 32 := Scalar.addi c0_i32_152 v329
  let c1_i32_155 : BitVec 32 := 1#32
  ⟨c0_i32_152, v330, c1_i32_155⟩

def k0_chk105 (v833 : IVec S16 32) : Prop :=
  (∀ a x, ((![v833] : Fin 1 → IVec S16 32) a x).toNat < S2048.size a)
theorem k0_idx117_inb : ∀ (v833 : IVec S16 32) (k0_hw105 : k0_chk105 v833), ∀ a x, ((![v833] : Fin 1 → IVec S16 32) a x).toNat < S2048.size a := fun v833 k0_hw105 => k0_hw105

def k0_chk106 (v840 : IVec S16 32) : Prop :=
  (∀ a x, ((![v840] : Fin 1 → IVec S16 32) a x).toNat < S1000.size a) ∧
  (∀ a x, ((![v840] : Fin 1 → IVec S16 32) a x).toNat < S1000.size a)
theorem k0_idx118_inb : ∀ (v840 : IVec S16 32) (k0_hw106 : k0_chk106 v840), ∀ a x, ((![v840] : Fin 1 → IVec S16 32) a x).toNat < S1000.size a := fun v840 k0_hw106 => k0_hw106.1
theorem k0_idx119_inb : ∀ (v840 : IVec S16 32) (k0_hw106 : k0_chk106 v840), ∀ a x, ((![v840] : Fin 1 → IVec S16 32) a x).toNat < S1000.size a := fun v840 k0_hw106 => k0_hw106.2

def k0_chk107 (v859 : IVec S16 32) (v861 : IVec S16 32) : Prop :=
  (∀ a x, ((![v859, v861] : Fin 2 → IVec S16 32) a x).toNat < S64x512.size a)
theorem k0_idx120_inb : ∀ (v859 : IVec S16 32) (v861 : IVec S16 32) (k0_hw107 : k0_chk107 v859 v861), ∀ a x, ((![v859, v861] : Fin 2 → IVec S16 32) a x).toNat < S64x512.size a := fun v859 v861 k0_hw107 => k0_hw107

def k0_chk108 (v838 : IVec S16 32) : Prop :=
  (∀ a x, ((![v838] : Fin 1 → IVec S16 32) a x).toNat < S2000.size a)
theorem k0_idx121_inb : ∀ (v838 : IVec S16 32) (k0_hw108 : k0_chk108 v838), ∀ a x, ((![v838] : Fin 1 → IVec S16 32) a x).toNat < S2000.size a := fun v838 k0_hw108 => k0_hw108
@[reducible] def k0_t26_loop (v320 : BitVec 32) (v322 : BitVec 32) : Scf.Loop 32 :=
  let c0_i32_152 : BitVec 32 := 0#32
  let v323 : BitVec 32 := Scalar.subi v322 v320
  let c15_i32_150 : BitVec 32 := 15#32
  let v324 : BitVec 32 := Scalar.addi v323 c15_i32_150
  let c4_i32_151 : BitVec 32 := 4#32
  let v325 : BitVec 32 := Scalar.shrsi v324 c4_i32_151
  let v326 : BitVec 32 := Scalar.subi v325 c0_i32_152
  let c1_i32_154 : BitVec 32 := 1#32
  let v328 : BitVec 32 := Scalar.divsi v326 c1_i32_154
  let v329 : BitVec 32 := Scalar.muli v328 c1_i32_154
  let v330 : BitVec 32 := Scalar.addi c0_i32_152 v329
  let v327 : BitVec 32 := Scalar.addi c0_i32_152 v326
  let c1_i32_156 : BitVec 32 := 1#32
  ⟨v330, v327, c1_i32_156⟩

def k0_chk104 (v320 : BitVec 32) (v322 : BitVec 32) : Prop :=
  ((k0_t25_loop v320 v322).OK) ∧
  ((k0_t26_loop v320 v322).OK)
theorem k0_t25_ok : ∀ (v320 : BitVec 32) (v322 : BitVec 32) (k0_hw104 : k0_chk104 v320 v322), (k0_t25_loop v320 v322).OK := fun v320 v322 k0_hw104 => k0_hw104.1
theorem k0_t26_ok : ∀ (v320 : BitVec 32) (v322 : BitVec 32) (k0_hw104 : k0_chk104 v320 v322), (k0_t26_loop v320 v322).OK := fun v320 v322 k0_hw104 => k0_hw104.2

def k0_chk109 (v833 : IVec S16 32) : Prop :=
  (∀ a x, ((![v833] : Fin 1 → IVec S16 32) a x).toNat < S2048.size a)
theorem k0_idx122_inb : ∀ (v833 : IVec S16 32) (k0_hw109 : k0_chk109 v833), ∀ a x, ((![v833] : Fin 1 → IVec S16 32) a x).toNat < S2048.size a := fun v833 k0_hw109 => k0_hw109

def k0_chk110 (v840 : IVec S16 32) : Prop :=
  (∀ a x, ((![v840] : Fin 1 → IVec S16 32) a x).toNat < S1000.size a) ∧
  (∀ a x, ((![v840] : Fin 1 → IVec S16 32) a x).toNat < S1000.size a)
theorem k0_idx123_inb : ∀ (v840 : IVec S16 32) (k0_hw110 : k0_chk110 v840), ∀ a x, ((![v840] : Fin 1 → IVec S16 32) a x).toNat < S1000.size a := fun v840 k0_hw110 => k0_hw110.1
theorem k0_idx124_inb : ∀ (v840 : IVec S16 32) (k0_hw110 : k0_chk110 v840), ∀ a x, ((![v840] : Fin 1 → IVec S16 32) a x).toNat < S1000.size a := fun v840 k0_hw110 => k0_hw110.2

def k0_chk111 (v859 : IVec S16 32) (v861 : IVec S16 32) : Prop :=
  (∀ a x, ((![v859, v861] : Fin 2 → IVec S16 32) a x).toNat < S64x512.size a)
theorem k0_idx125_inb : ∀ (v859 : IVec S16 32) (v861 : IVec S16 32) (k0_hw111 : k0_chk111 v859 v861), ∀ a x, ((![v859, v861] : Fin 2 → IVec S16 32) a x).toNat < S64x512.size a := fun v859 v861 k0_hw111 => k0_hw111

def k0_chk112 (v838 : IVec S16 32) : Prop :=
  (∀ a x, ((![v838] : Fin 1 → IVec S16 32) a x).toNat < S2000.size a)
theorem k0_idx126_inb : ∀ (v838 : IVec S16 32) (k0_hw112 : k0_chk112 v838), ∀ a x, ((![v838] : Fin 1 → IVec S16 32) a x).toNat < S2000.size a := fun v838 k0_hw112 => k0_hw112
def k0_off17 (i : grid0.Coords) (c768_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_147 : BitVec 32 := 2048#32
  let v312 : BitVec 32 := Scalar.muli v1 c2048_i32_147
  let v313 : BitVec 32 := Scalar.addi v312 c768_i32
  let v314 : BitVec 32 := v313
  let c0_i32_157 : BitVec 32 := 0#32
  ![v314.toNat, 0]
def k0_mult14 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_159 : BitVec 32 := 2048#32
  let v337 : BitVec 32 := Scalar.muli v1 c2048_i32_159
  let c832_i32 : BitVec 32 := 832#32
  let v338 : BitVec 32 := Scalar.addi v337 c832_i32
  v338
@[reducible] def k0_t27_loop (v345 : BitVec 32) (v347 : BitVec 32) : Scf.Loop 32 :=
  let c0_i32_164 : BitVec 32 := 0#32
  let v348 : BitVec 32 := Scalar.subi v347 v345
  let c15_i32_162 : BitVec 32 := 15#32
  let v349 : BitVec 32 := Scalar.addi v348 c15_i32_162
  let c4_i32_163 : BitVec 32 := 4#32
  let v350 : BitVec 32 := Scalar.shrsi v349 c4_i32_163
  let v351 : BitVec 32 := Scalar.subi v350 c0_i32_164
  let c1_i32_166 : BitVec 32 := 1#32
  let v353 : BitVec 32 := Scalar.divsi v351 c1_i32_166
  let v354 : BitVec 32 := Scalar.muli v353 c1_i32_166
  let v355 : BitVec 32 := Scalar.addi c0_i32_164 v354
  let c1_i32_167 : BitVec 32 := 1#32
  ⟨c0_i32_164, v355, c1_i32_167⟩

def k0_chk114 (v833 : IVec S16 32) : Prop :=
  (∀ a x, ((![v833] : Fin 1 → IVec S16 32) a x).toNat < S2048.size a)
theorem k0_idx127_inb : ∀ (v833 : IVec S16 32) (k0_hw114 : k0_chk114 v833), ∀ a x, ((![v833] : Fin 1 → IVec S16 32) a x).toNat < S2048.size a := fun v833 k0_hw114 => k0_hw114

def k0_chk115 (v840 : IVec S16 32) : Prop :=
  (∀ a x, ((![v840] : Fin 1 → IVec S16 32) a x).toNat < S1000.size a) ∧
  (∀ a x, ((![v840] : Fin 1 → IVec S16 32) a x).toNat < S1000.size a)
theorem k0_idx128_inb : ∀ (v840 : IVec S16 32) (k0_hw115 : k0_chk115 v840), ∀ a x, ((![v840] : Fin 1 → IVec S16 32) a x).toNat < S1000.size a := fun v840 k0_hw115 => k0_hw115.1
theorem k0_idx129_inb : ∀ (v840 : IVec S16 32) (k0_hw115 : k0_chk115 v840), ∀ a x, ((![v840] : Fin 1 → IVec S16 32) a x).toNat < S1000.size a := fun v840 k0_hw115 => k0_hw115.2

def k0_chk116 (v859 : IVec S16 32) (v861 : IVec S16 32) : Prop :=
  (∀ a x, ((![v859, v861] : Fin 2 → IVec S16 32) a x).toNat < S64x512.size a)
theorem k0_idx130_inb : ∀ (v859 : IVec S16 32) (v861 : IVec S16 32) (k0_hw116 : k0_chk116 v859 v861), ∀ a x, ((![v859, v861] : Fin 2 → IVec S16 32) a x).toNat < S64x512.size a := fun v859 v861 k0_hw116 => k0_hw116

def k0_chk117 (v838 : IVec S16 32) : Prop :=
  (∀ a x, ((![v838] : Fin 1 → IVec S16 32) a x).toNat < S2000.size a)
theorem k0_idx131_inb : ∀ (v838 : IVec S16 32) (k0_hw117 : k0_chk117 v838), ∀ a x, ((![v838] : Fin 1 → IVec S16 32) a x).toNat < S2000.size a := fun v838 k0_hw117 => k0_hw117
@[reducible] def k0_t28_loop (v345 : BitVec 32) (v347 : BitVec 32) : Scf.Loop 32 :=
  let c0_i32_164 : BitVec 32 := 0#32
  let v348 : BitVec 32 := Scalar.subi v347 v345
  let c15_i32_162 : BitVec 32 := 15#32
  let v349 : BitVec 32 := Scalar.addi v348 c15_i32_162
  let c4_i32_163 : BitVec 32 := 4#32
  let v350 : BitVec 32 := Scalar.shrsi v349 c4_i32_163
  let v351 : BitVec 32 := Scalar.subi v350 c0_i32_164
  let c1_i32_166 : BitVec 32 := 1#32
  let v353 : BitVec 32 := Scalar.divsi v351 c1_i32_166
  let v354 : BitVec 32 := Scalar.muli v353 c1_i32_166
  let v355 : BitVec 32 := Scalar.addi c0_i32_164 v354
  let v352 : BitVec 32 := Scalar.addi c0_i32_164 v351
  let c1_i32_168 : BitVec 32 := 1#32
  ⟨v355, v352, c1_i32_168⟩

def k0_chk113 (v345 : BitVec 32) (v347 : BitVec 32) : Prop :=
  ((k0_t27_loop v345 v347).OK) ∧
  ((k0_t28_loop v345 v347).OK)
theorem k0_t27_ok : ∀ (v345 : BitVec 32) (v347 : BitVec 32) (k0_hw113 : k0_chk113 v345 v347), (k0_t27_loop v345 v347).OK := fun v345 v347 k0_hw113 => k0_hw113.1
theorem k0_t28_ok : ∀ (v345 : BitVec 32) (v347 : BitVec 32) (k0_hw113 : k0_chk113 v345 v347), (k0_t28_loop v345 v347).OK := fun v345 v347 k0_hw113 => k0_hw113.2

def k0_chk118 (v833 : IVec S16 32) : Prop :=
  (∀ a x, ((![v833] : Fin 1 → IVec S16 32) a x).toNat < S2048.size a)
theorem k0_idx132_inb : ∀ (v833 : IVec S16 32) (k0_hw118 : k0_chk118 v833), ∀ a x, ((![v833] : Fin 1 → IVec S16 32) a x).toNat < S2048.size a := fun v833 k0_hw118 => k0_hw118

def k0_chk119 (v840 : IVec S16 32) : Prop :=
  (∀ a x, ((![v840] : Fin 1 → IVec S16 32) a x).toNat < S1000.size a) ∧
  (∀ a x, ((![v840] : Fin 1 → IVec S16 32) a x).toNat < S1000.size a)
theorem k0_idx133_inb : ∀ (v840 : IVec S16 32) (k0_hw119 : k0_chk119 v840), ∀ a x, ((![v840] : Fin 1 → IVec S16 32) a x).toNat < S1000.size a := fun v840 k0_hw119 => k0_hw119.1
theorem k0_idx134_inb : ∀ (v840 : IVec S16 32) (k0_hw119 : k0_chk119 v840), ∀ a x, ((![v840] : Fin 1 → IVec S16 32) a x).toNat < S1000.size a := fun v840 k0_hw119 => k0_hw119.2

def k0_chk120 (v859 : IVec S16 32) (v861 : IVec S16 32) : Prop :=
  (∀ a x, ((![v859, v861] : Fin 2 → IVec S16 32) a x).toNat < S64x512.size a)
theorem k0_idx135_inb : ∀ (v859 : IVec S16 32) (v861 : IVec S16 32) (k0_hw120 : k0_chk120 v859 v861), ∀ a x, ((![v859, v861] : Fin 2 → IVec S16 32) a x).toNat < S64x512.size a := fun v859 v861 k0_hw120 => k0_hw120

def k0_chk121 (v838 : IVec S16 32) : Prop :=
  (∀ a x, ((![v838] : Fin 1 → IVec S16 32) a x).toNat < S2000.size a)
theorem k0_idx136_inb : ∀ (v838 : IVec S16 32) (k0_hw121 : k0_chk121 v838), ∀ a x, ((![v838] : Fin 1 → IVec S16 32) a x).toNat < S2000.size a := fun v838 k0_hw121 => k0_hw121
def k0_off18 (i : grid0.Coords) (c832_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_159 : BitVec 32 := 2048#32
  let v337 : BitVec 32 := Scalar.muli v1 c2048_i32_159
  let v338 : BitVec 32 := Scalar.addi v337 c832_i32
  let v339 : BitVec 32 := v338
  let c0_i32_169 : BitVec 32 := 0#32
  ![v339.toNat, 0]
def k0_mult15 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_171 : BitVec 32 := 2048#32
  let v362 : BitVec 32 := Scalar.muli v1 c2048_i32_171
  let c896_i32 : BitVec 32 := 896#32
  let v363 : BitVec 32 := Scalar.addi v362 c896_i32
  v363
@[reducible] def k0_t29_loop (v370 : BitVec 32) (v372 : BitVec 32) : Scf.Loop 32 :=
  let c0_i32_176 : BitVec 32 := 0#32
  let v373 : BitVec 32 := Scalar.subi v372 v370
  let c15_i32_174 : BitVec 32 := 15#32
  let v374 : BitVec 32 := Scalar.addi v373 c15_i32_174
  let c4_i32_175 : BitVec 32 := 4#32
  let v375 : BitVec 32 := Scalar.shrsi v374 c4_i32_175
  let v376 : BitVec 32 := Scalar.subi v375 c0_i32_176
  let c1_i32_178 : BitVec 32 := 1#32
  let v378 : BitVec 32 := Scalar.divsi v376 c1_i32_178
  let v379 : BitVec 32 := Scalar.muli v378 c1_i32_178
  let v380 : BitVec 32 := Scalar.addi c0_i32_176 v379
  let c1_i32_179 : BitVec 32 := 1#32
  ⟨c0_i32_176, v380, c1_i32_179⟩

def k0_chk123 (v833 : IVec S16 32) : Prop :=
  (∀ a x, ((![v833] : Fin 1 → IVec S16 32) a x).toNat < S2048.size a)
theorem k0_idx137_inb : ∀ (v833 : IVec S16 32) (k0_hw123 : k0_chk123 v833), ∀ a x, ((![v833] : Fin 1 → IVec S16 32) a x).toNat < S2048.size a := fun v833 k0_hw123 => k0_hw123

def k0_chk124 (v840 : IVec S16 32) : Prop :=
  (∀ a x, ((![v840] : Fin 1 → IVec S16 32) a x).toNat < S1000.size a) ∧
  (∀ a x, ((![v840] : Fin 1 → IVec S16 32) a x).toNat < S1000.size a)
theorem k0_idx138_inb : ∀ (v840 : IVec S16 32) (k0_hw124 : k0_chk124 v840), ∀ a x, ((![v840] : Fin 1 → IVec S16 32) a x).toNat < S1000.size a := fun v840 k0_hw124 => k0_hw124.1
theorem k0_idx139_inb : ∀ (v840 : IVec S16 32) (k0_hw124 : k0_chk124 v840), ∀ a x, ((![v840] : Fin 1 → IVec S16 32) a x).toNat < S1000.size a := fun v840 k0_hw124 => k0_hw124.2

def k0_chk125 (v859 : IVec S16 32) (v861 : IVec S16 32) : Prop :=
  (∀ a x, ((![v859, v861] : Fin 2 → IVec S16 32) a x).toNat < S64x512.size a)
theorem k0_idx140_inb : ∀ (v859 : IVec S16 32) (v861 : IVec S16 32) (k0_hw125 : k0_chk125 v859 v861), ∀ a x, ((![v859, v861] : Fin 2 → IVec S16 32) a x).toNat < S64x512.size a := fun v859 v861 k0_hw125 => k0_hw125

def k0_chk126 (v838 : IVec S16 32) : Prop :=
  (∀ a x, ((![v838] : Fin 1 → IVec S16 32) a x).toNat < S2000.size a)
theorem k0_idx141_inb : ∀ (v838 : IVec S16 32) (k0_hw126 : k0_chk126 v838), ∀ a x, ((![v838] : Fin 1 → IVec S16 32) a x).toNat < S2000.size a := fun v838 k0_hw126 => k0_hw126
@[reducible] def k0_t30_loop (v370 : BitVec 32) (v372 : BitVec 32) : Scf.Loop 32 :=
  let c0_i32_176 : BitVec 32 := 0#32
  let v373 : BitVec 32 := Scalar.subi v372 v370
  let c15_i32_174 : BitVec 32 := 15#32
  let v374 : BitVec 32 := Scalar.addi v373 c15_i32_174
  let c4_i32_175 : BitVec 32 := 4#32
  let v375 : BitVec 32 := Scalar.shrsi v374 c4_i32_175
  let v376 : BitVec 32 := Scalar.subi v375 c0_i32_176
  let c1_i32_178 : BitVec 32 := 1#32
  let v378 : BitVec 32 := Scalar.divsi v376 c1_i32_178
  let v379 : BitVec 32 := Scalar.muli v378 c1_i32_178
  let v380 : BitVec 32 := Scalar.addi c0_i32_176 v379
  let v377 : BitVec 32 := Scalar.addi c0_i32_176 v376
  let c1_i32_180 : BitVec 32 := 1#32
  ⟨v380, v377, c1_i32_180⟩

def k0_chk122 (v370 : BitVec 32) (v372 : BitVec 32) : Prop :=
  ((k0_t29_loop v370 v372).OK) ∧
  ((k0_t30_loop v370 v372).OK)
theorem k0_t29_ok : ∀ (v370 : BitVec 32) (v372 : BitVec 32) (k0_hw122 : k0_chk122 v370 v372), (k0_t29_loop v370 v372).OK := fun v370 v372 k0_hw122 => k0_hw122.1
theorem k0_t30_ok : ∀ (v370 : BitVec 32) (v372 : BitVec 32) (k0_hw122 : k0_chk122 v370 v372), (k0_t30_loop v370 v372).OK := fun v370 v372 k0_hw122 => k0_hw122.2

def k0_chk127 (v833 : IVec S16 32) : Prop :=
  (∀ a x, ((![v833] : Fin 1 → IVec S16 32) a x).toNat < S2048.size a)
theorem k0_idx142_inb : ∀ (v833 : IVec S16 32) (k0_hw127 : k0_chk127 v833), ∀ a x, ((![v833] : Fin 1 → IVec S16 32) a x).toNat < S2048.size a := fun v833 k0_hw127 => k0_hw127

def k0_chk128 (v840 : IVec S16 32) : Prop :=
  (∀ a x, ((![v840] : Fin 1 → IVec S16 32) a x).toNat < S1000.size a) ∧
  (∀ a x, ((![v840] : Fin 1 → IVec S16 32) a x).toNat < S1000.size a)
theorem k0_idx143_inb : ∀ (v840 : IVec S16 32) (k0_hw128 : k0_chk128 v840), ∀ a x, ((![v840] : Fin 1 → IVec S16 32) a x).toNat < S1000.size a := fun v840 k0_hw128 => k0_hw128.1
theorem k0_idx144_inb : ∀ (v840 : IVec S16 32) (k0_hw128 : k0_chk128 v840), ∀ a x, ((![v840] : Fin 1 → IVec S16 32) a x).toNat < S1000.size a := fun v840 k0_hw128 => k0_hw128.2

def k0_chk129 (v859 : IVec S16 32) (v861 : IVec S16 32) : Prop :=
  (∀ a x, ((![v859, v861] : Fin 2 → IVec S16 32) a x).toNat < S64x512.size a)
theorem k0_idx145_inb : ∀ (v859 : IVec S16 32) (v861 : IVec S16 32) (k0_hw129 : k0_chk129 v859 v861), ∀ a x, ((![v859, v861] : Fin 2 → IVec S16 32) a x).toNat < S64x512.size a := fun v859 v861 k0_hw129 => k0_hw129

def k0_chk130 (v838 : IVec S16 32) : Prop :=
  (∀ a x, ((![v838] : Fin 1 → IVec S16 32) a x).toNat < S2000.size a)
theorem k0_idx146_inb : ∀ (v838 : IVec S16 32) (k0_hw130 : k0_chk130 v838), ∀ a x, ((![v838] : Fin 1 → IVec S16 32) a x).toNat < S2000.size a := fun v838 k0_hw130 => k0_hw130
def k0_off19 (i : grid0.Coords) (c896_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_171 : BitVec 32 := 2048#32
  let v362 : BitVec 32 := Scalar.muli v1 c2048_i32_171
  let v363 : BitVec 32 := Scalar.addi v362 c896_i32
  let v364 : BitVec 32 := v363
  let c0_i32_181 : BitVec 32 := 0#32
  ![v364.toNat, 0]
def k0_mult16 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_183 : BitVec 32 := 2048#32
  let v387 : BitVec 32 := Scalar.muli v1 c2048_i32_183
  let c960_i32 : BitVec 32 := 960#32
  let v388 : BitVec 32 := Scalar.addi v387 c960_i32
  v388
@[reducible] def k0_t31_loop (v395 : BitVec 32) (v397 : BitVec 32) : Scf.Loop 32 :=
  let c0_i32_188 : BitVec 32 := 0#32
  let v398 : BitVec 32 := Scalar.subi v397 v395
  let c15_i32_186 : BitVec 32 := 15#32
  let v399 : BitVec 32 := Scalar.addi v398 c15_i32_186
  let c4_i32_187 : BitVec 32 := 4#32
  let v400 : BitVec 32 := Scalar.shrsi v399 c4_i32_187
  let v401 : BitVec 32 := Scalar.subi v400 c0_i32_188
  let c1_i32_190 : BitVec 32 := 1#32
  let v403 : BitVec 32 := Scalar.divsi v401 c1_i32_190
  let v404 : BitVec 32 := Scalar.muli v403 c1_i32_190
  let v405 : BitVec 32 := Scalar.addi c0_i32_188 v404
  let c1_i32_191 : BitVec 32 := 1#32
  ⟨c0_i32_188, v405, c1_i32_191⟩

def k0_chk132 (v833 : IVec S16 32) : Prop :=
  (∀ a x, ((![v833] : Fin 1 → IVec S16 32) a x).toNat < S2048.size a)
theorem k0_idx147_inb : ∀ (v833 : IVec S16 32) (k0_hw132 : k0_chk132 v833), ∀ a x, ((![v833] : Fin 1 → IVec S16 32) a x).toNat < S2048.size a := fun v833 k0_hw132 => k0_hw132

def k0_chk133 (v840 : IVec S16 32) : Prop :=
  (∀ a x, ((![v840] : Fin 1 → IVec S16 32) a x).toNat < S1000.size a) ∧
  (∀ a x, ((![v840] : Fin 1 → IVec S16 32) a x).toNat < S1000.size a)
theorem k0_idx148_inb : ∀ (v840 : IVec S16 32) (k0_hw133 : k0_chk133 v840), ∀ a x, ((![v840] : Fin 1 → IVec S16 32) a x).toNat < S1000.size a := fun v840 k0_hw133 => k0_hw133.1
theorem k0_idx149_inb : ∀ (v840 : IVec S16 32) (k0_hw133 : k0_chk133 v840), ∀ a x, ((![v840] : Fin 1 → IVec S16 32) a x).toNat < S1000.size a := fun v840 k0_hw133 => k0_hw133.2

def k0_chk134 (v859 : IVec S16 32) (v861 : IVec S16 32) : Prop :=
  (∀ a x, ((![v859, v861] : Fin 2 → IVec S16 32) a x).toNat < S64x512.size a)
theorem k0_idx150_inb : ∀ (v859 : IVec S16 32) (v861 : IVec S16 32) (k0_hw134 : k0_chk134 v859 v861), ∀ a x, ((![v859, v861] : Fin 2 → IVec S16 32) a x).toNat < S64x512.size a := fun v859 v861 k0_hw134 => k0_hw134

def k0_chk135 (v838 : IVec S16 32) : Prop :=
  (∀ a x, ((![v838] : Fin 1 → IVec S16 32) a x).toNat < S2000.size a)
theorem k0_idx151_inb : ∀ (v838 : IVec S16 32) (k0_hw135 : k0_chk135 v838), ∀ a x, ((![v838] : Fin 1 → IVec S16 32) a x).toNat < S2000.size a := fun v838 k0_hw135 => k0_hw135
@[reducible] def k0_t32_loop (v395 : BitVec 32) (v397 : BitVec 32) : Scf.Loop 32 :=
  let c0_i32_188 : BitVec 32 := 0#32
  let v398 : BitVec 32 := Scalar.subi v397 v395
  let c15_i32_186 : BitVec 32 := 15#32
  let v399 : BitVec 32 := Scalar.addi v398 c15_i32_186
  let c4_i32_187 : BitVec 32 := 4#32
  let v400 : BitVec 32 := Scalar.shrsi v399 c4_i32_187
  let v401 : BitVec 32 := Scalar.subi v400 c0_i32_188
  let c1_i32_190 : BitVec 32 := 1#32
  let v403 : BitVec 32 := Scalar.divsi v401 c1_i32_190
  let v404 : BitVec 32 := Scalar.muli v403 c1_i32_190
  let v405 : BitVec 32 := Scalar.addi c0_i32_188 v404
  let v402 : BitVec 32 := Scalar.addi c0_i32_188 v401
  let c1_i32_192 : BitVec 32 := 1#32
  ⟨v405, v402, c1_i32_192⟩

def k0_chk131 (v395 : BitVec 32) (v397 : BitVec 32) : Prop :=
  ((k0_t31_loop v395 v397).OK) ∧
  ((k0_t32_loop v395 v397).OK)
theorem k0_t31_ok : ∀ (v395 : BitVec 32) (v397 : BitVec 32) (k0_hw131 : k0_chk131 v395 v397), (k0_t31_loop v395 v397).OK := fun v395 v397 k0_hw131 => k0_hw131.1
theorem k0_t32_ok : ∀ (v395 : BitVec 32) (v397 : BitVec 32) (k0_hw131 : k0_chk131 v395 v397), (k0_t32_loop v395 v397).OK := fun v395 v397 k0_hw131 => k0_hw131.2

def k0_chk136 (v833 : IVec S16 32) : Prop :=
  (∀ a x, ((![v833] : Fin 1 → IVec S16 32) a x).toNat < S2048.size a)
theorem k0_idx152_inb : ∀ (v833 : IVec S16 32) (k0_hw136 : k0_chk136 v833), ∀ a x, ((![v833] : Fin 1 → IVec S16 32) a x).toNat < S2048.size a := fun v833 k0_hw136 => k0_hw136

def k0_chk137 (v840 : IVec S16 32) : Prop :=
  (∀ a x, ((![v840] : Fin 1 → IVec S16 32) a x).toNat < S1000.size a) ∧
  (∀ a x, ((![v840] : Fin 1 → IVec S16 32) a x).toNat < S1000.size a)
theorem k0_idx153_inb : ∀ (v840 : IVec S16 32) (k0_hw137 : k0_chk137 v840), ∀ a x, ((![v840] : Fin 1 → IVec S16 32) a x).toNat < S1000.size a := fun v840 k0_hw137 => k0_hw137.1
theorem k0_idx154_inb : ∀ (v840 : IVec S16 32) (k0_hw137 : k0_chk137 v840), ∀ a x, ((![v840] : Fin 1 → IVec S16 32) a x).toNat < S1000.size a := fun v840 k0_hw137 => k0_hw137.2

def k0_chk138 (v859 : IVec S16 32) (v861 : IVec S16 32) : Prop :=
  (∀ a x, ((![v859, v861] : Fin 2 → IVec S16 32) a x).toNat < S64x512.size a)
theorem k0_idx155_inb : ∀ (v859 : IVec S16 32) (v861 : IVec S16 32) (k0_hw138 : k0_chk138 v859 v861), ∀ a x, ((![v859, v861] : Fin 2 → IVec S16 32) a x).toNat < S64x512.size a := fun v859 v861 k0_hw138 => k0_hw138

def k0_chk139 (v838 : IVec S16 32) : Prop :=
  (∀ a x, ((![v838] : Fin 1 → IVec S16 32) a x).toNat < S2000.size a)
theorem k0_idx156_inb : ∀ (v838 : IVec S16 32) (k0_hw139 : k0_chk139 v838), ∀ a x, ((![v838] : Fin 1 → IVec S16 32) a x).toNat < S2000.size a := fun v838 k0_hw139 => k0_hw139
def k0_off20 (i : grid0.Coords) (c960_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_183 : BitVec 32 := 2048#32
  let v387 : BitVec 32 := Scalar.muli v1 c2048_i32_183
  let v388 : BitVec 32 := Scalar.addi v387 c960_i32
  let v389 : BitVec 32 := v388
  let c0_i32_193 : BitVec 32 := 0#32
  ![v389.toNat, 0]
def k0_mult17 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_195 : BitVec 32 := 2048#32
  let v412 : BitVec 32 := Scalar.muli v1 c2048_i32_195
  let c1024_i32 : BitVec 32 := 1024#32
  let v413 : BitVec 32 := Scalar.addi v412 c1024_i32
  v413
@[reducible] def k0_t33_loop (v420 : BitVec 32) (v422 : BitVec 32) : Scf.Loop 32 :=
  let c0_i32_200 : BitVec 32 := 0#32
  let v423 : BitVec 32 := Scalar.subi v422 v420
  let c15_i32_198 : BitVec 32 := 15#32
  let v424 : BitVec 32 := Scalar.addi v423 c15_i32_198
  let c4_i32_199 : BitVec 32 := 4#32
  let v425 : BitVec 32 := Scalar.shrsi v424 c4_i32_199
  let v426 : BitVec 32 := Scalar.subi v425 c0_i32_200
  let c1_i32_202 : BitVec 32 := 1#32
  let v428 : BitVec 32 := Scalar.divsi v426 c1_i32_202
  let v429 : BitVec 32 := Scalar.muli v428 c1_i32_202
  let v430 : BitVec 32 := Scalar.addi c0_i32_200 v429
  let c1_i32_203 : BitVec 32 := 1#32
  ⟨c0_i32_200, v430, c1_i32_203⟩

def k0_chk141 (v833 : IVec S16 32) : Prop :=
  (∀ a x, ((![v833] : Fin 1 → IVec S16 32) a x).toNat < S2048.size a)
theorem k0_idx157_inb : ∀ (v833 : IVec S16 32) (k0_hw141 : k0_chk141 v833), ∀ a x, ((![v833] : Fin 1 → IVec S16 32) a x).toNat < S2048.size a := fun v833 k0_hw141 => k0_hw141

def k0_chk142 (v840 : IVec S16 32) : Prop :=
  (∀ a x, ((![v840] : Fin 1 → IVec S16 32) a x).toNat < S1000.size a) ∧
  (∀ a x, ((![v840] : Fin 1 → IVec S16 32) a x).toNat < S1000.size a)
theorem k0_idx158_inb : ∀ (v840 : IVec S16 32) (k0_hw142 : k0_chk142 v840), ∀ a x, ((![v840] : Fin 1 → IVec S16 32) a x).toNat < S1000.size a := fun v840 k0_hw142 => k0_hw142.1
theorem k0_idx159_inb : ∀ (v840 : IVec S16 32) (k0_hw142 : k0_chk142 v840), ∀ a x, ((![v840] : Fin 1 → IVec S16 32) a x).toNat < S1000.size a := fun v840 k0_hw142 => k0_hw142.2

def k0_chk143 (v859 : IVec S16 32) (v861 : IVec S16 32) : Prop :=
  (∀ a x, ((![v859, v861] : Fin 2 → IVec S16 32) a x).toNat < S64x512.size a)
theorem k0_idx160_inb : ∀ (v859 : IVec S16 32) (v861 : IVec S16 32) (k0_hw143 : k0_chk143 v859 v861), ∀ a x, ((![v859, v861] : Fin 2 → IVec S16 32) a x).toNat < S64x512.size a := fun v859 v861 k0_hw143 => k0_hw143

def k0_chk144 (v838 : IVec S16 32) : Prop :=
  (∀ a x, ((![v838] : Fin 1 → IVec S16 32) a x).toNat < S2000.size a)
theorem k0_idx161_inb : ∀ (v838 : IVec S16 32) (k0_hw144 : k0_chk144 v838), ∀ a x, ((![v838] : Fin 1 → IVec S16 32) a x).toNat < S2000.size a := fun v838 k0_hw144 => k0_hw144
@[reducible] def k0_t34_loop (v420 : BitVec 32) (v422 : BitVec 32) : Scf.Loop 32 :=
  let c0_i32_200 : BitVec 32 := 0#32
  let v423 : BitVec 32 := Scalar.subi v422 v420
  let c15_i32_198 : BitVec 32 := 15#32
  let v424 : BitVec 32 := Scalar.addi v423 c15_i32_198
  let c4_i32_199 : BitVec 32 := 4#32
  let v425 : BitVec 32 := Scalar.shrsi v424 c4_i32_199
  let v426 : BitVec 32 := Scalar.subi v425 c0_i32_200
  let c1_i32_202 : BitVec 32 := 1#32
  let v428 : BitVec 32 := Scalar.divsi v426 c1_i32_202
  let v429 : BitVec 32 := Scalar.muli v428 c1_i32_202
  let v430 : BitVec 32 := Scalar.addi c0_i32_200 v429
  let v427 : BitVec 32 := Scalar.addi c0_i32_200 v426
  let c1_i32_204 : BitVec 32 := 1#32
  ⟨v430, v427, c1_i32_204⟩

def k0_chk140 (v420 : BitVec 32) (v422 : BitVec 32) : Prop :=
  ((k0_t33_loop v420 v422).OK) ∧
  ((k0_t34_loop v420 v422).OK)
theorem k0_t33_ok : ∀ (v420 : BitVec 32) (v422 : BitVec 32) (k0_hw140 : k0_chk140 v420 v422), (k0_t33_loop v420 v422).OK := fun v420 v422 k0_hw140 => k0_hw140.1
theorem k0_t34_ok : ∀ (v420 : BitVec 32) (v422 : BitVec 32) (k0_hw140 : k0_chk140 v420 v422), (k0_t34_loop v420 v422).OK := fun v420 v422 k0_hw140 => k0_hw140.2

def k0_chk145 (v833 : IVec S16 32) : Prop :=
  (∀ a x, ((![v833] : Fin 1 → IVec S16 32) a x).toNat < S2048.size a)
theorem k0_idx162_inb : ∀ (v833 : IVec S16 32) (k0_hw145 : k0_chk145 v833), ∀ a x, ((![v833] : Fin 1 → IVec S16 32) a x).toNat < S2048.size a := fun v833 k0_hw145 => k0_hw145

def k0_chk146 (v840 : IVec S16 32) : Prop :=
  (∀ a x, ((![v840] : Fin 1 → IVec S16 32) a x).toNat < S1000.size a) ∧
  (∀ a x, ((![v840] : Fin 1 → IVec S16 32) a x).toNat < S1000.size a)
theorem k0_idx163_inb : ∀ (v840 : IVec S16 32) (k0_hw146 : k0_chk146 v840), ∀ a x, ((![v840] : Fin 1 → IVec S16 32) a x).toNat < S1000.size a := fun v840 k0_hw146 => k0_hw146.1
theorem k0_idx164_inb : ∀ (v840 : IVec S16 32) (k0_hw146 : k0_chk146 v840), ∀ a x, ((![v840] : Fin 1 → IVec S16 32) a x).toNat < S1000.size a := fun v840 k0_hw146 => k0_hw146.2

def k0_chk147 (v859 : IVec S16 32) (v861 : IVec S16 32) : Prop :=
  (∀ a x, ((![v859, v861] : Fin 2 → IVec S16 32) a x).toNat < S64x512.size a)
theorem k0_idx165_inb : ∀ (v859 : IVec S16 32) (v861 : IVec S16 32) (k0_hw147 : k0_chk147 v859 v861), ∀ a x, ((![v859, v861] : Fin 2 → IVec S16 32) a x).toNat < S64x512.size a := fun v859 v861 k0_hw147 => k0_hw147

def k0_chk148 (v838 : IVec S16 32) : Prop :=
  (∀ a x, ((![v838] : Fin 1 → IVec S16 32) a x).toNat < S2000.size a)
theorem k0_idx166_inb : ∀ (v838 : IVec S16 32) (k0_hw148 : k0_chk148 v838), ∀ a x, ((![v838] : Fin 1 → IVec S16 32) a x).toNat < S2000.size a := fun v838 k0_hw148 => k0_hw148
def k0_off21 (i : grid0.Coords) (c1024_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_195 : BitVec 32 := 2048#32
  let v412 : BitVec 32 := Scalar.muli v1 c2048_i32_195
  let v413 : BitVec 32 := Scalar.addi v412 c1024_i32
  let v414 : BitVec 32 := v413
  let c0_i32_205 : BitVec 32 := 0#32
  ![v414.toNat, 0]
def k0_mult18 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_207 : BitVec 32 := 2048#32
  let v437 : BitVec 32 := Scalar.muli v1 c2048_i32_207
  let c1088_i32 : BitVec 32 := 1088#32
  let v438 : BitVec 32 := Scalar.addi v437 c1088_i32
  v438
@[reducible] def k0_t35_loop (v445 : BitVec 32) (v447 : BitVec 32) : Scf.Loop 32 :=
  let c0_i32_212 : BitVec 32 := 0#32
  let v448 : BitVec 32 := Scalar.subi v447 v445
  let c15_i32_210 : BitVec 32 := 15#32
  let v449 : BitVec 32 := Scalar.addi v448 c15_i32_210
  let c4_i32_211 : BitVec 32 := 4#32
  let v450 : BitVec 32 := Scalar.shrsi v449 c4_i32_211
  let v451 : BitVec 32 := Scalar.subi v450 c0_i32_212
  let c1_i32_214 : BitVec 32 := 1#32
  let v453 : BitVec 32 := Scalar.divsi v451 c1_i32_214
  let v454 : BitVec 32 := Scalar.muli v453 c1_i32_214
  let v455 : BitVec 32 := Scalar.addi c0_i32_212 v454
  let c1_i32_215 : BitVec 32 := 1#32
  ⟨c0_i32_212, v455, c1_i32_215⟩

def k0_chk150 (v833 : IVec S16 32) : Prop :=
  (∀ a x, ((![v833] : Fin 1 → IVec S16 32) a x).toNat < S2048.size a)
theorem k0_idx167_inb : ∀ (v833 : IVec S16 32) (k0_hw150 : k0_chk150 v833), ∀ a x, ((![v833] : Fin 1 → IVec S16 32) a x).toNat < S2048.size a := fun v833 k0_hw150 => k0_hw150

def k0_chk151 (v840 : IVec S16 32) : Prop :=
  (∀ a x, ((![v840] : Fin 1 → IVec S16 32) a x).toNat < S1000.size a) ∧
  (∀ a x, ((![v840] : Fin 1 → IVec S16 32) a x).toNat < S1000.size a)
theorem k0_idx168_inb : ∀ (v840 : IVec S16 32) (k0_hw151 : k0_chk151 v840), ∀ a x, ((![v840] : Fin 1 → IVec S16 32) a x).toNat < S1000.size a := fun v840 k0_hw151 => k0_hw151.1
theorem k0_idx169_inb : ∀ (v840 : IVec S16 32) (k0_hw151 : k0_chk151 v840), ∀ a x, ((![v840] : Fin 1 → IVec S16 32) a x).toNat < S1000.size a := fun v840 k0_hw151 => k0_hw151.2

def k0_chk152 (v859 : IVec S16 32) (v861 : IVec S16 32) : Prop :=
  (∀ a x, ((![v859, v861] : Fin 2 → IVec S16 32) a x).toNat < S64x512.size a)
theorem k0_idx170_inb : ∀ (v859 : IVec S16 32) (v861 : IVec S16 32) (k0_hw152 : k0_chk152 v859 v861), ∀ a x, ((![v859, v861] : Fin 2 → IVec S16 32) a x).toNat < S64x512.size a := fun v859 v861 k0_hw152 => k0_hw152

def k0_chk153 (v838 : IVec S16 32) : Prop :=
  (∀ a x, ((![v838] : Fin 1 → IVec S16 32) a x).toNat < S2000.size a)
theorem k0_idx171_inb : ∀ (v838 : IVec S16 32) (k0_hw153 : k0_chk153 v838), ∀ a x, ((![v838] : Fin 1 → IVec S16 32) a x).toNat < S2000.size a := fun v838 k0_hw153 => k0_hw153
@[reducible] def k0_t36_loop (v445 : BitVec 32) (v447 : BitVec 32) : Scf.Loop 32 :=
  let c0_i32_212 : BitVec 32 := 0#32
  let v448 : BitVec 32 := Scalar.subi v447 v445
  let c15_i32_210 : BitVec 32 := 15#32
  let v449 : BitVec 32 := Scalar.addi v448 c15_i32_210
  let c4_i32_211 : BitVec 32 := 4#32
  let v450 : BitVec 32 := Scalar.shrsi v449 c4_i32_211
  let v451 : BitVec 32 := Scalar.subi v450 c0_i32_212
  let c1_i32_214 : BitVec 32 := 1#32
  let v453 : BitVec 32 := Scalar.divsi v451 c1_i32_214
  let v454 : BitVec 32 := Scalar.muli v453 c1_i32_214
  let v455 : BitVec 32 := Scalar.addi c0_i32_212 v454
  let v452 : BitVec 32 := Scalar.addi c0_i32_212 v451
  let c1_i32_216 : BitVec 32 := 1#32
  ⟨v455, v452, c1_i32_216⟩

def k0_chk149 (v445 : BitVec 32) (v447 : BitVec 32) : Prop :=
  ((k0_t35_loop v445 v447).OK) ∧
  ((k0_t36_loop v445 v447).OK)
theorem k0_t35_ok : ∀ (v445 : BitVec 32) (v447 : BitVec 32) (k0_hw149 : k0_chk149 v445 v447), (k0_t35_loop v445 v447).OK := fun v445 v447 k0_hw149 => k0_hw149.1
theorem k0_t36_ok : ∀ (v445 : BitVec 32) (v447 : BitVec 32) (k0_hw149 : k0_chk149 v445 v447), (k0_t36_loop v445 v447).OK := fun v445 v447 k0_hw149 => k0_hw149.2

def k0_chk154 (v833 : IVec S16 32) : Prop :=
  (∀ a x, ((![v833] : Fin 1 → IVec S16 32) a x).toNat < S2048.size a)
theorem k0_idx172_inb : ∀ (v833 : IVec S16 32) (k0_hw154 : k0_chk154 v833), ∀ a x, ((![v833] : Fin 1 → IVec S16 32) a x).toNat < S2048.size a := fun v833 k0_hw154 => k0_hw154

def k0_chk155 (v840 : IVec S16 32) : Prop :=
  (∀ a x, ((![v840] : Fin 1 → IVec S16 32) a x).toNat < S1000.size a) ∧
  (∀ a x, ((![v840] : Fin 1 → IVec S16 32) a x).toNat < S1000.size a)
theorem k0_idx173_inb : ∀ (v840 : IVec S16 32) (k0_hw155 : k0_chk155 v840), ∀ a x, ((![v840] : Fin 1 → IVec S16 32) a x).toNat < S1000.size a := fun v840 k0_hw155 => k0_hw155.1
theorem k0_idx174_inb : ∀ (v840 : IVec S16 32) (k0_hw155 : k0_chk155 v840), ∀ a x, ((![v840] : Fin 1 → IVec S16 32) a x).toNat < S1000.size a := fun v840 k0_hw155 => k0_hw155.2

def k0_chk156 (v859 : IVec S16 32) (v861 : IVec S16 32) : Prop :=
  (∀ a x, ((![v859, v861] : Fin 2 → IVec S16 32) a x).toNat < S64x512.size a)
theorem k0_idx175_inb : ∀ (v859 : IVec S16 32) (v861 : IVec S16 32) (k0_hw156 : k0_chk156 v859 v861), ∀ a x, ((![v859, v861] : Fin 2 → IVec S16 32) a x).toNat < S64x512.size a := fun v859 v861 k0_hw156 => k0_hw156

def k0_chk157 (v838 : IVec S16 32) : Prop :=
  (∀ a x, ((![v838] : Fin 1 → IVec S16 32) a x).toNat < S2000.size a)
theorem k0_idx176_inb : ∀ (v838 : IVec S16 32) (k0_hw157 : k0_chk157 v838), ∀ a x, ((![v838] : Fin 1 → IVec S16 32) a x).toNat < S2000.size a := fun v838 k0_hw157 => k0_hw157
def k0_off22 (i : grid0.Coords) (c1088_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_207 : BitVec 32 := 2048#32
  let v437 : BitVec 32 := Scalar.muli v1 c2048_i32_207
  let v438 : BitVec 32 := Scalar.addi v437 c1088_i32
  let v439 : BitVec 32 := v438
  let c0_i32_217 : BitVec 32 := 0#32
  ![v439.toNat, 0]
def k0_mult19 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_219 : BitVec 32 := 2048#32
  let v462 : BitVec 32 := Scalar.muli v1 c2048_i32_219
  let c1152_i32 : BitVec 32 := 1152#32
  let v463 : BitVec 32 := Scalar.addi v462 c1152_i32
  v463
@[reducible] def k0_t37_loop (v470 : BitVec 32) (v472 : BitVec 32) : Scf.Loop 32 :=
  let c0_i32_224 : BitVec 32 := 0#32
  let v473 : BitVec 32 := Scalar.subi v472 v470
  let c15_i32_222 : BitVec 32 := 15#32
  let v474 : BitVec 32 := Scalar.addi v473 c15_i32_222
  let c4_i32_223 : BitVec 32 := 4#32
  let v475 : BitVec 32 := Scalar.shrsi v474 c4_i32_223
  let v476 : BitVec 32 := Scalar.subi v475 c0_i32_224
  let c1_i32_226 : BitVec 32 := 1#32
  let v478 : BitVec 32 := Scalar.divsi v476 c1_i32_226
  let v479 : BitVec 32 := Scalar.muli v478 c1_i32_226
  let v480 : BitVec 32 := Scalar.addi c0_i32_224 v479
  let c1_i32_227 : BitVec 32 := 1#32
  ⟨c0_i32_224, v480, c1_i32_227⟩

def k0_chk159 (v833 : IVec S16 32) : Prop :=
  (∀ a x, ((![v833] : Fin 1 → IVec S16 32) a x).toNat < S2048.size a)
theorem k0_idx177_inb : ∀ (v833 : IVec S16 32) (k0_hw159 : k0_chk159 v833), ∀ a x, ((![v833] : Fin 1 → IVec S16 32) a x).toNat < S2048.size a := fun v833 k0_hw159 => k0_hw159

def k0_chk160 (v840 : IVec S16 32) : Prop :=
  (∀ a x, ((![v840] : Fin 1 → IVec S16 32) a x).toNat < S1000.size a) ∧
  (∀ a x, ((![v840] : Fin 1 → IVec S16 32) a x).toNat < S1000.size a)
theorem k0_idx178_inb : ∀ (v840 : IVec S16 32) (k0_hw160 : k0_chk160 v840), ∀ a x, ((![v840] : Fin 1 → IVec S16 32) a x).toNat < S1000.size a := fun v840 k0_hw160 => k0_hw160.1
theorem k0_idx179_inb : ∀ (v840 : IVec S16 32) (k0_hw160 : k0_chk160 v840), ∀ a x, ((![v840] : Fin 1 → IVec S16 32) a x).toNat < S1000.size a := fun v840 k0_hw160 => k0_hw160.2

def k0_chk161 (v859 : IVec S16 32) (v861 : IVec S16 32) : Prop :=
  (∀ a x, ((![v859, v861] : Fin 2 → IVec S16 32) a x).toNat < S64x512.size a)
theorem k0_idx180_inb : ∀ (v859 : IVec S16 32) (v861 : IVec S16 32) (k0_hw161 : k0_chk161 v859 v861), ∀ a x, ((![v859, v861] : Fin 2 → IVec S16 32) a x).toNat < S64x512.size a := fun v859 v861 k0_hw161 => k0_hw161

def k0_chk162 (v838 : IVec S16 32) : Prop :=
  (∀ a x, ((![v838] : Fin 1 → IVec S16 32) a x).toNat < S2000.size a)
theorem k0_idx181_inb : ∀ (v838 : IVec S16 32) (k0_hw162 : k0_chk162 v838), ∀ a x, ((![v838] : Fin 1 → IVec S16 32) a x).toNat < S2000.size a := fun v838 k0_hw162 => k0_hw162
@[reducible] def k0_t38_loop (v470 : BitVec 32) (v472 : BitVec 32) : Scf.Loop 32 :=
  let c0_i32_224 : BitVec 32 := 0#32
  let v473 : BitVec 32 := Scalar.subi v472 v470
  let c15_i32_222 : BitVec 32 := 15#32
  let v474 : BitVec 32 := Scalar.addi v473 c15_i32_222
  let c4_i32_223 : BitVec 32 := 4#32
  let v475 : BitVec 32 := Scalar.shrsi v474 c4_i32_223
  let v476 : BitVec 32 := Scalar.subi v475 c0_i32_224
  let c1_i32_226 : BitVec 32 := 1#32
  let v478 : BitVec 32 := Scalar.divsi v476 c1_i32_226
  let v479 : BitVec 32 := Scalar.muli v478 c1_i32_226
  let v480 : BitVec 32 := Scalar.addi c0_i32_224 v479
  let v477 : BitVec 32 := Scalar.addi c0_i32_224 v476
  let c1_i32_228 : BitVec 32 := 1#32
  ⟨v480, v477, c1_i32_228⟩

def k0_chk158 (v470 : BitVec 32) (v472 : BitVec 32) : Prop :=
  ((k0_t37_loop v470 v472).OK) ∧
  ((k0_t38_loop v470 v472).OK)
theorem k0_t37_ok : ∀ (v470 : BitVec 32) (v472 : BitVec 32) (k0_hw158 : k0_chk158 v470 v472), (k0_t37_loop v470 v472).OK := fun v470 v472 k0_hw158 => k0_hw158.1
theorem k0_t38_ok : ∀ (v470 : BitVec 32) (v472 : BitVec 32) (k0_hw158 : k0_chk158 v470 v472), (k0_t38_loop v470 v472).OK := fun v470 v472 k0_hw158 => k0_hw158.2

def k0_chk163 (v833 : IVec S16 32) : Prop :=
  (∀ a x, ((![v833] : Fin 1 → IVec S16 32) a x).toNat < S2048.size a)
theorem k0_idx182_inb : ∀ (v833 : IVec S16 32) (k0_hw163 : k0_chk163 v833), ∀ a x, ((![v833] : Fin 1 → IVec S16 32) a x).toNat < S2048.size a := fun v833 k0_hw163 => k0_hw163

def k0_chk164 (v840 : IVec S16 32) : Prop :=
  (∀ a x, ((![v840] : Fin 1 → IVec S16 32) a x).toNat < S1000.size a) ∧
  (∀ a x, ((![v840] : Fin 1 → IVec S16 32) a x).toNat < S1000.size a)
theorem k0_idx183_inb : ∀ (v840 : IVec S16 32) (k0_hw164 : k0_chk164 v840), ∀ a x, ((![v840] : Fin 1 → IVec S16 32) a x).toNat < S1000.size a := fun v840 k0_hw164 => k0_hw164.1
theorem k0_idx184_inb : ∀ (v840 : IVec S16 32) (k0_hw164 : k0_chk164 v840), ∀ a x, ((![v840] : Fin 1 → IVec S16 32) a x).toNat < S1000.size a := fun v840 k0_hw164 => k0_hw164.2

def k0_chk165 (v859 : IVec S16 32) (v861 : IVec S16 32) : Prop :=
  (∀ a x, ((![v859, v861] : Fin 2 → IVec S16 32) a x).toNat < S64x512.size a)
theorem k0_idx185_inb : ∀ (v859 : IVec S16 32) (v861 : IVec S16 32) (k0_hw165 : k0_chk165 v859 v861), ∀ a x, ((![v859, v861] : Fin 2 → IVec S16 32) a x).toNat < S64x512.size a := fun v859 v861 k0_hw165 => k0_hw165

def k0_chk166 (v838 : IVec S16 32) : Prop :=
  (∀ a x, ((![v838] : Fin 1 → IVec S16 32) a x).toNat < S2000.size a)
theorem k0_idx186_inb : ∀ (v838 : IVec S16 32) (k0_hw166 : k0_chk166 v838), ∀ a x, ((![v838] : Fin 1 → IVec S16 32) a x).toNat < S2000.size a := fun v838 k0_hw166 => k0_hw166
def k0_off23 (i : grid0.Coords) (c1152_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_219 : BitVec 32 := 2048#32
  let v462 : BitVec 32 := Scalar.muli v1 c2048_i32_219
  let v463 : BitVec 32 := Scalar.addi v462 c1152_i32
  let v464 : BitVec 32 := v463
  let c0_i32_229 : BitVec 32 := 0#32
  ![v464.toNat, 0]
def k0_mult20 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_231 : BitVec 32 := 2048#32
  let v487 : BitVec 32 := Scalar.muli v1 c2048_i32_231
  let c1216_i32 : BitVec 32 := 1216#32
  let v488 : BitVec 32 := Scalar.addi v487 c1216_i32
  v488
@[reducible] def k0_t39_loop (v495 : BitVec 32) (v497 : BitVec 32) : Scf.Loop 32 :=
  let c0_i32_236 : BitVec 32 := 0#32
  let v498 : BitVec 32 := Scalar.subi v497 v495
  let c15_i32_234 : BitVec 32 := 15#32
  let v499 : BitVec 32 := Scalar.addi v498 c15_i32_234
  let c4_i32_235 : BitVec 32 := 4#32
  let v500 : BitVec 32 := Scalar.shrsi v499 c4_i32_235
  let v501 : BitVec 32 := Scalar.subi v500 c0_i32_236
  let c1_i32_238 : BitVec 32 := 1#32
  let v503 : BitVec 32 := Scalar.divsi v501 c1_i32_238
  let v504 : BitVec 32 := Scalar.muli v503 c1_i32_238
  let v505 : BitVec 32 := Scalar.addi c0_i32_236 v504
  let c1_i32_239 : BitVec 32 := 1#32
  ⟨c0_i32_236, v505, c1_i32_239⟩

def k0_chk168 (v833 : IVec S16 32) : Prop :=
  (∀ a x, ((![v833] : Fin 1 → IVec S16 32) a x).toNat < S2048.size a)
theorem k0_idx187_inb : ∀ (v833 : IVec S16 32) (k0_hw168 : k0_chk168 v833), ∀ a x, ((![v833] : Fin 1 → IVec S16 32) a x).toNat < S2048.size a := fun v833 k0_hw168 => k0_hw168

def k0_chk169 (v840 : IVec S16 32) : Prop :=
  (∀ a x, ((![v840] : Fin 1 → IVec S16 32) a x).toNat < S1000.size a) ∧
  (∀ a x, ((![v840] : Fin 1 → IVec S16 32) a x).toNat < S1000.size a)
theorem k0_idx188_inb : ∀ (v840 : IVec S16 32) (k0_hw169 : k0_chk169 v840), ∀ a x, ((![v840] : Fin 1 → IVec S16 32) a x).toNat < S1000.size a := fun v840 k0_hw169 => k0_hw169.1
theorem k0_idx189_inb : ∀ (v840 : IVec S16 32) (k0_hw169 : k0_chk169 v840), ∀ a x, ((![v840] : Fin 1 → IVec S16 32) a x).toNat < S1000.size a := fun v840 k0_hw169 => k0_hw169.2

def k0_chk170 (v859 : IVec S16 32) (v861 : IVec S16 32) : Prop :=
  (∀ a x, ((![v859, v861] : Fin 2 → IVec S16 32) a x).toNat < S64x512.size a)
theorem k0_idx190_inb : ∀ (v859 : IVec S16 32) (v861 : IVec S16 32) (k0_hw170 : k0_chk170 v859 v861), ∀ a x, ((![v859, v861] : Fin 2 → IVec S16 32) a x).toNat < S64x512.size a := fun v859 v861 k0_hw170 => k0_hw170

def k0_chk171 (v838 : IVec S16 32) : Prop :=
  (∀ a x, ((![v838] : Fin 1 → IVec S16 32) a x).toNat < S2000.size a)
theorem k0_idx191_inb : ∀ (v838 : IVec S16 32) (k0_hw171 : k0_chk171 v838), ∀ a x, ((![v838] : Fin 1 → IVec S16 32) a x).toNat < S2000.size a := fun v838 k0_hw171 => k0_hw171
@[reducible] def k0_t40_loop (v495 : BitVec 32) (v497 : BitVec 32) : Scf.Loop 32 :=
  let c0_i32_236 : BitVec 32 := 0#32
  let v498 : BitVec 32 := Scalar.subi v497 v495
  let c15_i32_234 : BitVec 32 := 15#32
  let v499 : BitVec 32 := Scalar.addi v498 c15_i32_234
  let c4_i32_235 : BitVec 32 := 4#32
  let v500 : BitVec 32 := Scalar.shrsi v499 c4_i32_235
  let v501 : BitVec 32 := Scalar.subi v500 c0_i32_236
  let c1_i32_238 : BitVec 32 := 1#32
  let v503 : BitVec 32 := Scalar.divsi v501 c1_i32_238
  let v504 : BitVec 32 := Scalar.muli v503 c1_i32_238
  let v505 : BitVec 32 := Scalar.addi c0_i32_236 v504
  let v502 : BitVec 32 := Scalar.addi c0_i32_236 v501
  let c1_i32_240 : BitVec 32 := 1#32
  ⟨v505, v502, c1_i32_240⟩

def k0_chk167 (v495 : BitVec 32) (v497 : BitVec 32) : Prop :=
  ((k0_t39_loop v495 v497).OK) ∧
  ((k0_t40_loop v495 v497).OK)
theorem k0_t39_ok : ∀ (v495 : BitVec 32) (v497 : BitVec 32) (k0_hw167 : k0_chk167 v495 v497), (k0_t39_loop v495 v497).OK := fun v495 v497 k0_hw167 => k0_hw167.1
theorem k0_t40_ok : ∀ (v495 : BitVec 32) (v497 : BitVec 32) (k0_hw167 : k0_chk167 v495 v497), (k0_t40_loop v495 v497).OK := fun v495 v497 k0_hw167 => k0_hw167.2

def k0_chk172 (v833 : IVec S16 32) : Prop :=
  (∀ a x, ((![v833] : Fin 1 → IVec S16 32) a x).toNat < S2048.size a)
theorem k0_idx192_inb : ∀ (v833 : IVec S16 32) (k0_hw172 : k0_chk172 v833), ∀ a x, ((![v833] : Fin 1 → IVec S16 32) a x).toNat < S2048.size a := fun v833 k0_hw172 => k0_hw172

def k0_chk173 (v840 : IVec S16 32) : Prop :=
  (∀ a x, ((![v840] : Fin 1 → IVec S16 32) a x).toNat < S1000.size a) ∧
  (∀ a x, ((![v840] : Fin 1 → IVec S16 32) a x).toNat < S1000.size a)
theorem k0_idx193_inb : ∀ (v840 : IVec S16 32) (k0_hw173 : k0_chk173 v840), ∀ a x, ((![v840] : Fin 1 → IVec S16 32) a x).toNat < S1000.size a := fun v840 k0_hw173 => k0_hw173.1
theorem k0_idx194_inb : ∀ (v840 : IVec S16 32) (k0_hw173 : k0_chk173 v840), ∀ a x, ((![v840] : Fin 1 → IVec S16 32) a x).toNat < S1000.size a := fun v840 k0_hw173 => k0_hw173.2

def k0_chk174 (v859 : IVec S16 32) (v861 : IVec S16 32) : Prop :=
  (∀ a x, ((![v859, v861] : Fin 2 → IVec S16 32) a x).toNat < S64x512.size a)
theorem k0_idx195_inb : ∀ (v859 : IVec S16 32) (v861 : IVec S16 32) (k0_hw174 : k0_chk174 v859 v861), ∀ a x, ((![v859, v861] : Fin 2 → IVec S16 32) a x).toNat < S64x512.size a := fun v859 v861 k0_hw174 => k0_hw174

def k0_chk175 (v838 : IVec S16 32) : Prop :=
  (∀ a x, ((![v838] : Fin 1 → IVec S16 32) a x).toNat < S2000.size a)
theorem k0_idx196_inb : ∀ (v838 : IVec S16 32) (k0_hw175 : k0_chk175 v838), ∀ a x, ((![v838] : Fin 1 → IVec S16 32) a x).toNat < S2000.size a := fun v838 k0_hw175 => k0_hw175
def k0_off24 (i : grid0.Coords) (c1216_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_231 : BitVec 32 := 2048#32
  let v487 : BitVec 32 := Scalar.muli v1 c2048_i32_231
  let v488 : BitVec 32 := Scalar.addi v487 c1216_i32
  let v489 : BitVec 32 := v488
  let c0_i32_241 : BitVec 32 := 0#32
  ![v489.toNat, 0]
def k0_mult21 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_243 : BitVec 32 := 2048#32
  let v512 : BitVec 32 := Scalar.muli v1 c2048_i32_243
  let c1280_i32 : BitVec 32 := 1280#32
  let v513 : BitVec 32 := Scalar.addi v512 c1280_i32
  v513
@[reducible] def k0_t41_loop (v520 : BitVec 32) (v522 : BitVec 32) : Scf.Loop 32 :=
  let c0_i32_248 : BitVec 32 := 0#32
  let v523 : BitVec 32 := Scalar.subi v522 v520
  let c15_i32_246 : BitVec 32 := 15#32
  let v524 : BitVec 32 := Scalar.addi v523 c15_i32_246
  let c4_i32_247 : BitVec 32 := 4#32
  let v525 : BitVec 32 := Scalar.shrsi v524 c4_i32_247
  let v526 : BitVec 32 := Scalar.subi v525 c0_i32_248
  let c1_i32_250 : BitVec 32 := 1#32
  let v528 : BitVec 32 := Scalar.divsi v526 c1_i32_250
  let v529 : BitVec 32 := Scalar.muli v528 c1_i32_250
  let v530 : BitVec 32 := Scalar.addi c0_i32_248 v529
  let c1_i32_251 : BitVec 32 := 1#32
  ⟨c0_i32_248, v530, c1_i32_251⟩

def k0_chk177 (v833 : IVec S16 32) : Prop :=
  (∀ a x, ((![v833] : Fin 1 → IVec S16 32) a x).toNat < S2048.size a)
theorem k0_idx197_inb : ∀ (v833 : IVec S16 32) (k0_hw177 : k0_chk177 v833), ∀ a x, ((![v833] : Fin 1 → IVec S16 32) a x).toNat < S2048.size a := fun v833 k0_hw177 => k0_hw177

def k0_chk178 (v840 : IVec S16 32) : Prop :=
  (∀ a x, ((![v840] : Fin 1 → IVec S16 32) a x).toNat < S1000.size a) ∧
  (∀ a x, ((![v840] : Fin 1 → IVec S16 32) a x).toNat < S1000.size a)
theorem k0_idx198_inb : ∀ (v840 : IVec S16 32) (k0_hw178 : k0_chk178 v840), ∀ a x, ((![v840] : Fin 1 → IVec S16 32) a x).toNat < S1000.size a := fun v840 k0_hw178 => k0_hw178.1
theorem k0_idx199_inb : ∀ (v840 : IVec S16 32) (k0_hw178 : k0_chk178 v840), ∀ a x, ((![v840] : Fin 1 → IVec S16 32) a x).toNat < S1000.size a := fun v840 k0_hw178 => k0_hw178.2

def k0_chk179 (v859 : IVec S16 32) (v861 : IVec S16 32) : Prop :=
  (∀ a x, ((![v859, v861] : Fin 2 → IVec S16 32) a x).toNat < S64x512.size a)
theorem k0_idx200_inb : ∀ (v859 : IVec S16 32) (v861 : IVec S16 32) (k0_hw179 : k0_chk179 v859 v861), ∀ a x, ((![v859, v861] : Fin 2 → IVec S16 32) a x).toNat < S64x512.size a := fun v859 v861 k0_hw179 => k0_hw179

def k0_chk180 (v838 : IVec S16 32) : Prop :=
  (∀ a x, ((![v838] : Fin 1 → IVec S16 32) a x).toNat < S2000.size a)
theorem k0_idx201_inb : ∀ (v838 : IVec S16 32) (k0_hw180 : k0_chk180 v838), ∀ a x, ((![v838] : Fin 1 → IVec S16 32) a x).toNat < S2000.size a := fun v838 k0_hw180 => k0_hw180
@[reducible] def k0_t42_loop (v520 : BitVec 32) (v522 : BitVec 32) : Scf.Loop 32 :=
  let c0_i32_248 : BitVec 32 := 0#32
  let v523 : BitVec 32 := Scalar.subi v522 v520
  let c15_i32_246 : BitVec 32 := 15#32
  let v524 : BitVec 32 := Scalar.addi v523 c15_i32_246
  let c4_i32_247 : BitVec 32 := 4#32
  let v525 : BitVec 32 := Scalar.shrsi v524 c4_i32_247
  let v526 : BitVec 32 := Scalar.subi v525 c0_i32_248
  let c1_i32_250 : BitVec 32 := 1#32
  let v528 : BitVec 32 := Scalar.divsi v526 c1_i32_250
  let v529 : BitVec 32 := Scalar.muli v528 c1_i32_250
  let v530 : BitVec 32 := Scalar.addi c0_i32_248 v529
  let v527 : BitVec 32 := Scalar.addi c0_i32_248 v526
  let c1_i32_252 : BitVec 32 := 1#32
  ⟨v530, v527, c1_i32_252⟩

def k0_chk176 (v520 : BitVec 32) (v522 : BitVec 32) : Prop :=
  ((k0_t41_loop v520 v522).OK) ∧
  ((k0_t42_loop v520 v522).OK)
theorem k0_t41_ok : ∀ (v520 : BitVec 32) (v522 : BitVec 32) (k0_hw176 : k0_chk176 v520 v522), (k0_t41_loop v520 v522).OK := fun v520 v522 k0_hw176 => k0_hw176.1
theorem k0_t42_ok : ∀ (v520 : BitVec 32) (v522 : BitVec 32) (k0_hw176 : k0_chk176 v520 v522), (k0_t42_loop v520 v522).OK := fun v520 v522 k0_hw176 => k0_hw176.2

def k0_chk181 (v833 : IVec S16 32) : Prop :=
  (∀ a x, ((![v833] : Fin 1 → IVec S16 32) a x).toNat < S2048.size a)
theorem k0_idx202_inb : ∀ (v833 : IVec S16 32) (k0_hw181 : k0_chk181 v833), ∀ a x, ((![v833] : Fin 1 → IVec S16 32) a x).toNat < S2048.size a := fun v833 k0_hw181 => k0_hw181

def k0_chk182 (v840 : IVec S16 32) : Prop :=
  (∀ a x, ((![v840] : Fin 1 → IVec S16 32) a x).toNat < S1000.size a) ∧
  (∀ a x, ((![v840] : Fin 1 → IVec S16 32) a x).toNat < S1000.size a)
theorem k0_idx203_inb : ∀ (v840 : IVec S16 32) (k0_hw182 : k0_chk182 v840), ∀ a x, ((![v840] : Fin 1 → IVec S16 32) a x).toNat < S1000.size a := fun v840 k0_hw182 => k0_hw182.1
theorem k0_idx204_inb : ∀ (v840 : IVec S16 32) (k0_hw182 : k0_chk182 v840), ∀ a x, ((![v840] : Fin 1 → IVec S16 32) a x).toNat < S1000.size a := fun v840 k0_hw182 => k0_hw182.2

def k0_chk183 (v859 : IVec S16 32) (v861 : IVec S16 32) : Prop :=
  (∀ a x, ((![v859, v861] : Fin 2 → IVec S16 32) a x).toNat < S64x512.size a)
theorem k0_idx205_inb : ∀ (v859 : IVec S16 32) (v861 : IVec S16 32) (k0_hw183 : k0_chk183 v859 v861), ∀ a x, ((![v859, v861] : Fin 2 → IVec S16 32) a x).toNat < S64x512.size a := fun v859 v861 k0_hw183 => k0_hw183

def k0_chk184 (v838 : IVec S16 32) : Prop :=
  (∀ a x, ((![v838] : Fin 1 → IVec S16 32) a x).toNat < S2000.size a)
theorem k0_idx206_inb : ∀ (v838 : IVec S16 32) (k0_hw184 : k0_chk184 v838), ∀ a x, ((![v838] : Fin 1 → IVec S16 32) a x).toNat < S2000.size a := fun v838 k0_hw184 => k0_hw184
def k0_off25 (i : grid0.Coords) (c1280_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_243 : BitVec 32 := 2048#32
  let v512 : BitVec 32 := Scalar.muli v1 c2048_i32_243
  let v513 : BitVec 32 := Scalar.addi v512 c1280_i32
  let v514 : BitVec 32 := v513
  let c0_i32_253 : BitVec 32 := 0#32
  ![v514.toNat, 0]
def k0_mult22 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_255 : BitVec 32 := 2048#32
  let v537 : BitVec 32 := Scalar.muli v1 c2048_i32_255
  let c1344_i32 : BitVec 32 := 1344#32
  let v538 : BitVec 32 := Scalar.addi v537 c1344_i32
  v538
@[reducible] def k0_t43_loop (v545 : BitVec 32) (v547 : BitVec 32) : Scf.Loop 32 :=
  let c0_i32_260 : BitVec 32 := 0#32
  let v548 : BitVec 32 := Scalar.subi v547 v545
  let c15_i32_258 : BitVec 32 := 15#32
  let v549 : BitVec 32 := Scalar.addi v548 c15_i32_258
  let c4_i32_259 : BitVec 32 := 4#32
  let v550 : BitVec 32 := Scalar.shrsi v549 c4_i32_259
  let v551 : BitVec 32 := Scalar.subi v550 c0_i32_260
  let c1_i32_262 : BitVec 32 := 1#32
  let v553 : BitVec 32 := Scalar.divsi v551 c1_i32_262
  let v554 : BitVec 32 := Scalar.muli v553 c1_i32_262
  let v555 : BitVec 32 := Scalar.addi c0_i32_260 v554
  let c1_i32_263 : BitVec 32 := 1#32
  ⟨c0_i32_260, v555, c1_i32_263⟩

def k0_chk186 (v833 : IVec S16 32) : Prop :=
  (∀ a x, ((![v833] : Fin 1 → IVec S16 32) a x).toNat < S2048.size a)
theorem k0_idx207_inb : ∀ (v833 : IVec S16 32) (k0_hw186 : k0_chk186 v833), ∀ a x, ((![v833] : Fin 1 → IVec S16 32) a x).toNat < S2048.size a := fun v833 k0_hw186 => k0_hw186

def k0_chk187 (v840 : IVec S16 32) : Prop :=
  (∀ a x, ((![v840] : Fin 1 → IVec S16 32) a x).toNat < S1000.size a) ∧
  (∀ a x, ((![v840] : Fin 1 → IVec S16 32) a x).toNat < S1000.size a)
theorem k0_idx208_inb : ∀ (v840 : IVec S16 32) (k0_hw187 : k0_chk187 v840), ∀ a x, ((![v840] : Fin 1 → IVec S16 32) a x).toNat < S1000.size a := fun v840 k0_hw187 => k0_hw187.1
theorem k0_idx209_inb : ∀ (v840 : IVec S16 32) (k0_hw187 : k0_chk187 v840), ∀ a x, ((![v840] : Fin 1 → IVec S16 32) a x).toNat < S1000.size a := fun v840 k0_hw187 => k0_hw187.2

def k0_chk188 (v859 : IVec S16 32) (v861 : IVec S16 32) : Prop :=
  (∀ a x, ((![v859, v861] : Fin 2 → IVec S16 32) a x).toNat < S64x512.size a)
theorem k0_idx210_inb : ∀ (v859 : IVec S16 32) (v861 : IVec S16 32) (k0_hw188 : k0_chk188 v859 v861), ∀ a x, ((![v859, v861] : Fin 2 → IVec S16 32) a x).toNat < S64x512.size a := fun v859 v861 k0_hw188 => k0_hw188

def k0_chk189 (v838 : IVec S16 32) : Prop :=
  (∀ a x, ((![v838] : Fin 1 → IVec S16 32) a x).toNat < S2000.size a)
theorem k0_idx211_inb : ∀ (v838 : IVec S16 32) (k0_hw189 : k0_chk189 v838), ∀ a x, ((![v838] : Fin 1 → IVec S16 32) a x).toNat < S2000.size a := fun v838 k0_hw189 => k0_hw189
@[reducible] def k0_t44_loop (v545 : BitVec 32) (v547 : BitVec 32) : Scf.Loop 32 :=
  let c0_i32_260 : BitVec 32 := 0#32
  let v548 : BitVec 32 := Scalar.subi v547 v545
  let c15_i32_258 : BitVec 32 := 15#32
  let v549 : BitVec 32 := Scalar.addi v548 c15_i32_258
  let c4_i32_259 : BitVec 32 := 4#32
  let v550 : BitVec 32 := Scalar.shrsi v549 c4_i32_259
  let v551 : BitVec 32 := Scalar.subi v550 c0_i32_260
  let c1_i32_262 : BitVec 32 := 1#32
  let v553 : BitVec 32 := Scalar.divsi v551 c1_i32_262
  let v554 : BitVec 32 := Scalar.muli v553 c1_i32_262
  let v555 : BitVec 32 := Scalar.addi c0_i32_260 v554
  let v552 : BitVec 32 := Scalar.addi c0_i32_260 v551
  let c1_i32_264 : BitVec 32 := 1#32
  ⟨v555, v552, c1_i32_264⟩

def k0_chk185 (v545 : BitVec 32) (v547 : BitVec 32) : Prop :=
  ((k0_t43_loop v545 v547).OK) ∧
  ((k0_t44_loop v545 v547).OK)
theorem k0_t43_ok : ∀ (v545 : BitVec 32) (v547 : BitVec 32) (k0_hw185 : k0_chk185 v545 v547), (k0_t43_loop v545 v547).OK := fun v545 v547 k0_hw185 => k0_hw185.1
theorem k0_t44_ok : ∀ (v545 : BitVec 32) (v547 : BitVec 32) (k0_hw185 : k0_chk185 v545 v547), (k0_t44_loop v545 v547).OK := fun v545 v547 k0_hw185 => k0_hw185.2

def k0_chk190 (v833 : IVec S16 32) : Prop :=
  (∀ a x, ((![v833] : Fin 1 → IVec S16 32) a x).toNat < S2048.size a)
theorem k0_idx212_inb : ∀ (v833 : IVec S16 32) (k0_hw190 : k0_chk190 v833), ∀ a x, ((![v833] : Fin 1 → IVec S16 32) a x).toNat < S2048.size a := fun v833 k0_hw190 => k0_hw190

def k0_chk191 (v840 : IVec S16 32) : Prop :=
  (∀ a x, ((![v840] : Fin 1 → IVec S16 32) a x).toNat < S1000.size a) ∧
  (∀ a x, ((![v840] : Fin 1 → IVec S16 32) a x).toNat < S1000.size a)
theorem k0_idx213_inb : ∀ (v840 : IVec S16 32) (k0_hw191 : k0_chk191 v840), ∀ a x, ((![v840] : Fin 1 → IVec S16 32) a x).toNat < S1000.size a := fun v840 k0_hw191 => k0_hw191.1
theorem k0_idx214_inb : ∀ (v840 : IVec S16 32) (k0_hw191 : k0_chk191 v840), ∀ a x, ((![v840] : Fin 1 → IVec S16 32) a x).toNat < S1000.size a := fun v840 k0_hw191 => k0_hw191.2

def k0_chk192 (v859 : IVec S16 32) (v861 : IVec S16 32) : Prop :=
  (∀ a x, ((![v859, v861] : Fin 2 → IVec S16 32) a x).toNat < S64x512.size a)
theorem k0_idx215_inb : ∀ (v859 : IVec S16 32) (v861 : IVec S16 32) (k0_hw192 : k0_chk192 v859 v861), ∀ a x, ((![v859, v861] : Fin 2 → IVec S16 32) a x).toNat < S64x512.size a := fun v859 v861 k0_hw192 => k0_hw192

def k0_chk193 (v838 : IVec S16 32) : Prop :=
  (∀ a x, ((![v838] : Fin 1 → IVec S16 32) a x).toNat < S2000.size a)
theorem k0_idx216_inb : ∀ (v838 : IVec S16 32) (k0_hw193 : k0_chk193 v838), ∀ a x, ((![v838] : Fin 1 → IVec S16 32) a x).toNat < S2000.size a := fun v838 k0_hw193 => k0_hw193
def k0_off26 (i : grid0.Coords) (c1344_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_255 : BitVec 32 := 2048#32
  let v537 : BitVec 32 := Scalar.muli v1 c2048_i32_255
  let v538 : BitVec 32 := Scalar.addi v537 c1344_i32
  let v539 : BitVec 32 := v538
  let c0_i32_265 : BitVec 32 := 0#32
  ![v539.toNat, 0]
def k0_mult23 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_267 : BitVec 32 := 2048#32
  let v562 : BitVec 32 := Scalar.muli v1 c2048_i32_267
  let c1408_i32 : BitVec 32 := 1408#32
  let v563 : BitVec 32 := Scalar.addi v562 c1408_i32
  v563
@[reducible] def k0_t45_loop (v570 : BitVec 32) (v572 : BitVec 32) : Scf.Loop 32 :=
  let c0_i32_272 : BitVec 32 := 0#32
  let v573 : BitVec 32 := Scalar.subi v572 v570
  let c15_i32_270 : BitVec 32 := 15#32
  let v574 : BitVec 32 := Scalar.addi v573 c15_i32_270
  let c4_i32_271 : BitVec 32 := 4#32
  let v575 : BitVec 32 := Scalar.shrsi v574 c4_i32_271
  let v576 : BitVec 32 := Scalar.subi v575 c0_i32_272
  let c1_i32_274 : BitVec 32 := 1#32
  let v578 : BitVec 32 := Scalar.divsi v576 c1_i32_274
  let v579 : BitVec 32 := Scalar.muli v578 c1_i32_274
  let v580 : BitVec 32 := Scalar.addi c0_i32_272 v579
  let c1_i32_275 : BitVec 32 := 1#32
  ⟨c0_i32_272, v580, c1_i32_275⟩

def k0_chk195 (v833 : IVec S16 32) : Prop :=
  (∀ a x, ((![v833] : Fin 1 → IVec S16 32) a x).toNat < S2048.size a)
theorem k0_idx217_inb : ∀ (v833 : IVec S16 32) (k0_hw195 : k0_chk195 v833), ∀ a x, ((![v833] : Fin 1 → IVec S16 32) a x).toNat < S2048.size a := fun v833 k0_hw195 => k0_hw195

def k0_chk196 (v840 : IVec S16 32) : Prop :=
  (∀ a x, ((![v840] : Fin 1 → IVec S16 32) a x).toNat < S1000.size a) ∧
  (∀ a x, ((![v840] : Fin 1 → IVec S16 32) a x).toNat < S1000.size a)
theorem k0_idx218_inb : ∀ (v840 : IVec S16 32) (k0_hw196 : k0_chk196 v840), ∀ a x, ((![v840] : Fin 1 → IVec S16 32) a x).toNat < S1000.size a := fun v840 k0_hw196 => k0_hw196.1
theorem k0_idx219_inb : ∀ (v840 : IVec S16 32) (k0_hw196 : k0_chk196 v840), ∀ a x, ((![v840] : Fin 1 → IVec S16 32) a x).toNat < S1000.size a := fun v840 k0_hw196 => k0_hw196.2

def k0_chk197 (v859 : IVec S16 32) (v861 : IVec S16 32) : Prop :=
  (∀ a x, ((![v859, v861] : Fin 2 → IVec S16 32) a x).toNat < S64x512.size a)
theorem k0_idx220_inb : ∀ (v859 : IVec S16 32) (v861 : IVec S16 32) (k0_hw197 : k0_chk197 v859 v861), ∀ a x, ((![v859, v861] : Fin 2 → IVec S16 32) a x).toNat < S64x512.size a := fun v859 v861 k0_hw197 => k0_hw197

def k0_chk198 (v838 : IVec S16 32) : Prop :=
  (∀ a x, ((![v838] : Fin 1 → IVec S16 32) a x).toNat < S2000.size a)
theorem k0_idx221_inb : ∀ (v838 : IVec S16 32) (k0_hw198 : k0_chk198 v838), ∀ a x, ((![v838] : Fin 1 → IVec S16 32) a x).toNat < S2000.size a := fun v838 k0_hw198 => k0_hw198
@[reducible] def k0_t46_loop (v570 : BitVec 32) (v572 : BitVec 32) : Scf.Loop 32 :=
  let c0_i32_272 : BitVec 32 := 0#32
  let v573 : BitVec 32 := Scalar.subi v572 v570
  let c15_i32_270 : BitVec 32 := 15#32
  let v574 : BitVec 32 := Scalar.addi v573 c15_i32_270
  let c4_i32_271 : BitVec 32 := 4#32
  let v575 : BitVec 32 := Scalar.shrsi v574 c4_i32_271
  let v576 : BitVec 32 := Scalar.subi v575 c0_i32_272
  let c1_i32_274 : BitVec 32 := 1#32
  let v578 : BitVec 32 := Scalar.divsi v576 c1_i32_274
  let v579 : BitVec 32 := Scalar.muli v578 c1_i32_274
  let v580 : BitVec 32 := Scalar.addi c0_i32_272 v579
  let v577 : BitVec 32 := Scalar.addi c0_i32_272 v576
  let c1_i32_276 : BitVec 32 := 1#32
  ⟨v580, v577, c1_i32_276⟩

def k0_chk194 (v570 : BitVec 32) (v572 : BitVec 32) : Prop :=
  ((k0_t45_loop v570 v572).OK) ∧
  ((k0_t46_loop v570 v572).OK)
theorem k0_t45_ok : ∀ (v570 : BitVec 32) (v572 : BitVec 32) (k0_hw194 : k0_chk194 v570 v572), (k0_t45_loop v570 v572).OK := fun v570 v572 k0_hw194 => k0_hw194.1
theorem k0_t46_ok : ∀ (v570 : BitVec 32) (v572 : BitVec 32) (k0_hw194 : k0_chk194 v570 v572), (k0_t46_loop v570 v572).OK := fun v570 v572 k0_hw194 => k0_hw194.2

def k0_chk199 (v833 : IVec S16 32) : Prop :=
  (∀ a x, ((![v833] : Fin 1 → IVec S16 32) a x).toNat < S2048.size a)
theorem k0_idx222_inb : ∀ (v833 : IVec S16 32) (k0_hw199 : k0_chk199 v833), ∀ a x, ((![v833] : Fin 1 → IVec S16 32) a x).toNat < S2048.size a := fun v833 k0_hw199 => k0_hw199

def k0_chk200 (v840 : IVec S16 32) : Prop :=
  (∀ a x, ((![v840] : Fin 1 → IVec S16 32) a x).toNat < S1000.size a) ∧
  (∀ a x, ((![v840] : Fin 1 → IVec S16 32) a x).toNat < S1000.size a)
theorem k0_idx223_inb : ∀ (v840 : IVec S16 32) (k0_hw200 : k0_chk200 v840), ∀ a x, ((![v840] : Fin 1 → IVec S16 32) a x).toNat < S1000.size a := fun v840 k0_hw200 => k0_hw200.1
theorem k0_idx224_inb : ∀ (v840 : IVec S16 32) (k0_hw200 : k0_chk200 v840), ∀ a x, ((![v840] : Fin 1 → IVec S16 32) a x).toNat < S1000.size a := fun v840 k0_hw200 => k0_hw200.2

def k0_chk201 (v859 : IVec S16 32) (v861 : IVec S16 32) : Prop :=
  (∀ a x, ((![v859, v861] : Fin 2 → IVec S16 32) a x).toNat < S64x512.size a)
theorem k0_idx225_inb : ∀ (v859 : IVec S16 32) (v861 : IVec S16 32) (k0_hw201 : k0_chk201 v859 v861), ∀ a x, ((![v859, v861] : Fin 2 → IVec S16 32) a x).toNat < S64x512.size a := fun v859 v861 k0_hw201 => k0_hw201

def k0_chk202 (v838 : IVec S16 32) : Prop :=
  (∀ a x, ((![v838] : Fin 1 → IVec S16 32) a x).toNat < S2000.size a)
theorem k0_idx226_inb : ∀ (v838 : IVec S16 32) (k0_hw202 : k0_chk202 v838), ∀ a x, ((![v838] : Fin 1 → IVec S16 32) a x).toNat < S2000.size a := fun v838 k0_hw202 => k0_hw202
def k0_off27 (i : grid0.Coords) (c1408_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_267 : BitVec 32 := 2048#32
  let v562 : BitVec 32 := Scalar.muli v1 c2048_i32_267
  let v563 : BitVec 32 := Scalar.addi v562 c1408_i32
  let v564 : BitVec 32 := v563
  let c0_i32_277 : BitVec 32 := 0#32
  ![v564.toNat, 0]
def k0_mult24 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_279 : BitVec 32 := 2048#32
  let v587 : BitVec 32 := Scalar.muli v1 c2048_i32_279
  let c1472_i32 : BitVec 32 := 1472#32
  let v588 : BitVec 32 := Scalar.addi v587 c1472_i32
  v588
@[reducible] def k0_t47_loop (v595 : BitVec 32) (v597 : BitVec 32) : Scf.Loop 32 :=
  let c0_i32_284 : BitVec 32 := 0#32
  let v598 : BitVec 32 := Scalar.subi v597 v595
  let c15_i32_282 : BitVec 32 := 15#32
  let v599 : BitVec 32 := Scalar.addi v598 c15_i32_282
  let c4_i32_283 : BitVec 32 := 4#32
  let v600 : BitVec 32 := Scalar.shrsi v599 c4_i32_283
  let v601 : BitVec 32 := Scalar.subi v600 c0_i32_284
  let c1_i32_286 : BitVec 32 := 1#32
  let v603 : BitVec 32 := Scalar.divsi v601 c1_i32_286
  let v604 : BitVec 32 := Scalar.muli v603 c1_i32_286
  let v605 : BitVec 32 := Scalar.addi c0_i32_284 v604
  let c1_i32_287 : BitVec 32 := 1#32
  ⟨c0_i32_284, v605, c1_i32_287⟩

def k0_chk204 (v833 : IVec S16 32) : Prop :=
  (∀ a x, ((![v833] : Fin 1 → IVec S16 32) a x).toNat < S2048.size a)
theorem k0_idx227_inb : ∀ (v833 : IVec S16 32) (k0_hw204 : k0_chk204 v833), ∀ a x, ((![v833] : Fin 1 → IVec S16 32) a x).toNat < S2048.size a := fun v833 k0_hw204 => k0_hw204

def k0_chk205 (v840 : IVec S16 32) : Prop :=
  (∀ a x, ((![v840] : Fin 1 → IVec S16 32) a x).toNat < S1000.size a) ∧
  (∀ a x, ((![v840] : Fin 1 → IVec S16 32) a x).toNat < S1000.size a)
theorem k0_idx228_inb : ∀ (v840 : IVec S16 32) (k0_hw205 : k0_chk205 v840), ∀ a x, ((![v840] : Fin 1 → IVec S16 32) a x).toNat < S1000.size a := fun v840 k0_hw205 => k0_hw205.1
theorem k0_idx229_inb : ∀ (v840 : IVec S16 32) (k0_hw205 : k0_chk205 v840), ∀ a x, ((![v840] : Fin 1 → IVec S16 32) a x).toNat < S1000.size a := fun v840 k0_hw205 => k0_hw205.2

def k0_chk206 (v859 : IVec S16 32) (v861 : IVec S16 32) : Prop :=
  (∀ a x, ((![v859, v861] : Fin 2 → IVec S16 32) a x).toNat < S64x512.size a)
theorem k0_idx230_inb : ∀ (v859 : IVec S16 32) (v861 : IVec S16 32) (k0_hw206 : k0_chk206 v859 v861), ∀ a x, ((![v859, v861] : Fin 2 → IVec S16 32) a x).toNat < S64x512.size a := fun v859 v861 k0_hw206 => k0_hw206

def k0_chk207 (v838 : IVec S16 32) : Prop :=
  (∀ a x, ((![v838] : Fin 1 → IVec S16 32) a x).toNat < S2000.size a)
theorem k0_idx231_inb : ∀ (v838 : IVec S16 32) (k0_hw207 : k0_chk207 v838), ∀ a x, ((![v838] : Fin 1 → IVec S16 32) a x).toNat < S2000.size a := fun v838 k0_hw207 => k0_hw207
@[reducible] def k0_t48_loop (v595 : BitVec 32) (v597 : BitVec 32) : Scf.Loop 32 :=
  let c0_i32_284 : BitVec 32 := 0#32
  let v598 : BitVec 32 := Scalar.subi v597 v595
  let c15_i32_282 : BitVec 32 := 15#32
  let v599 : BitVec 32 := Scalar.addi v598 c15_i32_282
  let c4_i32_283 : BitVec 32 := 4#32
  let v600 : BitVec 32 := Scalar.shrsi v599 c4_i32_283
  let v601 : BitVec 32 := Scalar.subi v600 c0_i32_284
  let c1_i32_286 : BitVec 32 := 1#32
  let v603 : BitVec 32 := Scalar.divsi v601 c1_i32_286
  let v604 : BitVec 32 := Scalar.muli v603 c1_i32_286
  let v605 : BitVec 32 := Scalar.addi c0_i32_284 v604
  let v602 : BitVec 32 := Scalar.addi c0_i32_284 v601
  let c1_i32_288 : BitVec 32 := 1#32
  ⟨v605, v602, c1_i32_288⟩

def k0_chk203 (v595 : BitVec 32) (v597 : BitVec 32) : Prop :=
  ((k0_t47_loop v595 v597).OK) ∧
  ((k0_t48_loop v595 v597).OK)
theorem k0_t47_ok : ∀ (v595 : BitVec 32) (v597 : BitVec 32) (k0_hw203 : k0_chk203 v595 v597), (k0_t47_loop v595 v597).OK := fun v595 v597 k0_hw203 => k0_hw203.1
theorem k0_t48_ok : ∀ (v595 : BitVec 32) (v597 : BitVec 32) (k0_hw203 : k0_chk203 v595 v597), (k0_t48_loop v595 v597).OK := fun v595 v597 k0_hw203 => k0_hw203.2

def k0_chk208 (v833 : IVec S16 32) : Prop :=
  (∀ a x, ((![v833] : Fin 1 → IVec S16 32) a x).toNat < S2048.size a)
theorem k0_idx232_inb : ∀ (v833 : IVec S16 32) (k0_hw208 : k0_chk208 v833), ∀ a x, ((![v833] : Fin 1 → IVec S16 32) a x).toNat < S2048.size a := fun v833 k0_hw208 => k0_hw208

def k0_chk209 (v840 : IVec S16 32) : Prop :=
  (∀ a x, ((![v840] : Fin 1 → IVec S16 32) a x).toNat < S1000.size a) ∧
  (∀ a x, ((![v840] : Fin 1 → IVec S16 32) a x).toNat < S1000.size a)
theorem k0_idx233_inb : ∀ (v840 : IVec S16 32) (k0_hw209 : k0_chk209 v840), ∀ a x, ((![v840] : Fin 1 → IVec S16 32) a x).toNat < S1000.size a := fun v840 k0_hw209 => k0_hw209.1
theorem k0_idx234_inb : ∀ (v840 : IVec S16 32) (k0_hw209 : k0_chk209 v840), ∀ a x, ((![v840] : Fin 1 → IVec S16 32) a x).toNat < S1000.size a := fun v840 k0_hw209 => k0_hw209.2

def k0_chk210 (v859 : IVec S16 32) (v861 : IVec S16 32) : Prop :=
  (∀ a x, ((![v859, v861] : Fin 2 → IVec S16 32) a x).toNat < S64x512.size a)
theorem k0_idx235_inb : ∀ (v859 : IVec S16 32) (v861 : IVec S16 32) (k0_hw210 : k0_chk210 v859 v861), ∀ a x, ((![v859, v861] : Fin 2 → IVec S16 32) a x).toNat < S64x512.size a := fun v859 v861 k0_hw210 => k0_hw210

def k0_chk211 (v838 : IVec S16 32) : Prop :=
  (∀ a x, ((![v838] : Fin 1 → IVec S16 32) a x).toNat < S2000.size a)
theorem k0_idx236_inb : ∀ (v838 : IVec S16 32) (k0_hw211 : k0_chk211 v838), ∀ a x, ((![v838] : Fin 1 → IVec S16 32) a x).toNat < S2000.size a := fun v838 k0_hw211 => k0_hw211
def k0_off28 (i : grid0.Coords) (c1472_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_279 : BitVec 32 := 2048#32
  let v587 : BitVec 32 := Scalar.muli v1 c2048_i32_279
  let v588 : BitVec 32 := Scalar.addi v587 c1472_i32
  let v589 : BitVec 32 := v588
  let c0_i32_289 : BitVec 32 := 0#32
  ![v589.toNat, 0]
def k0_mult25 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_291 : BitVec 32 := 2048#32
  let v612 : BitVec 32 := Scalar.muli v1 c2048_i32_291
  let c1536_i32 : BitVec 32 := 1536#32
  let v613 : BitVec 32 := Scalar.addi v612 c1536_i32
  v613
@[reducible] def k0_t49_loop (v620 : BitVec 32) (v622 : BitVec 32) : Scf.Loop 32 :=
  let c0_i32_296 : BitVec 32 := 0#32
  let v623 : BitVec 32 := Scalar.subi v622 v620
  let c15_i32_294 : BitVec 32 := 15#32
  let v624 : BitVec 32 := Scalar.addi v623 c15_i32_294
  let c4_i32_295 : BitVec 32 := 4#32
  let v625 : BitVec 32 := Scalar.shrsi v624 c4_i32_295
  let v626 : BitVec 32 := Scalar.subi v625 c0_i32_296
  let c1_i32_298 : BitVec 32 := 1#32
  let v628 : BitVec 32 := Scalar.divsi v626 c1_i32_298
  let v629 : BitVec 32 := Scalar.muli v628 c1_i32_298
  let v630 : BitVec 32 := Scalar.addi c0_i32_296 v629
  let c1_i32_299 : BitVec 32 := 1#32
  ⟨c0_i32_296, v630, c1_i32_299⟩

def k0_chk213 (v833 : IVec S16 32) : Prop :=
  (∀ a x, ((![v833] : Fin 1 → IVec S16 32) a x).toNat < S2048.size a)
theorem k0_idx237_inb : ∀ (v833 : IVec S16 32) (k0_hw213 : k0_chk213 v833), ∀ a x, ((![v833] : Fin 1 → IVec S16 32) a x).toNat < S2048.size a := fun v833 k0_hw213 => k0_hw213

def k0_chk214 (v840 : IVec S16 32) : Prop :=
  (∀ a x, ((![v840] : Fin 1 → IVec S16 32) a x).toNat < S1000.size a) ∧
  (∀ a x, ((![v840] : Fin 1 → IVec S16 32) a x).toNat < S1000.size a)
theorem k0_idx238_inb : ∀ (v840 : IVec S16 32) (k0_hw214 : k0_chk214 v840), ∀ a x, ((![v840] : Fin 1 → IVec S16 32) a x).toNat < S1000.size a := fun v840 k0_hw214 => k0_hw214.1
theorem k0_idx239_inb : ∀ (v840 : IVec S16 32) (k0_hw214 : k0_chk214 v840), ∀ a x, ((![v840] : Fin 1 → IVec S16 32) a x).toNat < S1000.size a := fun v840 k0_hw214 => k0_hw214.2

def k0_chk215 (v859 : IVec S16 32) (v861 : IVec S16 32) : Prop :=
  (∀ a x, ((![v859, v861] : Fin 2 → IVec S16 32) a x).toNat < S64x512.size a)
theorem k0_idx240_inb : ∀ (v859 : IVec S16 32) (v861 : IVec S16 32) (k0_hw215 : k0_chk215 v859 v861), ∀ a x, ((![v859, v861] : Fin 2 → IVec S16 32) a x).toNat < S64x512.size a := fun v859 v861 k0_hw215 => k0_hw215

def k0_chk216 (v838 : IVec S16 32) : Prop :=
  (∀ a x, ((![v838] : Fin 1 → IVec S16 32) a x).toNat < S2000.size a)
theorem k0_idx241_inb : ∀ (v838 : IVec S16 32) (k0_hw216 : k0_chk216 v838), ∀ a x, ((![v838] : Fin 1 → IVec S16 32) a x).toNat < S2000.size a := fun v838 k0_hw216 => k0_hw216
@[reducible] def k0_t50_loop (v620 : BitVec 32) (v622 : BitVec 32) : Scf.Loop 32 :=
  let c0_i32_296 : BitVec 32 := 0#32
  let v623 : BitVec 32 := Scalar.subi v622 v620
  let c15_i32_294 : BitVec 32 := 15#32
  let v624 : BitVec 32 := Scalar.addi v623 c15_i32_294
  let c4_i32_295 : BitVec 32 := 4#32
  let v625 : BitVec 32 := Scalar.shrsi v624 c4_i32_295
  let v626 : BitVec 32 := Scalar.subi v625 c0_i32_296
  let c1_i32_298 : BitVec 32 := 1#32
  let v628 : BitVec 32 := Scalar.divsi v626 c1_i32_298
  let v629 : BitVec 32 := Scalar.muli v628 c1_i32_298
  let v630 : BitVec 32 := Scalar.addi c0_i32_296 v629
  let v627 : BitVec 32 := Scalar.addi c0_i32_296 v626
  let c1_i32_300 : BitVec 32 := 1#32
  ⟨v630, v627, c1_i32_300⟩

def k0_chk212 (v620 : BitVec 32) (v622 : BitVec 32) : Prop :=
  ((k0_t49_loop v620 v622).OK) ∧
  ((k0_t50_loop v620 v622).OK)
theorem k0_t49_ok : ∀ (v620 : BitVec 32) (v622 : BitVec 32) (k0_hw212 : k0_chk212 v620 v622), (k0_t49_loop v620 v622).OK := fun v620 v622 k0_hw212 => k0_hw212.1
theorem k0_t50_ok : ∀ (v620 : BitVec 32) (v622 : BitVec 32) (k0_hw212 : k0_chk212 v620 v622), (k0_t50_loop v620 v622).OK := fun v620 v622 k0_hw212 => k0_hw212.2

def k0_chk217 (v833 : IVec S16 32) : Prop :=
  (∀ a x, ((![v833] : Fin 1 → IVec S16 32) a x).toNat < S2048.size a)
theorem k0_idx242_inb : ∀ (v833 : IVec S16 32) (k0_hw217 : k0_chk217 v833), ∀ a x, ((![v833] : Fin 1 → IVec S16 32) a x).toNat < S2048.size a := fun v833 k0_hw217 => k0_hw217

def k0_chk218 (v840 : IVec S16 32) : Prop :=
  (∀ a x, ((![v840] : Fin 1 → IVec S16 32) a x).toNat < S1000.size a) ∧
  (∀ a x, ((![v840] : Fin 1 → IVec S16 32) a x).toNat < S1000.size a)
theorem k0_idx243_inb : ∀ (v840 : IVec S16 32) (k0_hw218 : k0_chk218 v840), ∀ a x, ((![v840] : Fin 1 → IVec S16 32) a x).toNat < S1000.size a := fun v840 k0_hw218 => k0_hw218.1
theorem k0_idx244_inb : ∀ (v840 : IVec S16 32) (k0_hw218 : k0_chk218 v840), ∀ a x, ((![v840] : Fin 1 → IVec S16 32) a x).toNat < S1000.size a := fun v840 k0_hw218 => k0_hw218.2

def k0_chk219 (v859 : IVec S16 32) (v861 : IVec S16 32) : Prop :=
  (∀ a x, ((![v859, v861] : Fin 2 → IVec S16 32) a x).toNat < S64x512.size a)
theorem k0_idx245_inb : ∀ (v859 : IVec S16 32) (v861 : IVec S16 32) (k0_hw219 : k0_chk219 v859 v861), ∀ a x, ((![v859, v861] : Fin 2 → IVec S16 32) a x).toNat < S64x512.size a := fun v859 v861 k0_hw219 => k0_hw219

def k0_chk220 (v838 : IVec S16 32) : Prop :=
  (∀ a x, ((![v838] : Fin 1 → IVec S16 32) a x).toNat < S2000.size a)
theorem k0_idx246_inb : ∀ (v838 : IVec S16 32) (k0_hw220 : k0_chk220 v838), ∀ a x, ((![v838] : Fin 1 → IVec S16 32) a x).toNat < S2000.size a := fun v838 k0_hw220 => k0_hw220
def k0_off29 (i : grid0.Coords) (c1536_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_291 : BitVec 32 := 2048#32
  let v612 : BitVec 32 := Scalar.muli v1 c2048_i32_291
  let v613 : BitVec 32 := Scalar.addi v612 c1536_i32
  let v614 : BitVec 32 := v613
  let c0_i32_301 : BitVec 32 := 0#32
  ![v614.toNat, 0]
def k0_mult26 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_303 : BitVec 32 := 2048#32
  let v637 : BitVec 32 := Scalar.muli v1 c2048_i32_303
  let c1600_i32 : BitVec 32 := 1600#32
  let v638 : BitVec 32 := Scalar.addi v637 c1600_i32
  v638
@[reducible] def k0_t51_loop (v645 : BitVec 32) (v647 : BitVec 32) : Scf.Loop 32 :=
  let c0_i32_308 : BitVec 32 := 0#32
  let v648 : BitVec 32 := Scalar.subi v647 v645
  let c15_i32_306 : BitVec 32 := 15#32
  let v649 : BitVec 32 := Scalar.addi v648 c15_i32_306
  let c4_i32_307 : BitVec 32 := 4#32
  let v650 : BitVec 32 := Scalar.shrsi v649 c4_i32_307
  let v651 : BitVec 32 := Scalar.subi v650 c0_i32_308
  let c1_i32_310 : BitVec 32 := 1#32
  let v653 : BitVec 32 := Scalar.divsi v651 c1_i32_310
  let v654 : BitVec 32 := Scalar.muli v653 c1_i32_310
  let v655 : BitVec 32 := Scalar.addi c0_i32_308 v654
  let c1_i32_311 : BitVec 32 := 1#32
  ⟨c0_i32_308, v655, c1_i32_311⟩

def k0_chk222 (v833 : IVec S16 32) : Prop :=
  (∀ a x, ((![v833] : Fin 1 → IVec S16 32) a x).toNat < S2048.size a)
theorem k0_idx247_inb : ∀ (v833 : IVec S16 32) (k0_hw222 : k0_chk222 v833), ∀ a x, ((![v833] : Fin 1 → IVec S16 32) a x).toNat < S2048.size a := fun v833 k0_hw222 => k0_hw222

def k0_chk223 (v840 : IVec S16 32) : Prop :=
  (∀ a x, ((![v840] : Fin 1 → IVec S16 32) a x).toNat < S1000.size a) ∧
  (∀ a x, ((![v840] : Fin 1 → IVec S16 32) a x).toNat < S1000.size a)
theorem k0_idx248_inb : ∀ (v840 : IVec S16 32) (k0_hw223 : k0_chk223 v840), ∀ a x, ((![v840] : Fin 1 → IVec S16 32) a x).toNat < S1000.size a := fun v840 k0_hw223 => k0_hw223.1
theorem k0_idx249_inb : ∀ (v840 : IVec S16 32) (k0_hw223 : k0_chk223 v840), ∀ a x, ((![v840] : Fin 1 → IVec S16 32) a x).toNat < S1000.size a := fun v840 k0_hw223 => k0_hw223.2

def k0_chk224 (v859 : IVec S16 32) (v861 : IVec S16 32) : Prop :=
  (∀ a x, ((![v859, v861] : Fin 2 → IVec S16 32) a x).toNat < S64x512.size a)
theorem k0_idx250_inb : ∀ (v859 : IVec S16 32) (v861 : IVec S16 32) (k0_hw224 : k0_chk224 v859 v861), ∀ a x, ((![v859, v861] : Fin 2 → IVec S16 32) a x).toNat < S64x512.size a := fun v859 v861 k0_hw224 => k0_hw224

def k0_chk225 (v838 : IVec S16 32) : Prop :=
  (∀ a x, ((![v838] : Fin 1 → IVec S16 32) a x).toNat < S2000.size a)
theorem k0_idx251_inb : ∀ (v838 : IVec S16 32) (k0_hw225 : k0_chk225 v838), ∀ a x, ((![v838] : Fin 1 → IVec S16 32) a x).toNat < S2000.size a := fun v838 k0_hw225 => k0_hw225
@[reducible] def k0_t52_loop (v645 : BitVec 32) (v647 : BitVec 32) : Scf.Loop 32 :=
  let c0_i32_308 : BitVec 32 := 0#32
  let v648 : BitVec 32 := Scalar.subi v647 v645
  let c15_i32_306 : BitVec 32 := 15#32
  let v649 : BitVec 32 := Scalar.addi v648 c15_i32_306
  let c4_i32_307 : BitVec 32 := 4#32
  let v650 : BitVec 32 := Scalar.shrsi v649 c4_i32_307
  let v651 : BitVec 32 := Scalar.subi v650 c0_i32_308
  let c1_i32_310 : BitVec 32 := 1#32
  let v653 : BitVec 32 := Scalar.divsi v651 c1_i32_310
  let v654 : BitVec 32 := Scalar.muli v653 c1_i32_310
  let v655 : BitVec 32 := Scalar.addi c0_i32_308 v654
  let v652 : BitVec 32 := Scalar.addi c0_i32_308 v651
  let c1_i32_312 : BitVec 32 := 1#32
  ⟨v655, v652, c1_i32_312⟩

def k0_chk221 (v645 : BitVec 32) (v647 : BitVec 32) : Prop :=
  ((k0_t51_loop v645 v647).OK) ∧
  ((k0_t52_loop v645 v647).OK)
theorem k0_t51_ok : ∀ (v645 : BitVec 32) (v647 : BitVec 32) (k0_hw221 : k0_chk221 v645 v647), (k0_t51_loop v645 v647).OK := fun v645 v647 k0_hw221 => k0_hw221.1
theorem k0_t52_ok : ∀ (v645 : BitVec 32) (v647 : BitVec 32) (k0_hw221 : k0_chk221 v645 v647), (k0_t52_loop v645 v647).OK := fun v645 v647 k0_hw221 => k0_hw221.2

def k0_chk226 (v833 : IVec S16 32) : Prop :=
  (∀ a x, ((![v833] : Fin 1 → IVec S16 32) a x).toNat < S2048.size a)
theorem k0_idx252_inb : ∀ (v833 : IVec S16 32) (k0_hw226 : k0_chk226 v833), ∀ a x, ((![v833] : Fin 1 → IVec S16 32) a x).toNat < S2048.size a := fun v833 k0_hw226 => k0_hw226

def k0_chk227 (v840 : IVec S16 32) : Prop :=
  (∀ a x, ((![v840] : Fin 1 → IVec S16 32) a x).toNat < S1000.size a) ∧
  (∀ a x, ((![v840] : Fin 1 → IVec S16 32) a x).toNat < S1000.size a)
theorem k0_idx253_inb : ∀ (v840 : IVec S16 32) (k0_hw227 : k0_chk227 v840), ∀ a x, ((![v840] : Fin 1 → IVec S16 32) a x).toNat < S1000.size a := fun v840 k0_hw227 => k0_hw227.1
theorem k0_idx254_inb : ∀ (v840 : IVec S16 32) (k0_hw227 : k0_chk227 v840), ∀ a x, ((![v840] : Fin 1 → IVec S16 32) a x).toNat < S1000.size a := fun v840 k0_hw227 => k0_hw227.2

def k0_chk228 (v859 : IVec S16 32) (v861 : IVec S16 32) : Prop :=
  (∀ a x, ((![v859, v861] : Fin 2 → IVec S16 32) a x).toNat < S64x512.size a)
theorem k0_idx255_inb : ∀ (v859 : IVec S16 32) (v861 : IVec S16 32) (k0_hw228 : k0_chk228 v859 v861), ∀ a x, ((![v859, v861] : Fin 2 → IVec S16 32) a x).toNat < S64x512.size a := fun v859 v861 k0_hw228 => k0_hw228

def k0_chk229 (v838 : IVec S16 32) : Prop :=
  (∀ a x, ((![v838] : Fin 1 → IVec S16 32) a x).toNat < S2000.size a)
theorem k0_idx256_inb : ∀ (v838 : IVec S16 32) (k0_hw229 : k0_chk229 v838), ∀ a x, ((![v838] : Fin 1 → IVec S16 32) a x).toNat < S2000.size a := fun v838 k0_hw229 => k0_hw229
def k0_off30 (i : grid0.Coords) (c1600_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_303 : BitVec 32 := 2048#32
  let v637 : BitVec 32 := Scalar.muli v1 c2048_i32_303
  let v638 : BitVec 32 := Scalar.addi v637 c1600_i32
  let v639 : BitVec 32 := v638
  let c0_i32_313 : BitVec 32 := 0#32
  ![v639.toNat, 0]
def k0_mult27 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_315 : BitVec 32 := 2048#32
  let v662 : BitVec 32 := Scalar.muli v1 c2048_i32_315
  let c1664_i32 : BitVec 32 := 1664#32
  let v663 : BitVec 32 := Scalar.addi v662 c1664_i32
  v663
@[reducible] def k0_t53_loop (v670 : BitVec 32) (v672 : BitVec 32) : Scf.Loop 32 :=
  let c0_i32_320 : BitVec 32 := 0#32
  let v673 : BitVec 32 := Scalar.subi v672 v670
  let c15_i32_318 : BitVec 32 := 15#32
  let v674 : BitVec 32 := Scalar.addi v673 c15_i32_318
  let c4_i32_319 : BitVec 32 := 4#32
  let v675 : BitVec 32 := Scalar.shrsi v674 c4_i32_319
  let v676 : BitVec 32 := Scalar.subi v675 c0_i32_320
  let c1_i32_322 : BitVec 32 := 1#32
  let v678 : BitVec 32 := Scalar.divsi v676 c1_i32_322
  let v679 : BitVec 32 := Scalar.muli v678 c1_i32_322
  let v680 : BitVec 32 := Scalar.addi c0_i32_320 v679
  let c1_i32_323 : BitVec 32 := 1#32
  ⟨c0_i32_320, v680, c1_i32_323⟩

def k0_chk231 (v833 : IVec S16 32) : Prop :=
  (∀ a x, ((![v833] : Fin 1 → IVec S16 32) a x).toNat < S2048.size a)
theorem k0_idx257_inb : ∀ (v833 : IVec S16 32) (k0_hw231 : k0_chk231 v833), ∀ a x, ((![v833] : Fin 1 → IVec S16 32) a x).toNat < S2048.size a := fun v833 k0_hw231 => k0_hw231

def k0_chk232 (v840 : IVec S16 32) : Prop :=
  (∀ a x, ((![v840] : Fin 1 → IVec S16 32) a x).toNat < S1000.size a) ∧
  (∀ a x, ((![v840] : Fin 1 → IVec S16 32) a x).toNat < S1000.size a)
theorem k0_idx258_inb : ∀ (v840 : IVec S16 32) (k0_hw232 : k0_chk232 v840), ∀ a x, ((![v840] : Fin 1 → IVec S16 32) a x).toNat < S1000.size a := fun v840 k0_hw232 => k0_hw232.1
theorem k0_idx259_inb : ∀ (v840 : IVec S16 32) (k0_hw232 : k0_chk232 v840), ∀ a x, ((![v840] : Fin 1 → IVec S16 32) a x).toNat < S1000.size a := fun v840 k0_hw232 => k0_hw232.2

def k0_chk233 (v859 : IVec S16 32) (v861 : IVec S16 32) : Prop :=
  (∀ a x, ((![v859, v861] : Fin 2 → IVec S16 32) a x).toNat < S64x512.size a)
theorem k0_idx260_inb : ∀ (v859 : IVec S16 32) (v861 : IVec S16 32) (k0_hw233 : k0_chk233 v859 v861), ∀ a x, ((![v859, v861] : Fin 2 → IVec S16 32) a x).toNat < S64x512.size a := fun v859 v861 k0_hw233 => k0_hw233

def k0_chk234 (v838 : IVec S16 32) : Prop :=
  (∀ a x, ((![v838] : Fin 1 → IVec S16 32) a x).toNat < S2000.size a)
theorem k0_idx261_inb : ∀ (v838 : IVec S16 32) (k0_hw234 : k0_chk234 v838), ∀ a x, ((![v838] : Fin 1 → IVec S16 32) a x).toNat < S2000.size a := fun v838 k0_hw234 => k0_hw234
@[reducible] def k0_t54_loop (v670 : BitVec 32) (v672 : BitVec 32) : Scf.Loop 32 :=
  let c0_i32_320 : BitVec 32 := 0#32
  let v673 : BitVec 32 := Scalar.subi v672 v670
  let c15_i32_318 : BitVec 32 := 15#32
  let v674 : BitVec 32 := Scalar.addi v673 c15_i32_318
  let c4_i32_319 : BitVec 32 := 4#32
  let v675 : BitVec 32 := Scalar.shrsi v674 c4_i32_319
  let v676 : BitVec 32 := Scalar.subi v675 c0_i32_320
  let c1_i32_322 : BitVec 32 := 1#32
  let v678 : BitVec 32 := Scalar.divsi v676 c1_i32_322
  let v679 : BitVec 32 := Scalar.muli v678 c1_i32_322
  let v680 : BitVec 32 := Scalar.addi c0_i32_320 v679
  let v677 : BitVec 32 := Scalar.addi c0_i32_320 v676
  let c1_i32_324 : BitVec 32 := 1#32
  ⟨v680, v677, c1_i32_324⟩

def k0_chk230 (v670 : BitVec 32) (v672 : BitVec 32) : Prop :=
  ((k0_t53_loop v670 v672).OK) ∧
  ((k0_t54_loop v670 v672).OK)
theorem k0_t53_ok : ∀ (v670 : BitVec 32) (v672 : BitVec 32) (k0_hw230 : k0_chk230 v670 v672), (k0_t53_loop v670 v672).OK := fun v670 v672 k0_hw230 => k0_hw230.1
theorem k0_t54_ok : ∀ (v670 : BitVec 32) (v672 : BitVec 32) (k0_hw230 : k0_chk230 v670 v672), (k0_t54_loop v670 v672).OK := fun v670 v672 k0_hw230 => k0_hw230.2

def k0_chk235 (v833 : IVec S16 32) : Prop :=
  (∀ a x, ((![v833] : Fin 1 → IVec S16 32) a x).toNat < S2048.size a)
theorem k0_idx262_inb : ∀ (v833 : IVec S16 32) (k0_hw235 : k0_chk235 v833), ∀ a x, ((![v833] : Fin 1 → IVec S16 32) a x).toNat < S2048.size a := fun v833 k0_hw235 => k0_hw235

def k0_chk236 (v840 : IVec S16 32) : Prop :=
  (∀ a x, ((![v840] : Fin 1 → IVec S16 32) a x).toNat < S1000.size a) ∧
  (∀ a x, ((![v840] : Fin 1 → IVec S16 32) a x).toNat < S1000.size a)
theorem k0_idx263_inb : ∀ (v840 : IVec S16 32) (k0_hw236 : k0_chk236 v840), ∀ a x, ((![v840] : Fin 1 → IVec S16 32) a x).toNat < S1000.size a := fun v840 k0_hw236 => k0_hw236.1
theorem k0_idx264_inb : ∀ (v840 : IVec S16 32) (k0_hw236 : k0_chk236 v840), ∀ a x, ((![v840] : Fin 1 → IVec S16 32) a x).toNat < S1000.size a := fun v840 k0_hw236 => k0_hw236.2

def k0_chk237 (v859 : IVec S16 32) (v861 : IVec S16 32) : Prop :=
  (∀ a x, ((![v859, v861] : Fin 2 → IVec S16 32) a x).toNat < S64x512.size a)
theorem k0_idx265_inb : ∀ (v859 : IVec S16 32) (v861 : IVec S16 32) (k0_hw237 : k0_chk237 v859 v861), ∀ a x, ((![v859, v861] : Fin 2 → IVec S16 32) a x).toNat < S64x512.size a := fun v859 v861 k0_hw237 => k0_hw237

def k0_chk238 (v838 : IVec S16 32) : Prop :=
  (∀ a x, ((![v838] : Fin 1 → IVec S16 32) a x).toNat < S2000.size a)
theorem k0_idx266_inb : ∀ (v838 : IVec S16 32) (k0_hw238 : k0_chk238 v838), ∀ a x, ((![v838] : Fin 1 → IVec S16 32) a x).toNat < S2000.size a := fun v838 k0_hw238 => k0_hw238
def k0_off31 (i : grid0.Coords) (c1664_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_315 : BitVec 32 := 2048#32
  let v662 : BitVec 32 := Scalar.muli v1 c2048_i32_315
  let v663 : BitVec 32 := Scalar.addi v662 c1664_i32
  let v664 : BitVec 32 := v663
  let c0_i32_325 : BitVec 32 := 0#32
  ![v664.toNat, 0]
def k0_mult28 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_327 : BitVec 32 := 2048#32
  let v687 : BitVec 32 := Scalar.muli v1 c2048_i32_327
  let c1728_i32 : BitVec 32 := 1728#32
  let v688 : BitVec 32 := Scalar.addi v687 c1728_i32
  v688
@[reducible] def k0_t55_loop (v695 : BitVec 32) (v697 : BitVec 32) : Scf.Loop 32 :=
  let c0_i32_332 : BitVec 32 := 0#32
  let v698 : BitVec 32 := Scalar.subi v697 v695
  let c15_i32_330 : BitVec 32 := 15#32
  let v699 : BitVec 32 := Scalar.addi v698 c15_i32_330
  let c4_i32_331 : BitVec 32 := 4#32
  let v700 : BitVec 32 := Scalar.shrsi v699 c4_i32_331
  let v701 : BitVec 32 := Scalar.subi v700 c0_i32_332
  let c1_i32_334 : BitVec 32 := 1#32
  let v703 : BitVec 32 := Scalar.divsi v701 c1_i32_334
  let v704 : BitVec 32 := Scalar.muli v703 c1_i32_334
  let v705 : BitVec 32 := Scalar.addi c0_i32_332 v704
  let c1_i32_335 : BitVec 32 := 1#32
  ⟨c0_i32_332, v705, c1_i32_335⟩

def k0_chk240 (v833 : IVec S16 32) : Prop :=
  (∀ a x, ((![v833] : Fin 1 → IVec S16 32) a x).toNat < S2048.size a)
theorem k0_idx267_inb : ∀ (v833 : IVec S16 32) (k0_hw240 : k0_chk240 v833), ∀ a x, ((![v833] : Fin 1 → IVec S16 32) a x).toNat < S2048.size a := fun v833 k0_hw240 => k0_hw240

def k0_chk241 (v840 : IVec S16 32) : Prop :=
  (∀ a x, ((![v840] : Fin 1 → IVec S16 32) a x).toNat < S1000.size a) ∧
  (∀ a x, ((![v840] : Fin 1 → IVec S16 32) a x).toNat < S1000.size a)
theorem k0_idx268_inb : ∀ (v840 : IVec S16 32) (k0_hw241 : k0_chk241 v840), ∀ a x, ((![v840] : Fin 1 → IVec S16 32) a x).toNat < S1000.size a := fun v840 k0_hw241 => k0_hw241.1
theorem k0_idx269_inb : ∀ (v840 : IVec S16 32) (k0_hw241 : k0_chk241 v840), ∀ a x, ((![v840] : Fin 1 → IVec S16 32) a x).toNat < S1000.size a := fun v840 k0_hw241 => k0_hw241.2

def k0_chk242 (v859 : IVec S16 32) (v861 : IVec S16 32) : Prop :=
  (∀ a x, ((![v859, v861] : Fin 2 → IVec S16 32) a x).toNat < S64x512.size a)
theorem k0_idx270_inb : ∀ (v859 : IVec S16 32) (v861 : IVec S16 32) (k0_hw242 : k0_chk242 v859 v861), ∀ a x, ((![v859, v861] : Fin 2 → IVec S16 32) a x).toNat < S64x512.size a := fun v859 v861 k0_hw242 => k0_hw242

def k0_chk243 (v838 : IVec S16 32) : Prop :=
  (∀ a x, ((![v838] : Fin 1 → IVec S16 32) a x).toNat < S2000.size a)
theorem k0_idx271_inb : ∀ (v838 : IVec S16 32) (k0_hw243 : k0_chk243 v838), ∀ a x, ((![v838] : Fin 1 → IVec S16 32) a x).toNat < S2000.size a := fun v838 k0_hw243 => k0_hw243
@[reducible] def k0_t56_loop (v695 : BitVec 32) (v697 : BitVec 32) : Scf.Loop 32 :=
  let c0_i32_332 : BitVec 32 := 0#32
  let v698 : BitVec 32 := Scalar.subi v697 v695
  let c15_i32_330 : BitVec 32 := 15#32
  let v699 : BitVec 32 := Scalar.addi v698 c15_i32_330
  let c4_i32_331 : BitVec 32 := 4#32
  let v700 : BitVec 32 := Scalar.shrsi v699 c4_i32_331
  let v701 : BitVec 32 := Scalar.subi v700 c0_i32_332
  let c1_i32_334 : BitVec 32 := 1#32
  let v703 : BitVec 32 := Scalar.divsi v701 c1_i32_334
  let v704 : BitVec 32 := Scalar.muli v703 c1_i32_334
  let v705 : BitVec 32 := Scalar.addi c0_i32_332 v704
  let v702 : BitVec 32 := Scalar.addi c0_i32_332 v701
  let c1_i32_336 : BitVec 32 := 1#32
  ⟨v705, v702, c1_i32_336⟩

def k0_chk239 (v695 : BitVec 32) (v697 : BitVec 32) : Prop :=
  ((k0_t55_loop v695 v697).OK) ∧
  ((k0_t56_loop v695 v697).OK)
theorem k0_t55_ok : ∀ (v695 : BitVec 32) (v697 : BitVec 32) (k0_hw239 : k0_chk239 v695 v697), (k0_t55_loop v695 v697).OK := fun v695 v697 k0_hw239 => k0_hw239.1
theorem k0_t56_ok : ∀ (v695 : BitVec 32) (v697 : BitVec 32) (k0_hw239 : k0_chk239 v695 v697), (k0_t56_loop v695 v697).OK := fun v695 v697 k0_hw239 => k0_hw239.2

def k0_chk244 (v833 : IVec S16 32) : Prop :=
  (∀ a x, ((![v833] : Fin 1 → IVec S16 32) a x).toNat < S2048.size a)
theorem k0_idx272_inb : ∀ (v833 : IVec S16 32) (k0_hw244 : k0_chk244 v833), ∀ a x, ((![v833] : Fin 1 → IVec S16 32) a x).toNat < S2048.size a := fun v833 k0_hw244 => k0_hw244

def k0_chk245 (v840 : IVec S16 32) : Prop :=
  (∀ a x, ((![v840] : Fin 1 → IVec S16 32) a x).toNat < S1000.size a) ∧
  (∀ a x, ((![v840] : Fin 1 → IVec S16 32) a x).toNat < S1000.size a)
theorem k0_idx273_inb : ∀ (v840 : IVec S16 32) (k0_hw245 : k0_chk245 v840), ∀ a x, ((![v840] : Fin 1 → IVec S16 32) a x).toNat < S1000.size a := fun v840 k0_hw245 => k0_hw245.1
theorem k0_idx274_inb : ∀ (v840 : IVec S16 32) (k0_hw245 : k0_chk245 v840), ∀ a x, ((![v840] : Fin 1 → IVec S16 32) a x).toNat < S1000.size a := fun v840 k0_hw245 => k0_hw245.2

def k0_chk246 (v859 : IVec S16 32) (v861 : IVec S16 32) : Prop :=
  (∀ a x, ((![v859, v861] : Fin 2 → IVec S16 32) a x).toNat < S64x512.size a)
theorem k0_idx275_inb : ∀ (v859 : IVec S16 32) (v861 : IVec S16 32) (k0_hw246 : k0_chk246 v859 v861), ∀ a x, ((![v859, v861] : Fin 2 → IVec S16 32) a x).toNat < S64x512.size a := fun v859 v861 k0_hw246 => k0_hw246

def k0_chk247 (v838 : IVec S16 32) : Prop :=
  (∀ a x, ((![v838] : Fin 1 → IVec S16 32) a x).toNat < S2000.size a)
theorem k0_idx276_inb : ∀ (v838 : IVec S16 32) (k0_hw247 : k0_chk247 v838), ∀ a x, ((![v838] : Fin 1 → IVec S16 32) a x).toNat < S2000.size a := fun v838 k0_hw247 => k0_hw247
def k0_off32 (i : grid0.Coords) (c1728_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_327 : BitVec 32 := 2048#32
  let v687 : BitVec 32 := Scalar.muli v1 c2048_i32_327
  let v688 : BitVec 32 := Scalar.addi v687 c1728_i32
  let v689 : BitVec 32 := v688
  let c0_i32_337 : BitVec 32 := 0#32
  ![v689.toNat, 0]
def k0_mult29 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_339 : BitVec 32 := 2048#32
  let v712 : BitVec 32 := Scalar.muli v1 c2048_i32_339
  let c1792_i32 : BitVec 32 := 1792#32
  let v713 : BitVec 32 := Scalar.addi v712 c1792_i32
  v713
@[reducible] def k0_t57_loop (v720 : BitVec 32) (v722 : BitVec 32) : Scf.Loop 32 :=
  let c0_i32_344 : BitVec 32 := 0#32
  let v723 : BitVec 32 := Scalar.subi v722 v720
  let c15_i32_342 : BitVec 32 := 15#32
  let v724 : BitVec 32 := Scalar.addi v723 c15_i32_342
  let c4_i32_343 : BitVec 32 := 4#32
  let v725 : BitVec 32 := Scalar.shrsi v724 c4_i32_343
  let v726 : BitVec 32 := Scalar.subi v725 c0_i32_344
  let c1_i32_346 : BitVec 32 := 1#32
  let v728 : BitVec 32 := Scalar.divsi v726 c1_i32_346
  let v729 : BitVec 32 := Scalar.muli v728 c1_i32_346
  let v730 : BitVec 32 := Scalar.addi c0_i32_344 v729
  let c1_i32_347 : BitVec 32 := 1#32
  ⟨c0_i32_344, v730, c1_i32_347⟩

def k0_chk249 (v833 : IVec S16 32) : Prop :=
  (∀ a x, ((![v833] : Fin 1 → IVec S16 32) a x).toNat < S2048.size a)
theorem k0_idx277_inb : ∀ (v833 : IVec S16 32) (k0_hw249 : k0_chk249 v833), ∀ a x, ((![v833] : Fin 1 → IVec S16 32) a x).toNat < S2048.size a := fun v833 k0_hw249 => k0_hw249

def k0_chk250 (v840 : IVec S16 32) : Prop :=
  (∀ a x, ((![v840] : Fin 1 → IVec S16 32) a x).toNat < S1000.size a) ∧
  (∀ a x, ((![v840] : Fin 1 → IVec S16 32) a x).toNat < S1000.size a)
theorem k0_idx278_inb : ∀ (v840 : IVec S16 32) (k0_hw250 : k0_chk250 v840), ∀ a x, ((![v840] : Fin 1 → IVec S16 32) a x).toNat < S1000.size a := fun v840 k0_hw250 => k0_hw250.1
theorem k0_idx279_inb : ∀ (v840 : IVec S16 32) (k0_hw250 : k0_chk250 v840), ∀ a x, ((![v840] : Fin 1 → IVec S16 32) a x).toNat < S1000.size a := fun v840 k0_hw250 => k0_hw250.2

def k0_chk251 (v859 : IVec S16 32) (v861 : IVec S16 32) : Prop :=
  (∀ a x, ((![v859, v861] : Fin 2 → IVec S16 32) a x).toNat < S64x512.size a)
theorem k0_idx280_inb : ∀ (v859 : IVec S16 32) (v861 : IVec S16 32) (k0_hw251 : k0_chk251 v859 v861), ∀ a x, ((![v859, v861] : Fin 2 → IVec S16 32) a x).toNat < S64x512.size a := fun v859 v861 k0_hw251 => k0_hw251

def k0_chk252 (v838 : IVec S16 32) : Prop :=
  (∀ a x, ((![v838] : Fin 1 → IVec S16 32) a x).toNat < S2000.size a)
theorem k0_idx281_inb : ∀ (v838 : IVec S16 32) (k0_hw252 : k0_chk252 v838), ∀ a x, ((![v838] : Fin 1 → IVec S16 32) a x).toNat < S2000.size a := fun v838 k0_hw252 => k0_hw252
@[reducible] def k0_t58_loop (v720 : BitVec 32) (v722 : BitVec 32) : Scf.Loop 32 :=
  let c0_i32_344 : BitVec 32 := 0#32
  let v723 : BitVec 32 := Scalar.subi v722 v720
  let c15_i32_342 : BitVec 32 := 15#32
  let v724 : BitVec 32 := Scalar.addi v723 c15_i32_342
  let c4_i32_343 : BitVec 32 := 4#32
  let v725 : BitVec 32 := Scalar.shrsi v724 c4_i32_343
  let v726 : BitVec 32 := Scalar.subi v725 c0_i32_344
  let c1_i32_346 : BitVec 32 := 1#32
  let v728 : BitVec 32 := Scalar.divsi v726 c1_i32_346
  let v729 : BitVec 32 := Scalar.muli v728 c1_i32_346
  let v730 : BitVec 32 := Scalar.addi c0_i32_344 v729
  let v727 : BitVec 32 := Scalar.addi c0_i32_344 v726
  let c1_i32_348 : BitVec 32 := 1#32
  ⟨v730, v727, c1_i32_348⟩

def k0_chk248 (v720 : BitVec 32) (v722 : BitVec 32) : Prop :=
  ((k0_t57_loop v720 v722).OK) ∧
  ((k0_t58_loop v720 v722).OK)
theorem k0_t57_ok : ∀ (v720 : BitVec 32) (v722 : BitVec 32) (k0_hw248 : k0_chk248 v720 v722), (k0_t57_loop v720 v722).OK := fun v720 v722 k0_hw248 => k0_hw248.1
theorem k0_t58_ok : ∀ (v720 : BitVec 32) (v722 : BitVec 32) (k0_hw248 : k0_chk248 v720 v722), (k0_t58_loop v720 v722).OK := fun v720 v722 k0_hw248 => k0_hw248.2

def k0_chk253 (v833 : IVec S16 32) : Prop :=
  (∀ a x, ((![v833] : Fin 1 → IVec S16 32) a x).toNat < S2048.size a)
theorem k0_idx282_inb : ∀ (v833 : IVec S16 32) (k0_hw253 : k0_chk253 v833), ∀ a x, ((![v833] : Fin 1 → IVec S16 32) a x).toNat < S2048.size a := fun v833 k0_hw253 => k0_hw253

def k0_chk254 (v840 : IVec S16 32) : Prop :=
  (∀ a x, ((![v840] : Fin 1 → IVec S16 32) a x).toNat < S1000.size a) ∧
  (∀ a x, ((![v840] : Fin 1 → IVec S16 32) a x).toNat < S1000.size a)
theorem k0_idx283_inb : ∀ (v840 : IVec S16 32) (k0_hw254 : k0_chk254 v840), ∀ a x, ((![v840] : Fin 1 → IVec S16 32) a x).toNat < S1000.size a := fun v840 k0_hw254 => k0_hw254.1
theorem k0_idx284_inb : ∀ (v840 : IVec S16 32) (k0_hw254 : k0_chk254 v840), ∀ a x, ((![v840] : Fin 1 → IVec S16 32) a x).toNat < S1000.size a := fun v840 k0_hw254 => k0_hw254.2

def k0_chk255 (v859 : IVec S16 32) (v861 : IVec S16 32) : Prop :=
  (∀ a x, ((![v859, v861] : Fin 2 → IVec S16 32) a x).toNat < S64x512.size a)
theorem k0_idx285_inb : ∀ (v859 : IVec S16 32) (v861 : IVec S16 32) (k0_hw255 : k0_chk255 v859 v861), ∀ a x, ((![v859, v861] : Fin 2 → IVec S16 32) a x).toNat < S64x512.size a := fun v859 v861 k0_hw255 => k0_hw255

def k0_chk256 (v838 : IVec S16 32) : Prop :=
  (∀ a x, ((![v838] : Fin 1 → IVec S16 32) a x).toNat < S2000.size a)
theorem k0_idx286_inb : ∀ (v838 : IVec S16 32) (k0_hw256 : k0_chk256 v838), ∀ a x, ((![v838] : Fin 1 → IVec S16 32) a x).toNat < S2000.size a := fun v838 k0_hw256 => k0_hw256
def k0_off33 (i : grid0.Coords) (c1792_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_339 : BitVec 32 := 2048#32
  let v712 : BitVec 32 := Scalar.muli v1 c2048_i32_339
  let v713 : BitVec 32 := Scalar.addi v712 c1792_i32
  let v714 : BitVec 32 := v713
  let c0_i32_349 : BitVec 32 := 0#32
  ![v714.toNat, 0]
def k0_mult30 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_351 : BitVec 32 := 2048#32
  let v737 : BitVec 32 := Scalar.muli v1 c2048_i32_351
  let c1856_i32 : BitVec 32 := 1856#32
  let v738 : BitVec 32 := Scalar.addi v737 c1856_i32
  v738
@[reducible] def k0_t59_loop (v745 : BitVec 32) (v747 : BitVec 32) : Scf.Loop 32 :=
  let c0_i32_356 : BitVec 32 := 0#32
  let v748 : BitVec 32 := Scalar.subi v747 v745
  let c15_i32_354 : BitVec 32 := 15#32
  let v749 : BitVec 32 := Scalar.addi v748 c15_i32_354
  let c4_i32_355 : BitVec 32 := 4#32
  let v750 : BitVec 32 := Scalar.shrsi v749 c4_i32_355
  let v751 : BitVec 32 := Scalar.subi v750 c0_i32_356
  let c1_i32_358 : BitVec 32 := 1#32
  let v753 : BitVec 32 := Scalar.divsi v751 c1_i32_358
  let v754 : BitVec 32 := Scalar.muli v753 c1_i32_358
  let v755 : BitVec 32 := Scalar.addi c0_i32_356 v754
  let c1_i32_359 : BitVec 32 := 1#32
  ⟨c0_i32_356, v755, c1_i32_359⟩

def k0_chk258 (v833 : IVec S16 32) : Prop :=
  (∀ a x, ((![v833] : Fin 1 → IVec S16 32) a x).toNat < S2048.size a)
theorem k0_idx287_inb : ∀ (v833 : IVec S16 32) (k0_hw258 : k0_chk258 v833), ∀ a x, ((![v833] : Fin 1 → IVec S16 32) a x).toNat < S2048.size a := fun v833 k0_hw258 => k0_hw258

def k0_chk259 (v840 : IVec S16 32) : Prop :=
  (∀ a x, ((![v840] : Fin 1 → IVec S16 32) a x).toNat < S1000.size a) ∧
  (∀ a x, ((![v840] : Fin 1 → IVec S16 32) a x).toNat < S1000.size a)
theorem k0_idx288_inb : ∀ (v840 : IVec S16 32) (k0_hw259 : k0_chk259 v840), ∀ a x, ((![v840] : Fin 1 → IVec S16 32) a x).toNat < S1000.size a := fun v840 k0_hw259 => k0_hw259.1
theorem k0_idx289_inb : ∀ (v840 : IVec S16 32) (k0_hw259 : k0_chk259 v840), ∀ a x, ((![v840] : Fin 1 → IVec S16 32) a x).toNat < S1000.size a := fun v840 k0_hw259 => k0_hw259.2

def k0_chk260 (v859 : IVec S16 32) (v861 : IVec S16 32) : Prop :=
  (∀ a x, ((![v859, v861] : Fin 2 → IVec S16 32) a x).toNat < S64x512.size a)
theorem k0_idx290_inb : ∀ (v859 : IVec S16 32) (v861 : IVec S16 32) (k0_hw260 : k0_chk260 v859 v861), ∀ a x, ((![v859, v861] : Fin 2 → IVec S16 32) a x).toNat < S64x512.size a := fun v859 v861 k0_hw260 => k0_hw260

def k0_chk261 (v838 : IVec S16 32) : Prop :=
  (∀ a x, ((![v838] : Fin 1 → IVec S16 32) a x).toNat < S2000.size a)
theorem k0_idx291_inb : ∀ (v838 : IVec S16 32) (k0_hw261 : k0_chk261 v838), ∀ a x, ((![v838] : Fin 1 → IVec S16 32) a x).toNat < S2000.size a := fun v838 k0_hw261 => k0_hw261
@[reducible] def k0_t60_loop (v745 : BitVec 32) (v747 : BitVec 32) : Scf.Loop 32 :=
  let c0_i32_356 : BitVec 32 := 0#32
  let v748 : BitVec 32 := Scalar.subi v747 v745
  let c15_i32_354 : BitVec 32 := 15#32
  let v749 : BitVec 32 := Scalar.addi v748 c15_i32_354
  let c4_i32_355 : BitVec 32 := 4#32
  let v750 : BitVec 32 := Scalar.shrsi v749 c4_i32_355
  let v751 : BitVec 32 := Scalar.subi v750 c0_i32_356
  let c1_i32_358 : BitVec 32 := 1#32
  let v753 : BitVec 32 := Scalar.divsi v751 c1_i32_358
  let v754 : BitVec 32 := Scalar.muli v753 c1_i32_358
  let v755 : BitVec 32 := Scalar.addi c0_i32_356 v754
  let v752 : BitVec 32 := Scalar.addi c0_i32_356 v751
  let c1_i32_360 : BitVec 32 := 1#32
  ⟨v755, v752, c1_i32_360⟩

def k0_chk257 (v745 : BitVec 32) (v747 : BitVec 32) : Prop :=
  ((k0_t59_loop v745 v747).OK) ∧
  ((k0_t60_loop v745 v747).OK)
theorem k0_t59_ok : ∀ (v745 : BitVec 32) (v747 : BitVec 32) (k0_hw257 : k0_chk257 v745 v747), (k0_t59_loop v745 v747).OK := fun v745 v747 k0_hw257 => k0_hw257.1
theorem k0_t60_ok : ∀ (v745 : BitVec 32) (v747 : BitVec 32) (k0_hw257 : k0_chk257 v745 v747), (k0_t60_loop v745 v747).OK := fun v745 v747 k0_hw257 => k0_hw257.2

def k0_chk262 (v833 : IVec S16 32) : Prop :=
  (∀ a x, ((![v833] : Fin 1 → IVec S16 32) a x).toNat < S2048.size a)
theorem k0_idx292_inb : ∀ (v833 : IVec S16 32) (k0_hw262 : k0_chk262 v833), ∀ a x, ((![v833] : Fin 1 → IVec S16 32) a x).toNat < S2048.size a := fun v833 k0_hw262 => k0_hw262

def k0_chk263 (v840 : IVec S16 32) : Prop :=
  (∀ a x, ((![v840] : Fin 1 → IVec S16 32) a x).toNat < S1000.size a) ∧
  (∀ a x, ((![v840] : Fin 1 → IVec S16 32) a x).toNat < S1000.size a)
theorem k0_idx293_inb : ∀ (v840 : IVec S16 32) (k0_hw263 : k0_chk263 v840), ∀ a x, ((![v840] : Fin 1 → IVec S16 32) a x).toNat < S1000.size a := fun v840 k0_hw263 => k0_hw263.1
theorem k0_idx294_inb : ∀ (v840 : IVec S16 32) (k0_hw263 : k0_chk263 v840), ∀ a x, ((![v840] : Fin 1 → IVec S16 32) a x).toNat < S1000.size a := fun v840 k0_hw263 => k0_hw263.2

def k0_chk264 (v859 : IVec S16 32) (v861 : IVec S16 32) : Prop :=
  (∀ a x, ((![v859, v861] : Fin 2 → IVec S16 32) a x).toNat < S64x512.size a)
theorem k0_idx295_inb : ∀ (v859 : IVec S16 32) (v861 : IVec S16 32) (k0_hw264 : k0_chk264 v859 v861), ∀ a x, ((![v859, v861] : Fin 2 → IVec S16 32) a x).toNat < S64x512.size a := fun v859 v861 k0_hw264 => k0_hw264

def k0_chk265 (v838 : IVec S16 32) : Prop :=
  (∀ a x, ((![v838] : Fin 1 → IVec S16 32) a x).toNat < S2000.size a)
theorem k0_idx296_inb : ∀ (v838 : IVec S16 32) (k0_hw265 : k0_chk265 v838), ∀ a x, ((![v838] : Fin 1 → IVec S16 32) a x).toNat < S2000.size a := fun v838 k0_hw265 => k0_hw265
def k0_off34 (i : grid0.Coords) (c1856_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_351 : BitVec 32 := 2048#32
  let v737 : BitVec 32 := Scalar.muli v1 c2048_i32_351
  let v738 : BitVec 32 := Scalar.addi v737 c1856_i32
  let v739 : BitVec 32 := v738
  let c0_i32_361 : BitVec 32 := 0#32
  ![v739.toNat, 0]
def k0_mult31 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_363 : BitVec 32 := 2048#32
  let v762 : BitVec 32 := Scalar.muli v1 c2048_i32_363
  let c1920_i32 : BitVec 32 := 1920#32
  let v763 : BitVec 32 := Scalar.addi v762 c1920_i32
  v763
@[reducible] def k0_t61_loop (v770 : BitVec 32) (v772 : BitVec 32) : Scf.Loop 32 :=
  let c0_i32_368 : BitVec 32 := 0#32
  let v773 : BitVec 32 := Scalar.subi v772 v770
  let c15_i32_366 : BitVec 32 := 15#32
  let v774 : BitVec 32 := Scalar.addi v773 c15_i32_366
  let c4_i32_367 : BitVec 32 := 4#32
  let v775 : BitVec 32 := Scalar.shrsi v774 c4_i32_367
  let v776 : BitVec 32 := Scalar.subi v775 c0_i32_368
  let c1_i32_370 : BitVec 32 := 1#32
  let v778 : BitVec 32 := Scalar.divsi v776 c1_i32_370
  let v779 : BitVec 32 := Scalar.muli v778 c1_i32_370
  let v780 : BitVec 32 := Scalar.addi c0_i32_368 v779
  let c1_i32_371 : BitVec 32 := 1#32
  ⟨c0_i32_368, v780, c1_i32_371⟩

def k0_chk267 (v833 : IVec S16 32) : Prop :=
  (∀ a x, ((![v833] : Fin 1 → IVec S16 32) a x).toNat < S2048.size a)
theorem k0_idx297_inb : ∀ (v833 : IVec S16 32) (k0_hw267 : k0_chk267 v833), ∀ a x, ((![v833] : Fin 1 → IVec S16 32) a x).toNat < S2048.size a := fun v833 k0_hw267 => k0_hw267

def k0_chk268 (v840 : IVec S16 32) : Prop :=
  (∀ a x, ((![v840] : Fin 1 → IVec S16 32) a x).toNat < S1000.size a) ∧
  (∀ a x, ((![v840] : Fin 1 → IVec S16 32) a x).toNat < S1000.size a)
theorem k0_idx298_inb : ∀ (v840 : IVec S16 32) (k0_hw268 : k0_chk268 v840), ∀ a x, ((![v840] : Fin 1 → IVec S16 32) a x).toNat < S1000.size a := fun v840 k0_hw268 => k0_hw268.1
theorem k0_idx299_inb : ∀ (v840 : IVec S16 32) (k0_hw268 : k0_chk268 v840), ∀ a x, ((![v840] : Fin 1 → IVec S16 32) a x).toNat < S1000.size a := fun v840 k0_hw268 => k0_hw268.2

def k0_chk269 (v859 : IVec S16 32) (v861 : IVec S16 32) : Prop :=
  (∀ a x, ((![v859, v861] : Fin 2 → IVec S16 32) a x).toNat < S64x512.size a)
theorem k0_idx300_inb : ∀ (v859 : IVec S16 32) (v861 : IVec S16 32) (k0_hw269 : k0_chk269 v859 v861), ∀ a x, ((![v859, v861] : Fin 2 → IVec S16 32) a x).toNat < S64x512.size a := fun v859 v861 k0_hw269 => k0_hw269

def k0_chk270 (v838 : IVec S16 32) : Prop :=
  (∀ a x, ((![v838] : Fin 1 → IVec S16 32) a x).toNat < S2000.size a)
theorem k0_idx301_inb : ∀ (v838 : IVec S16 32) (k0_hw270 : k0_chk270 v838), ∀ a x, ((![v838] : Fin 1 → IVec S16 32) a x).toNat < S2000.size a := fun v838 k0_hw270 => k0_hw270
@[reducible] def k0_t62_loop (v770 : BitVec 32) (v772 : BitVec 32) : Scf.Loop 32 :=
  let c0_i32_368 : BitVec 32 := 0#32
  let v773 : BitVec 32 := Scalar.subi v772 v770
  let c15_i32_366 : BitVec 32 := 15#32
  let v774 : BitVec 32 := Scalar.addi v773 c15_i32_366
  let c4_i32_367 : BitVec 32 := 4#32
  let v775 : BitVec 32 := Scalar.shrsi v774 c4_i32_367
  let v776 : BitVec 32 := Scalar.subi v775 c0_i32_368
  let c1_i32_370 : BitVec 32 := 1#32
  let v778 : BitVec 32 := Scalar.divsi v776 c1_i32_370
  let v779 : BitVec 32 := Scalar.muli v778 c1_i32_370
  let v780 : BitVec 32 := Scalar.addi c0_i32_368 v779
  let v777 : BitVec 32 := Scalar.addi c0_i32_368 v776
  let c1_i32_372 : BitVec 32 := 1#32
  ⟨v780, v777, c1_i32_372⟩

def k0_chk266 (v770 : BitVec 32) (v772 : BitVec 32) : Prop :=
  ((k0_t61_loop v770 v772).OK) ∧
  ((k0_t62_loop v770 v772).OK)
theorem k0_t61_ok : ∀ (v770 : BitVec 32) (v772 : BitVec 32) (k0_hw266 : k0_chk266 v770 v772), (k0_t61_loop v770 v772).OK := fun v770 v772 k0_hw266 => k0_hw266.1
theorem k0_t62_ok : ∀ (v770 : BitVec 32) (v772 : BitVec 32) (k0_hw266 : k0_chk266 v770 v772), (k0_t62_loop v770 v772).OK := fun v770 v772 k0_hw266 => k0_hw266.2

def k0_chk271 (v833 : IVec S16 32) : Prop :=
  (∀ a x, ((![v833] : Fin 1 → IVec S16 32) a x).toNat < S2048.size a)
theorem k0_idx302_inb : ∀ (v833 : IVec S16 32) (k0_hw271 : k0_chk271 v833), ∀ a x, ((![v833] : Fin 1 → IVec S16 32) a x).toNat < S2048.size a := fun v833 k0_hw271 => k0_hw271

def k0_chk272 (v840 : IVec S16 32) : Prop :=
  (∀ a x, ((![v840] : Fin 1 → IVec S16 32) a x).toNat < S1000.size a) ∧
  (∀ a x, ((![v840] : Fin 1 → IVec S16 32) a x).toNat < S1000.size a)
theorem k0_idx303_inb : ∀ (v840 : IVec S16 32) (k0_hw272 : k0_chk272 v840), ∀ a x, ((![v840] : Fin 1 → IVec S16 32) a x).toNat < S1000.size a := fun v840 k0_hw272 => k0_hw272.1
theorem k0_idx304_inb : ∀ (v840 : IVec S16 32) (k0_hw272 : k0_chk272 v840), ∀ a x, ((![v840] : Fin 1 → IVec S16 32) a x).toNat < S1000.size a := fun v840 k0_hw272 => k0_hw272.2

def k0_chk273 (v859 : IVec S16 32) (v861 : IVec S16 32) : Prop :=
  (∀ a x, ((![v859, v861] : Fin 2 → IVec S16 32) a x).toNat < S64x512.size a)
theorem k0_idx305_inb : ∀ (v859 : IVec S16 32) (v861 : IVec S16 32) (k0_hw273 : k0_chk273 v859 v861), ∀ a x, ((![v859, v861] : Fin 2 → IVec S16 32) a x).toNat < S64x512.size a := fun v859 v861 k0_hw273 => k0_hw273

def k0_chk274 (v838 : IVec S16 32) : Prop :=
  (∀ a x, ((![v838] : Fin 1 → IVec S16 32) a x).toNat < S2000.size a)
theorem k0_idx306_inb : ∀ (v838 : IVec S16 32) (k0_hw274 : k0_chk274 v838), ∀ a x, ((![v838] : Fin 1 → IVec S16 32) a x).toNat < S2000.size a := fun v838 k0_hw274 => k0_hw274
def k0_off35 (i : grid0.Coords) (c1920_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_363 : BitVec 32 := 2048#32
  let v762 : BitVec 32 := Scalar.muli v1 c2048_i32_363
  let v763 : BitVec 32 := Scalar.addi v762 c1920_i32
  let v764 : BitVec 32 := v763
  let c0_i32_373 : BitVec 32 := 0#32
  ![v764.toNat, 0]
def k0_mult32 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_375 : BitVec 32 := 2048#32
  let v787 : BitVec 32 := Scalar.muli v1 c2048_i32_375
  let c1984_i32 : BitVec 32 := 1984#32
  let v788 : BitVec 32 := Scalar.addi v787 c1984_i32
  v788
@[reducible] def k0_t63_loop (v795 : BitVec 32) (v797 : BitVec 32) : Scf.Loop 32 :=
  let c0_i32_380 : BitVec 32 := 0#32
  let v798 : BitVec 32 := Scalar.subi v797 v795
  let c15_i32_378 : BitVec 32 := 15#32
  let v799 : BitVec 32 := Scalar.addi v798 c15_i32_378
  let c4_i32_379 : BitVec 32 := 4#32
  let v800 : BitVec 32 := Scalar.shrsi v799 c4_i32_379
  let v801 : BitVec 32 := Scalar.subi v800 c0_i32_380
  let c1_i32_382 : BitVec 32 := 1#32
  let v803 : BitVec 32 := Scalar.divsi v801 c1_i32_382
  let v804 : BitVec 32 := Scalar.muli v803 c1_i32_382
  let v805 : BitVec 32 := Scalar.addi c0_i32_380 v804
  let c1_i32_383 : BitVec 32 := 1#32
  ⟨c0_i32_380, v805, c1_i32_383⟩

def k0_chk276 (v833 : IVec S16 32) : Prop :=
  (∀ a x, ((![v833] : Fin 1 → IVec S16 32) a x).toNat < S2048.size a)
theorem k0_idx307_inb : ∀ (v833 : IVec S16 32) (k0_hw276 : k0_chk276 v833), ∀ a x, ((![v833] : Fin 1 → IVec S16 32) a x).toNat < S2048.size a := fun v833 k0_hw276 => k0_hw276

def k0_chk277 (v840 : IVec S16 32) : Prop :=
  (∀ a x, ((![v840] : Fin 1 → IVec S16 32) a x).toNat < S1000.size a) ∧
  (∀ a x, ((![v840] : Fin 1 → IVec S16 32) a x).toNat < S1000.size a)
theorem k0_idx308_inb : ∀ (v840 : IVec S16 32) (k0_hw277 : k0_chk277 v840), ∀ a x, ((![v840] : Fin 1 → IVec S16 32) a x).toNat < S1000.size a := fun v840 k0_hw277 => k0_hw277.1
theorem k0_idx309_inb : ∀ (v840 : IVec S16 32) (k0_hw277 : k0_chk277 v840), ∀ a x, ((![v840] : Fin 1 → IVec S16 32) a x).toNat < S1000.size a := fun v840 k0_hw277 => k0_hw277.2

def k0_chk278 (v859 : IVec S16 32) (v861 : IVec S16 32) : Prop :=
  (∀ a x, ((![v859, v861] : Fin 2 → IVec S16 32) a x).toNat < S64x512.size a)
theorem k0_idx310_inb : ∀ (v859 : IVec S16 32) (v861 : IVec S16 32) (k0_hw278 : k0_chk278 v859 v861), ∀ a x, ((![v859, v861] : Fin 2 → IVec S16 32) a x).toNat < S64x512.size a := fun v859 v861 k0_hw278 => k0_hw278

def k0_chk279 (v838 : IVec S16 32) : Prop :=
  (∀ a x, ((![v838] : Fin 1 → IVec S16 32) a x).toNat < S2000.size a)
theorem k0_idx311_inb : ∀ (v838 : IVec S16 32) (k0_hw279 : k0_chk279 v838), ∀ a x, ((![v838] : Fin 1 → IVec S16 32) a x).toNat < S2000.size a := fun v838 k0_hw279 => k0_hw279
@[reducible] def k0_t64_loop (v795 : BitVec 32) (v797 : BitVec 32) : Scf.Loop 32 :=
  let c0_i32_380 : BitVec 32 := 0#32
  let v798 : BitVec 32 := Scalar.subi v797 v795
  let c15_i32_378 : BitVec 32 := 15#32
  let v799 : BitVec 32 := Scalar.addi v798 c15_i32_378
  let c4_i32_379 : BitVec 32 := 4#32
  let v800 : BitVec 32 := Scalar.shrsi v799 c4_i32_379
  let v801 : BitVec 32 := Scalar.subi v800 c0_i32_380
  let c1_i32_382 : BitVec 32 := 1#32
  let v803 : BitVec 32 := Scalar.divsi v801 c1_i32_382
  let v804 : BitVec 32 := Scalar.muli v803 c1_i32_382
  let v805 : BitVec 32 := Scalar.addi c0_i32_380 v804
  let v802 : BitVec 32 := Scalar.addi c0_i32_380 v801
  let c1_i32_384 : BitVec 32 := 1#32
  ⟨v805, v802, c1_i32_384⟩

def k0_chk275 (v795 : BitVec 32) (v797 : BitVec 32) : Prop :=
  ((k0_t63_loop v795 v797).OK) ∧
  ((k0_t64_loop v795 v797).OK)
theorem k0_t63_ok : ∀ (v795 : BitVec 32) (v797 : BitVec 32) (k0_hw275 : k0_chk275 v795 v797), (k0_t63_loop v795 v797).OK := fun v795 v797 k0_hw275 => k0_hw275.1
theorem k0_t64_ok : ∀ (v795 : BitVec 32) (v797 : BitVec 32) (k0_hw275 : k0_chk275 v795 v797), (k0_t64_loop v795 v797).OK := fun v795 v797 k0_hw275 => k0_hw275.2

def k0_chk280 (v833 : IVec S16 32) : Prop :=
  (∀ a x, ((![v833] : Fin 1 → IVec S16 32) a x).toNat < S2048.size a)
theorem k0_idx312_inb : ∀ (v833 : IVec S16 32) (k0_hw280 : k0_chk280 v833), ∀ a x, ((![v833] : Fin 1 → IVec S16 32) a x).toNat < S2048.size a := fun v833 k0_hw280 => k0_hw280

def k0_chk281 (v840 : IVec S16 32) : Prop :=
  (∀ a x, ((![v840] : Fin 1 → IVec S16 32) a x).toNat < S1000.size a) ∧
  (∀ a x, ((![v840] : Fin 1 → IVec S16 32) a x).toNat < S1000.size a)
theorem k0_idx313_inb : ∀ (v840 : IVec S16 32) (k0_hw281 : k0_chk281 v840), ∀ a x, ((![v840] : Fin 1 → IVec S16 32) a x).toNat < S1000.size a := fun v840 k0_hw281 => k0_hw281.1
theorem k0_idx314_inb : ∀ (v840 : IVec S16 32) (k0_hw281 : k0_chk281 v840), ∀ a x, ((![v840] : Fin 1 → IVec S16 32) a x).toNat < S1000.size a := fun v840 k0_hw281 => k0_hw281.2

def k0_chk282 (v859 : IVec S16 32) (v861 : IVec S16 32) : Prop :=
  (∀ a x, ((![v859, v861] : Fin 2 → IVec S16 32) a x).toNat < S64x512.size a)
theorem k0_idx315_inb : ∀ (v859 : IVec S16 32) (v861 : IVec S16 32) (k0_hw282 : k0_chk282 v859 v861), ∀ a x, ((![v859, v861] : Fin 2 → IVec S16 32) a x).toNat < S64x512.size a := fun v859 v861 k0_hw282 => k0_hw282

def k0_chk283 (v838 : IVec S16 32) : Prop :=
  (∀ a x, ((![v838] : Fin 1 → IVec S16 32) a x).toNat < S2000.size a)
theorem k0_idx316_inb : ∀ (v838 : IVec S16 32) (k0_hw283 : k0_chk283 v838), ∀ a x, ((![v838] : Fin 1 → IVec S16 32) a x).toNat < S2000.size a := fun v838 k0_hw283 => k0_hw283
def k0_off36 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2048_i32_375 : BitVec 32 := 2048#32
  let v787 : BitVec 32 := Scalar.muli v1 c2048_i32_375
  let c1984_i32 : BitVec 32 := 1984#32
  let v788 : BitVec 32 := Scalar.addi v787 c1984_i32
  let v789 : BitVec 32 := v788
  let c0_i32_385 : BitVec 32 := 0#32
  ![v789.toNat, 0]
@[reducible] def k0_t65_loop (v813 : BitVec 32) (v815 : BitVec 32) : Scf.Loop 32 :=
  let c0_i32_389 : BitVec 32 := 0#32
  let v816 : BitVec 32 := Scalar.subi v815 v813
  let c15_i32_387 : BitVec 32 := 15#32
  let v817 : BitVec 32 := Scalar.addi v816 c15_i32_387
  let c4_i32_388 : BitVec 32 := 4#32
  let v818 : BitVec 32 := Scalar.shrsi v817 c4_i32_388
  let v819 : BitVec 32 := Scalar.subi v818 c0_i32_389
  let c1_i32_391 : BitVec 32 := 1#32
  let v821 : BitVec 32 := Scalar.divsi v819 c1_i32_391
  let v822 : BitVec 32 := Scalar.muli v821 c1_i32_391
  let v823 : BitVec 32 := Scalar.addi c0_i32_389 v822
  let c1_i32_392 : BitVec 32 := 1#32
  ⟨c0_i32_389, v823, c1_i32_392⟩

def k0_chk285 (v833 : IVec S16 32) : Prop :=
  (∀ a x, ((![v833] : Fin 1 → IVec S16 32) a x).toNat < S2048.size a)
theorem k0_idx317_inb : ∀ (v833 : IVec S16 32) (k0_hw285 : k0_chk285 v833), ∀ a x, ((![v833] : Fin 1 → IVec S16 32) a x).toNat < S2048.size a := fun v833 k0_hw285 => k0_hw285

def k0_chk286 (v840 : IVec S16 32) : Prop :=
  (∀ a x, ((![v840] : Fin 1 → IVec S16 32) a x).toNat < S1000.size a) ∧
  (∀ a x, ((![v840] : Fin 1 → IVec S16 32) a x).toNat < S1000.size a)
theorem k0_idx318_inb : ∀ (v840 : IVec S16 32) (k0_hw286 : k0_chk286 v840), ∀ a x, ((![v840] : Fin 1 → IVec S16 32) a x).toNat < S1000.size a := fun v840 k0_hw286 => k0_hw286.1
theorem k0_idx319_inb : ∀ (v840 : IVec S16 32) (k0_hw286 : k0_chk286 v840), ∀ a x, ((![v840] : Fin 1 → IVec S16 32) a x).toNat < S1000.size a := fun v840 k0_hw286 => k0_hw286.2

def k0_chk287 (v859 : IVec S16 32) (v861 : IVec S16 32) : Prop :=
  (∀ a x, ((![v859, v861] : Fin 2 → IVec S16 32) a x).toNat < S64x512.size a)
theorem k0_idx320_inb : ∀ (v859 : IVec S16 32) (v861 : IVec S16 32) (k0_hw287 : k0_chk287 v859 v861), ∀ a x, ((![v859, v861] : Fin 2 → IVec S16 32) a x).toNat < S64x512.size a := fun v859 v861 k0_hw287 => k0_hw287

def k0_chk288 (v838 : IVec S16 32) : Prop :=
  (∀ a x, ((![v838] : Fin 1 → IVec S16 32) a x).toNat < S2000.size a)
theorem k0_idx321_inb : ∀ (v838 : IVec S16 32) (k0_hw288 : k0_chk288 v838), ∀ a x, ((![v838] : Fin 1 → IVec S16 32) a x).toNat < S2000.size a := fun v838 k0_hw288 => k0_hw288
@[reducible] def k0_t66_loop (v813 : BitVec 32) (v815 : BitVec 32) : Scf.Loop 32 :=
  let c0_i32_389 : BitVec 32 := 0#32
  let v816 : BitVec 32 := Scalar.subi v815 v813
  let c15_i32_387 : BitVec 32 := 15#32
  let v817 : BitVec 32 := Scalar.addi v816 c15_i32_387
  let c4_i32_388 : BitVec 32 := 4#32
  let v818 : BitVec 32 := Scalar.shrsi v817 c4_i32_388
  let v819 : BitVec 32 := Scalar.subi v818 c0_i32_389
  let c1_i32_391 : BitVec 32 := 1#32
  let v821 : BitVec 32 := Scalar.divsi v819 c1_i32_391
  let v822 : BitVec 32 := Scalar.muli v821 c1_i32_391
  let v823 : BitVec 32 := Scalar.addi c0_i32_389 v822
  let v820 : BitVec 32 := Scalar.addi c0_i32_389 v819
  let c1_i32_393 : BitVec 32 := 1#32
  ⟨v823, v820, c1_i32_393⟩

def k0_chk284 (v813 : BitVec 32) (v815 : BitVec 32) : Prop :=
  ((k0_t65_loop v813 v815).OK) ∧
  ((k0_t66_loop v813 v815).OK)
theorem k0_t65_ok : ∀ (v813 : BitVec 32) (v815 : BitVec 32) (k0_hw284 : k0_chk284 v813 v815), (k0_t65_loop v813 v815).OK := fun v813 v815 k0_hw284 => k0_hw284.1
theorem k0_t66_ok : ∀ (v813 : BitVec 32) (v815 : BitVec 32) (k0_hw284 : k0_chk284 v813 v815), (k0_t66_loop v813 v815).OK := fun v813 v815 k0_hw284 => k0_hw284.2

def k0_chk289 (v833 : IVec S16 32) : Prop :=
  (∀ a x, ((![v833] : Fin 1 → IVec S16 32) a x).toNat < S2048.size a)
theorem k0_idx322_inb : ∀ (v833 : IVec S16 32) (k0_hw289 : k0_chk289 v833), ∀ a x, ((![v833] : Fin 1 → IVec S16 32) a x).toNat < S2048.size a := fun v833 k0_hw289 => k0_hw289

def k0_chk290 (v840 : IVec S16 32) : Prop :=
  (∀ a x, ((![v840] : Fin 1 → IVec S16 32) a x).toNat < S1000.size a) ∧
  (∀ a x, ((![v840] : Fin 1 → IVec S16 32) a x).toNat < S1000.size a)
theorem k0_idx323_inb : ∀ (v840 : IVec S16 32) (k0_hw290 : k0_chk290 v840), ∀ a x, ((![v840] : Fin 1 → IVec S16 32) a x).toNat < S1000.size a := fun v840 k0_hw290 => k0_hw290.1
theorem k0_idx324_inb : ∀ (v840 : IVec S16 32) (k0_hw290 : k0_chk290 v840), ∀ a x, ((![v840] : Fin 1 → IVec S16 32) a x).toNat < S1000.size a := fun v840 k0_hw290 => k0_hw290.2

def k0_chk291 (v859 : IVec S16 32) (v861 : IVec S16 32) : Prop :=
  (∀ a x, ((![v859, v861] : Fin 2 → IVec S16 32) a x).toNat < S64x512.size a)
theorem k0_idx325_inb : ∀ (v859 : IVec S16 32) (v861 : IVec S16 32) (k0_hw291 : k0_chk291 v859 v861), ∀ a x, ((![v859, v861] : Fin 2 → IVec S16 32) a x).toNat < S64x512.size a := fun v859 v861 k0_hw291 => k0_hw291

def k0_chk292 (v838 : IVec S16 32) : Prop :=
  (∀ a x, ((![v838] : Fin 1 → IVec S16 32) a x).toNat < S2000.size a)
theorem k0_idx326_inb : ∀ (v838 : IVec S16 32) (k0_hw292 : k0_chk292 v838), ∀ a x, ((![v838] : Fin 1 → IVec S16 32) a x).toNat < S2000.size a := fun v838 k0_hw292 => k0_hw292
def k0_off37 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_394_r2 : BitVec 32 := 0#32
  ![v1.toNat, 0]
abbrev grid1 : Pipeline.Grid := .none

abbrev stage1_0 : Fin 1 → Memref sig .tc .vmem S32x2000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x2000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x2000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x2x512x512 : Shape := ⟨4, ![64, 2, 512, 512]⟩
abbrev S64x500 : Shape := ⟨2, ![64, 500]⟩
abbrev S64x500x2 : Shape := ⟨3, ![64, 500, 2]⟩
abbrev S64x512x512x2 : Shape := ⟨4, ![64, 512, 512, 2]⟩
abbrev S64x262144x2 : Shape := ⟨3, ![64, 262144, 2]⟩
abbrev S64x500x1 : Shape := ⟨3, ![64, 500, 1]⟩
abbrev S_ : Shape := ⟨0, ![]⟩
abbrev S64x500x2x1 : Shape := ⟨4, ![64, 500, 2, 1]⟩
abbrev S1 : Shape := ⟨1, ![1]⟩
abbrev S1x1x1x1 : Shape := ⟨4, ![1, 1, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S64x2x512x512, .f32⟩
  | .hbm, ⟨1, _⟩ => ⟨S64x500, .i32⟩
  | .hbm, ⟨2, _⟩ => ⟨S64x500, .i32⟩
  | .hbm, ⟨3, _⟩ => ⟨S64x500x2, .f32⟩
  | .hbm, ⟨4, _⟩ => ⟨S64x512x512x2, .f32⟩
  | .hbm, ⟨5, _⟩ => ⟨S64x262144x2, .f32⟩
  | .hbm, ⟨6, _⟩ => ⟨S64x500x1, .i32⟩
  | .hbm, ⟨7, _⟩ => ⟨S64x500x2, .i32⟩
  | .hbm, ⟨8, _⟩ => ⟨S_, .i32⟩
  | .hbm, ⟨9, _⟩ => ⟨S64x500x2, .i32⟩
  | .hbm, ⟨10, _⟩ => ⟨S64x500x2, .i1⟩
  | .hbm, ⟨11, _⟩ => ⟨S_, .i32⟩
  | .hbm, ⟨12, _⟩ => ⟨S64x500x2, .i32⟩
  | .hbm, ⟨13, _⟩ => ⟨S64x500x2, .i32⟩
  | .hbm, ⟨14, _⟩ => ⟨S64x500x2, .i32⟩
  | .hbm, ⟨15, _⟩ => ⟨S64x500x2x1, .i32⟩
  | .hbm, ⟨16, _⟩ => ⟨S1, .i32⟩
  | .hbm, ⟨17, _⟩ => ⟨S_, .i32⟩
  | .hbm, ⟨18, _⟩ => ⟨S64x500x2x1, .i32⟩
  | .hbm, ⟨19, _⟩ => ⟨S64x500x2x1, .i1⟩
  | .hbm, ⟨20, _⟩ => ⟨S1x1x1x1, .i32⟩
  | .hbm, ⟨21, _⟩ => ⟨S64x500x2x1, .i32⟩
  | .hbm, ⟨22, _⟩ => ⟨S64x500x2x1, .i1⟩
  | .hbm, ⟨23, _⟩ => ⟨S64x500x2x1, .i1⟩
  | .hbm, ⟨24, _⟩ => ⟨S_, .i1⟩
  | .hbm, ⟨25, _⟩ => ⟨S64x500x2, .i1⟩
  | .hbm, ⟨26, _⟩ => ⟨S64x500x2, .f32⟩
  | .hbm, ⟨27, _⟩ => ⟨S_, .f32⟩
  | .hbm, ⟨28, _⟩ => ⟨S64x500x2, .f32⟩
  | .hbm, ⟨29, _⟩ => ⟨S64x500x2, .f32⟩
  | .hbm, ⟨30, _⟩ => ⟨S64x500, .f32⟩
  | .hbm, ⟨31, _⟩ => ⟨S64x500x1, .f32⟩
  | .hbm, ⟨32, _⟩ => ⟨S64x500x2, .f32⟩
  | .hbm, ⟨33, _⟩ => ⟨S64x500x2, .f32⟩
  | .hbm, ⟨34, _⟩ => ⟨S64x500x2, .f32⟩
  | .hbm, ⟨35, _⟩ => ⟨S64x500x2, .f32⟩
  | .hbm, ⟨36, _⟩ => ⟨S64x500x2, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S64x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩

abbrev nD : Nat := 1
abbrev τ : Topo := Topo.v7x

variable {F : FTy → Type} [FloatOps F]
-- ==== Proof.Lanes.lean ====
/-
  What the kernel's vector operations do to sixteen lanes, in words about natural numbers: an indexed store read at one
  element, a running count of equal lanes, and a running sum.
-/
module

public import Idealize.ShloMosaic.PureOps
public import Idealize.ShloMosaic.Lib.ValueIdxCore
public import Mathlib.Data.Nat.Count
public import Mathlib.Algebra.BigOperators.Intervals
public import Mathlib.Algebra.Order.BigOperators.Group.Finset

@[expose] public section

noncomputable section

namespace Cert.Proof.Lanes

open Idealize.ShloMosaic
open Idealize.ShloMosaic.ValueIdx
open scoped BigOperators

variable {F : FTy → Type} [FloatOps F]

/-- Sixteen lanes. -/
abbrev L16 : Shape := ⟨1, ![16]⟩

/-- The lane of a given number. -/
abbrev ln (k : Fin 16) : L16.Idx := Shape.ofLane (d := ![16]) k

theorem lane_ext {x y : L16.Idx} (h : (x 0).val = (y 0).val) : x = y := by
  funext a
  obtain rfl : a = 0 := Subsingleton.elim _ _
  exact Fin.ext h

theorem ln_self (x : L16.Idx) : ln (x 0) = x := lane_ext rfl

theorem lane_lt (x : L16.Idx) : (x 0).val < 16 := (x 0).isLt

/-! ## An indexed store read at one element -/

section Store

variable {s : Shape} {e : EltTy}

/-- One lane's effect on one element. -/
private def hit (idxs : Fin s.rank → IVec L16 32) (mask : IVec L16 1) (j : s.Idx) (x : L16.Idx) : Prop :=
  mask x = 1 ∧ ∀ a, (j a).val = (idxs a x).toNat

private def scalarStep (idxs : Fin s.rank → IVec L16 32) (v : Vec F L16 e) (mask : IVec L16 1) (add : Bool) (j : s.Idx)
    (y : Elt F e) (k : Fin 16) : Elt F e :=
  open Classical in
  if hit idxs mask j (ln k) then (if add then Elt.idxAdd e y (v (ln k)) else v (ln k)) else y

private theorem storeIdx_fold (f : Vec F s e) (idxs : Fin s.rank → IVec L16 32) (v : Vec F L16 e) (mask : IVec L16 1) (add : Bool)
    (h : ∀ a x, (idxs a x).toNat < s.size a) (j : s.Idx) :
    storeIdx (d := ![16]) f idxs v mask add h j = (List.finRange 16).foldl (scalarStep idxs v mask add j) (f j) := by
  have key : ∀ (l : List (Fin 16)) (f : Vec F s e), (l.foldl (fun (g : Vec F s e) (k : Fin 16) =>
      if mask (ln k) = 1 then
        (fun i : s.Idx => if (∀ a, (i a).val = ((idxAt idxs h (ln k)) a).val)
          then (if add then Elt.idxAdd e (g (idxAt idxs h (ln k))) (v (ln k)) else v (ln k)) else g i)
      else g) f) j = l.foldl (scalarStep idxs v mask add j) (f j) := by
    intro l
    induction l with
    | nil => intro f; rfl
    | cons k l ih =>
      intro f
      rw [List.foldl_cons, List.foldl_cons, ih]
      congr 1
      unfold scalarStep hit
      by_cases hm : mask (ln k) = 1
      · by_cases hj : ∀ a, (j a).val = (idxs a (ln k)).toNat
        · have hji : j = idxAt idxs h (ln k) := funext fun a => Fin.ext (hj a)
          have hj' : ∀ a, (j a).val = ((idxAt idxs h (ln k)) a).val := hj
          rw [if_pos hm]
          refine (if_pos hj').trans (Eq.trans ?_ (if_pos ⟨hm, hj⟩).symm)
          rw [← hji]
        · have hj' : ¬ ∀ a, (j a).val = ((idxAt idxs h (ln k)) a).val := hj
          rw [if_pos hm]
          exact (if_neg hj').trans (if_neg (fun hh => hj hh.2)).symm
      · rw [if_neg hm, if_neg (fun hh => hm hh.1)]
  exact key (List.finRange 16) f

private theorem fold_miss (idxs : Fin s.rank → IVec L16 32) (v : Vec F L16 e) (mask : IVec L16 1) (add : Bool) (j : s.Idx) :
    ∀ (l : List (Fin 16)) (y : Elt F e), (∀ k ∈ l, ¬ hit idxs mask j (ln k)) → l.foldl (scalarStep idxs v mask add j) y = y
  | [], _, _ => rfl
  | k :: l, y, hl => by
    rw [List.foldl_cons, fold_miss idxs v mask add j l _ (fun k' hk' => hl k' (List.mem_cons_of_mem _ hk'))]
    unfold scalarStep; rw [if_neg (hl k List.mem_cons_self)]

/-- An element no set lane names keeps what it held. -/
theorem store_miss (f : Vec F s e) (idxs : Fin s.rank → IVec L16 32) (v : Vec F L16 e) (mask : IVec L16 1) (add : Bool)
    (h : ∀ a x, (idxs a x).toNat < s.size a) (j : s.Idx)
    (hj : ∀ x : L16.Idx, mask x = 1 → (∀ a, (j a).val = (idxs a x).toNat) → False) :
    storeIdx (d := ![16]) f idxs v mask add h j = f j := by
  rw [storeIdx_fold]
  exact fold_miss _ _ _ _ _ _ _ fun k _ hk => hj _ hk.1 hk.2

/-- An element exactly one set lane names takes that lane's word, over or onto what it held. -/
theorem store_one (f : Vec F s e) (idxs : Fin s.rank → IVec L16 32) (v : Vec F L16 e) (mask : IVec L16 1) (add : Bool)
    (h : ∀ a x, (idxs a x).toNat < s.size a) (j : s.Idx) (x : L16.Idx) (hm : mask x = 1) (hx : ∀ a, (j a).val = (idxs a x).toNat)
    (hu : ∀ y : L16.Idx, mask y = 1 → (∀ a, (j a).val = (idxs a y).toNat) → y = x) :
    storeIdx (d := ![16]) f idxs v mask add h j = if add then Elt.idxAdd e (f j) (v x) else v x := by
  rw [storeIdx_fold]
  obtain ⟨i, hi⟩ : ∃ i : Fin 16, i = (x 0 : Fin 16) := ⟨_, rfl⟩
  have hxi : ln i = x := by rw [hi]; exact ln_self x
  obtain ⟨l₁, l₂, hl⟩ : ∃ l₁ l₂ : List (Fin 16), List.finRange 16 = l₁ ++ i :: l₂ :=
    List.append_of_mem (List.mem_finRange i)
  have hnd : (l₁ ++ i :: l₂).Nodup := hl ▸ List.nodup_finRange 16
  have hne : ∀ k, hit idxs mask j (ln k) → k = i := fun k hk => by
    have h1 : ln k = ln i := (hu _ hk.1 hk.2).trans hxi.symm
    have h2 := congrFun h1 0
    exact Fin.ext (congrArg Fin.val h2)
  rw [hl, List.foldl_append, List.foldl_cons, fold_miss, fold_miss]
  · unfold scalarStep
    rw [if_pos (by rw [hxi]; exact ⟨hm, hx⟩), hxi]
  · intro k hk hkh
    rw [hne k hkh] at hk
    exact (List.disjoint_of_nodup_append hnd) hk List.mem_cons_self
  · intro k hk hkh
    rw [hne k hkh] at hk
    exact (List.nodup_cons.mp (List.Nodup.of_append_right hnd)).1 hk

/-- An element every naming lane gives one word to holds that word, if a set lane names it. -/
theorem store_same (f : Vec F s e) (idxs : Fin s.rank → IVec L16 32) (v : Vec F L16 e) (mask : IVec L16 1)
    (h : ∀ a x, (idxs a x).toNat < s.size a) (j : s.Idx) (w : Elt F e)
    (hall : ∀ x : L16.Idx, mask x = 1 → (∀ a, (j a).val = (idxs a x).toNat) → v x = w)
    (hex : f j = w ∨ ∃ x : L16.Idx, mask x = 1 ∧ ∀ a, (j a).val = (idxs a x).toNat) :
    storeIdx (d := ![16]) f idxs v mask false h j = w := by
  rw [storeIdx_fold]
  have key : ∀ (l : List (Fin 16)) (y : Elt F e), (y = w ∨ ∃ k ∈ l, hit idxs mask j (ln k)) →
      l.foldl (scalarStep idxs v mask false j) y = w := by
    intro l
    induction l with
    | nil => intro y hy; rcases hy with hy | ⟨k, hk, -⟩; exacts [hy, absurd hk List.not_mem_nil]
    | cons k l ih =>
      intro y hy
      rw [List.foldl_cons]
      apply ih
      by_cases hk : hit idxs mask j (ln k)
      · left; unfold scalarStep; rw [if_pos hk]; exact hall _ hk.1 hk.2
      · have hs : scalarStep idxs v mask false j y k = y := by unfold scalarStep; rw [if_neg hk]
        rw [hs]
        rcases hy with hy | ⟨k', hk', hh⟩
        · exact .inl hy
        · rcases List.mem_cons.mp hk' with rfl | hm
          · exact absurd hh hk
          · exact .inr ⟨k', hm, hh⟩
  apply key
  rcases hex with hw | ⟨x, hm, hx⟩
  · exact .inl hw
  · exact .inr ⟨(x 0 : Fin 16), List.mem_finRange _, by rw [ln_self]; exact ⟨hm, hx⟩⟩

end Store

/-! ## The running count of equal lanes -/

section Scan

variable (v : IVec L16 32) (g : ℕ → ℕ) (hg : ∀ x : L16.Idx, (v x).toNat = g (x 0).val)

include hg in
private theorem eq_iff (x y : L16.Idx) : v x = v y ↔ g (x 0).val = g (y 0).val := by
  rw [← hg, ← hg]; exact ⟨fun h => by rw [h], fun h => BitVec.eq_of_toNat_eq h⟩

include hg in
/-- A lane's count is the number of lanes up to it that hold its word. -/
theorem scanCount_val (x : L16.Idx) :
    ((scanCount (broadcast L16 (1#1)) v).2 x).toNat = Nat.count (fun k => g k = g (x 0).val) ((x 0).val + 1) := by
  unfold scanCount
  dsimp only
  rw [if_pos (show broadcast L16 (1#1) x = 1 from rfl), Nat.count_eq_card_filter_range]
  have hc : (Finset.univ.filter fun j : L16.Idx => (L16.rowMajor j).val ≤ (L16.rowMajor x).val ∧ broadcast L16 (1#1) j = 1 ∧ v j = v x).card
      = ((Finset.range ((x 0).val + 1)).filter fun k => g k = g (x 0).val).card := by
    refine Finset.card_bij (fun j _ => (j 0).val) ?_ ?_ ?_
    · intro j hj
      rw [Finset.mem_filter] at hj ⊢
      obtain ⟨-, h1, -, h3⟩ := hj
      rw [Shape.rowMajor_val_one, Shape.rowMajor_val_one] at h1
      exact ⟨Finset.mem_range.mpr (Nat.lt_succ_of_le h1), (eq_iff v g hg j x).mp h3⟩
    · intro j _ j' _ h; exact lane_ext h
    · intro k hk
      rw [Finset.mem_filter, Finset.mem_range] at hk
      have hk16 : k < 16 := lt_of_lt_of_le hk.1 (lane_lt x)
      refine ⟨ln ⟨k, hk16⟩, ?_, rfl⟩
      rw [Finset.mem_filter, Shape.rowMajor_val_one, Shape.rowMajor_val_one]
      exact ⟨Finset.mem_univ _, Nat.lt_succ_iff.mp hk.1, rfl, (eq_iff v g hg _ x).mpr hk.2⟩
  rw [hc, BitVec.toNat_ofNat, Nat.mod_eq_of_lt]
  refine lt_of_le_of_lt (Finset.card_filter_le _ _) ?_
  rw [Finset.card_range]
  have := lane_lt x
  omega

include hg in
/-- A lane is marked exactly when no later lane holds its word. -/
theorem scanCount_last (x : L16.Idx) :
    (scanCount (broadcast L16 (1#1)) v).1 x = 1 ↔ ∀ k, (x 0).val < k → k < 16 → g k ≠ g (x 0).val := by
  unfold scanCount
  dsimp only
  constructor
  · intro h k hk hk16 he
    by_cases hc : broadcast L16 (1#1) x = 1 ∧ ∀ j : L16.Idx, (L16.rowMajor x).val < (L16.rowMajor j).val → ¬(broadcast L16 (1#1) j = 1 ∧ v j = v x)
    · refine hc.2 (ln ⟨k, hk16⟩) ?_ ⟨rfl, (eq_iff v g hg _ x).mpr he⟩
      rw [Shape.rowMajor_val_one, Shape.rowMajor_val_one]; exact hk
    · rw [if_neg hc] at h; exact absurd h (by decide)
  · intro h
    rw [if_pos]
    refine ⟨rfl, fun j hj hv => ?_⟩
    rw [Shape.rowMajor_val_one, Shape.rowMajor_val_one] at hj
    exact h _ hj (lane_lt j) ((eq_iff v g hg j x).mp hv.2)

/-- Of the lanes holding a word, the last one is marked. -/
theorem exists_last (p : ℕ) (hp : ∃ k < 16, g k = p) :
    ∃ x : L16.Idx, g (x 0).val = p ∧ (∀ k, (x 0).val < k → k < 16 → g k ≠ p) := by
  obtain ⟨k, hk, rfl⟩ := hp
  let T := (Finset.range 16).filter fun j => g j = g k
  have hT : T.Nonempty := ⟨k, by simp [T, hk]⟩
  have hm := Finset.max'_mem T hT
  rw [Finset.mem_filter, Finset.mem_range] at hm
  refine ⟨ln ⟨T.max' hT, hm.1⟩, hm.2, fun j hj hj16 he => ?_⟩
  have : j ∈ T := by rw [Finset.mem_filter, Finset.mem_range]; exact ⟨hj16, he⟩
  exact absurd (Finset.le_max' T j this) (not_le.mpr hj)

/-- A marked lane's count is the number of all lanes holding its word. -/
theorem count_of_last {i : ℕ} (hi : i < 16) (h : ∀ k, i < k → k < 16 → g k ≠ g i) :
    Nat.count (fun k => g k = g i) (i + 1) = Nat.count (fun k => g k = g i) 16 := by
  have key : ∀ b, i + 1 + b ≤ 16 → Nat.count (fun k => g k = g i) (i + 1 + b) = Nat.count (fun k => g k = g i) (i + 1) := by
    intro b
    induction b with
    | zero => intro _; rfl
    | succ b ih =>
      intro hb
      rw [← Nat.add_assoc, Nat.count_succ, ih (by omega), if_neg (h _ (by omega) (by omega)), Nat.add_zero]
  have := key (16 - (i + 1)) (by omega)
  rw [show i + 1 + (16 - (i + 1)) = 16 by omega] at this
  exact this.symm

end Scan

/-! ## The running sum -/

private theorem filter_succ : ∀ i : Fin 15,
    (List.finRange 16).filter (fun k : Fin 16 => decide (0 < k.val ∧ k.val ≤ i.val + 1))
      = (List.finRange 16).filter (fun k : Fin 16 => decide (0 < k.val ∧ k.val ≤ i.val)) ++ [i.succ] := by decide

private theorem filter_zero :
    (List.finRange 16).filter (fun k : Fin 16 => decide (0 < k.val ∧ k.val ≤ 0)) = [] := by decide

/-- The running sum at a lane is the sum of the lanes up to it, when the sum of them all fits a word. -/
theorem scan_val (v : IVec L16 32) (g : ℕ → ℕ) (hg : ∀ x : L16.Idx, (v x).toNat = g (x 0).val)
    (hs : ∑ k ∈ Finset.range 16, g k < 2 ^ 32) (x : L16.Idx) :
    ((scan (d := ![16]) .sum v) x).toNat = ∑ k ∈ Finset.range ((x 0).val + 1), g k := by
  have key : ∀ i, (hi : i < 16) →
      (((List.finRange 16).filter (fun k : Fin 16 => decide (0 < k.val ∧ k.val ≤ i))).foldl
        (fun r k => ScanKind.step .sum r (v (ln k))) (v (ln 0))).toNat = ∑ k ∈ Finset.range (i + 1), g k := by
    intro i
    induction i with
    | zero =>
      intro _
      rw [filter_zero, List.foldl_nil, hg, Finset.sum_range_one]
      rfl
    | succ i ih =>
      intro hi
      rw [filter_succ ⟨i, by omega⟩, List.foldl_append, List.foldl_cons, List.foldl_nil]
      show (_ + _ : BitVec 32).toNat = _
      rw [BitVec.toNat_add, ih (by omega), hg, Finset.sum_range_succ _ (i + 1)]
      show (_ + g (i + 1)) % 2 ^ 32 = _
      apply Nat.mod_eq_of_lt
      refine lt_of_le_of_lt ?_ hs
      rw [← Finset.sum_range_succ]
      exact Finset.sum_le_sum_of_subset_of_nonneg (Finset.range_mono (by omega)) (fun _ _ _ => Nat.zero_le _)
  exact key (x 0).val (lane_lt x)

end Cert.Proof.Lanes

end
-- ==== Proof.Order.lean ====
/-
  The counting sort's places: entries `0 … T-1`, each with a block number below `B`, laid out by block number and, in a
  block, in their own order. `start` is where a block's entries begin, `place` where an entry goes.
-/
module

public import Mathlib.Data.Nat.Count
public import Mathlib.Algebra.BigOperators.Intervals
public import Mathlib.Algebra.Order.BigOperators.Group.Finset
public import Mathlib.Data.Finset.Card

@[expose] public section

noncomputable section

namespace Cert.Proof.Order

open scoped BigOperators

variable (f : ℕ → ℕ)

/-- How many of the first `t` entries lie in block `p`. -/
abbrev many (p t : ℕ) : ℕ := Nat.count (fun e => f e = p) t

/-- Where block `n`'s entries begin, of `T` entries in all. -/
def start (T n : ℕ) : ℕ := ∑ p ∈ Finset.range n, many f p T

/-- Where entry `e` goes. -/
def place (T e : ℕ) : ℕ := start f T (f e) + many f (f e) e

theorem many_add (p a b : ℕ) : many f p (a + b) = many f p a + Nat.count (fun k => f (a + k) = p) b := Nat.count_add _ _ _

theorem many_mono (p : ℕ) {a b : ℕ} (h : a ≤ b) : many f p a ≤ many f p b := Nat.count_monotone _ h

theorem many_lt (p : ℕ) {e t : ℕ} (he : e < t) (hp : f e = p) : many f p e < many f p t := by
  have h1 : many f p (e + 1) = many f p e + 1 := by unfold many; rw [Nat.count_succ, if_pos hp]
  have h2 := many_mono f p (show e + 1 ≤ t from he)
  omega

theorem start_zero (T : ℕ) : start f T 0 = 0 := rfl
theorem start_succ (T n : ℕ) : start f T (n + 1) = start f T n + many f n T := Finset.sum_range_succ _ _

theorem start_mono (T : ℕ) {a b : ℕ} (h : a ≤ b) : start f T a ≤ start f T b :=
  Finset.sum_le_sum_of_subset_of_nonneg (Finset.range_mono h) fun _ _ _ => Nat.zero_le _

/-- Every entry lies in one of the blocks, so the blocks hold them all. -/
theorem start_all (T B : ℕ) (hB : ∀ e < T, f e < B) : start f T B = T := by
  unfold start many
  simp only [Nat.count_eq_card_filter_range]
  have := Finset.card_eq_sum_card_fiberwise (s := Finset.range T) (t := Finset.range B) (f := f)
    (fun e he => by
      have he' : e < T := Finset.mem_range.mp he
      exact Finset.mem_coe.mpr (Finset.mem_range.mpr (hB e he')))
  rw [Finset.card_range] at this
  exact this.symm

theorem start_le (T B n : ℕ) (hB : ∀ e < T, f e < B) (hn : n ≤ B) : start f T n ≤ T :=
  (start_mono f T hn).trans (start_all f T B hB).le

theorem le_place (T e : ℕ) : start f T (f e) ≤ place f T e := Nat.le_add_right _ _

theorem place_lt (T e : ℕ) (he : e < T) : place f T e < start f T (f e + 1) := by
  rw [start_succ]; exact Nat.add_lt_add_left (many_lt f _ he rfl) _

theorem place_lt_total (T B e : ℕ) (hB : ∀ e < T, f e < B) (he : e < T) : place f T e < T :=
  lt_of_lt_of_le (place_lt f T e he) (start_le f T B _ hB (hB e he))

/-- An entry placed in a block's stretch is the block's. -/
theorem block_of_place (T e n : ℕ) (he : e < T) (h1 : start f T n ≤ place f T e) (h2 : place f T e < start f T (n + 1)) : f e = n := by
  rcases lt_trichotomy (f e) n with h | h | h
  · have := start_mono f T (show f e + 1 ≤ n from h)
    have := place_lt f T e he
    omega
  · exact h
  · have := start_mono f T (show n + 1 ≤ f e from h)
    have := le_place f T e
    omega

/-- No two entries go to one place. -/
theorem place_inj (T : ℕ) {a b : ℕ} (ha : a < T) (hb : b < T) (h : place f T a = place f T b) : a = b := by
  have hf : f a = f b := block_of_place f T a (f b) ha (h ▸ le_place f T b) (h ▸ place_lt f T b hb)
  have hm : many f (f b) a = many f (f b) b := by
    unfold place at h; rw [hf] at h; exact Nat.add_left_cancel h
  rcases lt_trichotomy a b with hab | hab | hab
  · exact absurd hm (many_lt f _ hab hf).ne
  · exact hab
  · exact absurd hm (many_lt f _ hab rfl).ne'

/-- Every place is some entry's. -/
theorem exists_place (T B : ℕ) (hB : ∀ e < T, f e < B) {q : ℕ} (hq : q < T) : ∃ e < T, place f T e = q := by
  have hmaps : Set.MapsTo (place f T) (Finset.range T) (Finset.range T) := fun e he => by
    simp only [Finset.coe_range, Set.mem_Iio] at he ⊢
    exact place_lt_total f T B e hB he
  have hinj : Set.InjOn (place f T) (Finset.range T) := fun a ha b hb h => by
    simp only [Finset.coe_range, Set.mem_Iio] at ha hb
    exact place_inj f T ha hb h
  have hs := Finset.surjOn_of_injOn_of_card_le (place f T) hmaps hinj le_rfl
  obtain ⟨e, he, h⟩ := hs (show q ∈ (Finset.range T : Set ℕ) by simpa using hq)
  exact ⟨e, by simpa using he, h⟩

/-- The first `t + b` entries' place, from the first `t`'s count and the count among the last `b`. -/
theorem place_add (T t i : ℕ) :
    place f T (t + i) + 1 = start f T (f (t + i)) + many f (f (t + i)) t + Nat.count (fun k => f (t + k) = f (t + i)) (i + 1) := by
  unfold place
  rw [many_add, Nat.count_succ, if_pos rfl]
  omega

end Cert.Proof.Order

end
-- ==== Proof.Words.lean ====
/-
  The kernel's index arithmetic, word by word: entry `e` of a tile's 2000 (500 positions of two batches, two channels
  each) reads position word `e / 2`, and its element lies in row `(e / 1000 * 2 + e % 2) * 512 + position / 512` of the
  tile's 2048 rows, column `position % 512`; rows go to blocks of 64.
-/
module

public import Idealize.ShloMosaic.PureOps
public import Idealize.ShloMosaic.Lib.WordArith
public import Idealize.ShloMosaic.Lib.WordArith.Masks
public import Idealize.ShloMosaic.Lib.ValueIdxCore

@[expose] public section

noncomputable section

namespace Cert.Proof.Words

open Idealize.ShloMosaic
open Idealize.ShloMosaic.ValueIdx

/-! ## Words as natural numbers -/

theorem addi_val (x y : BitVec 32) (h : x.toNat + y.toNat < 2 ^ 32) : (IntOp.addi x y).toNat = x.toNat + y.toNat := by
  show (x + y).toNat = _
  rw [BitVec.toNat_add, Nat.mod_eq_of_lt h]

theorem subi_val (x y : BitVec 32) (h : y.toNat ≤ x.toNat) : (IntOp.subi x y).toNat = x.toNat - y.toNat := by
  show (x - y).toNat = _
  exact BitVec.toNat_sub_of_le h

theorem muli_val (x y : BitVec 32) (h : x.toNat * y.toNat < 2 ^ 32) : (IntOp.muli x y).toNat = x.toNat * y.toNat := by
  show (x * y).toNat = _
  rw [BitVec.toNat_mul, Nat.mod_eq_of_lt h]

theorem shrsi_val (u : ArithUnit) (x y : BitVec 32) (hx : x.toNat < 2 ^ 31) (hy : y.toNat < 32) :
    (IntOp.shrsi u x y).toNat = x.toNat / 2 ^ y.toNat := by
  unfold IntOp.shrsi
  rw [if_pos hy]
  have hm : x.msb = false := by
    rw [BitVec.msb_eq_decide]; exact decide_eq_false (not_le.mpr hx)
  show (x.sshiftRight y.toNat).toNat = _
  rw [BitVec.sshiftRight_eq_of_msb_false hm, BitVec.toNat_ushiftRight, Nat.shiftRight_eq_div_pow]

theorem shli_val (u : ArithUnit) (x y : BitVec 32) (hy : y.toNat < 32) (h : x.toNat * 2 ^ y.toNat < 2 ^ 32) :
    (IntOp.shli u x y).toNat = x.toNat * 2 ^ y.toNat := by
  unfold IntOp.shli
  rw [if_pos hy]
  show (x <<< y.toNat).toNat = _
  rw [BitVec.toNat_shiftLeft, Nat.shiftLeft_eq, Nat.mod_eq_of_lt h]

theorem andi_val (x M : BitVec 32) (p : ℕ) (hM : M.toNat = 2 ^ p - 1) : (IntOp.andi x M).toNat = x.toNat % 2 ^ p :=
  WordArith.toNat_andi_lowMask x M p hM

theorem slt_iff (x y : BitVec 32) (hx : x.toNat < 2 ^ 31) (hy : y.toNat < 2 ^ 31) :
    IntOp.cmpi .slt x y = 1 ↔ x.toNat < y.toNat := by
  have e := BitVec.toInt_eq_toNat_cond x
  have e2 := BitVec.toInt_eq_toNat_cond y
  unfold IntOp.cmpi
  dsimp only
  rw [show (1 : BitVec 1) = 1#1 from rfl, WordArith.ofBool_eq_one_iff, BitVec.slt_iff_toInt_lt]
  split at e <;> split at e2 <;> omega

/-! ## Entries -/

/-- A rank-1 index from any number (taken modulo the extent). -/
abbrev at1 (n k : ℕ) (hn : 0 < n) : (⟨1, ![n]⟩ : Shape).Idx := ix1 ⟨k % n, Nat.mod_lt _ hn⟩

abbrev P1000 : Shape := ⟨1, ![1000]⟩

variable (I : P1000.Idx → BitVec 32)

/-- Entry `e`'s position in its channel's plane. -/
def hw (e : ℕ) : ℕ := (I (at1 1000 (e / 2) (by decide))).toNat

/-- Entry `e`'s row of the tile's. -/
def row (e : ℕ) : ℕ := (e / 1000 * 2 + e % 2) * 512 + hw I e / 512

/-- Entry `e`'s block. -/
def blk (e : ℕ) : ℕ := row I e / 64

variable (hI : ∀ x, (I x).toNat < 2 ^ 18)

include hI in
theorem hw_lt (e : ℕ) : hw I e < 2 ^ 18 := hI _

include hI in
theorem row_lt (e : ℕ) (he : e < 2000) : row I e < 2048 := by
  unfold row
  have := hw_lt I hI e
  have h1 : e / 1000 ≤ 1 := by omega
  have h2 : e % 2 ≤ 1 := by omega
  have h3 : hw I e / 512 < 512 := by omega
  omega

include hI in
theorem blk_lt (e : ℕ) (he : e < 2000) : blk I e < 32 := by
  have := row_lt I hI e he
  unfold blk
  omega

theorem half_val (u : ArithUnit) (j : BitVec 32) (hj : j.toNat < 2000) : (IntOp.shrsi u j 1#32).toNat = j.toNat / 2 := by
  rw [shrsi_val u j _ (by omega) (by decide)]; rfl

theorem batch_val (u : ArithUnit) (j : BitVec 32) (hj : j.toNat < 2000) :
    (IntOp.shrsi u (IntOp.muli j 33555#32) 25#32).toNat = j.toNat / 1000 := by
  have h : (IntOp.muli j 33555#32).toNat = j.toNat * 33555 := muli_val j 33555#32 (by
    show j.toNat * 33555 < _; omega)
  rw [shrsi_val u _ _ (by rw [h]; omega) (by decide), h]
  show j.toNat * 33555 / 33554432 = _
  omega

/-- The row's word, from the entry's word and its position word. -/
def rowWord (j h : BitVec 32) : BitVec 32 :=
  IntOp.addi (IntOp.shli .vector (IntOp.addi (IntOp.muli (IntOp.shrsi .vector (IntOp.muli j 33555#32) 25#32) 2#32) (IntOp.andi j 1#32)) 9#32)
    (IntOp.shrsi .vector h 9#32)

include hI in
theorem rowWord_val (j h : BitVec 32) (hj : j.toNat < 2000) (hh : h.toNat = hw I j.toNat) : (rowWord j h).toNat = row I j.toNat := by
  have hlt := hw_lt I hI j.toNat
  have h1 := batch_val .vector j hj
  have h2 : (IntOp.muli (IntOp.shrsi .vector (IntOp.muli j 33555#32) 25#32) 2#32).toNat = j.toNat / 1000 * 2 := by
    rw [muli_val _ _ (by rw [h1]; show j.toNat / 1000 * 2 < _; omega), h1]; rfl
  have h3 : (IntOp.andi j 1#32).toNat = j.toNat % 2 := andi_val j 1#32 1 rfl
  have h4 : (IntOp.addi (IntOp.muli (IntOp.shrsi .vector (IntOp.muli j 33555#32) 25#32) 2#32) (IntOp.andi j 1#32)).toNat
      = j.toNat / 1000 * 2 + j.toNat % 2 := by
    rw [addi_val _ _ (by rw [h2, h3]; omega), h2, h3]
  have h5 := shli_val .vector (IntOp.addi (IntOp.muli (IntOp.shrsi .vector (IntOp.muli j 33555#32) 25#32) 2#32) (IntOp.andi j 1#32)) 9#32
    (by decide) (by rw [h4]; show (j.toNat / 1000 * 2 + j.toNat % 2) * 512 < _; omega)
  rw [h4] at h5
  have h5' : (IntOp.shli .vector (IntOp.addi (IntOp.muli (IntOp.shrsi .vector (IntOp.muli j 33555#32) 25#32) 2#32) (IntOp.andi j 1#32)) 9#32).toNat
      = (j.toNat / 1000 * 2 + j.toNat % 2) * 512 := h5
  have h6 : (IntOp.shrsi .vector h 9#32).toNat = h.toNat / 512 := shrsi_val .vector h 9#32 (by omega) (by decide)
  unfold rowWord row
  rw [addi_val _ _ (by rw [h5', h6, hh]; omega), h5', h6, hh]

include hI in
theorem blkWord_val (j h : BitVec 32) (hj : j.toNat < 2000) (hh : h.toNat = hw I j.toNat) :
    (IntOp.shrsi .vector (rowWord j h) 6#32).toNat = blk I j.toNat := by
  have h1 := rowWord_val I hI j h hj hh
  have h2 := row_lt I hI _ hj
  rw [shrsi_val .vector _ 6#32 (by omega) (by decide), h1]
  rfl

end Cert.Proof.Words

end
-- ==== Proof.Base.lean ====
/-
  The program as the launch sees it, the kernel's memrefs, and what a vector subcore ("tile") computes: the element it
  keeps of each of its 2000 entries, and the order in which its table of entries lists them.
-/
module

public import proofs.«01_k».proof.Defs
public import proofs.«01_k».proof.Proof.Lanes
public import proofs.«01_k».proof.Proof.Order
public import proofs.«01_k».proof.Proof.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Lanes Cert.Proof.Order Cert.Proof.Words

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
/-- The rounds of the TensorCore kernel's staging cells. -/
abbrev UP : Type := URounds (GSem nD τ sig) Unit
abbrev UU : Type := UH × (UP × Counters)

local notation "𝕄" => MT nD τ sig (HIx 1) (Elt F) ℕ UU ℕ

/-- The handshakes' rounds; the transfers' counters are the other factor. -/
abbrev EH : Emb UH (MT nD τ sig (HIx 1) (Elt F) ℕ UU ℕ) := embL

/-- The staging cells' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- Where the transfers' counters sit. -/
abbrev EC : UEmb Counters (MT nD τ sig (HIx 1) (Elt F) ℕ UU ℕ) := countersEmb

/-! ## The kernel's memrefs -/

abbrev w2 : Memref sig .scVector .hbm S64x2x512x512 .f32 := Memref.whole main_arg0_scv
abbrev w3 : Memref sig .scVector .hbm S32x1000 .i32 := Memref.whole main_v0_scv
abbrev w4 : Memref sig .scVector .hbm S32x1000 .i32 := Memref.whole main_v1_scv
abbrev w5 : Memref sig .scVector .hbm S32x2000 .f32 := Memref.whole main_v3_0_scv
abbrev w6 : Memref sig .scVector .hbm S32x2000 .f32 := Memref.whole main_v3_1_scv
abbrev w7 : Memref sig .scVector .vmem S1000 .i32 := Memref.whole cc0_scratch0
abbrev w8 : Memref sig .scVector .vmem S1000 .i32 := Memref.whole cc0_scratch1
abbrev w9 : Memref sig .scVector .vmem S2000 .f32 := Memref.whole cc0_scratch2
abbrev w10 : Memref sig .scVector .vmem S2000 .f32 := Memref.whole cc0_scratch3
abbrev w11 : Memref sig .scVector .vmem S2000 .i32 := Memref.whole cc0_scratch4
abbrev w12 : Memref sig .scVector .vmem S2048 .i32 := Memref.whole cc0_scratch5
abbrev w13 : Memref sig .scVector .vmem S32 .i32 := Memref.whole cc0_scratch6
abbrev w14 : Memref sig .scVector .vmem S32 .i32 := Memref.whole cc0_scratch7
abbrev w15 : Memref sig .scVector .vmem S64x512 .f32 := Memref.whole cc0_scratch8
abbrev w16 : Memref sig .scVector .vmem S64x512 .f32 := Memref.whole cc0_scratch9

/-! ## The threads and the program type -/

/-- The grid point of SparseCore `c`, tile `s`, as the body table passes it. -/
abbrev tileAt (c : Fin (grid0.bound 0)) (s : Fin (grid0.bound 1)) : grid0.Coords :=
  fun | 0 => c | 1 => s | ⟨_ + 2, h⟩ => absurd h (Nat.not_lt.2 (Nat.le_add_left _ _))

abbrev thr (d : Dev nD) (i : grid0.Coords) : Thread nD τ := V d ((i 0).castLE hcore0) ((i 1).castLE hsub0)

abbrev TProg (F : FTy → Type) (i : grid0.Coords) (α : Type) : Type 1 :=
  Prog (TpuEff nD τ sig (Elt F) Λ₀ (.scVector ((i 0).castLE hcore0) ((i 1).castLE hsub0))) α

/-- The tile's number. -/
abbrev wid (i : grid0.Coords) : ℕ := (i 0).val * 16 + (i 1).val

theorem wid_lt (i : grid0.Coords) : wid i < 32 := by
  have h0 : (i 0).val < 2 := (i 0).isLt
  have h1 : (i 1).val < 16 := (i 1).isLt
  show (i 0).val * 16 + (i 1).val < 32
  omega

/-- The lane numbers. -/
abbrev lanes : IVec S16 32 := iota .scVector S16 32 [0] iota_S16_d0_w32_scVector

theorem lanes_val (x : S16.Idx) : (lanes x).toNat = (x 0).val := by
  show (BitVec.ofNat 32 ([0].foldl (fun n a => n * S16.size a + (x a).val) 0)).toNat = _
  have hx : (x 0).val < 16 := (x 0).isLt
  simp only [List.foldl_cons, List.foldl_nil, BitVec.toNat_ofNat]
  omega

/-! ## What a tile computes -/

variable [FloatOps F]

/-- The first operand as 65536 rows of 512. -/
abbrev rowsOf : Memref sig .scVector .hbm S65536x512 .f32 :=
  w2.reshape S65536x512 reshapes_S64x2x512x512_S65536x512.1 reshapes_S64x2x512x512_S65536x512.2 (Memref.isWhole_whole _).contiguous

/-- Row `r` column `c` of the rows tile `w` reads. -/
def cell (A : Vec F S64x2x512x512 .f32) (w r c : ℕ) : F .f32 :=
  rowsOf.view.read (Elt F) A (ix2 ⟨(2048 * w + r) % 65536, Nat.mod_lt _ (by decide)⟩ ⟨c % 512, Nat.mod_lt _ (by decide)⟩)

/-- Entry `e`'s mask word as a float. -/
def weight (fm : Vec F S1000 .i32) (e : ℕ) : F .f32 := FloatOps.sitofp .f32 (fm (at1 1000 (e / 2) (by decide)))

/-- Entry `e`'s result: the element its position names, times its mask. -/
def entry (A : Vec F S64x2x512x512 .f32) (w : ℕ) (fi fm : Vec F S1000 .i32) (e : ℕ) : F .f32 :=
  FloatOps.mulf (cell A w (row fi e) (hw fi e)) (weight fm e)

/-- The table lists at position `place e` entry `e`. -/
def Listed (fi : Vec F S1000 .i32) (g : Vec F S2048 .i32) : Prop :=
  ∀ e < 2000, (g (at1 2048 (place (blk fi) 2000 e) (by decide))).toNat = e

/-- The entries listed before position `n` hold their results. -/
def Done (A : Vec F S64x2x512x512 .f32) (w : ℕ) (fi fm : Vec F S1000 .i32) (n : ℕ) (g : Vec F S2000 .f32) : Prop :=
  ∀ e < 2000, place (blk fi) 2000 e < n → g (at1 2000 e (by decide)) = entry A w fi fm e

/-- Block `n` of the tile's rows. -/
def block (A : Vec F S64x2x512x512 .f32) (w n : ℕ) : Vec F S64x512 .f32 :=
  fun x => cell A w (64 * n + (x 0).val) (x 1).val

end Cert.Proof.Tile
-- ==== Proof.Sweep.lean ====
/-
  One trip of a block's sweep: sixteen positions of the entry table, each entry's element gathered from the block's
  buffer, weighted, and stored at the entry. A trip takes the listed entries done before `min en (st + 16 k)` to those
  before `min en (st + 16 (k + 1))`.
-/
module

public import proofs.«01_k».proof.Proof.Base

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Lanes Cert.Proof.Order Cert.Proof.Words

variable {F : FTy → Type}

local notation "𝕄" => MT nD τ sig (HIx 1) (Elt F) ℕ UU ℕ

variable [FloatOps F]

/-! ## The trip -/

/-- The trip's table positions. -/
abbrev posV (st iv : BitVec 32) : IVec S16 32 := addi (broadcast S16 (Scalar.addi st (Scalar.muli iv 16#32))) lanes

/-- The entries a table word names, clamped as the kernel clamps them. -/
abbrev eidV (g : IVec S16 32) : IVec S16 32 := minsi (andi g (broadcast S16 2047#32)) (broadcast S16 1999#32)

abbrev halfV (e : IVec S16 32) : IVec S16 32 := shrsi e (broadcast S16 1#32)

abbrev rowV (e h : IVec S16 32) : IVec S16 32 := fun x => rowWord (e x) (h x)

/-- The body of a sweep's loop at table positions from `st` to `en`, over the block in `buf`. -/
def sweepTrip (i : grid0.Coords) (buf : Memref sig .scVector .vmem S64x512 .f32) (st en iv : BitVec 32) : TProg F i (BitVec 32) := do
  have q : IVec S16 32 := andi (posV st iv) (broadcast S16 2047#32)
  have h6 : k0_chk6 q := (← Prog.lift (TpuEff.assume (k0_chk6 q) (k0_chk6.dec q))).down
  let g : Vec F S16 .i32 ← SparseCore.vectorLoadIdx w12 ![q] (k0_idx7_inb q h6) (View.loads_vmem h_S2048)
  have e : IVec S16 32 := eidV g
  have h9 : k0_chk9 e := (← Prog.lift (TpuEff.assume (k0_chk9 e) (k0_chk9.dec e))).down
  have h7 : k0_chk7 (halfV e) := (← Prog.lift (TpuEff.assume (k0_chk7 (halfV e)) (k0_chk7.dec (halfV e)))).down
  let p : Vec F S16 .i32 ← SparseCore.vectorLoadIdx w7 ![halfV e] (k0_idx8_inb (halfV e) h7) (View.loads_vmem h_S1000)
  let mk : Vec F S16 .i32 ← SparseCore.vectorLoadIdx w8 ![halfV e] (k0_idx9_inb (halfV e) h7) (View.loads_vmem h_S1000)
  have r : IVec S16 32 := andi (rowV e p) (broadcast S16 63#32)
  have c : IVec S16 32 := andi p (broadcast S16 511#32)
  have h8 : k0_chk8 r c := (← Prog.lift (TpuEff.assume (k0_chk8 r c) (k0_chk8.dec r c))).down
  let y : Vec F S16 .f32 ← SparseCore.vectorLoadIdx buf ![r, c] (k0_idx10_inb r c h8) (View.loads_vmem h_S64x512)
  SparseCore.vectorStoreIdx w9 ![e] (mulf y (sitofp .f32 mk)) (cmpi .slt (posV st iv) (broadcast S16 en)) false (k0_idx11_inb e h9)
    (View.stores_vmem_bits_univ h_S2000 rfl)
  pure 0#32

/-! ## Its words -/

theorem posV_val (st iv : BitVec 32) (h : st.toNat + 16 * iv.toNat + 16 < 2 ^ 31) (x : S16.Idx) :
    (posV st iv x).toNat = st.toNat + 16 * iv.toNat + (x 0).val := by
  have hx : (x 0).val < 16 := (x 0).isLt
  have h1 : (IntOp.muli iv 16#32).toNat = iv.toNat * 16 := muli_val iv 16#32 (by show iv.toNat * 16 < _; omega)
  have h2 : (IntOp.addi st (IntOp.muli iv 16#32)).toNat = st.toNat + iv.toNat * 16 := by
    rw [addi_val _ _ (by rw [h1]; omega), h1]
  show (IntOp.addi (IntOp.addi st (IntOp.muli iv 16#32)) (lanes x)).toNat = _
  rw [addi_val _ _ (by rw [h2, lanes_val]; omega), h2, lanes_val]
  omega

theorem eidV_val (g : IVec S16 32) (x : S16.Idx) : (eidV g x).toNat = min ((g x).toNat % 2048) 1999 := by
  have h1 : (IntOp.andi (g x) 2047#32).toNat = (g x).toNat % 2048 := andi_val (g x) 2047#32 11 rfl
  show (IntOp.minsi (IntOp.andi (g x) 2047#32) 1999#32).toNat = _
  have e := BitVec.toInt_eq_toNat_cond (IntOp.andi (g x) 2047#32)
  rw [h1] at e
  rw [← h1]
  unfold IntOp.minsi
  have e2 : (1999#32 : BitVec 32).toInt = 1999 := by decide
  have e3 : (1999#32 : BitVec 32).toNat = 1999 := by decide
  split
  · rename_i hh
    rw [BitVec.slt_iff_toInt_lt] at hh
    rw [h1]
    split at e <;> omega
  · rename_i hh
    rw [BitVec.slt_iff_toInt_lt] at hh
    rw [h1, e3]
    split at e <;> omega

theorem eidV_lt (g : IVec S16 32) (x : S16.Idx) : (eidV g x).toNat < 2000 := by
  rw [eidV_val]; omega

/-- A gather from a rank-1 buffer, lane by lane. -/
theorem loadIdx1 {n : ℕ} (hn : 0 < n) {e : EltTy} (f : Vec F ⟨1, ![n]⟩ e) (v : IVec S16 32)
    (h : ∀ a x, ((![v] : Fin 1 → IVec S16 32) a x).toNat < (⟨1, ![n]⟩ : Shape).size a) (x : S16.Idx) :
    loadIdx f ![v] h x = f (at1 n (v x).toNat hn) := by
  refine congrArg f (funext fun a => ?_)
  obtain rfl : a = 0 := Subsingleton.elim _ _
  have h0 : (v x).toNat < n := h 0 x
  exact Fin.ext (Nat.mod_eq_of_lt h0).symm

theorem at1_mod {n k : ℕ} (hn : 0 < n) : at1 n (k % n) hn = at1 n k hn :=
  congrArg ix1 (Fin.ext (Nat.mod_mod _ _))

/-- An index vector below the extent names indices of a rank-1 buffer. -/
theorem inb1 {n : ℕ} {v : IVec S16 32} (hv : ∀ x, (v x).toNat < n) :
    ∀ a x, ((![v] : Fin 1 → IVec S16 32) a x).toNat < (⟨1, ![n]⟩ : Shape).size a := by
  intro a x
  obtain rfl : a = 0 := Subsingleton.elim _ _
  exact hv x

/-- Two index vectors below the two extents name indices of the block's buffer. -/
theorem inb2 {r c : IVec S16 32} (hr : ∀ x, (r x).toNat < 64) (hc : ∀ x, (c x).toNat < 512) :
    ∀ a x, ((![r, c] : Fin 2 → IVec S16 32) a x).toNat < S64x512.size a := by
  intro a x
  match a with
  | 0 => exact hr x
  | 1 => exact hc x

/-- Two rank-1 indices are one if their numbers are. -/
theorem at1_val {n k : ℕ} (hn : 0 < n) (hk : k < n) (a : Fin 1) : (at1 n k hn a).val = k := by
  obtain rfl : a = 0 := Subsingleton.elim _ _
  exact Nat.mod_eq_of_lt hk

section Value

variable {A : Vec F S64x2x512x512 .f32} {w n : ℕ} {fi fm : Vec F S1000 .i32} {g12 : Vec F S2048 .i32}

/-- What a trip's store leaves: the listed entries before position `en` and `t + 16` are done, if those before `en` and `t`
    were, each set lane naming the entry listed at its position and storing that entry's result. -/
theorem trip_done {en t : ℕ} {g9 : Vec F S2000 .f32} (hD : Done A w fi fm (min en t) g9) (e : IVec S16 32) (v : Vec F S16 .f32)
    (mask : IVec S16 1) (h : ∀ a x, ((![e] : Fin 1 → IVec S16 32) a x).toNat < S2000.size a)
    (hm : ∀ x : S16.Idx, mask x = 1 ↔ t + (x 0).val < en)
    (he : ∀ x : S16.Idx, t + (x 0).val < en → place (blk fi) 2000 (e x).toNat = t + (x 0).val)
    (hv : ∀ x : S16.Idx, t + (x 0).val < en → v x = entry A w fi fm (e x).toNat) :
    Done A w fi fm (min en (t + 16)) (storeIdx g9 ![e] v mask false h) := by
  intro j hj hlt
  have hlt' : ∀ x : S16.Idx, (e x).toNat < 2000 := fun x => h 0 x
  refine store_same (F := F) (s := S2000) g9 ![e] v mask h (at1 2000 j (by decide)) _ (fun x hx hja => ?_) ?_
  · have h0 : j = (e x).toNat := by
      have := hja 0
      rwa [at1_val (by decide) hj] at this
    rw [hv x ((hm x).mp hx), h0]
  · by_cases hc : place (blk fi) 2000 j < min en t
    · exact .inl (hD j hj hc)
    · right
      have h1 : place (blk fi) 2000 j - t < 16 := by omega
      refine ⟨ln ⟨place (blk fi) 2000 j - t, h1⟩, ?_, fun a => ?_⟩
      · rw [hm]
        show t + (place (blk fi) 2000 j - t) < en
        omega
      · rw [at1_val (by decide) hj]
        obtain rfl : a = 0 := Subsingleton.elim _ _
        refine place_inj (blk fi) 2000 hj (hlt' _) ?_
        refine Eq.trans ?_ (he (ln ⟨place (blk fi) 2000 j - t, h1⟩) (show t + (place (blk fi) 2000 j - t) < en by omega)).symm
        show place (blk fi) 2000 j = t + (place (blk fi) 2000 j - t)
        omega

variable (hI : ∀ x, (fi x).toNat < 2 ^ 18) (hL : Listed fi g12)

include hI hL in
/-- The entry a trip's lane names is the one listed at its position. -/
theorem eid_place {q : ℕ} (hq : q < 2000) (x : S16.Idx) (g : IVec S16 32) (hg : g x = g12 (at1 2048 q (by decide))) :
    place (blk fi) 2000 (eidV g x).toNat = q := by
  obtain ⟨e, he, hp⟩ := exists_place (blk fi) 2000 32 (fun e he => blk_lt fi hI e he) hq
  have h1 := hL e he
  rw [hp, ← hg] at h1
  have h2 : (eidV g x).toNat = e := by rw [eidV_val, h1]; omega
  rw [h2, hp]

include hI in
/-- The element gathered from the block's buffer is the one the entry names. -/
theorem elem_cell (e p r c : IVec S16 32) (x : S16.Idx) (he : (e x).toNat < 2000) (hp : p x = fi (at1 1000 ((e x).toNat / 2) (by decide)))
    (hr : r x = IntOp.andi (rowWord (e x) (p x)) 63#32) (hc : c x = IntOp.andi (p x) 511#32) (hb : blk fi (e x).toNat = n)
    (h : ∀ a x, ((![r, c] : Fin 2 → IVec S16 32) a x).toNat < S64x512.size a) :
    loadIdx (block A w n : Vec F S64x512 .f32) ![r, c] h x = cell A w (row fi (e x).toNat) (hw fi (e x).toNat) := by
  have hp' : (p x).toNat = hw fi (e x).toNat := by rw [hp]; rfl
  have h1 : (r x).toNat = row fi (e x).toNat % 64 := by
    rw [hr, andi_val _ 63#32 6 rfl, rowWord_val fi hI _ _ he hp']; rfl
  have h2 : (c x).toNat = hw fi (e x).toNat % 512 := by
    rw [hc, andi_val _ 511#32 9 rfl, hp']; rfl
  have h3 : 64 * n + (r x).toNat = row fi (e x).toNat := by
    rw [h1, ← hb]; unfold blk; omega
  show cell A w (64 * n + (r x).toNat) (c x).toNat = _
  rw [h3, h2]
  unfold cell
  simp only [Nat.mod_mod]

end Value

/-! ## The trip's run -/

/-- An assumed condition that holds. -/
theorem s_assume {c : Thread nD τ} {α : Type} {P : Prop} {dec : Decidable P} {k : PLift P → Prog (TpuEff nD τ sig (Elt F) Λ₀ c.2) α}
    {Q : α → sProp 𝕄} (h : P) :
    wp frame (wpE defs₀ 𝒱₀ c none) Set.univ (k ⟨h⟩) Q ⊢ wp frame (wpE defs₀ 𝒱₀ c none) Set.univ (Prog.lift (.assume P dec) >>= k) Q :=
  wp_assume 𝒱₀ c none Set.univ h

section Ops

variable {c : Thread nD τ} {s t : Shape} {e : EltTy} {α : Type}

/-- A gather from a buffer, at what the buffer reads. -/
theorem s_gather {base : Memref sig c.2.kind .vmem s e} {S : Finset (Idx ((base.access (.whole s)).loc c))} {q : PosShare TreeShare}
    {f : Buf (Elt F) ((base.access (.whole s)).loc c)} (hS : (base.access (.whole s)).set ⊆ S) (y : Vec F s e)
    (hy : (base.access (.whole s)).read (Elt F) f = y) {idxs : Fin s.rank → IVec t 32} {h : ∀ a x, (idxs a x).toNat < s.size a}
    {hl : base.view.Loads} {k : Vec F t e → Prog (TpuEff nD τ sig (Elt F) Λ₀ c.2) α} {Q : α → sProp 𝕄} :
    ((base.access (.whole s)).loc c ↦[S]{q} f)
      ⊢ iprop((((base.access (.whole s)).loc c ↦[S]{q} f) -∗ wp frame (wpE defs₀ 𝒱₀ c none) Set.univ (k (loadIdx y idxs h)) Q)
        -∗ wp frame (wpE defs₀ 𝒱₀ c none) Set.univ (SparseCore.vectorLoadIdx base idxs h hl >>= k) Q) := by
  rw [← hy]
  exact SparseCore.wp_vectorLoadIdx (defs := defs₀) (F := F) 𝒱₀ c none Set.univ hS

/-- A scatter to a buffer held whole, over what the buffer reads. -/
theorem s_scatter {base : Memref sig c.2.kind .vmem s e} {f : Buf (Elt F) ((base.access (.whole s)).loc c)}
    (hS : (base.access (.whole s)).set = Finset.univ) (y : Vec F s e) (hy : (base.access (.whole s)).read (Elt F) f = y)
    (W : Vec F s e → Buf (Elt F) ((base.access (.whole s)).loc c)) (hW : ∀ w, (base.access (.whole s)).write (Elt F) f w Finset.univ = W w)
    {d : Fin 1 → Nat} {idxs : Fin s.rank → IVec ⟨1, d⟩ 32} {v : Vec F ⟨1, d⟩ e} {mask : IVec ⟨1, d⟩ 1} {add : Bool}
    {h : ∀ a x, (idxs a x).toNat < s.size a} {hs : (base.access (.whole s)).Stores Finset.univ}
    {k : PUnit → Prog (TpuEff nD τ sig (Elt F) Λ₀ c.2) α} {Q : α → sProp 𝕄} :
    ((base.access (.whole s)).loc c ↦{fullShare} f)
      ⊢ iprop((((base.access (.whole s)).loc c ↦{fullShare} W (storeIdx y idxs v mask add h)) -∗ wp frame (wpE defs₀ 𝒱₀ c none) Set.univ (k ⟨⟩) Q)
        -∗ wp frame (wpE defs₀ 𝒱₀ c none) Set.univ (SparseCore.vectorStoreIdx base idxs v mask add h hs >>= k) Q) := by
  have h0 := SparseCore.wp_vectorStoreIdx (defs := defs₀) (F := F) 𝒱₀ c none Set.univ (base := base) (idxs := idxs) (v := v) (mask := mask) (add := add)
    (h := h) (hs := hs) (f := f) (k := k) (Q := Q)
  rw [hS, hW, hy] at h0
  exact h0

end Ops

/-- The block `n` held in a buffer. -/
def Held (c : Thread nD τ) (buf : Memref sig c.2.kind .vmem S64x512 .f32) (y : Vec F S64x512 .f32) : sProp 𝕄 :=
  iprop(∃ f, ⌜(buf.access (.whole S64x512)).read (Elt F) f = y⌝ ∗ ((buf.access (.whole S64x512)).loc c ↦[(buf.access (.whole S64x512)).set]{fullShare} f))

/-- What a sweep holds: the positions, the masks, the table of entries, the results done before position `n`, the block. -/
def Sw (d : Dev nD) (i : grid0.Coords) (A : Vec F S64x2x512x512 .f32) (fi fm : Vec F S1000 .i32) (g12 : Vec F S2048 .i32)
    (n : ℕ) (X : sProp 𝕄) : sProp 𝕄 :=
  iprop((w7.view.loc (thr d i) ↦{fullShare} fi) ∗ (w8.view.loc (thr d i) ↦{fullShare} fm) ∗ (w12.view.loc (thr d i) ↦{fullShare} g12)
    ∗ (∃ g9, ⌜Done A (wid i) fi fm n g9⌝ ∗ (w9.view.loc (thr d i) ↦{fullShare} g9)) ∗ X)

section Run

variable (d : Dev nD) (i : grid0.Coords) {A : Vec F S64x2x512x512 .f32} {fi fm : Vec F S1000 .i32} {g12 : Vec F S2048 .i32}
variable (hI : ∀ x, (fi x).toNat < 2 ^ 18) (hL : Listed fi g12)

include hI hL in
theorem wp_sweepTrip (buf : Memref sig .scVector .vmem S64x512 .f32) (n : ℕ) (hn : n < 32) (st en iv : BitVec 32)
    (hst : st.toNat = start (blk fi) 2000 n) (hen : en.toNat = start (blk fi) 2000 (n + 1)) (hiv : iv.toNat < 2 ^ 20) (X : sProp 𝕄) :
    Sw d i A fi fm g12 (min en.toNat (st.toNat + 16 * iv.toNat)) iprop(Held (thr d i) buf (block A (wid i) n) ∗ X)
      ⊢ wp frame (wpE defs₀ 𝒱₀ (thr d i) none) Set.univ (sweepTrip (F := F) i buf st en iv)
        (fun _ => Sw d i A fi fm g12 (min en.toNat (st.toNat + 16 * iv.toNat + 16)) iprop(Held (thr d i) buf (block A (wid i) n) ∗ X)) := by
  have hS : start (blk fi) 2000 (n + 1) ≤ 2000 := start_le (blk fi) 2000 32 (n + 1) (fun e he => blk_lt fi hI e he) hn
  have hS' : start (blk fi) 2000 n ≤ start (blk fi) 2000 (n + 1) := start_mono (blk fi) 2000 (Nat.le_succ n)
  have hpos := posV_val st iv (by omega)
  unfold sweepTrip Sw Held
  iintro ⟨H7, H8, H12, ⟨%g9, %hD, H9⟩, ⟨%fb, %hbf, HB⟩, HX⟩
  have c6 : k0_chk6 (andi (posV st iv) (broadcast S16 2047#32)) := inb1 fun x => by
    show (IntOp.andi (posV st iv x) 2047#32).toNat < 2048
    rw [andi_val _ 2047#32 11 rfl]; exact Nat.mod_lt _ (by decide)
  iapply (s_assume (c := thr d i) c6)
  iapply (s_gather (c := thr d i) (base := w12) (S := Finset.univ) (q := fullShare) (f := g12) (Finset.subset_univ _) g12
    (Memref.read_access_whole _ _ _)) $$ H12
  iintro H12
  have hq : ∀ x, (andi (posV st iv) (broadcast S16 2047#32) x).toNat = (st.toNat + 16 * iv.toNat + (x 0).val) % 2048 := fun x => by
    rw [← hpos]; exact andi_val _ 2047#32 11 rfl
  have i6 : ∀ a x, ((![andi (posV st iv) (broadcast S16 2047#32)] : Fin 1 → IVec S16 32) a x).toNat < S2048.size a := c6
  have hg : ∀ x, loadIdx g12 ![andi (posV st iv) (broadcast S16 2047#32)] i6 x
      = g12 (at1 2048 (st.toNat + 16 * iv.toNat + (x 0).val) (by decide)) := fun x => by
    refine (loadIdx1 (by decide) g12 _ i6 x).trans ?_
    rw [hq, at1_mod]
  generalize loadIdx g12 ![andi (posV st iv) (broadcast S16 2047#32)] _ = g at hg ⊢
  have he := eidV_lt g
  have c9 : k0_chk9 (eidV g) := inb1 he
  have hh : ∀ x, (halfV (eidV g) x).toNat = (eidV g x).toNat / 2 := fun x => half_val .vector _ (he x)
  have hh' : ∀ x, (halfV (eidV g) x).toNat < 1000 := fun x => by rw [hh]; have := he x; omega
  have i7 : ∀ a x, ((![halfV (eidV g)] : Fin 1 → IVec S16 32) a x).toNat < S1000.size a := inb1 hh'
  have c7 : k0_chk7 (halfV (eidV g)) := ⟨i7, i7⟩
  iapply (s_assume (c := thr d i) c9)
  iapply (s_assume (c := thr d i) c7)
  iapply (s_gather (c := thr d i) (base := w7) (S := Finset.univ) (q := fullShare) (f := fi) (Finset.subset_univ _) fi
    (Memref.read_access_whole _ _ _)) $$ H7
  iintro H7
  iapply (s_gather (c := thr d i) (base := w8) (S := Finset.univ) (q := fullShare) (f := fm) (Finset.subset_univ _) fm
    (Memref.read_access_whole _ _ _)) $$ H8
  iintro H8
  have hp : ∀ x, loadIdx fi ![halfV (eidV g)] i7 x = fi (at1 1000 ((eidV g x).toNat / 2) (by decide)) := fun x => by
    refine (loadIdx1 (by decide) fi _ i7 x).trans ?_
    rw [hh]
  have hmk : ∀ x, loadIdx fm ![halfV (eidV g)] i7 x = fm (at1 1000 ((eidV g x).toNat / 2) (by decide)) := fun x => by
    refine (loadIdx1 (by decide) fm _ i7 x).trans ?_
    rw [hh]
  generalize loadIdx fi ![halfV (eidV g)] _ = p at hp ⊢
  generalize loadIdx fm ![halfV (eidV g)] _ = mk at hmk ⊢
  have c8 : k0_chk8 (andi (rowV (eidV g) p) (broadcast S16 63#32)) (andi p (broadcast S16 511#32)) := inb2
    (fun x => by
      show (IntOp.andi (rowV (eidV g) p x) 63#32).toNat < 64
      rw [andi_val _ 63#32 6 rfl]; exact Nat.mod_lt _ (by decide))
    (fun x => by
      show (IntOp.andi (p x) 511#32).toNat < 512
      rw [andi_val _ 511#32 9 rfl]; exact Nat.mod_lt _ (by decide))
  have i8 : ∀ a x, ((![andi (rowV (eidV g) p) (broadcast S16 63#32), andi p (broadcast S16 511#32)] : Fin 2 → IVec S16 32) a x).toNat
      < S64x512.size a := c8
  iapply (s_assume (c := thr d i) c8)
  iapply (s_gather (c := thr d i) (base := buf) (q := fullShare) (f := fb) (Finset.Subset.refl _) _ hbf) $$ HB
  iintro HB
  iapply (s_scatter (c := thr d i) (base := w9) (f := g9) (Memref.set_access_whole _) g9 (Memref.read_access_whole _ _ _) (fun w => w)
    (fun w => Memref.write_access_whole_univ _ _ _ _)) $$ H9
  iintro H9
  rw [wp_pure]
  have hm : ∀ x : S16.Idx, cmpi .slt (posV st iv) (broadcast S16 en) x = 1 ↔ st.toNat + 16 * iv.toNat + (x 0).val < en.toNat := fun x => by
    rw [← hpos]
    have hx : (x 0).val < 16 := (x 0).isLt
    exact slt_iff (posV st iv x) en (by rw [hpos]; omega) (by omega)
  have hpl : ∀ x : S16.Idx, st.toNat + 16 * iv.toNat + (x 0).val < en.toNat →
      place (blk fi) 2000 (eidV g x).toNat = st.toNat + 16 * iv.toNat + (x 0).val := fun x hx =>
    eid_place hI hL (by omega) x g (hg x)
  have hb : ∀ x : S16.Idx, st.toNat + 16 * iv.toNat + (x 0).val < en.toNat →
      loadIdx (block A (wid i) n : Vec F S64x512 .f32) ![andi (rowV (eidV g) p) (broadcast S16 63#32), andi p (broadcast S16 511#32)] i8 x
        = cell A (wid i) (row fi (eidV g x).toNat) (hw fi (eidV g x).toNat) := fun x hx =>
    elem_cell hI (eidV g) p _ _ x (he x) (hp x) rfl rfl
      (block_of_place (blk fi) 2000 _ n (he x) (by rw [hpl x hx]; omega) (by rw [hpl x hx]; omega)) i8
  generalize loadIdx (block A (wid i) n) ![andi (rowV (eidV g) p) (broadcast S16 63#32), andi p (broadcast S16 511#32)] _ = y at hb ⊢
  have hv := trip_done hD (eidV g) (mulf y (sitofp .f32 mk)) (cmpi .slt (posV st iv) (broadcast S16 en)) c9 hm hpl fun x hx => by
    show FloatOps.mulf (y x) (FloatOps.sitofp .f32 (mk x)) = _
    rw [hb x hx, hmk]
    rfl
  imodintro
  isplitl [H7]; · iexact H7
  isplitl [H8]; · iexact H8
  isplitl [H12]; · iexact H12
  isplitl [H9]
  · iexists _
    isplitr; · ipureintro; exact hv
    iexact H9
  isplitl [HB]
  · iexists _
    isplitr; · ipureintro; exact hbf
    iexact HB
  iexact HX

end Run

end Cert.Proof.Tile
-- ==== Proof.SweepLoop.lean ====
/-
  A block's sweep: the counted loop over its stretch of the entry table, sixteen positions a trip, and the loop of no trips
  that follows it.
-/
module

public import proofs.«01_k».proof.Proof.Sweep
public import Idealize.ShloMosaic.Lib.LoopRemainder

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Lanes Cert.Proof.Order Cert.Proof.Words

variable {F : FTy → Type}

local notation "𝕄" => MT nD τ sig (HIx 1) (Elt F) ℕ UU ℕ

/-! ## The loops' bounds -/

/-- The sweep's number of trips, as the kernel computes it. -/
abbrev swX (st en : BitVec 32) : BitVec 32 := Scalar.subi (Scalar.shrsi (Scalar.addi (Scalar.subi en st) 15#32) 4#32) 0#32
abbrev swN (st en : BitVec 32) : BitVec 32 := Scalar.addi 0#32 (Scalar.muli (Scalar.divsi (swX st en) 1#32) 1#32)
abbrev swM (st en : BitVec 32) : BitVec 32 := Scalar.addi 0#32 (swX st en)

variable {st en : BitVec 32} (hle : st.toNat ≤ en.toNat) (hen : en.toNat ≤ 2000)

include hle hen in
theorem swX_val : (swX st en).toNat = (en.toNat - st.toNat + 15) / 16 := by
  have h1 : (IntOp.subi en st).toNat = en.toNat - st.toNat := subi_val en st hle
  have h2 : (IntOp.addi (IntOp.subi en st) 15#32).toNat = en.toNat - st.toNat + 15 := by
    rw [addi_val _ _ (by rw [h1]; show _ + 15 < _; omega), h1]; rfl
  have h3 : (IntOp.shrsi .scalar (IntOp.addi (IntOp.subi en st) 15#32) 4#32).toNat = (en.toNat - st.toNat + 15) / 16 := by
    rw [shrsi_val .scalar _ 4#32 (by rw [h2]; omega) (by decide), h2]; rfl
  show (IntOp.subi (IntOp.shrsi .scalar (IntOp.addi (IntOp.subi en st) 15#32) 4#32) 0#32).toNat = _
  rw [subi_val _ _ (Nat.zero_le _), h3]; rfl

theorem swM_eq : swM st en = swX st en := by
  show 0#32 + swX st en = _
  exact BitVec.zero_add _

theorem swN_eq : swN st en = swX st en := by
  unfold swN
  rw [Scalar.muli_divsi_one]
  exact swM_eq

include hle hen in
theorem swN_trips : Scf.trips 0#32 (swN st en) 1#32 = (en.toNat - st.toNat + 15) / 16 := by
  rw [swN_eq]
  have h := swX_val hle hen
  have e := BitVec.toInt_eq_toNat_cond (swX st en)
  unfold Scf.trips
  rw [show (0#32 : BitVec 32).toInt = 0 by decide, show (1#32 : BitVec 32).toInt = 1 by decide]
  split at e <;> omega

include hle hen in
theorem sw_ok : Scf.OK 0#32 (swN st en) 1#32 ∧ Scf.OK (swN st en) (swM st en) 1#32 := by
  refine ⟨⟨by decide, ?_⟩, Scf.rem_ok _ _⟩
  rw [swN_trips hle hen, show (0#32 : BitVec 32).toInt = 0 by decide, show (1#32 : BitVec 32).toInt = 1 by decide]
  omega

/-! ## The loops -/

variable [FloatOps F]

section Run

variable (d : Dev nD) (i : grid0.Coords) {A : Vec F S64x2x512x512 .f32} {fi fm : Vec F S1000 .i32} {g12 : Vec F S2048 .i32}
variable (hI : ∀ x, (fi x).toNat < 2 ^ 18) (hL : Listed fi g12)

omit [FloatOps F] in
theorem start_le_2000 (hI : ∀ x, (fi x).toNat < 2 ^ 18) {n : ℕ} (hn : n ≤ 32) : start (blk fi) 2000 n ≤ 2000 :=
  start_le (blk fi) 2000 32 n (fun e he => blk_lt fi hI e he) hn

include hI hL in
/-- A sweep's loop takes the entries done before block `n`'s stretch of the table to those done before its end. -/
theorem s_sweep {α : Type} (buf : Memref sig .scVector .vmem S64x512 .f32) (n : ℕ) (hn : n < 32) {st en : BitVec 32}
    (hst : st.toNat = start (blk fi) 2000 n) (hen : en.toNat = start (blk fi) 2000 (n + 1)) (hok : Scf.OK 0#32 (swN st en) 1#32)
    (init : BitVec 32) (body : Fin (Scf.trips 0#32 (swN st en) 1#32) → BitVec 32 → TProg F i (BitVec 32))
    (hbody : body = fun k _ => sweepTrip (F := F) i buf st en (Scf.iv 0#32 1#32 k.val))
    {kk : BitVec 32 → TProg F i α} {Q : α → sProp 𝕄} (X : sProp 𝕄)
    (hk : ∀ a, Sw d i A fi fm g12 (start (blk fi) 2000 (n + 1)) iprop(Held (thr d i) buf (block A (wid i) n) ∗ X)
      ⊢ wp frame (wpE defs₀ 𝒱₀ (thr d i) none) Set.univ (kk a) Q) :
    Sw d i A fi fm g12 (start (blk fi) 2000 n) iprop(Held (thr d i) buf (block A (wid i) n) ∗ X)
      ⊢ wp frame (wpE defs₀ 𝒱₀ (thr d i) none) Set.univ (Scf.for 0#32 (swN st en) 1#32 hok init body >>= kk) Q := by
  subst hbody
  have hle : st.toNat ≤ en.toNat := by rw [hst, hen]; exact start_mono (blk fi) 2000 (Nat.le_succ n)
  have h2000 : en.toNat ≤ 2000 := by rw [hen]; exact start_le_2000 hI hn
  have htr := swN_trips hle h2000
  have h := Scf.wp_for_bind frame (wpE defs₀ 𝒱₀ (thr d i) none) Set.univ 0#32 (swN st en) 1#32 hok init
    (fun k _ => sweepTrip (F := F) i buf st en (Scf.iv 0#32 1#32 k.val))
    (fun k _ => Sw d i A fi fm g12 (min en.toNat (st.toNat + 16 * k)) iprop(Held (thr d i) buf (block A (wid i) n) ∗ X)) (fun k _ => by
      have hk := k.isLt
      have hiv : (Scf.iv 0#32 1#32 k.val).toNat = k.val := WordArith.toNat_iv_zero_one k.val (by omega)
      have h := wp_sweepTrip d i (A := A) (fm := fm) hI hL buf n hn st en (Scf.iv 0#32 1#32 k.val) hst hen (by rw [hiv]; omega) X
      rw [hiv] at h
      exact h) (kk := kk) (Q := Q)
  rw [show min en.toNat (st.toNat + 16 * 0) = start (blk fi) 2000 n by omega,
    show min en.toNat (st.toNat + 16 * Scf.trips 0#32 (swN st en) 1#32) = start (blk fi) 2000 (n + 1) by omega] at h
  iintro H
  iapply h $$ H
  iintro %a H
  iapply (hk a)
  iexact H

end Run

section Rest

/-- A loop of no trips is passed over. -/
theorem s_rest {c : Thread nD τ} {σ α : Type} {st en : BitVec 32} (hok : Scf.OK (swN st en) (swM st en) 1#32) (init : σ)
    (body : Fin (Scf.trips (swN st en) (swM st en) 1#32) → σ → Prog (TpuEff nD τ sig (Elt F) Λ₀ c.2) σ)
    {kk : σ → Prog (TpuEff nD τ sig (Elt F) Λ₀ c.2) α} {Q : α → sProp 𝕄} {R : sProp 𝕄}
    (hk : R ⊢ wp frame (wpE defs₀ 𝒱₀ c none) Set.univ (kk init) Q) :
    R ⊢ wp frame (wpE defs₀ 𝒱₀ c none) Set.univ (Scf.for (swN st en) (swM st en) 1#32 hok init body >>= kk) Q := by
  rw [Scf.for_eq_ret _ _ _ hok init body (Scf.rem_trips 0#32 (swX st en))]
  exact hk

end Rest

end Cert.Proof.Tile
-- ==== Proof.Pass.lean ====
/-
  A pass of a tile: the wait for the pass's block of rows, the start of the next block's copy into the other buffer, and the
  sweep over the pass's stretch of the table of entries.
-/
module

public import proofs.«01_k».proof.Proof.SweepLoop
public import Idealize.ShloMosaic.Lib.Transfers
public import Idealize.ShloMosaic.Lib.Pipeline.ValueKit.Geometry

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

/-! ## Blocks of rows -/

/-- The sixty-four rows of the table of rows that start at `off 0`. -/
abbrev rows64 (off : Fin 2 → ℕ) (inb : ∀ a, off a + S64x512.size a ≤ S65536x512.size a) : Memref sig .scVector .hbm S64x512 .f32 :=
  rowsOf.slice (Rect.unit (s := S65536x512) off S64x512.size inb) (fun _ => rfl)

omit [FloatOps F] in
/-- The rows from `2048 · w + 64 · n` on, read out of the whole array, are tile `w`'s block `n`. -/
theorem rows64_read (A : Vec F S64x2x512x512 .f32) (w n : ℕ) (hw : w < 32) (hn : n < 32) (off : Fin 2 → ℕ)
    (inb : ∀ a, off a + S64x512.size a ≤ S65536x512.size a) (h0 : off 0 = 2048 * w + 64 * n) (h1 : off 1 = 0) :
    (rows64 off inb).view.read (Elt F) A = block A w n := by
  funext x
  have hx0 : (x 0).val < 64 := (x 0).isLt
  have hx1 : (x 1).val < 512 := (x 1).isLt
  show rowsOf.view.read (Elt F) A ((Rect.unit (s := S65536x512) off S64x512.size inb).emb x) = cell A w (64 * n + (x 0).val) (x 1).val
  refine congrArg (rowsOf.view.read (Elt F) A) (funext fun a => Fin.ext ?_)
  rw [ValueKit.rect_emb_unit_val]
  fin_cases a
  · show off 0 + (x 0).val = (2048 * w + (64 * n + (x 0).val)) % 65536
    rw [h0]; omega
  · show off 1 + (x 1).val = (x 1).val % 512
    rw [h1]; omega

omit [FloatOps F] in
/-- Read through the rectangle of all its elements, a memref reads what it reads. -/
theorem read_access_all {κ : Kind} {sp : Space} {s : Shape} {e : EltTy} (m : Memref sig κ sp s e) (f : m.view.ty.Contents (Elt F)) :
    (m.access (.whole s)).read (Elt F) f = m.view.read (Elt F) f := by
  funext x
  show _root_.cast _ (f (m.view.emb ((Rect.whole s).emb x))) = _root_.cast _ (f (m.view.emb x))
  rw [Rect.emb_whole_apply]

/-- The tile's number, as the kernel computes it. -/
abbrev widWord (i : grid0.Coords) : BitVec 32 := Scalar.addi (Scalar.muli (BitVec.ofNat 32 (i 0).val) 16#32) (BitVec.ofNat 32 (i 1).val)

theorem widWord_val (i : grid0.Coords) : (widWord i).toNat = wid i := by
  have h0 : (i 0).val < 2 := (i 0).isLt
  have h1 : (i 1).val < 16 := (i 1).isLt
  show (IntOp.addi (IntOp.muli (BitVec.ofNat 32 (i 0).val) 16#32) (BitVec.ofNat 32 (i 1).val)).toNat = _
  have e0 : (BitVec.ofNat 32 (i 0).val).toNat = (i 0).val := by rw [BitVec.toNat_ofNat]; omega
  have e1 : (BitVec.ofNat 32 (i 1).val).toNat = (i 1).val := by rw [BitVec.toNat_ofNat]; omega
  have em : (IntOp.muli (BitVec.ofNat 32 (i 0).val) 16#32).toNat = (i 0).val * 16 := by
    rw [muli_val _ _ (by rw [e0]; show _ * 16 < _; omega), e0]; rfl
  rw [addi_val _ _ (by rw [em, e1]; omega), em, e1]

theorem rowsAt (i : grid0.Coords) {n : ℕ} {c : BitVec 32} (hc : c.toNat = 64 * n) (hn : n < 32) :
    (Scalar.addi (Scalar.muli (widWord i) 2048#32) c).toNat = 2048 * wid i + 64 * n := by
  have hw := wid_lt i
  have em : (IntOp.muli (widWord i) 2048#32).toNat = wid i * 2048 := by
    rw [muli_val _ _ (by rw [widWord_val]; show _ * 2048 < _; omega), widWord_val]; rfl
  show (IntOp.addi (IntOp.muli (widWord i) 2048#32) c).toNat = _
  rw [addi_val _ _ (by rw [em, hc]; omega), em, hc]; omega

/-! ## The stretches' ends -/

/-- Sixteen lanes hold the starts of the stretches of blocks `lo`, `lo + 1`, …. -/
def Starts (fi : Vec F S1000 .i32) (lo : ℕ) (v : IVec S16 32) : Prop := ∀ k : Fin 16, (v (ln k)).toNat = start (blk fi) 2000 (lo + k.val)

omit [FloatOps F] in
/-- A lane taken out of them is the start of its block's stretch. -/
theorem Starts.at {fi : Vec F S1000 .i32} {lo : ℕ} {v : IVec S16 32} (h : Starts fi lo v) (n : ℕ) (hn : n < 16) {hs hp} :
    (extractAt ![0] (extractStridedSlice S1 ![n] v hs) hp : BitVec 32).toNat = start (blk fi) 2000 (lo + n) := by
  refine Eq.trans ?_ (h ⟨n, hn⟩)
  exact congrArg (fun x => (v x).toNat) (lane_ext rfl)

/-! ## What a pass holds -/

section States

variable (d : Dev nD) (i : grid0.Coords) (A : Vec F S64x2x512x512 .f32) (q : PosShare TreeShare)

/-- The whole input array, at a share. -/
def Home : sProp 𝕄 := (w2.view.loc (thr d i) ↦{q} A)

/-- Block `n` is on its way into `buf`, on `sm`. -/
def Fly (sm : DmaSem sig) (buf : Memref sig .scVector .vmem S64x512 .f32) (n : ℕ) : sProp 𝕄 :=
  iprop(∃ S, Flight EC (thr d i) (.dma sm) none buf.view.dmaCredit
      iprop(Held (thr d i) buf (block A (wid i) n) ∗ (w2.view.loc (thr d i) ↦[S]{q} A)) ∗ (w2.view.loc (thr d i) ↦[Finset.univ \ S]{q} A))

/-- The tile may wait on its own copies, and what it owes. -/
def Owed (O : CellTallies nD τ sig (HIx 1)) (W : Waits sig (HIx 1)) : sProp 𝕄 :=
  iprop(MayWaits (thr d i) none O ∗ ∃ W', ⌜∀ p ∈ W', p ∈ W ∨ p.2 = none⌝ ∗ owes (thr d i) O W')

variable (fi fm : Vec F S1000 .i32) (g12 : Vec F S2048 .i32) (O : CellTallies nD τ sig (HIx 1)) (W : Waits sig (HIx 1)) (K : ℕ)

/-- A block is held, and the next one is on its way into the other buffer. -/
abbrev SF (sA : DmaSem sig) (bA : Memref sig .scVector .vmem S64x512 .f32) (y : Vec F S64x512 .f32)
    (sB : DmaSem sig) (bB : Memref sig .scVector .vmem S64x512 .f32) (n : ℕ) (Y : sProp 𝕄) : sProp 𝕄 :=
  Sw d i A fi fm g12 K iprop(Held (thr d i) bA y ∗ (semVal (thr d i, .dma sA) 0 ∗ Fly d i A q sB bB n ∗ Owed d i O W ∗ Y))

/-- A block is held, and nothing is on its way. -/
abbrev SH (sA : DmaSem sig) (bA : Memref sig .scVector .vmem S64x512 .f32) (y : Vec F S64x512 .f32)
    (sB : DmaSem sig) (bB : Memref sig .scVector .vmem S64x512 .f32) (Y : sProp 𝕄) : sProp 𝕄 :=
  Sw d i A fi fm g12 K iprop(Held (thr d i) bA y ∗ (semVal (thr d i, .dma sA) 0 ∗ Home d i A q ∗ Owed d i O W
    ∗ (semVal (thr d i, .dma sB) 0 ∗ (∃ z, Held (thr d i) bB z) ∗ Y)))

end States

/-! ## The steps -/

section Steps

variable (d : Dev nD) (i : grid0.Coords) {A : Vec F S64x2x512x512 .f32} {q : PosShare TreeShare}
variable {fi fm : Vec F S1000 .i32} {g12 : Vec F S2048 .i32} {O : CellTallies nD τ sig (HIx 1)} {W : Waits sig (HIx 1)} {K : ℕ}

/-- A wait on one of the tile's own copies. -/
theorem s_wait_own {α : Type} {sp sp' : Space} {s s' : Shape} {e e' : EltTy} {sem : DmaSem sig} {srcw : Memref sig .scVector sp' s' e'}
    {dstw : Memref sig .scVector sp s e} {hs : srcw.view.WordExact} {hd : dstw.view.WordExact} {D : sProp 𝕄}
    {k : PUnit → TProg F i α} {Q : α → sProp 𝕄} :
    iprop(Flight EC (thr d i) (.dma sem) none dstw.view.dmaCredit D ∗ Owed d i O W)
      ⊢ iprop((iprop(D ∗ semVal (thr d i, .dma sem) 0 ∗ Owed d i O W) -∗ wp frame (wpE defs₀ 𝒱₀ (thr d i) none) Set.univ (k ⟨⟩) Q)
          -∗ wp frame (wpE defs₀ 𝒱₀ (thr d i) none) Set.univ (Prog.lift (.waitDma2 sem srcw dstw hs hd) >>= k) Q) := by
  unfold Owed
  iintro ⟨HF, #HM, %W', %hW, HO⟩ Hk
  ihave Hm := Transfers.MayWaits.elim (.dma sem) $$ HM
  iapply (Transfers.wp_waitLocalO EC 𝒱₀ (thr d i) none none rfl) $$ [HF HO Hm]
  · isplitl [HF]; · iexact HF
    isplitl [HO]; · iexact HO
    iexact Hm
  iintro ⟨HD, Hv, HO⟩
  iapply Hk
  isplitl [HD]; · iexact HD
  isplitl [Hv]; · iexact Hv
  isplitr; · iexact HM
  iexists _
  isplitr
  swap
  · iexact HO
  · ipureintro
    intro p hp
    rcases Finset.mem_insert.1 hp with rfl | hp
    · exact .inr rfl
    · exact hW p hp

/-- The wait for a pass's block. -/
theorem s_wait {α : Type} {sA : DmaSem sig} {bA : Memref sig .scVector .vmem S64x512 .f32} {y : Vec F S64x512 .f32}
    {sB : DmaSem sig} {bB : Memref sig .scVector .vmem S64x512 .f32} {n : ℕ} {Y : sProp 𝕄}
    {sp' : Space} {s' : Shape} {e' : EltTy} {srcw : Memref sig .scVector sp' s' e'}
    {hs : srcw.view.WordExact} {hd : bB.view.WordExact}
    {k : PUnit → TProg F i α} {Q : α → sProp 𝕄}
    (hk : SH d i A q fi fm g12 O W K sB bB (block A (wid i) n) sA bA Y ⊢ wp frame (wpE defs₀ 𝒱₀ (thr d i) none) Set.univ (k ⟨⟩) Q) :
    SF d i A q fi fm g12 O W K sA bA y sB bB n Y
      ⊢ wp frame (wpE defs₀ 𝒱₀ (thr d i) none) Set.univ (Prog.lift (.waitDma2 sB srcw bB hs hd) >>= k) Q := by
  unfold SF SH Sw Home at *
  unfold Fly
  iintro ⟨H7, H8, H12, H9, HA, HvA, ⟨%S, HF, HR⟩, HO, HY⟩
  iapply (s_wait_own d i) $$ [HF HO]
  · isplitl [HF]; · iexact HF
    iexact HO
  iintro ⟨⟨HB, HS⟩, HvB, HO⟩
  iapply hk
  isplitl [H7]; · iexact H7
  isplitl [H8]; · iexact H8
  isplitl [H12]; · iexact H12
  isplitl [H9]; · iexact H9
  isplitl [HB]; · iexact HB
  isplitl [HvB]; · iexact HvB
  isplitl [HS HR]
  · iapply (pointsTo_split_subset (Finset.subset_univ S)).2
    isplitl [HS] <;> iassumption
  isplitl [HO]; · iexact HO
  isplitl [HvA]; · iexact HvA
  isplitl [HA]
  · iexists y; iexact HA
  iexact HY

/-- The start of the next block's copy. -/
theorem s_enq {α : Type} {sA : DmaSem sig} {bA : Memref sig .scVector .vmem S64x512 .f32} {y : Vec F S64x512 .f32}
    {sB : DmaSem sig} {bB : Memref sig .scVector .vmem S64x512 .f32} (n : ℕ) (hn : n < 32) {Y : sProp 𝕄}
    {off : Fin 2 → ℕ} {inb : ∀ a, off a + S64x512.size a ≤ S65536x512.size a} (h0 : off 0 = 2048 * wid i + 64 * n) (h1 : off 1 = 0)
    {hs : (rows64 off inb).view.WordExact} {hd : bB.view.WordExact} {hsem : DmaTarget.Typed (nD := nD) .hbm (.dma sB) (.here (p := (thr d i).2) bB)}
    {k : PUnit → TProg F i α} {Q : α → sProp 𝕄}
    (hk : SF d i A q fi fm g12 O W K sA bA y sB bB n Y ⊢ wp frame (wpE defs₀ 𝒱₀ (thr d i) none) Set.univ (k ⟨⟩) Q) :
    SH d i A q fi fm g12 O W K sA bA y sB bB Y
      ⊢ wp frame (wpE defs₀ 𝒱₀ (thr d i) none) Set.univ
          (Prog.lift (.enqueueDma (rows64 off inb) (.here bB) (.dma sB) hs hd hsem) >>= k) Q := by
  have hS : (bB.access (.whole S64x512)).set = bB.view.set := by
    show (bB.view.slice (.whole S64x512)).set = _
    rw [View.set_slice, Rect.set_whole]; rfl
  have hR := rows64_read A (wid i) n (wid_lt i) hn off inb h0 h1
  unfold SF SH Sw Home Held at *
  iintro ⟨H7, H8, H12, H9, HA, HvA, HH, HO, HvB, ⟨%z, %fb, %hfb, HB⟩, HY⟩
  ihave ⟨Hs, HR⟩ := (pointsTo_split_subset (Finset.subset_univ (rows64 off inb).view.set)).1 $$ HH
  iapply (Transfers.wp_dmaLocal EC 𝒱₀ (thr d i) none none (bB.view.dmaCredit) rfl (View.dmaCredit_pos _ (by decide))
    (src := rows64 off inb) (dst := bB) (Sd := (bB.access (.whole S64x512)).set) (fd := fb) hS.ge) $$ [Hs HB HvB]
  · isplitl [Hs]; · iexact Hs
    isplitl [HB]; · iexact HB
    iexact HvB
  iintro HF
  iapply hk
  isplitl [H7]; · iexact H7
  isplitl [H8]; · iexact H8
  isplitl [H12]; · iexact H12
  isplitl [H9]; · iexact H9
  isplitl [HA]; · iexact HA
  isplitl [HvA]; · iexact HvA
  isplitl [HF HR]
  · unfold Fly Held
    iexists (rows64 off inb).view.set
    isplitl [HF]
    swap
    · iexact HR
    iapply (Transfers.Flight_mono EC (thr d i) (D' := iprop(_ ∗ _)) ?_) $$ HF
    iintro ⟨HB, HS⟩
    isplitl [HB]
    swap
    · iexact HS
    iexists _
    isplitr
    swap
    · iexact HB
    · ipureintro
      rw [← hR]
      exact (read_access_all bB _).trans (View.read_write_univ _ _)
  isplitl [HO]; · iexact HO
  iexact HY

/-- The start of the next block's copy, at the offset the kernel computes. -/
theorem s_enqAt {α : Type} {sA : DmaSem sig} {bA : Memref sig .scVector .vmem S64x512 .f32} {y : Vec F S64x512 .f32}
    {sB : DmaSem sig} {bB : Memref sig .scVector .vmem S64x512 .f32} (n : ℕ) (hn : n < 32) {Y : sProp 𝕄}
    {off : Fin 2 → ℕ} {inb : ∀ a, off a + S64x512.size a ≤ S65536x512.size a} {c : BitVec 32} (hc : c.toNat = 64 * n)
    (ho : off = ![(Scalar.addi (Scalar.muli (widWord i) 2048#32) c).toNat, 0])
    {hs : (rows64 off inb).view.WordExact} {hd : bB.view.WordExact} {hsem : DmaTarget.Typed (nD := nD) .hbm (.dma sB) (.here (p := (thr d i).2) bB)}
    {k : PUnit → TProg F i α} {Q : α → sProp 𝕄}
    (hk : SF d i A q fi fm g12 O W K sA bA y sB bB n Y ⊢ wp frame (wpE defs₀ 𝒱₀ (thr d i) none) Set.univ (k ⟨⟩) Q) :
    SH d i A q fi fm g12 O W K sA bA y sB bB Y
      ⊢ wp frame (wpE defs₀ 𝒱₀ (thr d i) none) Set.univ
          (Prog.lift (.enqueueDma (rows64 off inb) (.here bB) (.dma sB) hs hd hsem) >>= k) Q :=
  s_enq d i n hn (by rw [ho]; exact rowsAt i hc hn) (by rw [ho]; rfl) hk

/-- The test before a sweep holds of its stretch's ends. -/
theorem sw_chk (hI : ∀ x, (fi x).toNat < 2 ^ 18) (n : ℕ) (hn : n < 32) {st en : BitVec 32}
    (hst : st.toNat = start (blk fi) 2000 n) (hen : en.toNat = start (blk fi) 2000 (n + 1)) :
    Scf.OK 0#32 (swN st en) 1#32 ∧ Scf.OK (swN st en) (swM st en) 1#32 :=
  sw_ok (by rw [hst, hen]; exact start_mono (blk fi) 2000 (Nat.le_succ n)) (by rw [hen]; exact start_le_2000 hI hn)

/-- A test that holds is passed. -/
theorem s_check {c : Thread nD τ} {α : Type} {P : Prop} {dec : Decidable P} {k : PLift P → Prog (TpuEff nD τ sig (Elt F) Λ₀ c.2) α}
    {R : sProp 𝕄} {Q : α → sProp 𝕄} (h : P) (hk : R ⊢ wp frame (wpE defs₀ 𝒱₀ c none) Set.univ (k ⟨h⟩) Q) :
    R ⊢ wp frame (wpE defs₀ 𝒱₀ c none) Set.univ (Prog.lift (.assume P dec) >>= k) Q :=
  hk.trans (s_assume h)

/-- A program that ends at once, with a fact of what it returns. -/
theorem s_ret {c : Thread nD τ} {α : Type} {r : α} {φ : α → Prop} {R : sProp 𝕄} (h : φ r) :
    R ⊢ wp frame (wpE defs₀ 𝒱₀ c none) Set.univ (Pure.pure r : Prog (TpuEff nD τ sig (Elt F) Λ₀ c.2) α) (fun x => iprop(⌜φ x⌝ ∗ R)) := by
  rw [wp_pure]
  iintro H
  imodintro
  isplitr
  · ipureintro; exact h
  · iexact H

/-- A part of a program, then the rest at what the part is known to return. -/
theorem s_part {c : Thread nD τ} {α β : Type} {p : Prog (TpuEff nD τ sig (Elt F) Λ₀ c.2) α} {k : α → Prog (TpuEff nD τ sig (Elt F) Λ₀ c.2) β}
    {φ : α → Prop} {R R' : sProp 𝕄} {Q : β → sProp 𝕄}
    (hp : R ⊢ wp frame (wpE defs₀ 𝒱₀ c none) Set.univ p (fun x => iprop(⌜φ x⌝ ∗ R')))
    (hk : ∀ x, φ x → R' ⊢ wp frame (wpE defs₀ 𝒱₀ c none) Set.univ (k x) Q) :
    R ⊢ wp frame (wpE defs₀ 𝒱₀ c none) Set.univ (p >>= k) Q := by
  rw [wp_bind]
  refine hp.trans (wp_mono _ _ _ fun x => ?_)
  iintro ⟨%h, H⟩
  iapply (hk x h)
  iexact H

end Steps

end Cert.Proof.Tile
-- ==== Proof.Build.lean ====
/-
  A tile's first loop: each entry's block number and mask, and how many entries each block has.
-/
module

public import proofs.«01_k».proof.Proof.Pass

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

/-! ## Sixteen elements of a rank-1 buffer -/

section Sixteen

variable {n : ℕ} (hn : 0 < n) {κ : Kind} {sp : Space} {e : EltTy} (m : Memref sig κ sp ⟨1, ![n]⟩ e)
variable (off : Fin 1 → ℕ) (inb : ∀ a, off a + S16.size a ≤ (⟨1, ![n]⟩ : Shape).size a)

/-- The sixteen elements from `off 0` on. -/
abbrev sixteen (off : Fin 1 → ℕ) (inb : ∀ a, off a + S16.size a ≤ (⟨1, ![n]⟩ : Shape).size a) : Rect ⟨1, ![n]⟩ :=
  Rect.unit (s := ⟨1, ![n]⟩) off S16.size inb

omit [FloatOps F] in
theorem sixteen_emb (x : S16.Idx) : (sixteen off inb).emb x = at1 n (off 0 + (x 0).val) hn := by
  funext a
  obtain rfl : a = 0 := Subsingleton.elim _ _
  refine Fin.ext ((ValueKit.rect_emb_unit_val _ _ _ _ _).trans ?_)
  have h0 : off 0 + 16 ≤ n := inb 0
  have hx : (x 0).val < 16 := (x 0).isLt
  show off 0 + (x 0).val = (off 0 + (x 0).val) % n
  rw [Nat.mod_eq_of_lt (by omega)]

omit [FloatOps F] in
/-- What a load of sixteen elements reads. -/
theorem get16 (f : m.view.ty.Contents (Elt F)) (x : S16.Idx) :
    m.view.readAt (Elt F) (sixteen off inb).toLoadRect f x = m.view.read (Elt F) f (at1 n (off 0 + (x 0).val) hn) := by
  rw [← sixteen_emb hn off inb x]; rfl

omit [FloatOps F] in
/-- A store of sixteen elements, read at one of them, -/
theorem put_in (f : m.view.ty.Contents (Elt F)) (w : S16.Idx → Elt F e) {o j : ℕ} (ho : off 0 = o) (x : S16.Idx) (hj : j = o + (x 0).val) :
    m.view.read (Elt F) ((m.access (sixteen off inb)).write (Elt F) f w Finset.univ) (at1 n j hn) = w x := by
  rw [hj, ← ho, ← sixteen_emb hn off inb x]
  exact View.read_slice_write_emb (v := m.view) (sixteen off inb) f w (Finset.mem_univ x)

omit [FloatOps F] in
/-- and at another. -/
theorem put_out (f : m.view.ty.Contents (Elt F)) (w : S16.Idx → Elt F e) {o j : ℕ} (ho : off 0 = o) (hjn : j < n) (hj : j < o ∨ o + 16 ≤ j) :
    m.view.read (Elt F) ((m.access (sixteen off inb)).write (Elt F) f w Finset.univ) (at1 n j hn) = m.view.read (Elt F) f (at1 n j hn) := by
  refine View.read_slice_write_of_not_mem (v := m.view) (sixteen off inb) f w Finset.univ fun h => ?_
  obtain ⟨x, -, hx⟩ := Finset.mem_map.1 h
  have h1 := (ValueKit.rect_emb_unit_val (s := ⟨1, ![n]⟩) off S16.size inb x 0).symm.trans (congrArg (fun y => (y 0).val) hx)
  have h2 : off 0 + (x 0).val = j % n := h1
  have hx : (x 0).val < 16 := (x 0).isLt
  rw [Nat.mod_eq_of_lt hjn] at h2
  omega

/-- A load from a buffer held whole. -/
theorem s_load {c : Thread nD τ} {cs : CoreSpace} {s : Shape} {m : Memref sig c.2.kind cs s e} {r : LoadRect s} {hl : m.view.LoadsAt r} {α : Type}
    {k : (r.shape.Idx → Elt F e) → Prog (TpuEff nD τ sig (Elt F) Λ₀ c.2) α} {f : Buf (Elt F) (m.view.loc c)} {Q : α → sProp 𝕄} :
    (m.view.loc c ↦{fullShare} f)
      ⊢ iprop(((m.view.loc c ↦{fullShare} f) -∗ wp frame (wpE defs₀ 𝒱₀ c none) Set.univ (k (m.view.readAt (Elt F) r f)) Q)
        -∗ wp frame (wpE defs₀ 𝒱₀ c none) Set.univ (Prog.lift (.load m r hl) >>= k) Q) :=
  wp_load 𝒱₀ c none Set.univ (Finset.subset_univ _)

/-- A store to a buffer held whole. -/
theorem s_store {c : Thread nD τ} {cs : CoreSpace} {s : Shape} {m : Memref sig c.2.kind cs s e} {r : Rect s} {w : r.shape.Idx → Elt F e}
    {Mk : Finset r.shape.Idx} {hx : (m.access r).Stores Mk} {hm : Mk = Finset.univ ∨ ∀ a, r.stride a = 1} {α : Type}
    {k : PUnit → Prog (TpuEff nD τ sig (Elt F) Λ₀ c.2) α} {f : Buf (Elt F) ((m.access r).loc c)} {Q : α → sProp 𝕄} :
    ((m.access r).loc c ↦{fullShare} f)
      ⊢ iprop((((m.access r).loc c ↦{fullShare} ((m.access r).write (Elt F) f w Mk)) -∗ wp frame (wpE defs₀ 𝒱₀ c none) Set.univ (k ⟨⟩) Q)
        -∗ wp frame (wpE defs₀ 𝒱₀ c none) Set.univ (Prog.lift (.store m r w Mk hx hm) >>= k) Q) :=
  wp_store 𝒱₀ c none Set.univ (Finset.subset_univ _)

end Sixteen

/-! ## Counting -/

/-- A trip's counting: the counts of the first `t` entries become those of the first `t + 16`. -/
theorem count_step (f : ℕ → ℕ) {t : ℕ} (ht : t ≤ 2000) (g : Vec F S32 .i32) (hg : ∀ p < 32, (g (at1 32 p (by decide))).toNat = many f p t)
    (v : IVec S16 32) (hv : ∀ x : S16.Idx, (v x).toNat = f (t + (x 0).val))
    (h : ∀ a x, ((![v] : Fin 1 → IVec S16 32) a x).toNat < S32.size a) (p : ℕ) (hp : p < 32) :
    (storeIdx g ![v] (scanCount (broadcast S16 1#1) v).2 (scanCount (broadcast S16 1#1) v).1 true h (at1 32 p (by decide)) : BitVec 32).toNat
      = many f p (t + 16) := by
  have ev : ∀ x : S16.Idx, (∀ a, (at1 32 p (by decide) a).val = ((![v] : Fin 1 → IVec S16 32) a x).toNat) ↔ f (t + (x 0).val) = p := fun x => by
    constructor
    · intro hh
      have h1 := hh 0
      rw [at1_val (by decide) hp] at h1
      rw [← hv]; exact h1.symm
    · intro hh a
      obtain rfl : a = 0 := Subsingleton.elim _ _
      rw [at1_val (by decide) hp, ← hh, ← hv]; rfl
  by_cases hex : ∃ k < 16, f (t + k) = p
  · obtain ⟨x, hx, hlast⟩ := exists_last (fun k => f (t + k)) p hex
    have hm : (scanCount (broadcast S16 1#1) v).1 x = 1 := (scanCount_last v (fun k => f (t + k)) hv x).2 fun k h1 h2 => by
      rw [show f (t + (x 0).val) = p from hx]; exact hlast k h1 h2
    have hu : ∀ y : S16.Idx, (scanCount (broadcast S16 1#1) v).1 y = 1 → f (t + (y 0).val) = p → y = x := fun y hy hyp => by
      have hy' := (scanCount_last v (fun k => f (t + k)) hv y).1 hy
      refine lane_ext ?_
      have hx16 := lane_lt x
      have hy16 := lane_lt y
      rcases lt_trichotomy (y 0).val (x 0).val with hlt | heq | hlt
      · exact absurd ((show f (t + (x 0).val) = p from hx).trans hyp.symm) (hy' _ hlt hx16)
      · exact heq
      · exact absurd hyp (hlast _ hlt hy16)
    have hc := scanCount_val v (fun k => f (t + k)) hv x
    have hl := count_of_last (fun k => f (t + k)) (lane_lt x) (fun k h1 h2 => by
      rw [show f (t + (x 0).val) = p from hx]; exact hlast k h1 h2)
    rw [hl] at hc
    simp only [show f (t + (x 0).val) = p from hx] at hc
    have b1 : many f p t ≤ t := Nat.count_le _
    have b2 : Nat.count (fun k => f (t + k) = p) 16 ≤ 16 := Nat.count_le _
    refine (congrArg BitVec.toNat (store_one (F := F) (s := S32) (e := .i32) g ![v] _ _ true h (at1 32 p (by decide)) x hm ((ev x).2 hx)
      (fun y hy hya => hu y hy ((ev y).1 hya)))).trans ?_
    show (IntOp.addi (g (at1 32 p (by decide))) ((scanCount (broadcast S16 1#1) v).2 x)).toNat = _
    rw [addi_val _ _ (by rw [hg p hp, hc]; omega), hg p hp, hc, many_add]
  · have hz : Nat.count (fun k => f (t + k) = p) 16 = 0 := by
      rw [Nat.count_eq_card_filter_range, Finset.card_eq_zero, Finset.filter_eq_empty_iff]
      intro k hk hkp
      exact hex ⟨k, Finset.mem_range.1 hk, hkp⟩
    refine (congrArg BitVec.toNat (store_miss (F := F) (s := S32) (e := .i32) g ![v] _ _ true h (at1 32 p (by decide))
      (fun x _ hxa => hex ⟨(x 0).val, lane_lt x, (ev x).1 hxa⟩))).trans ?_
    rw [hg p hp, many_add, hz, Nat.add_zero]

/-! ## The trip -/

/-- The body of the first loop. -/
def buildTrip (i : grid0.Coords) (t : Fin k0_t1_loop.trips) : TProg F i (BitVec 32) := do
  have j : IVec S16 32 := addi (broadcast S16 (Scalar.muli (Scf.iv 0#32 1#32 t) 16#32)) lanes
  have h : IVec S16 32 := shrsi j (broadcast S16 1#32)
  have h1 : k0_chk1 h := (← Prog.lift (TpuEff.assume (k0_chk1 h) (k0_chk1.dec h))).down
  let p : Vec F S16 .i32 ← SparseCore.vectorLoadIdx w7 ![h] (k0_idx1_inb h h1) (View.loads_vmem h_S1000)
  let mk : Vec F S16 .i32 ← SparseCore.vectorLoadIdx w8 ![h] (k0_idx2_inb h h1) (View.loads_vmem h_S1000)
  have b : IVec S16 32 := shrsi (rowV j p) (broadcast S16 6#32)
  have h2 : k0_chk2 b := (← Prog.lift (TpuEff.assume (k0_chk2 b) (k0_chk2.dec b))).down
  let _ ← Prog.lift (.load w11 (Rect.unit (s := S2000) (k0_off2 t) S16.size (k0_off2_inb t)).toLoadRect (View.loadsAt_vmem h_S16))
  Prog.lift (.store w11 (Rect.unit (s := S2000) (k0_off2 t) S16.size (k0_off2_inb t)) b Finset.univ (View.stores_vmem_bits_univ h_S16 rfl) (.inl rfl))
  let _ ← Prog.lift (.load w10 (Rect.unit (s := S2000) (k0_off2 t) S16.size (k0_off2_inb t)).toLoadRect (View.loadsAt_vmem h_S16))
  Prog.lift (.store w10 (Rect.unit (s := S2000) (k0_off2 t) S16.size (k0_off2_inb t)) (sitofp (F := F) .f32 mk) Finset.univ (View.stores_vmem_bits_univ h_S16 rfl) (.inl rfl))
  SparseCore.vectorStoreIdx w13 ![b] (scanCount (broadcast S16 1#1) b).2 (scanCount (broadcast S16 1#1) b).1 true (k0_idx3_inb b h2)
    (View.stores_vmem_bits_univ h_S32 rfl)
  pure 0#32

/-- The first `n` entries' block numbers are written. -/
def Pids (fi : Vec F S1000 .i32) (n : ℕ) (g : Vec F S2000 .i32) : Prop := ∀ e < n, (g (at1 2000 e (by decide))).toNat = blk fi e

/-- The first `n` entries' masks are written, as floats. -/
def Wts (fm : Vec F S1000 .i32) (n : ℕ) (g : Vec F S2000 .f32) : Prop := ∀ e < n, g (at1 2000 e (by decide)) = weight fm e

/-- The counts are those of the first `n` entries. -/
def Cts (fi : Vec F S1000 .i32) (n : ℕ) (g : Vec F S32 .i32) : Prop := ∀ p < 32, (g (at1 32 p (by decide))).toNat = many (blk fi) p n

/-- What the first loop holds after `n` entries. -/
def Bld (d : Dev nD) (i : grid0.Coords) (fi fm : Vec F S1000 .i32) (n : ℕ) (Y : sProp 𝕄) : sProp 𝕄 :=
  iprop((w7.view.loc (thr d i) ↦{fullShare} fi) ∗ (w8.view.loc (thr d i) ↦{fullShare} fm)
    ∗ (∃ g, ⌜Pids fi n g⌝ ∗ (w11.view.loc (thr d i) ↦{fullShare} g)) ∗ (∃ g, ⌜Wts fm n g⌝ ∗ (w10.view.loc (thr d i) ↦{fullShare} g))
    ∗ (∃ g, ⌜Cts fi n g⌝ ∗ (w13.view.loc (thr d i) ↦{fullShare} g)) ∗ Y)

omit [FloatOps F] in
theorem off2_val (t : Fin k0_t1_loop.trips) : k0_off2 t 0 = 16 * t.val := by
  have ht : t.val < 125 := t.isLt
  have hiv : (Scf.iv 0#32 1#32 t.val).toNat = t.val := WordArith.toNat_iv_zero_one t.val (by omega)
  have h := muli_val (Scf.iv 0#32 1#32 t.val) 16#32 (by rw [hiv]; show t.val * 16 < _; omega)
  rw [hiv] at h
  exact h.trans (Nat.mul_comm _ _)

omit [FloatOps F] in
theorem off3_val (t : Fin k0_t2_loop.trips) : k0_off3 t 0 = 16 * t.val := off2_val t

omit [FloatOps F] in
/-- A trip's entries. -/
theorem entries_val {n : ℕ} (hn : n < 125) (x : S16.Idx) :
    (addi (broadcast S16 (Scalar.muli (Scf.iv 0#32 1#32 n) 16#32)) lanes x : BitVec 32).toNat = 16 * n + (x 0).val := by
  have hx := lane_lt x
  have hiv : (Scf.iv 0#32 1#32 n).toNat = n := WordArith.toNat_iv_zero_one n (by omega)
  have h := muli_val (Scf.iv 0#32 1#32 n) 16#32 (by rw [hiv]; show n * 16 < _; omega)
  rw [hiv] at h
  have h' : (IntOp.muli (Scf.iv 0#32 1#32 n) 16#32).toNat = 16 * n := h.trans (Nat.mul_comm _ _)
  show (IntOp.addi (IntOp.muli (Scf.iv 0#32 1#32 n) 16#32) (lanes x)).toNat = _
  rw [addi_val _ _ (by rw [h', lanes_val]; omega), h', lanes_val]

omit [FloatOps F] in
/-- A store of sixteen elements carries a fact of the elements before its place past it. -/
theorem put16 {n : ℕ} (hn : 0 < n) {κ : Kind} {sp : Space} {e : EltTy} (m : Memref sig κ sp ⟨1, ![n]⟩ e) (off : Fin 1 → ℕ)
    (inb : ∀ a, off a + S16.size a ≤ (⟨1, ![n]⟩ : Shape).size a) (f : m.view.ty.Contents (Elt F)) (w : S16.Idx → Elt F e)
    (P : ℕ → Elt F e → Prop) {o : ℕ} (ho : off 0 = o) (hin : o + 16 ≤ n)
    (hf : ∀ j < o, P j (m.view.read (Elt F) f (at1 n j hn))) (hw : ∀ x : S16.Idx, P (o + (x 0).val) (w x)) :
    ∀ j < o + 16, P j (m.view.read (Elt F) ((m.access (sixteen off inb)).write (Elt F) f w Finset.univ) (at1 n j hn)) := fun j hj => by
  by_cases hlt : j < o
  · rw [put_out hn m off inb f w ho (by omega) (.inl hlt)]; exact hf j hlt
  · have hk : j - o < 16 := by omega
    have hx : j = o + ((ln ⟨j - o, hk⟩) 0).val := by show j = o + (j - o); omega
    rw [put_in hn m off inb f w ho (ln ⟨j - o, hk⟩) hx]
    have := hw (ln ⟨j - o, hk⟩)
    rw [← hx] at this
    exact this

section Run

variable (d : Dev nD) (i : grid0.Coords) {fi fm : Vec F S1000 .i32} (hI : ∀ x, (fi x).toNat < 2 ^ 18)

include hI in
theorem wp_buildTrip (t : Fin k0_t1_loop.trips) (Y : sProp 𝕄) :
    Bld d i fi fm (16 * t.val) Y ⊢ wp frame (wpE defs₀ 𝒱₀ (thr d i) none) Set.univ (buildTrip (F := F) i t)
      (fun _ => Bld d i fi fm (16 * (t.val + 1)) Y) := by
  have ht : t.val < 125 := t.isLt
  have hj := entries_val (n := t.val) ht
  have hlane : ∀ x : S16.Idx, 16 * t.val + (x 0).val < 2000 := fun x => by have := lane_lt x; omega
  have ho := off2_val t
  have hin : 16 * t.val + 16 ≤ 2000 := by omega
  unfold buildTrip Bld
  generalize addi (broadcast S16 (Scalar.muli (Scf.iv 0#32 1#32 t.val) 16#32)) lanes = j at hj ⊢
  have hj2 : ∀ x, (j x).toNat < 2000 := fun x => by rw [hj]; exact hlane x
  have hh : ∀ x, (shrsi j (broadcast S16 1#32) x : BitVec 32).toNat = (16 * t.val + (x 0).val) / 2 := fun x => by
    rw [← hj]; exact half_val .vector _ (hj2 x)
  have i1 : ∀ a x, ((![shrsi j (broadcast S16 1#32)] : Fin 1 → IVec S16 32) a x).toNat < S1000.size a :=
    inb1 fun x => by rw [hh]; have := hlane x; omega
  have c1 : k0_chk1 (shrsi j (broadcast S16 1#32)) := ⟨i1, i1⟩
  iintro ⟨H7, H8, ⟨%g11, %h11, H11⟩, ⟨%g10, %h10, H10⟩, ⟨%g13, %h13, H13⟩, HY⟩
  iapply (s_assume (c := thr d i) c1)
  iapply (s_gather (c := thr d i) (base := w7) (S := Finset.univ) (q := fullShare) (f := fi) (Finset.subset_univ _) fi
    (Memref.read_access_whole _ _ _)) $$ H7
  iintro H7
  iapply (s_gather (c := thr d i) (base := w8) (S := Finset.univ) (q := fullShare) (f := fm) (Finset.subset_univ _) fm
    (Memref.read_access_whole _ _ _)) $$ H8
  iintro H8
  have hp : ∀ x, loadIdx fi ![shrsi j (broadcast S16 1#32)] i1 x = fi (at1 1000 ((16 * t.val + (x 0).val) / 2) (by decide)) := fun x => by
    refine (loadIdx1 (by decide) fi _ i1 x).trans ?_
    rw [hh]
  have hmk : ∀ x, loadIdx fm ![shrsi j (broadcast S16 1#32)] i1 x = fm (at1 1000 ((16 * t.val + (x 0).val) / 2) (by decide)) := fun x => by
    refine (loadIdx1 (by decide) fm _ i1 x).trans ?_
    rw [hh]
  generalize loadIdx fi ![shrsi j (broadcast S16 1#32)] _ = p at hp ⊢
  generalize loadIdx fm ![shrsi j (broadcast S16 1#32)] _ = mk at hmk ⊢
  have hb : ∀ x, (shrsi (rowV j p) (broadcast S16 6#32) x : BitVec 32).toNat = blk fi (16 * t.val + (x 0).val) := fun x => by
    rw [← hj]
    exact blkWord_val fi hI (j x) (p x) (hj2 x) (by rw [hp, hj]; rfl)
  generalize shrsi (rowV j p) (broadcast S16 6#32) = b at hb ⊢
  have c2 : k0_chk2 b := inb1 fun x => by rw [hb]; exact blk_lt fi hI _ (hlane x)
  iapply (s_assume (c := thr d i) c2)
  iapply (s_load (c := thr d i) (m := w11) (f := g11)) $$ H11
  iintro H11
  iapply (s_store (c := thr d i) (m := w11) (r := sixteen (k0_off2 t) (k0_off2_inb t)) (f := g11)) $$ H11
  iintro H11
  iapply (s_load (c := thr d i) (m := w10) (f := g10)) $$ H10
  iintro H10
  iapply (s_store (c := thr d i) (m := w10) (r := sixteen (k0_off2 t) (k0_off2_inb t)) (f := g10)) $$ H10
  iintro H10
  iapply (s_scatter (c := thr d i) (base := w13) (f := g13) (Memref.set_access_whole _) g13 (Memref.read_access_whole _ _ _) (fun w => w)
    (fun w => Memref.write_access_whole_univ _ _ _ _)) $$ H13
  iintro H13
  rw [wp_pure]
  imodintro
  isplitl [H7]; · iexact H7
  isplitl [H8]; · iexact H8
  isplitl [H11]
  · iexists _
    isplitr; rotate_left; · iexact H11
    ipureintro
    exact put16 (by decide) w11 (k0_off2 t) (k0_off2_inb t) g11 b (fun e v => BitVec.toNat v = blk fi e) ho hin h11 hb
  isplitl [H10]
  · iexists _
    isplitr; rotate_left; · iexact H10
    ipureintro
    exact put16 (by decide) w10 (k0_off2 t) (k0_off2_inb t) g10 (sitofp (F := F) .f32 mk) (fun e v => v = weight fm e) ho hin h10
      fun x => congrArg (FloatOps.sitofp .f32) (hmk x)
  isplitl [H13]
  · iexists _
    isplitr; rotate_left; · iexact H13
    ipureintro
    exact fun q hq => count_step (blk fi) (by omega) g13 h13 b hb c2 q hq
  iexact HY

include hI in
/-- The first loop. -/
theorem s_build {α : Type} (hok : k0_t1_loop.OK) (init : BitVec 32) (body : Fin k0_t1_loop.trips → BitVec 32 → TProg F i (BitVec 32))
    (hbody : body = fun t _ => buildTrip (F := F) i t) {kk : BitVec 32 → TProg F i α} {Q : α → sProp 𝕄} (Y : sProp 𝕄)
    (hk : ∀ a, Bld d i fi fm 2000 Y ⊢ wp frame (wpE defs₀ 𝒱₀ (thr d i) none) Set.univ (kk a) Q) :
    Bld d i fi fm 0 Y ⊢ wp frame (wpE defs₀ 𝒱₀ (thr d i) none) Set.univ (Scf.Loop.for k0_t1_loop hok init body >>= kk) Q := by
  subst hbody
  have h := Scf.wp_for_bind frame (wpE defs₀ 𝒱₀ (thr d i) none) Set.univ k0_t1_loop.lb k0_t1_loop.ub k0_t1_loop.st hok init
    (fun t _ => buildTrip (F := F) i t) (fun k _ => Bld d i fi fm (16 * k) Y) (fun t _ => wp_buildTrip d i hI t Y) (kk := kk) (Q := Q)
  iintro H
  iapply h $$ H
  iintro %a H
  iapply (hk a)
  iexact H

end Run

end Cert.Proof.Tile
-- ==== Proof.Place.lean ====
/-
  A tile's second loop: the table of entries in order of block.
-/
module

public import proofs.«01_k».proof.Proof.Build

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

/-! ## Words -/

section Words

variable {f : ℕ → ℕ} (hf : ∀ e < 2000, f e < 32) {t : ℕ} (ht : t + 16 ≤ 2000) {v : IVec S16 32}
variable (hv : ∀ x : S16.Idx, (v x).toNat = f (t + (x 0).val))

/-- A block's pointer after `t` entries: where its next entry goes. -/
def Ptrs (f : ℕ → ℕ) (t : ℕ) (g : Vec F S32 .i32) : Prop :=
  ∀ p < 32, (g (at1 32 p (by decide))).toNat = start f 2000 p + many f p t

/-- The first `t` entries are listed. -/
def Tab (f : ℕ → ℕ) (t : ℕ) (g : Vec F S2048 .i32) : Prop :=
  ∀ e < t, (g (at1 2048 (place f 2000 e) (by decide))).toNat = e

include hf ht hv in
/-- A lane's pointer plus its count is one more than its entry's place. -/
theorem next_val (g : Vec F S32 .i32) (hg : Ptrs f t g) (h : ∀ a x, ((![v] : Fin 1 → IVec S16 32) a x).toNat < S32.size a) (x : S16.Idx) :
    (addi (loadIdx g ![v] h) (scanCount (broadcast S16 1#1) v).2 x : BitVec 32).toNat = place f 2000 (t + (x 0).val) + 1 := by
  have hx := lane_lt x
  have h1 : (loadIdx g ![v] h x : BitVec 32).toNat = start f 2000 (f (t + (x 0).val)) + many f (f (t + (x 0).val)) t := by
    rw [← hg _ (hf (t + (x 0).val) (by omega)), ← hv x]
    exact congrArg BitVec.toNat (loadIdx1 (by decide) g v h x)
  have h2 := scanCount_val v (fun k => f (t + k)) hv x
  have h3 := place_add f 2000 t (x 0).val
  have h4 := place_lt_total f 2000 32 (t + (x 0).val) hf (by omega)
  show (IntOp.addi (loadIdx g ![v] h x) ((scanCount (broadcast S16 1#1) v).2 x)).toNat = _
  have h5 : ((scanCount (broadcast S16 1#1) v).2 x).toNat = Nat.count (fun k => f (t + k) = f (t + (x 0).val)) ((x 0).val + 1) := h2
  rw [addi_val _ _ (by rw [h1, h5]; omega), h1, h5, h3]

include hf ht hv in
theorem place_val (g : Vec F S32 .i32) (hg : Ptrs f t g) (h : ∀ a x, ((![v] : Fin 1 → IVec S16 32) a x).toNat < S32.size a) (x : S16.Idx) :
    (subi (addi (loadIdx g ![v] h) (scanCount (broadcast S16 1#1) v).2) (broadcast S16 1#32) x : BitVec 32).toNat
      = place f 2000 (t + (x 0).val) := by
  have h1 := next_val hf ht hv g hg h x
  have h2 : (IntOp.subi (addi (loadIdx g ![v] h) (scanCount (broadcast S16 1#1) v).2 x) 1#32).toNat = _ :=
    subi_val _ 1#32 (by rw [h1]; show 1 ≤ _; omega)
  rw [h1] at h2
  exact h2.trans (Nat.add_sub_cancel _ _)

include hf ht in
/-- A trip lists sixteen more entries. -/
theorem tab_step (g : Vec F S2048 .i32) (hg : Tab f t g) (q j : IVec S16 32) (hq : ∀ x : S16.Idx, (q x).toNat = place f 2000 (t + (x 0).val))
    (hj : ∀ x : S16.Idx, (j x).toNat = t + (x 0).val) (h : ∀ a x, ((![q] : Fin 1 → IVec S16 32) a x).toNat < S2048.size a) :
    Tab f (t + 16) (storeIdx (d := ![16]) g ![q] j (fun _ => 1#1) false h) := fun e he => by
  have hlt : ∀ e < 2000, place f 2000 e < 2048 := fun e he => by have := place_lt_total f 2000 32 e hf he; omega
  have ev : ∀ x : S16.Idx, (∀ a, (at1 2048 (place f 2000 e) (by decide) a).val = ((![q] : Fin 1 → IVec S16 32) a x).toNat) →
      t + (x 0).val = e := fun x hh => by
    have h1 := hh 0
    have hx := lane_lt x
    rw [at1_val (by decide) (hlt e (by omega))] at h1
    exact (place_inj f 2000 (by omega) (by omega) (h1.trans (hq x))).symm
  by_cases hlt' : e < t
  · refine (congrArg BitVec.toNat (store_miss (F := F) (s := S2048) (e := .i32) g ![q] j _ false h (at1 2048 (place f 2000 e) (by decide))
      (fun x _ hxa => by have := ev x hxa; omega))).trans (hg e hlt')
  · have hk : e - t < 16 := by omega
    have hx : t + ((ln ⟨e - t, hk⟩) 0).val = e := by show t + (e - t) = e; omega
    refine (congrArg BitVec.toNat (store_one (F := F) (s := S2048) (e := .i32) g ![q] j _ false h (at1 2048 (place f 2000 e) (by decide))
      (ln ⟨e - t, hk⟩) rfl (fun a => ?_) (fun y _ hya => lane_ext ?_))).trans ?_
    · obtain rfl : a = 0 := Subsingleton.elim _ _
      rw [at1_val (by decide) (hlt e (by omega))]
      show _ = (q (ln ⟨e - t, hk⟩)).toNat
      rw [hq, hx]
    · have := ev y hya
      show (y 0).val = e - t
      omega
    · show (j (ln ⟨e - t, hk⟩)).toNat = e
      rw [hj, hx]

include hf ht hv in
/-- A trip moves the pointers past sixteen more entries. -/
theorem ptr_step (g : Vec F S32 .i32) (hg : Ptrs f t g) (w : IVec S16 32) (hw : ∀ x : S16.Idx, (w x).toNat = place f 2000 (t + (x 0).val) + 1)
    (h : ∀ a x, ((![v] : Fin 1 → IVec S16 32) a x).toNat < S32.size a) :
    Ptrs f (t + 16) (storeIdx (d := ![16]) g ![v] w (scanCount (broadcast S16 1#1) v).1 false h) := fun p hp => by
  have ev : ∀ x : S16.Idx, (∀ a, (at1 32 p (by decide) a).val = ((![v] : Fin 1 → IVec S16 32) a x).toNat) ↔ f (t + (x 0).val) = p := fun x => by
    constructor
    · intro hh
      have h1 := hh 0
      rw [at1_val (by decide) hp] at h1
      rw [← hv]; exact h1.symm
    · intro hh a
      obtain rfl : a = 0 := Subsingleton.elim _ _
      rw [at1_val (by decide) hp, ← hh, ← hv]; rfl
  by_cases hex : ∃ k < 16, f (t + k) = p
  · obtain ⟨x, hx, hlast⟩ := exists_last (fun k => f (t + k)) p hex
    have hm : (scanCount (broadcast S16 1#1) v).1 x = 1 := (scanCount_last v (fun k => f (t + k)) hv x).2 fun k h1 h2 => by
      rw [show f (t + (x 0).val) = p from hx]; exact hlast k h1 h2
    have hu : ∀ y : S16.Idx, (scanCount (broadcast S16 1#1) v).1 y = 1 → f (t + (y 0).val) = p → y = x := fun y hy hyp => by
      have hy' := (scanCount_last v (fun k => f (t + k)) hv y).1 hy
      refine lane_ext ?_
      have hx16 := lane_lt x
      have hy16 := lane_lt y
      rcases lt_trichotomy (y 0).val (x 0).val with hlt | heq | hlt
      · exact absurd ((show f (t + (x 0).val) = p from hx).trans hyp.symm) (hy' _ hlt hx16)
      · exact heq
      · exact absurd hyp (hlast _ hlt hy16)
    refine (congrArg BitVec.toNat (store_one (F := F) (s := S32) (e := .i32) g ![v] w _ false h (at1 32 p (by decide)) x hm ((ev x).2 hx)
      (fun y hy hya => hu y hy ((ev y).1 hya)))).trans ?_
    show (w x).toNat = _
    have hl := count_of_last (fun k => f (t + k)) (lane_lt x) (fun k h1 h2 => by
      rw [show f (t + (x 0).val) = p from hx]; exact hlast k h1 h2)
    have h3 := place_add f 2000 t (x 0).val
    rw [hl] at h3
    simp only [show f (t + (x 0).val) = p from hx] at h3
    rw [hw, h3, many_add, Nat.add_assoc]
  · have hz : Nat.count (fun k => f (t + k) = p) 16 = 0 := by
      rw [Nat.count_eq_card_filter_range, Finset.card_eq_zero, Finset.filter_eq_empty_iff]
      intro k hk hkp
      exact hex ⟨k, Finset.mem_range.1 hk, hkp⟩
    refine (congrArg BitVec.toNat (store_miss (F := F) (s := S32) (e := .i32) g ![v] w _ false h (at1 32 p (by decide))
      (fun x _ hxa => hex ⟨(x 0).val, lane_lt x, (ev x).1 hxa⟩))).trans ?_
    rw [hg p hp, many_add, hz, Nat.add_zero]

end Words

/-! ## The trip -/

/-- The body of the second loop. -/
def placeTrip (i : grid0.Coords) (t : Fin k0_t2_loop.trips) : TProg F i (BitVec 32) := do
  have j : IVec S16 32 := addi (broadcast S16 (Scalar.muli (Scf.iv 0#32 1#32 t) 16#32)) lanes
  let v : Vec F S16 .i32 ← Prog.lift (.load w11 (Rect.unit (s := S2000) (k0_off3 t) S16.size (k0_off3_inb t)).toLoadRect (View.loadsAt_vmem h_S16))
  have h3 : k0_chk3 v := (← Prog.lift (TpuEff.assume (k0_chk3 v) (k0_chk3.dec v))).down
  let p : Vec F S16 .i32 ← SparseCore.vectorLoadIdx w14 ![v] (k0_idx4_inb v h3) (View.loads_vmem h_S32)
  have q : IVec S16 32 := subi (addi p (scanCount (broadcast S16 1#1) v).2) (broadcast S16 1#32)
  have h4 : k0_chk4 q := (← Prog.lift (TpuEff.assume (k0_chk4 q) (k0_chk4.dec q))).down
  SparseCore.vectorStoreIdx w12 ![q] j (fun _ => 1#1) false (k0_idx5_inb q h4) (View.stores_vmem_bits_univ h_S2048 rfl)
  SparseCore.vectorStoreIdx w14 ![v] (addi p (scanCount (broadcast S16 1#1) v).2) (scanCount (broadcast S16 1#1) v).1 false (k0_idx6_inb v h3)
    (View.stores_vmem_bits_univ h_S32 rfl)
  pure 0#32

/-- What the second loop holds after `n` entries. -/
def Plc (d : Dev nD) (i : grid0.Coords) (fi : Vec F S1000 .i32) (n : ℕ) (Y : sProp 𝕄) : sProp 𝕄 :=
  iprop((∃ g, ⌜Pids fi 2000 g⌝ ∗ (w11.view.loc (thr d i) ↦{fullShare} g)) ∗ (∃ g, ⌜Tab (blk fi) n g⌝ ∗ (w12.view.loc (thr d i) ↦{fullShare} g))
    ∗ (∃ g, ⌜Ptrs (blk fi) n g⌝ ∗ (w14.view.loc (thr d i) ↦{fullShare} g)) ∗ Y)

section Run

variable (d : Dev nD) (i : grid0.Coords) {fi : Vec F S1000 .i32} (hI : ∀ x, (fi x).toNat < 2 ^ 18)

include hI in
theorem wp_placeTrip (t : Fin k0_t2_loop.trips) (Y : sProp 𝕄) :
    Plc d i fi (16 * t.val) Y ⊢ wp frame (wpE defs₀ 𝒱₀ (thr d i) none) Set.univ (placeTrip (F := F) i t)
      (fun _ => Plc d i fi (16 * (t.val + 1)) Y) := by
  have ht : t.val < 125 := t.isLt
  have hj := entries_val (n := t.val) ht
  have ho := off3_val t
  have hin : 16 * t.val + 16 ≤ 2000 := by omega
  have hf : ∀ e < 2000, blk fi e < 32 := fun e he => blk_lt fi hI e he
  unfold placeTrip Plc
  generalize addi (broadcast S16 (Scalar.muli (Scf.iv 0#32 1#32 t.val) 16#32)) lanes = j at hj ⊢
  iintro ⟨⟨%g11, %h11, H11⟩, ⟨%g12, %h12, H12⟩, ⟨%g14, %h14, H14⟩, HY⟩
  iapply (s_load (c := thr d i) (m := w11) (f := g11)) $$ H11
  iintro H11
  have hv : ∀ x : S16.Idx, (w11.view.readAt (Elt F) (sixteen (k0_off3 t) (k0_off3_inb t)).toLoadRect g11 x : BitVec 32).toNat
      = blk fi (16 * t.val + (x 0).val) := fun x => by
    have hx := lane_lt x
    rw [← h11 _ (by omega), ← ho]
    exact congrArg BitVec.toNat (get16 (by decide) w11 (k0_off3 t) (k0_off3_inb t) g11 x)
  generalize w11.view.readAt (Elt F) (Rect.unit (s := S2000) (k0_off3 t) S16.size (k0_off3_inb t)).toLoadRect g11 = v at hv ⊢
  have i3 : ∀ a x, ((![v] : Fin 1 → IVec S16 32) a x).toNat < S32.size a := inb1 fun x => by
    rw [hv]; have hx := lane_lt x; exact hf _ (by omega)
  have c3 : k0_chk3 v := ⟨i3, i3⟩
  iapply (s_assume (c := thr d i) c3)
  iapply (s_gather (c := thr d i) (base := w14) (S := Finset.univ) (q := fullShare) (f := g14) (Finset.subset_univ _) g14
    (Memref.read_access_whole _ _ _)) $$ H14
  iintro H14
  have hn := next_val hf hin hv g14 h14 i3
  have hq := place_val hf hin hv g14 h14 i3
  generalize addi (loadIdx g14 ![v] _) (scanCount (broadcast S16 1#1) v).2 = w at hn hq ⊢
  generalize subi w (broadcast S16 1#32) = q at hq ⊢
  have c4 : k0_chk4 q := inb1 fun x => by
    have hx := lane_lt x
    have := place_lt_total (blk fi) 2000 32 (16 * t.val + (x 0).val) hf (by omega)
    rw [hq]; omega
  iapply (s_assume (c := thr d i) c4)
  iapply (s_scatter (c := thr d i) (base := w12) (f := g12) (Memref.set_access_whole _) g12 (Memref.read_access_whole _ _ _) (fun w => w)
    (fun w => Memref.write_access_whole_univ _ _ _ _)) $$ H12
  iintro H12
  iapply (s_scatter (c := thr d i) (base := w14) (f := g14) (Memref.set_access_whole _) g14 (Memref.read_access_whole _ _ _) (fun w => w)
    (fun w => Memref.write_access_whole_univ _ _ _ _)) $$ H14
  iintro H14
  rw [wp_pure]
  imodintro
  isplitl [H11]
  · iexists _
    isplitr; · ipureintro; exact h11
    iexact H11
  isplitl [H12]
  · iexists _
    isplitr; rotate_left; · iexact H12
    ipureintro
    exact tab_step hf hin g12 h12 q j hq hj c4
  isplitl [H14]
  · iexists _
    isplitr; rotate_left; · iexact H14
    ipureintro
    exact ptr_step hf hin hv g14 h14 w hn i3
  iexact HY

include hI in
/-- The second loop. -/
theorem s_place {α : Type} (hok : k0_t2_loop.OK) (init : BitVec 32) (body : Fin k0_t2_loop.trips → BitVec 32 → TProg F i (BitVec 32))
    (hbody : body = fun t _ => placeTrip (F := F) i t) {kk : BitVec 32 → TProg F i α} {Q : α → sProp 𝕄} (Y : sProp 𝕄)
    (hk : ∀ a, Plc d i fi 2000 Y ⊢ wp frame (wpE defs₀ 𝒱₀ (thr d i) none) Set.univ (kk a) Q) :
    Plc d i fi 0 Y ⊢ wp frame (wpE defs₀ 𝒱₀ (thr d i) none) Set.univ (Scf.Loop.for k0_t2_loop hok init body >>= kk) Q := by
  subst hbody
  have h := Scf.wp_for_bind frame (wpE defs₀ 𝒱₀ (thr d i) none) Set.univ k0_t2_loop.lb k0_t2_loop.ub k0_t2_loop.st hok init
    (fun t _ => placeTrip (F := F) i t) (fun k _ => Plc d i fi (16 * k) Y) (fun t _ => wp_placeTrip d i hI t Y) (kk := kk) (Q := Q)
  iintro H
  iapply h $$ H
  iintro %a H
  iapply (hk a)
  iexact H

end Run

end Cert.Proof.Tile
-- ==== Proof.Ends.lean ====
/-
  The start of a tile's program: its rows of positions and masks fetched, the counts and their running sums, the table of
  entries, and the first two blocks of rows sent for.
-/
module

public import proofs.«01_k».proof.Proof.Place

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

/-! ## Rows -/

/-- A tile's row of a table of positions or masks. -/
abbrev inRow (i : grid0.Coords) (m : Memref sig .scVector .hbm S32x1000 .i32) : Memref sig .scVector .hbm S1000 .i32 :=
  (m.slice (Rect.unit (s := S32x1000) (k0_off1 i) S1x1000.size (k0_off1_inb i)) (fun _ => rfl)).squeeze S1000 squeezes_S1x1000_S1000

/-- Sixteen lanes given by their numbers. -/
theorem starts_of {fi : Vec F S1000 .i32} {lo : ℕ} {v : IVec S16 32} (h : ∀ x : S16.Idx, (v x).toNat = start (blk fi) 2000 (lo + (x 0).val)) :
    Starts fi lo v := fun k => h (ln k)

omit [FloatOps F] in
theorem Starts.val {fi : Vec F S1000 .i32} {lo : ℕ} {v : IVec S16 32} (h : Starts fi lo v) (x : S16.Idx) :
    (v x).toNat = start (blk fi) 2000 (lo + (x 0).val) := by
  have := h (x 0)
  rw [ln_self] at this
  exact this

/-! ## Running sums of the counts -/

section Sums

variable {fi : Vec F S1000 .i32} (hI : ∀ x, (fi x).toNat < 2 ^ 18)

omit [FloatOps F] in
theorem sum_many (lo n : ℕ) : start (blk fi) 2000 lo + ∑ k ∈ Finset.range n, many (blk fi) (lo + k) 2000 = start (blk fi) 2000 (lo + n) := by
  unfold start
  rw [Finset.sum_range_add]

include hI

omit [FloatOps F] in
/-- A running sum of sixteen counts. -/
theorem scan_counts {lo : ℕ} (hlo : lo ≤ 16) {v : IVec S16 32} (hv : ∀ x : S16.Idx, (v x).toNat = many (blk fi) (lo + (x 0).val) 2000) (x : S16.Idx) :
    start (blk fi) 2000 lo + (scan (d := ![16]) .sum v x : BitVec 32).toNat = start (blk fi) 2000 (lo + ((x 0).val + 1)) := by
  have h16 := sum_many (fi := fi) lo 16
  have hle := start_le_2000 hI (n := lo + 16) (by omega)
  have hs := scan_val v (fun k => many (blk fi) (lo + k) 2000) hv (by omega) x
  rw [hs]
  exact sum_many lo _

omit [FloatOps F] in
theorem starts1 {v9 : IVec S16 32} (h9 : ∀ x : S16.Idx, (v9 x).toNat = many (blk fi) (x 0).val 2000) : Starts fi 1 (scan (d := ![16]) .sum v9) :=
  fun k => by
    have h := scan_counts hI (lo := 0) (by decide) (v := v9) (fun x => by rw [Nat.zero_add]; exact h9 x) (ln k)
    rw [start_zero, Nat.zero_add, Nat.zero_add] at h
    rw [h, Nat.add_comm]; rfl

omit [FloatOps F] in
/-- A running sum less its last term is the sum before it. -/
theorem starts0 {v9 v12 : IVec S16 32} (h9 : ∀ x : S16.Idx, (v9 x).toNat = many (blk fi) (x 0).val 2000) (h12 : Starts fi 1 v12) :
    Starts fi 0 (subi v12 v9) := fun k => by
  have h1 := h12 k
  have h2 : (v9 (ln k)).toNat = many (blk fi) k.val 2000 := h9 (ln k)
  have h3 := start_succ (blk fi) 2000 k.val
  rw [Nat.add_comm 1] at h1
  show (IntOp.subi (v12 (ln k)) (v9 (ln k))).toNat = _
  rw [subi_val _ _ (by rw [h1, h2]; omega), h1, h2, Nat.zero_add]
  omega

omit [FloatOps F] in
theorem starts17 {v10 : IVec S16 32} (h10 : ∀ x : S16.Idx, (v10 x).toNat = many (blk fi) (16 + (x 0).val) 2000) {a : BitVec 32}
    (ha : a.toNat = start (blk fi) 2000 16) : Starts fi 17 (addi (scan (d := ![16]) .sum v10) (broadcast S16 a)) := fun k => by
  have h := scan_counts hI (lo := 16) (by decide) h10 (ln k)
  have hk : ((ln k : S16.Idx) 0).val = k.val := rfl
  have hle := start_le_2000 hI (n := 16 + (k.val + 1)) (by omega)
  rw [hk] at h
  show (IntOp.addi (scan (d := ![16]) .sum v10 (ln k)) a).toNat = _
  rw [addi_val _ _ (by rw [ha]; omega), ha, Nat.add_comm, h]
  congr 1; omega

omit [FloatOps F] in
theorem starts16 {v10 : IVec S16 32} (h10 : ∀ x : S16.Idx, (v10 x).toNat = many (blk fi) (16 + (x 0).val) 2000) {a : BitVec 32}
    (ha : a.toNat = start (blk fi) 2000 16) : Starts fi 16 (addi (subi (scan (d := ![16]) .sum v10) v10) (broadcast S16 a)) := fun k => by
  have h := scan_counts hI (lo := 16) (by decide) h10 (ln k)
  have hk : ((ln k : S16.Idx) 0).val = k.val := rfl
  have h2 : (v10 (ln k)).toNat = many (blk fi) (16 + k.val) 2000 := h10 (ln k)
  have h3 := start_succ (blk fi) 2000 (16 + k.val)
  have hle := start_le_2000 hI (n := 16 + (k.val + 1)) (by omega)
  have hm : start (blk fi) 2000 16 ≤ start (blk fi) 2000 (16 + k.val) := start_mono _ _ (by omega)
  rw [hk, show 16 + (k.val + 1) = 16 + k.val + 1 from rfl] at h
  rw [show 16 + (k.val + 1) = 16 + k.val + 1 from rfl] at hle
  have h4 : (IntOp.subi (scan (d := ![16]) .sum v10 (ln k)) (v10 (ln k))).toNat = (scan (d := ![16]) .sum v10 (ln k) : BitVec 32).toNat - many (blk fi) (16 + k.val) 2000 := by
    rw [subi_val _ _ (by rw [h2]; omega), h2]
  show (IntOp.addi (IntOp.subi (scan (d := ![16]) .sum v10 (ln k)) (v10 (ln k))) a).toNat = _
  rw [addi_val _ _ (by rw [ha, h4]; omega), ha, h4]
  omega

end Sums

section Walk

variable (d : Dev nD) (i : grid0.Coords) {A : Vec F S64x2x512x512 .f32} {q : PosShare TreeShare}
variable {O : CellTallies nD τ sig (HIx 1)} {W : Waits sig (HIx 1)}

/-- A tile's row of the positions, -/
abbrev fiOf (i : grid0.Coords) (I3 : Vec F S32x1000 .i32) : Vec F S1000 .i32 := (inRow i w3).view.read (Elt F) I3

/-- and of the masks. -/
abbrev fmOf (i : grid0.Coords) (M4 : Vec F S32x1000 .i32) : Vec F S1000 .i32 := (inRow i w4).view.read (Elt F) M4

/-- A tile's row of a table, held. -/
abbrev RowIn (m : Memref sig .scVector .hbm S32x1000 .i32) (I : Buf (Elt F) ((inRow i m).view.loc (thr d i))) : sProp 𝕄 :=
  ((inRow i m).view.loc (thr d i) ↦[(inRow i m).view.set]{fullShare} I)

variable {I3 M4 : Vec F S32x1000 .i32} (hI : ∀ x, (fiOf i I3 x).toNat < 2 ^ 18)

include hI in
/-- The rows fetched, and the counts. -/
theorem walk1 {Y : sProp 𝕄} :
    iprop(RowIn d i w3 I3 ∗ (∃ f, (w7.view.loc (thr d i) ↦{fullShare} f)) ∗ semVal (thr d i, .dma cc0_scoped0.sem) 0
      ∗ RowIn d i w4 M4 ∗ (∃ f, (w8.view.loc (thr d i) ↦{fullShare} f)) ∗ semVal (thr d i, .dma cc0_scoped1.sem) 0
      ∗ (∃ f, (w11.view.loc (thr d i) ↦{fullShare} f)) ∗ (∃ f, (w10.view.loc (thr d i) ↦{fullShare} f))
      ∗ (∃ f, (w13.view.loc (thr d i) ↦{fullShare} f)) ∗ Owed d i O W ∗ Y)
      ⊢ wp frame (wpE defs₀ 𝒱₀ (thr d i) none) Set.univ
          (k0_part1 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3)
          (fun r => iprop(⌜r.2.1 = lanes ∧ (∀ x : S16.Idx, (r.2.2.1 x : BitVec 32).toNat = many (blk (fiOf i I3)) (x 0).val 2000)
              ∧ (∀ x : S16.Idx, (r.2.2.2.1 x : BitVec 32).toNat = many (blk (fiOf i I3)) (16 + (x 0).val) 2000) ∧ Starts (fiOf i I3) 1 r.2.2.2.2⌝
            ∗ Bld d i (fiOf i I3) (fmOf i M4) 2000 iprop(RowIn d i w3 I3 ∗ semVal (thr d i, .dma cc0_scoped0.sem) 0
              ∗ RowIn d i w4 M4 ∗ semVal (thr d i, .dma cc0_scoped1.sem) 0 ∗ Owed d i O W ∗ Y))) := by
  unfold k0_part1
  iintro ⟨HR3, ⟨%f7, H7⟩, Hv0, HR4, ⟨%f8, H8⟩, Hv1, ⟨%g11, H11⟩, ⟨%g10, H10⟩, ⟨%g13, H13⟩, HO, HY⟩
  iapply (Transfers.wp_dmaLocal EC 𝒱₀ (thr d i) none none (w7.view.dmaCredit) rfl (View.dmaCredit_pos _ (by decide))
    (src := inRow i w3) (dst := w7) (fs := I3) (fd := f7) (Sd := Finset.univ) (Finset.subset_univ _)) $$ [HR3 H7 Hv0]
  · isplitl [HR3]; · iexact HR3
    isplitl [H7]; · iexact H7
    iexact Hv0
  iintro HF
  iapply (s_wait_own d i (dstw := w7)) $$ [HF HO]
  · isplitl [HF]; · iexact HF
    iexact HO
  iintro ⟨⟨H7, HR3⟩, Hv0, HO⟩
  iapply (Transfers.wp_dmaLocal EC 𝒱₀ (thr d i) none none (w8.view.dmaCredit) rfl (View.dmaCredit_pos _ (by decide))
    (src := inRow i w4) (dst := w8) (fs := M4) (fd := f8) (Sd := Finset.univ) (Finset.subset_univ _)) $$ [HR4 H8 Hv1]
  · isplitl [HR4]; · iexact HR4
    isplitl [H8]; · iexact H8
    iexact Hv1
  iintro HF
  iapply (s_wait_own d i (dstw := w8)) $$ [HF HO]
  · isplitl [HF]; · iexact HF
    iexact HO
  iintro ⟨⟨H8, HR4⟩, Hv1, HO⟩
  rw [show w7.view.write (Elt F) f7 ((inRow i w3).view.read (Elt F) I3) Finset.univ = fiOf i I3 from View.write_whole_univ _ _ _,
    show w8.view.write (Elt F) f8 ((inRow i w4).view.read (Elt F) M4) Finset.univ = fmOf i M4 from View.write_whole_univ _ _ _]
  iapply (s_load (c := thr d i) (m := w13) (f := g13)) $$ H13
  iintro H13
  iapply (s_store (c := thr d i) (m := w13) (r := sixteen ![0] inb_S32_S16_0) (f := g13)) $$ H13
  iintro H13
  have hz0 : ∀ j < 16, (fun (_ : ℕ) (v : Elt F .i32) => v = (0#32 : BitVec 32)) j
      (w13.view.read (Elt F) ((w13.access (sixteen ![0] inb_S32_S16_0)).write (Elt F) g13 (broadcast S16 0#32) Finset.univ) (at1 32 j (by decide))) :=
    put16 (by decide) w13 ![0] inb_S32_S16_0 g13 (broadcast S16 0#32) (fun _ v => v = (0#32 : BitVec 32)) (o := 0) rfl (by decide)
      (fun j hj => absurd hj (Nat.not_lt_zero _)) (fun _ => rfl)
  generalize (w13.access (Rect.unit (s := S32) ![0] S16.size inb_S32_S16_0)).write (Elt F) g13 (broadcast S16 0#32) Finset.univ = g13' at hz0 ⊢
  iapply (s_load (c := thr d i) (m := w13) (f := g13')) $$ H13
  iintro H13
  iapply (s_store (c := thr d i) (m := w13) (r := sixteen ![16] inb_S32_S16_16) (f := g13')) $$ H13
  iintro H13
  have hz : ∀ j < 32, (fun (_ : ℕ) (v : Elt F .i32) => v = (0#32 : BitVec 32)) j
      (w13.view.read (Elt F) ((w13.access (sixteen ![16] inb_S32_S16_16)).write (Elt F) g13' (broadcast S16 0#32) Finset.univ) (at1 32 j (by decide))) :=
    put16 (by decide) w13 ![16] inb_S32_S16_16 g13' (broadcast S16 0#32) (fun _ v => v = (0#32 : BitVec 32)) (o := 16) rfl (by decide)
      hz0 (fun _ => rfl)
  generalize (w13.access (Rect.unit (s := S32) ![16] S16.size inb_S32_S16_16)).write (Elt F) g13' (broadcast S16 0#32) Finset.univ = g13'' at hz ⊢
  have hC : Cts (fiOf i I3) 0 g13'' := fun p hp => (congrArg BitVec.toNat (hz p hp)).trans rfl
  iapply (s_build d i hI _ _ _ rfl iprop(RowIn d i w3 I3 ∗ semVal (thr d i, .dma cc0_scoped0.sem) 0
              ∗ RowIn d i w4 M4 ∗ semVal (thr d i, .dma cc0_scoped1.sem) 0 ∗ Owed d i O W ∗ Y) fun _ => ?_)
  rotate_left
  · unfold Bld
    isplitl [H7]; · iexact H7
    isplitl [H8]; · iexact H8
    isplitl [H11]
    · iexists g11
      isplitr; · ipureintro; exact fun e he => absurd he (Nat.not_lt_zero _)
      iexact H11
    isplitl [H10]
    · iexists g10
      isplitr; · ipureintro; exact fun e he => absurd he (Nat.not_lt_zero _)
      iexact H10
    isplitl [H13]
    · iexists g13''
      isplitr; · ipureintro; exact hC
      iexact H13
    isplitl [HR3]; · iexact HR3
    isplitl [Hv0]; · iexact Hv0
    isplitl [HR4]; · iexact HR4
    isplitl [Hv1]; · iexact Hv1
    isplitl [HO]; · iexact HO
    iexact HY
  unfold Bld
  iintro ⟨H7, H8, H11, H10, ⟨%g, %hg, H13⟩, HX⟩
  iapply (s_load (c := thr d i) (m := w13) (f := g)) $$ H13
  iintro H13
  iapply (s_load (c := thr d i) (m := w13) (f := g)) $$ H13
  iintro H13
  rw [wp_pure]
  imodintro
  have h9 : ∀ x : S16.Idx, (w13.view.readAt (Elt F) (sixteen ![0] inb_S32_S16_0).toLoadRect g x : BitVec 32).toNat
      = many (blk (fiOf i I3)) (x 0).val 2000 := fun x => by
    have hx := lane_lt x
    refine (congrArg BitVec.toNat (get16 (by decide) w13 ![0] inb_S32_S16_0 g x)).trans ?_
    refine (hg (0 + (x 0).val) (by omega)).trans ?_
    rw [Nat.zero_add]
  have h10 : ∀ x : S16.Idx, (w13.view.readAt (Elt F) (sixteen ![16] inb_S32_S16_16).toLoadRect g x : BitVec 32).toNat
      = many (blk (fiOf i I3)) (16 + (x 0).val) 2000 := fun x => by
    have hx := lane_lt x
    refine (congrArg BitVec.toNat (get16 (by decide) w13 ![16] inb_S32_S16_16 g x)).trans ?_
    exact hg (16 + (x 0).val) (by omega)
  isplitr
  · ipureintro
    exact ⟨rfl, h9, h10, starts1 hI h9⟩
  isplitl [H7]; · iexact H7
  isplitl [H8]; · iexact H8
  isplitl [H11]; · iexact H11
  isplitl [H10]; · iexact H10
  isplitl [H13]
  · iexists g
    isplitr; · ipureintro; exact hg
    iexact H13
  iexact HX

end Walk

end Cert.Proof.Tile
-- ==== Proof.Second.lean ====
/-
  The table of entries written, and the first two blocks of rows sent for.
-/
module

public import proofs.«01_k».proof.Proof.Ends

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

/-! ## Blocks held and buffers held whole -/

/-- A buffer held whole holds what it reads. -/
theorem held_of (c : Thread nD τ) (b : Ref sig c.2.kind) (m : Memref sig c.2.kind .vmem S64x512 .f32) (hm : (m.access (.whole S64x512)).set = Finset.univ)
    (f : Buf (Elt F) ((m.access (.whole S64x512)).loc c)) :
    ((m.access (.whole S64x512)).loc c ↦{fullShare} f : sProp 𝕄) ⊢ iprop(∃ y, Held c m y) := by
  unfold Held
  iintro H
  iexists ((m.access (.whole S64x512)).read (Elt F) f), f
  isplitr; · ipureintro; rfl
  rw [hm]
  iexact H

/-- A block held is its buffer held whole. -/
theorem of_held (c : Thread nD τ) (m : Memref sig c.2.kind .vmem S64x512 .f32) (hm : (m.access (.whole S64x512)).set = Finset.univ)
    (y : Vec F S64x512 .f32) : (Held c m y : sProp 𝕄) ⊢ iprop(∃ f, ((m.access (.whole S64x512)).loc c ↦{fullShare} f)) := by
  unfold Held
  iintro ⟨%f, -, H⟩
  iexists f
  rw [hm]
  iexact H

section Walk

variable (d : Dev nD) (i : grid0.Coords) {A : Vec F S64x2x512x512 .f32} {q : PosShare TreeShare}
variable {O : CellTallies nD τ sig (HIx 1)} {W : Waits sig (HIx 1)}
variable {fi fm : Vec F S1000 .i32} (hI : ∀ x, (fi x).toNat < 2 ^ 18)

/-- What the tile keeps beside its sweeps' holdings: the block numbers, the masks as floats, the counts, the pointers. -/
def Kept (fm : Vec F S1000 .i32) (Y : sProp 𝕄) : sProp 𝕄 :=
  iprop((∃ g, (w11.view.loc (thr d i) ↦{fullShare} g)) ∗ (∃ g, ⌜Wts fm 2000 g⌝ ∗ (w10.view.loc (thr d i) ↦{fullShare} g))
    ∗ (∃ g, (w13.view.loc (thr d i) ↦{fullShare} g)) ∗ (∃ g, (w14.view.loc (thr d i) ↦{fullShare} g)) ∗ Y)

include hI in
/-- The table of entries, block 0 fetched and block 1 sent for. -/
theorem walk2 {Y : sProp 𝕄} {v1 : BitVec 32} {v9 v10 v12 : IVec S16 32} (h9 : ∀ x : S16.Idx, (v9 x).toNat = many (blk fi) (x 0).val 2000)
    (h10 : ∀ x : S16.Idx, (v10 x).toNat = many (blk fi) (16 + (x 0).val) 2000) (h12 : Starts fi 1 v12) :
    Bld d i fi fm 2000 iprop(Home d i A q ∗ Owed d i O W ∗ (∃ g, (w12.view.loc (thr d i) ↦{fullShare} g)) ∗ (∃ g, (w14.view.loc (thr d i) ↦{fullShare} g))
      ∗ (∃ g, (w9.view.loc (thr d i) ↦{fullShare} g)) ∗ (∃ g, (w15.view.loc (thr d i) ↦{fullShare} g)) ∗ semVal (thr d i, .dma cc0_scratch10.sem) 0
      ∗ (∃ g, (w16.view.loc (thr d i) ↦{fullShare} g)) ∗ semVal (thr d i, .dma cc0_scratch11.sem) 0 ∗ Y)
      ⊢ wp frame (wpE defs₀ 𝒱₀ (thr d i) none) Set.univ
          (k0_part2 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v9 v10 v12)
          (fun r => iprop(⌜Starts fi 0 r.1 ∧ Starts fi 16 r.2.1 ∧ Starts fi 17 r.2.2.1 ∧ r.2.2.2.1.toNat = start (blk fi) 2000 0
              ∧ r.2.2.2.2.1.toNat = start (blk fi) 2000 1⌝
            ∗ ∃ g12, ⌜Listed fi g12⌝ ∗ SF d i A q fi fm g12 O W (start (blk fi) 2000 0) cc0_scratch10.sem w15 (block A (wid i) 0) cc0_scratch11.sem w16 1
                (Kept d i fm Y))) := by
  have h15 := starts0 hI h9 h12
  have h17 := h12.at 15 (by decide) (hs := slices_S16_o15_S1) (hp := inpos_S1_p0)
  have h20 := starts16 hI h10 h17
  have h22 := starts17 hI h10 h17
  unfold k0_part2 Bld
  dsimp only
  generalize subi v12 v9 = v15 at h15 ⊢
  generalize extractAt ![0] (extractStridedSlice S1 ![15] v12 slices_S16_o15_S1) inpos_S1_p0 = v17 at h17 h20 h22 ⊢
  generalize addi (scan (d := ![16]) .sum v10) (broadcast S16 v17) = v22 at h22 ⊢
  generalize addi (subi (scan (d := ![16]) .sum v10) v10) (broadcast S16 v17) = v20 at h20 ⊢
  iintro ⟨H7, H8, ⟨%g11, %h11, H11⟩, H10, ⟨%g13, -, H13⟩, HH, HO, ⟨%g12, H12⟩, ⟨%g14, H14⟩, ⟨%g9, H9⟩, ⟨%f15, H15⟩, Hv10, ⟨%f16, H16⟩, Hv11, HY⟩
  iapply (s_load (c := thr d i) (m := w14) (f := g14)) $$ H14
  iintro H14
  iapply (s_store (c := thr d i) (m := w14) (r := sixteen ![0] inb_S32_S16_0) (f := g14)) $$ H14
  iintro H14
  have hp0 : ∀ j < 16, (fun (p : ℕ) (v : Elt F .i32) => BitVec.toNat v = start (blk fi) 2000 p) j
      (w14.view.read (Elt F) ((w14.access (sixteen ![0] inb_S32_S16_0)).write (Elt F) g14 v15 Finset.univ) (at1 32 j (by decide))) :=
    put16 (by decide) w14 ![0] inb_S32_S16_0 g14 v15 (fun p v => BitVec.toNat v = start (blk fi) 2000 p) (o := 0) rfl (by decide)
      (fun j hj => absurd hj (Nat.not_lt_zero _)) (fun x => h15.val x)
  generalize (w14.access (Rect.unit (s := S32) ![0] S16.size inb_S32_S16_0)).write (Elt F) g14 v15 Finset.univ = g14' at hp0 ⊢
  iapply (s_load (c := thr d i) (m := w14) (f := g14')) $$ H14
  iintro H14
  iapply (s_store (c := thr d i) (m := w14) (r := sixteen ![16] inb_S32_S16_16) (f := g14')) $$ H14
  iintro H14
  have hp : ∀ j < 32, (fun (p : ℕ) (v : Elt F .i32) => BitVec.toNat v = start (blk fi) 2000 p) j
      (w14.view.read (Elt F) ((w14.access (sixteen ![16] inb_S32_S16_16)).write (Elt F) g14' v20 Finset.univ) (at1 32 j (by decide))) :=
    put16 (by decide) w14 ![16] inb_S32_S16_16 g14' v20 (fun p v => BitVec.toNat v = start (blk fi) 2000 p) (o := 16) rfl (by decide)
      hp0 (fun x => h20.val x)
  generalize (w14.access (Rect.unit (s := S32) ![16] S16.size inb_S32_S16_16)).write (Elt F) g14' v20 Finset.univ = g14'' at hp ⊢
  iapply (s_place d i hI _ _ _ rfl iprop((w7.view.loc (thr d i) ↦{fullShare} fi) ∗ (w8.view.loc (thr d i) ↦{fullShare} fm)
      ∗ (∃ g, ⌜Wts fm 2000 g⌝ ∗ (w10.view.loc (thr d i) ↦{fullShare} g)) ∗ (w13.view.loc (thr d i) ↦{fullShare} g13) ∗ Home d i A q ∗ Owed d i O W
      ∗ (w9.view.loc (thr d i) ↦{fullShare} g9) ∗ (w15.view.loc (thr d i) ↦{fullShare} f15) ∗ semVal (thr d i, .dma cc0_scratch10.sem) 0
      ∗ (w16.view.loc (thr d i) ↦{fullShare} f16) ∗ semVal (thr d i, .dma cc0_scratch11.sem) 0 ∗ Y) fun _ => ?_)
  rotate_left
  · unfold Plc
    isplitl [H11]
    · iexists g11
      isplitr; · ipureintro; exact h11
      iexact H11
    isplitl [H12]
    · iexists g12
      isplitr; · ipureintro; exact fun e he => absurd he (Nat.not_lt_zero _)
      iexact H12
    isplitl [H14]
    · iexists g14''
      isplitr; · ipureintro; exact fun p h => (hp p h).trans rfl
      iexact H14
    isplitl [H7]; · iexact H7
    isplitl [H8]; · iexact H8
    isplitl [H10]; · iexact H10
    isplitl [H13]; · iexact H13
    isplitl [HH]; · iexact HH
    isplitl [HO]; · iexact HO
    isplitl [H9]; · iexact H9
    isplitl [H15]; · iexact H15
    isplitl [Hv10]; · iexact Hv10
    isplitl [H16]; · iexact H16
    isplitl [Hv11]; · iexact Hv11
    iexact HY
  unfold Plc
  iintro ⟨⟨%g11, -, H11⟩, ⟨%g12, %hL, H12⟩, ⟨%g14, -, H14⟩, H7, H8, H10, H13, HH, HO, H9, H15, Hv10, H16, Hv11, HY⟩
  ihave ⟨%y16, H16⟩ := (held_of (thr d i) cc0_scratch9 w16 (Memref.set_access_whole _) f16) $$ H16
  ihave H15 := (held_of (thr d i) cc0_scratch8 w15 (Memref.set_access_whole _) f15) $$ H15
  iapply (show SH d i A q fi fm g12 O W (start (blk fi) 2000 0) cc0_scratch11.sem w16 y16 cc0_scratch10.sem w15 (Kept d i fm Y) ⊢ _ from ?_)
  rotate_left
  · unfold SH Sw Kept
    isplitl [H7]; · iexact H7
    isplitl [H8]; · iexact H8
    isplitl [H12]; · iexact H12
    isplitl [H9]
    · iexists g9
      isplitr; · ipureintro; exact fun e he h => absurd h (Nat.not_lt_zero _)
      iexact H9
    isplitl [H16]; · iexact H16
    isplitl [Hv11]; · iexact Hv11
    isplitl [HH]; · iexact HH
    isplitl [HO]; · iexact HO
    isplitl [Hv10]; · iexact Hv10
    isplitl [H15]; · iexact H15
    isplitl [H11]; · iexists g11; iexact H11
    isplitl [H10]; · iexact H10
    isplitl [H13]; · iexists g13; iexact H13
    isplitl [H14]; · iexists g14; iexact H14
    iexact HY
  refine s_enq d i 0 (by decide) ?_ rfl ?_
  · have hw := widWord_val i
    have hlt := wid_lt i
    show (IntOp.muli (widWord i) 2048#32).toNat = _
    rw [muli_val _ _ (by rw [hw]; show wid i * 2048 < _; omega), hw]
    show wid i * 2048 = _
    omega
  refine s_wait d i ?_
  refine s_enqAt d i 1 (by decide) (by decide) rfl ?_
  have e0 := h15.at 0 (by decide) (hs := slices_S16_o0_S1) (hp := inpos_S1_p0)
  have e1 := h12.at 0 (by decide) (hs := slices_S16_o0_S1) (hp := inpos_S1_p0)
  refine s_check (sw_chk hI 0 (by decide) e0 e1) ?_
  rw [wp_pure]
  iintro H
  imodintro
  isplitr
  · ipureintro
    exact ⟨h15, h20, h22, e0, e1⟩
  iexists g12
  isplitr; · ipureintro; exact hL
  iexact H

end Walk

end Cert.Proof.Tile
-- ==== Proof.Rows.lean ====
/-
  A tile's rows of the tables, and what all tiles write.
-/
module

public import proofs.«01_k».proof.Proof.Second

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

/-! ## A row's elements -/

omit [FloatOps F] in
theorem rowRect_emb {n w : ℕ} (hw : w < 32) {off : Fin 2 → ℕ} (inb : ∀ a, off a + (⟨2, ![1, n]⟩ : Shape).size a ≤ (⟨2, ![32, n]⟩ : Shape).size a)
    (h0 : off 0 = w) (h1 : off 1 = 0) (h : (⟨1, ![n]⟩ : Shape).numel = (⟨2, ![1, n]⟩ : Shape).numel) (x : (⟨1, ![n]⟩ : Shape).Idx) :
    (Rect.unit (s := ⟨2, ![32, n]⟩) off (⟨2, ![1, n]⟩ : Shape).size inb).emb (Shape.reshapeEquiv h x) = ix2 (⟨w, hw⟩ : Fin 32) (x 0 : Fin n) := by
  have he : Shape.reshapeEquiv h x = (ix2 (0 : Fin 1) (x 0 : Fin n) : (⟨2, ![1, n]⟩ : Shape).Idx) :=
    Shape.reshapeEquiv_eq_of_rowMajor h (by
      rw [Shape.rowMajor_val_two, Shape.rowMajor_val_one]
      show 0 * n + (x 0).val = (x 0).val
      omega)
  rw [he]
  funext a
  refine Fin.ext ((ValueKit.rect_emb_unit_val (s := ⟨2, ![32, n]⟩) _ _ _ _ _).trans ?_)
  match a with
  | 0 => show off 0 + 0 = w; omega
  | 1 => show off 1 + (x 0).val = (x 0).val; omega

theorem off1_val (i : grid0.Coords) : k0_off1 i 0 = wid i := widWord_val i
theorem off37_val (i : grid0.Coords) : k0_off37 i 0 = wid i := widWord_val i

/-- A tile's row of a table of results. -/
abbrev outRow (i : grid0.Coords) (m : Memref sig .scVector .hbm S32x2000 .f32) : Memref sig .scVector .hbm S2000 .f32 :=
  (m.slice (Rect.unit (s := S32x2000) (k0_off37 i) S1x2000.size (k0_off37_inb i)) (fun _ => rfl)).squeeze S2000 squeezes_S1x2000_S2000

omit [FloatOps F] in
theorem inRow_emb (i : grid0.Coords) (x : S1000.Idx) :
    (Rect.unit (s := S32x1000) (k0_off1 i) S1x1000.size (k0_off1_inb i)).emb (Shape.reshapeEquiv squeezes_S1x1000_S1000.numel_eq x)
      = ix2 (⟨wid i, wid_lt i⟩ : Fin 32) (x 0 : Fin 1000) :=
  rowRect_emb (n := 1000) (wid_lt i) (k0_off1_inb i) (off1_val i) rfl squeezes_S1x1000_S1000.numel_eq x

omit [FloatOps F] in
theorem outRow_emb (i : grid0.Coords) (x : S2000.Idx) :
    (Rect.unit (s := S32x2000) (k0_off37 i) S1x2000.size (k0_off37_inb i)).emb (Shape.reshapeEquiv squeezes_S1x2000_S2000.numel_eq x)
      = ix2 (⟨wid i, wid_lt i⟩ : Fin 32) (x 0 : Fin 2000) :=
  rowRect_emb (n := 2000) (wid_lt i) (k0_off37_inb i) (off37_val i) rfl squeezes_S1x2000_S2000.numel_eq x

/-- Row `w` of a table of words. -/
def rowOf (I : Vec F S32x1000 .i32) (w : ℕ) : Vec F S1000 .i32 :=
  fun x => I (ix2 (⟨w % 32, Nat.mod_lt _ (by decide)⟩ : Fin 32) (x 0 : Fin 1000))

omit [FloatOps F] in
theorem fiOf_eq (i : grid0.Coords) (I : Vec F S32x1000 .i32) : fiOf i I = rowOf I (wid i) := by
  funext x
  show I ((Rect.unit (s := S32x1000) (k0_off1 i) S1x1000.size (k0_off1_inb i)).emb (Shape.reshapeEquiv squeezes_S1x1000_S1000.numel_eq x)) = _
  rw [inRow_emb]
  exact congrArg I (congrArg (fun w => ix2 w (x 0 : Fin 1000)) (Fin.ext (Nat.mod_eq_of_lt (wid_lt i)).symm))

omit [FloatOps F] in
theorem fmOf_eq (i : grid0.Coords) (I : Vec F S32x1000 .i32) : fmOf i I = rowOf I (wid i) := fiOf_eq i I

/-- The elements of a row. -/
abbrev rowSet (n : ℕ) (w : Fin 32) : Finset (⟨2, ![32, n]⟩ : Shape).Idx := Finset.univ.filter fun y => (y 0).val = w.val

omit [FloatOps F] in
theorem set_inRow (i : grid0.Coords) : (inRow i w3).view.set = rowSet 1000 ⟨wid i, wid_lt i⟩ := by
  have key : ∀ y : S32x1000.Idx, y ∈ (inRow i w3).view.set ↔ (y 0).val = wid i := fun y => by
    constructor
    · intro h
      obtain ⟨x, -, hx⟩ := Finset.mem_map.1 h
      have := (inRow_emb i x).symm.trans hx
      rw [← this]
    · intro h
      refine Finset.mem_map.2 ⟨ix1 (y 1 : Fin 1000), Finset.mem_univ _, ?_⟩
      refine (inRow_emb i (ix1 (y 1 : Fin 1000))).trans ?_
      funext a
      match a with
      | 0 => exact Fin.ext h.symm
      | 1 => rfl
  refine Finset.ext fun y => (key y).trans ?_
  exact ⟨fun h => Finset.mem_filter.2 ⟨Finset.mem_univ (α := S32x1000.Idx) y, h⟩, fun h => (Finset.mem_filter (α := S32x1000.Idx).1 h).2⟩

omit [FloatOps F] in
theorem set_outRow (i : grid0.Coords) : (outRow i w5).view.set = rowSet 2000 ⟨wid i, wid_lt i⟩ := by
  have key : ∀ y : S32x2000.Idx, y ∈ (outRow i w5).view.set ↔ (y 0).val = wid i := fun y => by
    constructor
    · intro h
      obtain ⟨x, -, hx⟩ := Finset.mem_map.1 h
      have := (outRow_emb i x).symm.trans hx
      rw [← this]
    · intro h
      refine Finset.mem_map.2 ⟨ix1 (y 1 : Fin 2000), Finset.mem_univ _, ?_⟩
      refine (outRow_emb i (ix1 (y 1 : Fin 2000))).trans ?_
      funext a
      match a with
      | 0 => exact Fin.ext h.symm
      | 1 => rfl
  refine Finset.ext fun y => (key y).trans ?_
  exact ⟨fun h => Finset.mem_filter.2 ⟨Finset.mem_univ (α := S32x2000.Idx) y, h⟩, fun h => (Finset.mem_filter (α := S32x2000.Idx).1 h).2⟩

/-! ## What the tiles write -/

/-- Every tile's entries. -/
def predm (A : Vec F S64x2x512x512 .f32) (I M : Vec F S32x1000 .i32) : Vec F S32x2000 .f32 :=
  fun y => entry A (y 0).val (rowOf I (y 0).val) (rowOf M (y 0).val) (y 1).val

/-- Every tile's masks, as floats. -/
def mexp (M : Vec F S32x1000 .i32) : Vec F S32x2000 .f32 := fun y => weight (rowOf M (y 0).val) (y 1).val

omit [FloatOps F] in
theorem at_self (x : S2000.Idx) : at1 2000 (x 0).val (by decide) = x := by
  funext a
  obtain rfl : a = 0 := Subsingleton.elim _ _
  exact Fin.ext (Nat.mod_eq_of_lt (x 0).isLt)

/-- A tile whose entries are all done holds its row of them. -/
theorem done_row (i : grid0.Coords) {A : Vec F S64x2x512x512 .f32} {I M : Vec F S32x1000 .i32} (hI : ∀ x, (fiOf i I x).toNat < 2 ^ 18)
    {g : Vec F S2000 .f32} (h : Done A (wid i) (fiOf i I) (fmOf i M) (start (blk (fiOf i I)) 2000 32) g) :
    (outRow i w5).view.read (Elt F) (predm A I M) = g := by
  funext x
  show predm A I M ((Rect.unit (s := S32x2000) (k0_off37 i) S1x2000.size (k0_off37_inb i)).emb (Shape.reshapeEquiv squeezes_S1x2000_S2000.numel_eq x)) = _
  rw [outRow_emb]
  have hx : (x 0).val < 2000 := (x 0).isLt
  have hf : ∀ e < 2000, blk (fiOf i I) e < 32 := fun e he => blk_lt (fiOf i I) hI e he
  have hg := h (x 0).val hx (by
    rw [start_all (blk (fiOf i I)) 2000 32 hf]
    exact place_lt_total (blk (fiOf i I)) 2000 32 _ hf hx)
  rw [at_self, fiOf_eq, fmOf_eq] at hg
  exact hg.symm

theorem wts_row (i : grid0.Coords) {M : Vec F S32x1000 .i32} {g : Vec F S2000 .f32} (h : Wts (fmOf i M) 2000 g) :
    (outRow i w6).view.read (Elt F) (mexp M) = g := by
  funext x
  show mexp M ((Rect.unit (s := S32x2000) (k0_off37 i) S1x2000.size (k0_off37_inb i)).emb (Shape.reshapeEquiv squeezes_S1x2000_S2000.numel_eq x)) = _
  rw [outRow_emb]
  have hg := h (x 0).val (x 0).isLt
  rw [at_self, fmOf_eq] at hg
  exact hg.symm

/-- A row written with what a table reads there holds the table. -/
theorem row_written {c : Thread nD τ} {sp : Space} {s : Shape} {e : EltTy} (m : Memref sig c.2.kind sp s e) (f g : Buf (Elt F) (m.view.loc c))
    {w : s.Idx → Elt F e} (h : m.view.read (Elt F) g = w) :
    (m.view.loc c ↦[m.view.set]{fullShare} (m.view.write (Elt F) f w Finset.univ) : sProp 𝕄) = (m.view.loc c ↦[m.view.set]{fullShare} g) := by
  subst h
  rw [View.write_read_eq_piecewise]
  exact pointsTo_congr fun x hx => Finset.piecewise_eq_of_mem _ _ _ hx

end Cert.Proof.Tile
-- ==== Proof.WalkLow.lean ====
/-
  The passes, part by part: passes 0 to 15.
-/
module

public import proofs.«01_k».proof.Proof.Pass

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

section Walk

variable (d : Dev nD) (i : grid0.Coords) {A : Vec F S64x2x512x512 .f32} {q : PosShare TreeShare}
variable {fi fm : Vec F S1000 .i32} {g12 : Vec F S2048 .i32} {O : CellTallies nD τ sig (HIx 1)} {W : Waits sig (HIx 1)}
variable (hI : ∀ x, (fi x).toNat < 2 ^ 18) (hL : Listed fi g12)

include hI hL in
/-- Pass 0's sweep, and pass 1. -/
theorem walk3 {Y : sProp 𝕄} {v1 : BitVec 32} {v12 v15 : IVec S16 32} (h12 : Starts fi 1 v12) (h15 : Starts fi 0 v15)
    {st en : BitVec 32} (hst : st.toNat = start (blk fi) 2000 0) (hen : en.toNat = start (blk fi) 2000 1) (hc : k0_chk5 st en) {x c4 : BitVec 32} :
    SF d i A q fi fm g12 O W (start (blk fi) 2000 0) cc0_scratch10.sem w15 (block A (wid i) 0) cc0_scratch11.sem w16 1 Y
      ⊢ wp frame (wpE defs₀ 𝒱₀ (thr d i) none) Set.univ
          (k0_part3 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15 st en hc x c4)
          (fun r => iprop(⌜True⌝ ∗ SF d i A q fi fm g12 O W (start (blk fi) 2000 2) cc0_scratch11.sem w16 (block A (wid i) 1) cc0_scratch10.sem w15 2 Y)) := by
  unfold k0_part3
  refine s_sweep d i hI hL w15 0 (by decide) hst hen _ _ _ rfl _ fun _ => ?_
  refine s_rest _ _ _ ?_
  refine s_wait d i ?_
  refine s_enqAt d i 2 (by decide) (by decide) rfl ?_
  refine s_check (sw_chk hI 1 (by decide) (h15.at 1 (by decide)) (h12.at 1 (by decide))) ?_
  refine s_sweep d i hI hL w16 1 (by decide) (h15.at 1 (by decide)) (h12.at 1 (by decide)) _ _ _ rfl _ fun _ => ?_
  refine s_rest _ _ _ ?_
  refine s_ret ?_
  trivial

include hI hL in
/-- Pass 2, and pass 3 up to its sweep. -/
theorem walk4 {Y : sProp 𝕄} {v1 : BitVec 32} {v12 v15 : IVec S16 32} (h12 : Starts fi 1 v12) (h15 : Starts fi 0 v15) :
    SF d i A q fi fm g12 O W (start (blk fi) 2000 2) cc0_scratch11.sem w16 (block A (wid i) 1) cc0_scratch10.sem w15 2 Y
      ⊢ wp frame (wpE defs₀ 𝒱₀ (thr d i) none) Set.univ
          (k0_part4 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15)
          (fun r => iprop(⌜r.1.toNat = start (blk fi) 2000 3 ∧ r.2.1.toNat = start (blk fi) 2000 4⌝ ∗ SF d i A q fi fm g12 O W (start (blk fi) 2000 3) cc0_scratch11.sem w16 (block A (wid i) 3) cc0_scratch10.sem w15 4 Y)) := by
  unfold k0_part4
  refine s_wait d i ?_
  refine s_enqAt d i 3 (by decide) (by decide) rfl ?_
  refine s_check (sw_chk hI 2 (by decide) (h15.at 2 (by decide)) (h12.at 2 (by decide))) ?_
  refine s_sweep d i hI hL w15 2 (by decide) (h15.at 2 (by decide)) (h12.at 2 (by decide)) _ _ _ rfl _ fun _ => ?_
  refine s_rest _ _ _ ?_
  refine s_wait d i ?_
  refine s_enqAt d i 4 (by decide) (by decide) rfl ?_
  refine s_check (sw_chk hI 3 (by decide) (h15.at 3 (by decide)) (h12.at 3 (by decide))) ?_
  refine s_ret ?_
  exact ⟨h15.at 3 (by decide) (hs := slices_S16_o3_S1), h12.at 3 (by decide) (hs := slices_S16_o3_S1)⟩

include hI hL in
/-- Pass 3's sweep, and pass 4. -/
theorem walk5 {Y : sProp 𝕄} {v1 : BitVec 32} {v12 v15 : IVec S16 32} (h12 : Starts fi 1 v12) (h15 : Starts fi 0 v15)
    {st en : BitVec 32} (hst : st.toNat = start (blk fi) 2000 3) (hen : en.toNat = start (blk fi) 2000 4) (hc : k0_chk32 st en) {x : BitVec 32} :
    SF d i A q fi fm g12 O W (start (blk fi) 2000 3) cc0_scratch11.sem w16 (block A (wid i) 3) cc0_scratch10.sem w15 4 Y
      ⊢ wp frame (wpE defs₀ 𝒱₀ (thr d i) none) Set.univ
          (k0_part5 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15 st en hc x)
          (fun r => iprop(⌜True⌝ ∗ SF d i A q fi fm g12 O W (start (blk fi) 2000 5) cc0_scratch10.sem w15 (block A (wid i) 4) cc0_scratch11.sem w16 5 Y)) := by
  unfold k0_part5
  refine s_sweep d i hI hL w16 3 (by decide) hst hen _ _ _ rfl _ fun _ => ?_
  refine s_rest _ _ _ ?_
  refine s_wait d i ?_
  refine s_enqAt d i 5 (by decide) (by decide) rfl ?_
  refine s_check (sw_chk hI 4 (by decide) (h15.at 4 (by decide)) (h12.at 4 (by decide))) ?_
  refine s_sweep d i hI hL w15 4 (by decide) (h15.at 4 (by decide)) (h12.at 4 (by decide)) _ _ _ rfl _ fun _ => ?_
  refine s_rest _ _ _ ?_
  refine s_ret ?_
  trivial

include hI hL in
/-- Pass 5, and pass 6 up to its sweep. -/
theorem walk6 {Y : sProp 𝕄} {v1 : BitVec 32} {v12 v15 : IVec S16 32} (h12 : Starts fi 1 v12) (h15 : Starts fi 0 v15) :
    SF d i A q fi fm g12 O W (start (blk fi) 2000 5) cc0_scratch10.sem w15 (block A (wid i) 4) cc0_scratch11.sem w16 5 Y
      ⊢ wp frame (wpE defs₀ 𝒱₀ (thr d i) none) Set.univ
          (k0_part6 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15)
          (fun r => iprop(⌜r.1.toNat = start (blk fi) 2000 6 ∧ (extractAt ![0] r.2 inpos_S1_p0 : BitVec 32).toNat = start (blk fi) 2000 7⌝ ∗ SF d i A q fi fm g12 O W (start (blk fi) 2000 6) cc0_scratch10.sem w15 (block A (wid i) 6) cc0_scratch11.sem w16 7 Y)) := by
  unfold k0_part6
  refine s_wait d i ?_
  refine s_enqAt d i 6 (by decide) (by decide) rfl ?_
  refine s_check (sw_chk hI 5 (by decide) (h15.at 5 (by decide)) (h12.at 5 (by decide))) ?_
  refine s_sweep d i hI hL w16 5 (by decide) (h15.at 5 (by decide)) (h12.at 5 (by decide)) _ _ _ rfl _ fun _ => ?_
  refine s_rest _ _ _ ?_
  refine s_wait d i ?_
  refine s_enqAt d i 7 (by decide) (by decide) rfl ?_
  refine s_ret ?_
  exact ⟨h15.at 6 (by decide) (hs := slices_S16_o6_S1), h12.at 6 (by decide) (hs := slices_S16_o6_S1)⟩

include hI hL in
/-- Pass 6's sweep, and pass 7. -/
theorem walk7 {Y : sProp 𝕄} {v1 : BitVec 32} {v12 v15 : IVec S16 32} (h12 : Starts fi 1 v12) (h15 : Starts fi 0 v15) {st : BitVec 32} {s7 : IVec S1 32} (hst : st.toNat = start (blk fi) 2000 6) (hen : (extractAt ![0] s7 inpos_S1_p0 : BitVec 32).toNat = start (blk fi) 2000 7) :
    SF d i A q fi fm g12 O W (start (blk fi) 2000 6) cc0_scratch10.sem w15 (block A (wid i) 6) cc0_scratch11.sem w16 7 Y
      ⊢ wp frame (wpE defs₀ 𝒱₀ (thr d i) none) Set.univ
          (k0_part7 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15 st s7)
          (fun r => iprop(⌜True⌝ ∗ SF d i A q fi fm g12 O W (start (blk fi) 2000 8) cc0_scratch11.sem w16 (block A (wid i) 7) cc0_scratch10.sem w15 8 Y)) := by
  unfold k0_part7
  refine s_check (sw_chk hI 6 (by decide) hst hen) ?_
  refine s_sweep d i hI hL w15 6 (by decide) hst hen _ _ _ rfl _ fun _ => ?_
  refine s_rest _ _ _ ?_
  refine s_wait d i ?_
  refine s_enqAt d i 8 (by decide) (by decide) rfl ?_
  refine s_check (sw_chk hI 7 (by decide) (h15.at 7 (by decide)) (h12.at 7 (by decide))) ?_
  refine s_sweep d i hI hL w16 7 (by decide) (h15.at 7 (by decide)) (h12.at 7 (by decide)) _ _ _ rfl _ fun _ => ?_
  refine s_rest _ _ _ ?_
  refine s_ret ?_
  trivial

include hI hL in
/-- Pass 8, and pass 9 up to its sweep. -/
theorem walk8 {Y : sProp 𝕄} {v1 : BitVec 32} {v12 v15 : IVec S16 32} (h12 : Starts fi 1 v12) (h15 : Starts fi 0 v15) :
    SF d i A q fi fm g12 O W (start (blk fi) 2000 8) cc0_scratch11.sem w16 (block A (wid i) 7) cc0_scratch10.sem w15 8 Y
      ⊢ wp frame (wpE defs₀ 𝒱₀ (thr d i) none) Set.univ
          (k0_part8 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15)
          (fun r => iprop(⌜True⌝ ∗ SF d i A q fi fm g12 O W (start (blk fi) 2000 9) cc0_scratch11.sem w16 (block A (wid i) 9) cc0_scratch10.sem w15 10 Y)) := by
  unfold k0_part8
  refine s_wait d i ?_
  refine s_enqAt d i 9 (by decide) (by decide) rfl ?_
  refine s_check (sw_chk hI 8 (by decide) (h15.at 8 (by decide)) (h12.at 8 (by decide))) ?_
  refine s_sweep d i hI hL w15 8 (by decide) (h15.at 8 (by decide)) (h12.at 8 (by decide)) _ _ _ rfl _ fun _ => ?_
  refine s_rest _ _ _ ?_
  refine s_wait d i ?_
  refine s_enqAt d i 10 (by decide) (by decide) rfl ?_
  refine s_ret ?_
  trivial

include hI hL in
/-- Pass 9's sweep, and pass 10 up to its sweep. -/
theorem walk9 {Y : sProp 𝕄} {v1 : BitVec 32} {v12 v15 : IVec S16 32} (h12 : Starts fi 1 v12) (h15 : Starts fi 0 v15) :
    SF d i A q fi fm g12 O W (start (blk fi) 2000 9) cc0_scratch11.sem w16 (block A (wid i) 9) cc0_scratch10.sem w15 10 Y
      ⊢ wp frame (wpE defs₀ 𝒱₀ (thr d i) none) Set.univ
          (k0_part9 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15)
          (fun r => iprop(⌜r.1.toNat = start (blk fi) 2000 10 ∧ r.2.1.toNat = start (blk fi) 2000 11 ∧ r.2.2.2.1 = 0#32 ∧ r.2.2.2.2.2.2 = 1#32⌝ ∗ SF d i A q fi fm g12 O W (start (blk fi) 2000 10) cc0_scratch10.sem w15 (block A (wid i) 10) cc0_scratch11.sem w16 11 Y)) := by
  unfold k0_part9
  refine s_check (sw_chk hI 9 (by decide) (h15.at 9 (by decide)) (h12.at 9 (by decide))) ?_
  refine s_sweep d i hI hL w16 9 (by decide) (h15.at 9 (by decide)) (h12.at 9 (by decide)) _ _ _ rfl _ fun _ => ?_
  refine s_rest _ _ _ ?_
  refine s_wait d i ?_
  refine s_enqAt d i 11 (by decide) (by decide) rfl ?_
  refine s_check (sw_chk hI 10 (by decide) (h15.at 10 (by decide)) (h12.at 10 (by decide))) ?_
  refine s_ret ?_
  exact ⟨h15.at 10 (by decide) (hs := slices_S16_o10_S1), h12.at 10 (by decide) (hs := slices_S16_o10_S1), rfl, rfl⟩

include hI hL in
/-- Pass 10's sweep, pass 11, and the wait of pass 12. -/
theorem walk10 {Y : sProp 𝕄} {v1 : BitVec 32} {v12 v15 : IVec S16 32} (h12 : Starts fi 1 v12) (h15 : Starts fi 0 v15)
    {st en : BitVec 32} (hst : st.toNat = start (blk fi) 2000 10) (hen : en.toNat = start (blk fi) 2000 11) (hc : k0_chk95 st en) {a x : BitVec 32} :
    SF d i A q fi fm g12 O W (start (blk fi) 2000 10) cc0_scratch10.sem w15 (block A (wid i) 10) cc0_scratch11.sem w16 11 Y
      ⊢ wp frame (wpE defs₀ 𝒱₀ (thr d i) none) Set.univ
          (k0_part10 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15 st en hc 0#32 a x 1#32)
          (fun r => iprop(⌜True⌝ ∗ SH d i A q fi fm g12 O W (start (blk fi) 2000 12) cc0_scratch10.sem w15 (block A (wid i) 12) cc0_scratch11.sem w16 Y)) := by
  unfold k0_part10
  refine s_sweep d i hI hL w15 10 (by decide) hst hen _ _ _ rfl _ fun _ => ?_
  refine s_rest _ _ _ ?_
  refine s_wait d i ?_
  refine s_enqAt d i 12 (by decide) (by decide) rfl ?_
  refine s_check (sw_chk hI 11 (by decide) (h15.at 11 (by decide)) (h12.at 11 (by decide))) ?_
  refine s_sweep d i hI hL w16 11 (by decide) (h15.at 11 (by decide)) (h12.at 11 (by decide)) _ _ _ rfl _ fun _ => ?_
  refine s_rest _ _ _ ?_
  refine s_wait d i ?_
  refine s_ret ?_
  trivial

include hI hL in
/-- Pass 12, and pass 13 up to its sweep. -/
theorem walk11 {Y : sProp 𝕄} {v1 : BitVec 32} {v12 v15 : IVec S16 32} (h12 : Starts fi 1 v12) (h15 : Starts fi 0 v15) :
    SH d i A q fi fm g12 O W (start (blk fi) 2000 12) cc0_scratch10.sem w15 (block A (wid i) 12) cc0_scratch11.sem w16 Y
      ⊢ wp frame (wpE defs₀ 𝒱₀ (thr d i) none) Set.univ
          (k0_part11 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15)
          (fun r => iprop(⌜r.1.toNat = start (blk fi) 2000 13 ∧ r.2.1.toNat = start (blk fi) 2000 14 ∧ r.2.2.2.1 = 0#32 ∧ r.2.2.2.2.2.1 = 1#32⌝ ∗ SF d i A q fi fm g12 O W (start (blk fi) 2000 13) cc0_scratch11.sem w16 (block A (wid i) 13) cc0_scratch10.sem w15 14 Y)) := by
  unfold k0_part11
  refine s_enqAt d i 13 (by decide) (by decide) rfl ?_
  refine s_check (sw_chk hI 12 (by decide) (h15.at 12 (by decide)) (h12.at 12 (by decide))) ?_
  refine s_sweep d i hI hL w15 12 (by decide) (h15.at 12 (by decide)) (h12.at 12 (by decide)) _ _ _ rfl _ fun _ => ?_
  refine s_rest _ _ _ ?_
  refine s_wait d i ?_
  refine s_enqAt d i 14 (by decide) (by decide) rfl ?_
  refine s_check (sw_chk hI 13 (by decide) (h15.at 13 (by decide)) (h12.at 13 (by decide))) ?_
  refine s_ret ?_
  exact ⟨h15.at 13 (by decide) (hs := slices_S16_o13_S1), h12.at 13 (by decide) (hs := slices_S16_o13_S1), rfl, rfl⟩

include hI hL in
/-- Pass 13's sweep, pass 14, and the wait of pass 15. -/
theorem walk12 {Y : sProp 𝕄} {v1 : BitVec 32} {v12 v15 : IVec S16 32} (h12 : Starts fi 1 v12) (h15 : Starts fi 0 v15)
    {st en : BitVec 32} (hst : st.toNat = start (blk fi) 2000 13) (hen : en.toNat = start (blk fi) 2000 14) (hc : k0_chk122 st en) {a x : BitVec 32} :
    SF d i A q fi fm g12 O W (start (blk fi) 2000 13) cc0_scratch11.sem w16 (block A (wid i) 13) cc0_scratch10.sem w15 14 Y
      ⊢ wp frame (wpE defs₀ 𝒱₀ (thr d i) none) Set.univ
          (k0_part12 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15 st en hc 0#32 a 1#32 x)
          (fun r => iprop(⌜True⌝ ∗ SH d i A q fi fm g12 O W (start (blk fi) 2000 15) cc0_scratch11.sem w16 (block A (wid i) 15) cc0_scratch10.sem w15 Y)) := by
  unfold k0_part12
  refine s_sweep d i hI hL w16 13 (by decide) hst hen _ _ _ rfl _ fun _ => ?_
  refine s_rest _ _ _ ?_
  refine s_wait d i ?_
  refine s_enqAt d i 15 (by decide) (by decide) rfl ?_
  refine s_check (sw_chk hI 14 (by decide) (h15.at 14 (by decide)) (h12.at 14 (by decide))) ?_
  refine s_sweep d i hI hL w15 14 (by decide) (h15.at 14 (by decide)) (h12.at 14 (by decide)) _ _ _ rfl _ fun _ => ?_
  refine s_rest _ _ _ ?_
  refine s_wait d i ?_
  refine s_ret ?_
  trivial

end Walk

end Cert.Proof.Tile
-- ==== Proof.WalkHigh.lean ====
/-
  The passes, part by part: passes 15 to 31.
-/
module

public import proofs.«01_k».proof.Proof.Pass

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

section Walk

variable (d : Dev nD) (i : grid0.Coords) {A : Vec F S64x2x512x512 .f32} {q : PosShare TreeShare}
variable {fi fm : Vec F S1000 .i32} {g12 : Vec F S2048 .i32} {O : CellTallies nD τ sig (HIx 1)} {W : Waits sig (HIx 1)}
variable (hI : ∀ x, (fi x).toNat < 2 ^ 18) (hL : Listed fi g12)

include hI hL in
/-- Pass 15, and pass 16 up to its sweep. -/
theorem walk13 {Y : sProp 𝕄} {v1 : BitVec 32} {v12 v15 v20 v22 : IVec S16 32} (h12 : Starts fi 1 v12) (h15 : Starts fi 0 v15) (h20 : Starts fi 16 v20) (h22 : Starts fi 17 v22) :
    SH d i A q fi fm g12 O W (start (blk fi) 2000 15) cc0_scratch11.sem w16 (block A (wid i) 15) cc0_scratch10.sem w15 Y
      ⊢ wp frame (wpE defs₀ 𝒱₀ (thr d i) none) Set.univ
          (k0_part13 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v12 v15 v20 v22)
          (fun r => iprop(⌜r.1.toNat = start (blk fi) 2000 16 ∧ r.2.1.toNat = start (blk fi) 2000 17 ∧ r.2.2.2.1 = 0#32⌝ ∗ SF d i A q fi fm g12 O W (start (blk fi) 2000 16) cc0_scratch10.sem w15 (block A (wid i) 16) cc0_scratch11.sem w16 17 Y)) := by
  unfold k0_part13
  refine s_enqAt d i 16 (by decide) (by decide) rfl ?_
  refine s_check (sw_chk hI 15 (by decide) (h15.at 15 (by decide)) (h12.at 15 (by decide))) ?_
  refine s_sweep d i hI hL w16 15 (by decide) (h15.at 15 (by decide)) (h12.at 15 (by decide)) _ _ _ rfl _ fun _ => ?_
  refine s_rest _ _ _ ?_
  refine s_wait d i ?_
  refine s_enqAt d i 17 (by decide) (by decide) rfl ?_
  refine s_check (sw_chk hI 16 (by decide) (h20.at 0 (by decide)) (h22.at 0 (by decide))) ?_
  refine s_ret ?_
  exact ⟨h20.at 0 (by decide) (hs := slices_S16_o0_S1), h22.at 0 (by decide) (hs := slices_S16_o0_S1), rfl⟩

include hI hL in
/-- Pass 16's sweep, pass 17, and the wait of pass 18. -/
theorem walk14 {Y : sProp 𝕄} {v1 : BitVec 32} {v20 v22 : IVec S16 32} (h20 : Starts fi 16 v20) (h22 : Starts fi 17 v22)
    {st en : BitVec 32} (hst : st.toNat = start (blk fi) 2000 16) (hen : en.toNat = start (blk fi) 2000 17) (hc : k0_chk149 st en) {a x : BitVec 32} :
    SF d i A q fi fm g12 O W (start (blk fi) 2000 16) cc0_scratch10.sem w15 (block A (wid i) 16) cc0_scratch11.sem w16 17 Y
      ⊢ wp frame (wpE defs₀ 𝒱₀ (thr d i) none) Set.univ
          (k0_part14 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v20 v22 st en hc 0#32 a x)
          (fun r => iprop(⌜True⌝ ∗ SH d i A q fi fm g12 O W (start (blk fi) 2000 18) cc0_scratch10.sem w15 (block A (wid i) 18) cc0_scratch11.sem w16 Y)) := by
  unfold k0_part14
  refine s_sweep d i hI hL w15 16 (by decide) hst hen _ _ _ rfl _ fun _ => ?_
  refine s_rest _ _ _ ?_
  refine s_wait d i ?_
  refine s_enqAt d i 18 (by decide) (by decide) rfl ?_
  refine s_check (sw_chk hI 17 (by decide) (h20.at 1 (by decide)) (h22.at 1 (by decide))) ?_
  refine s_sweep d i hI hL w16 17 (by decide) (h20.at 1 (by decide)) (h22.at 1 (by decide)) _ _ _ rfl _ fun _ => ?_
  refine s_rest _ _ _ ?_
  refine s_wait d i ?_
  refine s_ret ?_
  trivial

include hI hL in
/-- Pass 18, and pass 19 up to its sweep. -/
theorem walk15 {Y : sProp 𝕄} {v1 : BitVec 32} {v20 v22 : IVec S16 32} (h20 : Starts fi 16 v20) (h22 : Starts fi 17 v22) {a x : BitVec 32} :
    SH d i A q fi fm g12 O W (start (blk fi) 2000 18) cc0_scratch10.sem w15 (block A (wid i) 18) cc0_scratch11.sem w16 Y
      ⊢ wp frame (wpE defs₀ 𝒱₀ (thr d i) none) Set.univ
          (k0_part15 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v20 v22 a x)
          (fun r => iprop(⌜r.1.toNat = start (blk fi) 2000 19 ∧ r.2.1.toNat = start (blk fi) 2000 20⌝ ∗ SF d i A q fi fm g12 O W (start (blk fi) 2000 19) cc0_scratch11.sem w16 (block A (wid i) 19) cc0_scratch10.sem w15 20 Y)) := by
  unfold k0_part15
  refine s_enqAt d i 19 (by decide) (by decide) rfl ?_
  refine s_check (sw_chk hI 18 (by decide) (h20.at 2 (by decide)) (h22.at 2 (by decide))) ?_
  refine s_sweep d i hI hL w15 18 (by decide) (h20.at 2 (by decide)) (h22.at 2 (by decide)) _ _ _ rfl _ fun _ => ?_
  refine s_rest _ _ _ ?_
  refine s_wait d i ?_
  refine s_enqAt d i 20 (by decide) (by decide) rfl ?_
  refine s_check (sw_chk hI 19 (by decide) (h20.at 3 (by decide)) (h22.at 3 (by decide))) ?_
  refine s_ret ?_
  exact ⟨h20.at 3 (by decide) (hs := slices_S16_o3_S1), h22.at 3 (by decide) (hs := slices_S16_o3_S1)⟩

include hI hL in
/-- Pass 19's sweep, pass 20, and the wait of pass 21. -/
theorem walk16 {Y : sProp 𝕄} {v1 : BitVec 32} {v20 v22 : IVec S16 32} (h20 : Starts fi 16 v20) (h22 : Starts fi 17 v22)
    {st en : BitVec 32} (hst : st.toNat = start (blk fi) 2000 19) (hen : en.toNat = start (blk fi) 2000 20) (hc : k0_chk176 st en) {x : BitVec 32} :
    SF d i A q fi fm g12 O W (start (blk fi) 2000 19) cc0_scratch11.sem w16 (block A (wid i) 19) cc0_scratch10.sem w15 20 Y
      ⊢ wp frame (wpE defs₀ 𝒱₀ (thr d i) none) Set.univ
          (k0_part16 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v20 v22 st en hc x)
          (fun r => iprop(⌜True⌝ ∗ SH d i A q fi fm g12 O W (start (blk fi) 2000 21) cc0_scratch11.sem w16 (block A (wid i) 21) cc0_scratch10.sem w15 Y)) := by
  unfold k0_part16
  refine s_sweep d i hI hL w16 19 (by decide) hst hen _ _ _ rfl _ fun _ => ?_
  refine s_rest _ _ _ ?_
  refine s_wait d i ?_
  refine s_enqAt d i 21 (by decide) (by decide) rfl ?_
  refine s_check (sw_chk hI 20 (by decide) (h20.at 4 (by decide)) (h22.at 4 (by decide))) ?_
  refine s_sweep d i hI hL w15 20 (by decide) (h20.at 4 (by decide)) (h22.at 4 (by decide)) _ _ _ rfl _ fun _ => ?_
  refine s_rest _ _ _ ?_
  refine s_wait d i ?_
  refine s_ret ?_
  trivial

include hI hL in
/-- Pass 21, and pass 22 up to its sweep. -/
theorem walk17 {Y : sProp 𝕄} {v1 : BitVec 32} {v20 v22 : IVec S16 32} (h20 : Starts fi 16 v20) (h22 : Starts fi 17 v22) :
    SH d i A q fi fm g12 O W (start (blk fi) 2000 21) cc0_scratch11.sem w16 (block A (wid i) 21) cc0_scratch10.sem w15 Y
      ⊢ wp frame (wpE defs₀ 𝒱₀ (thr d i) none) Set.univ
          (k0_part17 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v20 v22)
          (fun r => iprop(⌜r.1.toNat = start (blk fi) 2000 22 ∧ r.2.1.toNat = start (blk fi) 2000 23⌝ ∗ SF d i A q fi fm g12 O W (start (blk fi) 2000 22) cc0_scratch10.sem w15 (block A (wid i) 22) cc0_scratch11.sem w16 23 Y)) := by
  unfold k0_part17
  refine s_enqAt d i 22 (by decide) (by decide) rfl ?_
  refine s_check (sw_chk hI 21 (by decide) (h20.at 5 (by decide)) (h22.at 5 (by decide))) ?_
  refine s_sweep d i hI hL w16 21 (by decide) (h20.at 5 (by decide)) (h22.at 5 (by decide)) _ _ _ rfl _ fun _ => ?_
  refine s_rest _ _ _ ?_
  refine s_wait d i ?_
  refine s_enqAt d i 23 (by decide) (by decide) rfl ?_
  refine s_check (sw_chk hI 22 (by decide) (h20.at 6 (by decide)) (h22.at 6 (by decide))) ?_
  refine s_ret ?_
  exact ⟨h20.at 6 (by decide) (hs := slices_S16_o6_S1), h22.at 6 (by decide) (hs := slices_S16_o6_S1)⟩

include hI hL in
/-- Pass 22's sweep, and pass 23. -/
theorem walk18 {Y : sProp 𝕄} {v1 : BitVec 32} {v20 v22 : IVec S16 32} (h20 : Starts fi 16 v20) (h22 : Starts fi 17 v22)
    {st en : BitVec 32} (hst : st.toNat = start (blk fi) 2000 22) (hen : en.toNat = start (blk fi) 2000 23) (hc : k0_chk203 st en) {a x : BitVec 32} :
    SF d i A q fi fm g12 O W (start (blk fi) 2000 22) cc0_scratch10.sem w15 (block A (wid i) 22) cc0_scratch11.sem w16 23 Y
      ⊢ wp frame (wpE defs₀ 𝒱₀ (thr d i) none) Set.univ
          (k0_part18 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v20 v22 st en hc a x)
          (fun r => iprop(⌜True⌝ ∗ SF d i A q fi fm g12 O W (start (blk fi) 2000 24) cc0_scratch11.sem w16 (block A (wid i) 23) cc0_scratch10.sem w15 24 Y)) := by
  unfold k0_part18
  refine s_sweep d i hI hL w15 22 (by decide) hst hen _ _ _ rfl _ fun _ => ?_
  refine s_rest _ _ _ ?_
  refine s_wait d i ?_
  refine s_enqAt d i 24 (by decide) (by decide) rfl ?_
  refine s_check (sw_chk hI 23 (by decide) (h20.at 7 (by decide)) (h22.at 7 (by decide))) ?_
  refine s_sweep d i hI hL w16 23 (by decide) (h20.at 7 (by decide)) (h22.at 7 (by decide)) _ _ _ rfl _ fun _ => ?_
  refine s_rest _ _ _ ?_
  refine s_ret ?_
  trivial

include hI hL in
/-- Pass 24, and pass 25 up to its sweep. -/
theorem walk19 {Y : sProp 𝕄} {v1 : BitVec 32} {v20 v22 : IVec S16 32} (h20 : Starts fi 16 v20) (h22 : Starts fi 17 v22) :
    SF d i A q fi fm g12 O W (start (blk fi) 2000 24) cc0_scratch11.sem w16 (block A (wid i) 23) cc0_scratch10.sem w15 24 Y
      ⊢ wp frame (wpE defs₀ 𝒱₀ (thr d i) none) Set.univ
          (k0_part19 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v20 v22)
          (fun r => iprop(⌜r.1.toNat = start (blk fi) 2000 25 ∧ r.2.toNat = start (blk fi) 2000 26⌝ ∗ SF d i A q fi fm g12 O W (start (blk fi) 2000 25) cc0_scratch11.sem w16 (block A (wid i) 25) cc0_scratch10.sem w15 26 Y)) := by
  unfold k0_part19
  refine s_wait d i ?_
  refine s_enqAt d i 25 (by decide) (by decide) rfl ?_
  refine s_check (sw_chk hI 24 (by decide) (h20.at 8 (by decide)) (h22.at 8 (by decide))) ?_
  refine s_sweep d i hI hL w15 24 (by decide) (h20.at 8 (by decide)) (h22.at 8 (by decide)) _ _ _ rfl _ fun _ => ?_
  refine s_rest _ _ _ ?_
  refine s_wait d i ?_
  refine s_enqAt d i 26 (by decide) (by decide) rfl ?_
  refine s_ret ?_
  exact ⟨h20.at 9 (by decide) (hs := slices_S16_o9_S1), h22.at 9 (by decide) (hs := slices_S16_o9_S1)⟩

include hI hL in
/-- Pass 25's sweep, and pass 26. -/
theorem walk20 {Y : sProp 𝕄} {v1 : BitVec 32} {v20 v22 : IVec S16 32} (h20 : Starts fi 16 v20) (h22 : Starts fi 17 v22)
    {st en : BitVec 32} (hst : st.toNat = start (blk fi) 2000 25) (hen : en.toNat = start (blk fi) 2000 26) :
    SF d i A q fi fm g12 O W (start (blk fi) 2000 25) cc0_scratch11.sem w16 (block A (wid i) 25) cc0_scratch10.sem w15 26 Y
      ⊢ wp frame (wpE defs₀ 𝒱₀ (thr d i) none) Set.univ
          (k0_part20 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v20 v22 st en)
          (fun r => iprop(⌜True⌝ ∗ SF d i A q fi fm g12 O W (start (blk fi) 2000 27) cc0_scratch10.sem w15 (block A (wid i) 26) cc0_scratch11.sem w16 27 Y)) := by
  unfold k0_part20
  refine s_check (sw_chk hI 25 (by decide) hst hen) ?_
  refine s_sweep d i hI hL w16 25 (by decide) hst hen _ _ _ rfl _ fun _ => ?_
  refine s_rest _ _ _ ?_
  refine s_wait d i ?_
  refine s_enqAt d i 27 (by decide) (by decide) rfl ?_
  refine s_check (sw_chk hI 26 (by decide) (h20.at 10 (by decide)) (h22.at 10 (by decide))) ?_
  refine s_sweep d i hI hL w15 26 (by decide) (h20.at 10 (by decide)) (h22.at 10 (by decide)) _ _ _ rfl _ fun _ => ?_
  refine s_rest _ _ _ ?_
  refine s_ret ?_
  trivial

include hI hL in
/-- Pass 27, and pass 28 up to its sweep. -/
theorem walk21 {Y : sProp 𝕄} {v1 : BitVec 32} {v20 v22 : IVec S16 32} (h20 : Starts fi 16 v20) (h22 : Starts fi 17 v22) :
    SF d i A q fi fm g12 O W (start (blk fi) 2000 27) cc0_scratch10.sem w15 (block A (wid i) 26) cc0_scratch11.sem w16 27 Y
      ⊢ wp frame (wpE defs₀ 𝒱₀ (thr d i) none) Set.univ
          (k0_part21 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v20 v22)
          (fun r => iprop(⌜(extractAt ![0] r inpos_S1_p0 : BitVec 32).toNat = start (blk fi) 2000 28⌝ ∗ SF d i A q fi fm g12 O W (start (blk fi) 2000 28) cc0_scratch10.sem w15 (block A (wid i) 28) cc0_scratch11.sem w16 29 Y)) := by
  unfold k0_part21
  refine s_wait d i ?_
  refine s_enqAt d i 28 (by decide) (by decide) rfl ?_
  refine s_check (sw_chk hI 27 (by decide) (h20.at 11 (by decide)) (h22.at 11 (by decide))) ?_
  refine s_sweep d i hI hL w16 27 (by decide) (h20.at 11 (by decide)) (h22.at 11 (by decide)) _ _ _ rfl _ fun _ => ?_
  refine s_rest _ _ _ ?_
  refine s_wait d i ?_
  refine s_enqAt d i 29 (by decide) (by decide) rfl ?_
  refine s_ret ?_
  exact h20.at 12 (by decide) (hs := slices_S16_o12_S1)

include hI hL in
/-- Pass 28's sweep, and pass 29 up to its last loop. -/
theorem walk22 {Y : sProp 𝕄} {v1 : BitVec 32} {v20 v22 : IVec S16 32} (h20 : Starts fi 16 v20) (h22 : Starts fi 17 v22) {s28 : IVec S1 32} (hst : (extractAt ![0] s28 inpos_S1_p0 : BitVec 32).toNat = start (blk fi) 2000 28) :
    SF d i A q fi fm g12 O W (start (blk fi) 2000 28) cc0_scratch10.sem w15 (block A (wid i) 28) cc0_scratch11.sem w16 29 Y
      ⊢ wp frame (wpE defs₀ 𝒱₀ (thr d i) none) Set.univ
          (k0_part22 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v20 v22 s28)
          (fun r => iprop(⌜r.1.toNat = start (blk fi) 2000 29 ∧ r.2.1.toNat = start (blk fi) 2000 30⌝ ∗ SF d i A q fi fm g12 O W (start (blk fi) 2000 30) cc0_scratch11.sem w16 (block A (wid i) 29) cc0_scratch10.sem w15 30 Y)) := by
  unfold k0_part22
  refine s_check (sw_chk hI 28 (by decide) hst (h22.at 12 (by decide))) ?_
  refine s_sweep d i hI hL w15 28 (by decide) hst (h22.at 12 (by decide)) _ _ _ rfl _ fun _ => ?_
  refine s_rest _ _ _ ?_
  refine s_wait d i ?_
  refine s_enqAt d i 30 (by decide) (by decide) rfl ?_
  refine s_check (sw_chk hI 29 (by decide) (h20.at 13 (by decide)) (h22.at 13 (by decide))) ?_
  refine s_sweep d i hI hL w16 29 (by decide) (h20.at 13 (by decide)) (h22.at 13 (by decide)) _ _ _ rfl _ fun _ => ?_
  refine s_ret ?_
  exact ⟨h20.at 13 (by decide) (hs := slices_S16_o13_S1), h22.at 13 (by decide) (hs := slices_S16_o13_S1)⟩

include hI hL in
/-- Pass 30, and the wait of pass 31. -/
theorem walk23 {Y : sProp 𝕄} {v1 : BitVec 32} {v20 v22 : IVec S16 32} (h20 : Starts fi 16 v20) (h22 : Starts fi 17 v22)
    {st en : BitVec 32} (hst : st.toNat = start (blk fi) 2000 29) (hen : en.toNat = start (blk fi) 2000 30) (hc : k0_chk266 st en) {a x : BitVec 32} :
    SF d i A q fi fm g12 O W (start (blk fi) 2000 30) cc0_scratch11.sem w16 (block A (wid i) 29) cc0_scratch10.sem w15 30 Y
      ⊢ wp frame (wpE defs₀ 𝒱₀ (thr d i) none) Set.univ
          (k0_part23 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3 v1 lanes v20 v22 st en hc a x)
          (fun r => iprop(⌜r.1.toNat = start (blk fi) 2000 31 ∧ r.2.1.toNat = start (blk fi) 2000 32⌝ ∗ SH d i A q fi fm g12 O W (start (blk fi) 2000 31) cc0_scratch11.sem w16 (block A (wid i) 31) cc0_scratch10.sem w15 Y)) := by
  unfold k0_part23
  refine s_rest _ _ _ ?_
  refine s_wait d i ?_
  refine s_enqAt d i 31 (by decide) (by decide) rfl ?_
  refine s_check (sw_chk hI 30 (by decide) (h20.at 14 (by decide)) (h22.at 14 (by decide))) ?_
  refine s_sweep d i hI hL w15 30 (by decide) (h20.at 14 (by decide)) (h22.at 14 (by decide)) _ _ _ rfl _ fun _ => ?_
  refine s_rest _ _ _ ?_
  refine s_wait d i ?_
  refine s_check (sw_chk hI 31 (by decide) (h20.at 15 (by decide)) (h22.at 15 (by decide))) ?_
  refine s_ret ?_
  exact ⟨h20.at 15 (by decide) (hs := slices_S16_o15_S1), h22.at 15 (by decide) (hs := slices_S16_o15_S1)⟩

end Walk

end Cert.Proof.Tile
-- ==== Proof.Tail.lean ====
/-
  A tile's whole program.
-/
module

public import proofs.«01_k».proof.Proof.Rows
public import proofs.«01_k».proof.Proof.WalkLow
public import proofs.«01_k».proof.Proof.WalkHigh

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

section Walk

variable (d : Dev nD) (i : grid0.Coords) {A : Vec F S64x2x512x512 .f32} {q : PosShare TreeShare}
variable {O : CellTallies nD τ sig (HIx 1)} {W : Waits sig (HIx 1)}
variable {I3 M4 : Vec F S32x1000 .i32} (hI : ∀ x, (fiOf i I3 x).toNat < 2 ^ 18)

/-- A tile's row of a table of results, held. -/
abbrev RowOut (m : Memref sig .scVector .hbm S32x2000 .f32) (R : Buf (Elt F) ((outRow i m).view.loc (thr d i))) : sProp 𝕄 :=
  ((outRow i m).view.loc (thr d i) ↦[(outRow i m).view.set]{fullShare} R)

/-- A tile's operands: the whole input at a share, its rows of the positions and masks, and its rows of the results. -/
def Opnds (A : Vec F S64x2x512x512 .f32) (q : PosShare TreeShare) (I3 M4 : Vec F S32x1000 .i32) (R5 R6 : Vec F S32x2000 .f32) : sProp 𝕄 :=
  iprop(Home d i A q ∗ RowIn d i w3 I3 ∗ RowIn d i w4 M4 ∗ RowOut d i w5 R5 ∗ RowOut d i w6 R6)

/-- A tile's scratch buffers. -/
def Bufs : sProp 𝕄 :=
  iprop((∃ f, (w7.view.loc (thr d i) ↦{fullShare} f)) ∗ (∃ f, (w8.view.loc (thr d i) ↦{fullShare} f)) ∗ (∃ f, (w9.view.loc (thr d i) ↦{fullShare} f))
    ∗ (∃ f, (w10.view.loc (thr d i) ↦{fullShare} f)) ∗ (∃ f, (w11.view.loc (thr d i) ↦{fullShare} f)) ∗ (∃ f, (w12.view.loc (thr d i) ↦{fullShare} f))
    ∗ (∃ f, (w13.view.loc (thr d i) ↦{fullShare} f)) ∗ (∃ f, (w14.view.loc (thr d i) ↦{fullShare} f)) ∗ (∃ f, (w15.view.loc (thr d i) ↦{fullShare} f))
    ∗ (∃ f, (w16.view.loc (thr d i) ↦{fullShare} f)))

/-- A tile's semaphores, at zero. -/
def Sems : sProp 𝕄 :=
  iprop(semVal (thr d i, .dma cc0_scratch10.sem) 0 ∗ semVal (thr d i, .dma cc0_scratch11.sem) 0 ∗ semVal (thr d i, .dma cc0_scoped0.sem) 0
    ∗ semVal (thr d i, .dma cc0_scoped1.sem) 0 ∗ semVal (thr d i, .dma cc0_scoped2.sem) 0 ∗ semVal (thr d i, .dma cc0_scoped3.sem) 0)

/-- What a tile keeps from its first part to its last. -/
abbrev Held0 (I3 M4 : Vec F S32x1000 .i32) (R5 R6 : Vec F S32x2000 .f32) : sProp 𝕄 :=
  iprop(RowIn d i w3 I3 ∗ semVal (thr d i, .dma cc0_scoped0.sem) 0 ∗ RowIn d i w4 M4 ∗ semVal (thr d i, .dma cc0_scoped1.sem) 0
    ∗ semVal (thr d i, .dma cc0_scoped2.sem) 0 ∗ semVal (thr d i, .dma cc0_scoped3.sem) 0 ∗ RowOut d i w5 R5 ∗ RowOut d i w6 R6)

/-- What a tile holds while its row of masks is copied out. -/
def Last (A : Vec F S64x2x512x512 .f32) (q : PosShare TreeShare) (O : CellTallies nD τ sig (HIx 1)) (W : Waits sig (HIx 1)) (I3 M4 : Vec F S32x1000 .i32) : sProp 𝕄 :=
  iprop(Flight EC (thr d i) (.dma cc0_scoped3.sem) none (outRow i w6).view.dmaCredit
      iprop(RowOut d i w6 (mexp M4) ∗ ∃ f, (w10.view.loc (thr d i) ↦{fullShare} f)) ∗ Owed d i O W
    ∗ Home d i A q ∗ RowIn d i w3 I3 ∗ RowIn d i w4 M4 ∗ RowOut d i w5 (predm A I3 M4)
    ∗ (∃ f, (w7.view.loc (thr d i) ↦{fullShare} f)) ∗ (∃ f, (w8.view.loc (thr d i) ↦{fullShare} f)) ∗ (∃ f, (w9.view.loc (thr d i) ↦{fullShare} f))
    ∗ (∃ f, (w11.view.loc (thr d i) ↦{fullShare} f)) ∗ (∃ f, (w12.view.loc (thr d i) ↦{fullShare} f))
    ∗ (∃ f, (w13.view.loc (thr d i) ↦{fullShare} f)) ∗ (∃ f, (w14.view.loc (thr d i) ↦{fullShare} f)) ∗ (∃ f, (w15.view.loc (thr d i) ↦{fullShare} f))
    ∗ (∃ f, (w16.view.loc (thr d i) ↦{fullShare} f))
    ∗ semVal (thr d i, .dma cc0_scratch10.sem) 0 ∗ semVal (thr d i, .dma cc0_scratch11.sem) 0 ∗ semVal (thr d i, .dma cc0_scoped0.sem) 0
    ∗ semVal (thr d i, .dma cc0_scoped1.sem) 0 ∗ semVal (thr d i, .dma cc0_scoped2.sem) 0)

include hI in
/-- All passes, and the rows of results copied out. -/
theorem walk24 {R5 R6 : Vec F S32x2000 .f32} :
    iprop(Opnds d i A q I3 M4 R5 R6 ∗ Bufs d i ∗ Sems d i ∗ Owed d i O W)
      ⊢ wp frame (wpE defs₀ 𝒱₀ (thr d i) none) Set.univ
          (k0_part24 (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3)
          (fun _ => iprop(⌜True⌝ ∗ Last d i A q O W I3 M4)) := by
  unfold k0_part24
  iintro ⟨HOp, HB, HS, HO⟩
  unfold Opnds Bufs Sems
  icases HOp with ⟨HA, HR3, HR4, HR5, HR6⟩
  icases HB with ⟨H7, H8, H9, H10, H11, H12, H13, H14, H15, H16⟩
  icases HS with ⟨Hs10, Hs11, Hv0, Hv1, Hv2, Hv3⟩
  iapply (s_part (walk1 d i hI (M4 := M4) (O := O) (W := W) (Y := iprop((Home d i A q ∗ (∃ g, (w12.view.loc (thr d i) ↦{fullShare} g)) ∗ (∃ g, (w14.view.loc (thr d i) ↦{fullShare} g))
      ∗ (∃ g, (w9.view.loc (thr d i) ↦{fullShare} g)) ∗ (∃ g, (w15.view.loc (thr d i) ↦{fullShare} g)) ∗ semVal (thr d i, .dma cc0_scratch10.sem) 0
      ∗ (∃ g, (w16.view.loc (thr d i) ↦{fullShare} g)) ∗ semVal (thr d i, .dma cc0_scratch11.sem) 0)
      ∗ semVal (thr d i, .dma cc0_scoped2.sem) 0 ∗ semVal (thr d i, .dma cc0_scoped3.sem) 0 ∗ RowOut d i w5 R5 ∗ RowOut d i w6 R6))) ?_)
  rotate_left
  · isplitl [HR3]; · iexact HR3
    isplitl [H7]; · iexact H7
    isplitl [Hv0]; · iexact Hv0
    isplitl [HR4]; · iexact HR4
    isplitl [H8]; · iexact H8
    isplitl [Hv1]; · iexact Hv1
    isplitl [H11]; · iexact H11
    isplitl [H10]; · iexact H10
    isplitl [H13]; · iexact H13
    isplitl [HO]; · iexact HO
    isplitl [HA H12 H14 H9 H15 Hs10 H16 Hs11]
    · isplitl [HA]; · iexact HA
      isplitl [H12]; · iexact H12
      isplitl [H14]; · iexact H14
      isplitl [H9]; · iexact H9
      isplitl [H15]; · iexact H15
      isplitl [Hs10]; · iexact Hs10
      isplitl [H16]; · iexact H16
      iexact Hs11
    isplitl [Hv2]; · iexact Hv2
    isplitl [Hv3]; · iexact Hv3
    isplitl [HR5]; · iexact HR5
    iexact HR6
  rintro ⟨v1, v2, v9, v10, v12⟩ ⟨rfl, h9, h10, h12⟩
  dsimp only at h9 h10 h12 ⊢
  unfold Bld
  iintro ⟨H7, H8, H11, H10, H13, HR3, Hv0, HR4, Hv1, HO, ⟨HA, H12, H14, H9, H15, Hs10, H16, Hs11⟩, HX⟩
  iapply (s_part (walk2 d i hI (q := q) (A := A) (fm := fmOf i M4) (O := O) (W := W) (Y := Held0 d i I3 M4 R5 R6) h9 h10 h12) ?_)
  rotate_left
  · unfold Bld
    isplitl [H7]; · iexact H7
    isplitl [H8]; · iexact H8
    isplitl [H11]; · iexact H11
    isplitl [H10]; · iexact H10
    isplitl [H13]; · iexact H13
    isplitl [HA]; · iexact HA
    isplitl [HO]; · iexact HO
    isplitl [H12]; · iexact H12
    isplitl [H14]; · iexact H14
    isplitl [H9]; · iexact H9
    isplitl [H15]; · iexact H15
    isplitl [Hs10]; · iexact Hs10
    isplitl [H16]; · iexact H16
    isplitl [Hs11]; · iexact Hs11
    isplitl [HR3]; · iexact HR3
    isplitl [Hv0]; · iexact Hv0
    isplitl [HR4]; · iexact HR4
    isplitl [Hv1]; · iexact Hv1
    iexact HX
  rintro ⟨v15, v20, v22, v45, v47, hw5, v49, c4⟩ ⟨h15, h20, h22, e0, e1⟩
  dsimp only at h15 h20 h22 e0 e1 ⊢
  iintro ⟨%g12, %hL, H⟩
  iapply (show SF d i A q (fiOf i I3) (fmOf i M4) g12 O W (start (blk (fiOf i I3)) 2000 0) cc0_scratch10.sem w15 (block A (wid i) 0) cc0_scratch11.sem w16 1
    (Kept d i (fmOf i M4) (Held0 d i I3 M4 R5 R6)) ⊢ _ from ?_) $$ H
  refine s_part (walk3 d i hI hL h12 h15 e0 e1 hw5) fun _ _ => ?_
  refine s_part (walk4 d i hI hL h12 h15) ?_
  rintro ⟨st, en, hc, x⟩ ⟨hst, hen⟩
  refine s_part (walk5 d i hI hL h12 h15 hst hen hc) fun _ _ => ?_
  refine s_part (walk6 d i hI hL h12 h15) ?_
  rintro ⟨st, s7⟩ ⟨hst, hen⟩
  refine s_part (walk7 d i hI hL h12 h15 hst hen) fun _ _ => ?_
  refine s_part (walk8 d i hI hL h12 h15) fun _ _ => ?_
  refine s_part (walk9 d i hI hL h12 h15) ?_
  rintro ⟨st, en, hc, z, a, x, o⟩ ⟨hst, hen, hz, ho⟩
  dsimp only at hz ho
  subst hz ho
  refine s_part (walk10 d i hI hL h12 h15 hst hen hc) fun _ _ => ?_
  refine s_part (walk11 d i hI hL h12 h15) ?_
  rintro ⟨st, en, hc, z, a, o, x⟩ ⟨hst, hen, hz, ho⟩
  dsimp only at hz ho
  subst hz ho
  refine s_part (walk12 d i hI hL h12 h15 hst hen hc) fun _ _ => ?_
  refine s_part (walk13 d i hI hL h12 h15 h20 h22) ?_
  rintro ⟨st, en, hc, z, a, x⟩ ⟨hst, hen, hz⟩
  dsimp only at hz
  subst hz
  refine s_part (walk14 d i hI hL h20 h22 hst hen hc) ?_
  rintro ⟨a, x⟩ -
  refine s_part (walk15 d i hI hL h20 h22) ?_
  rintro ⟨st, en, hc, x⟩ ⟨hst, hen⟩
  refine s_part (walk16 d i hI hL h20 h22 hst hen hc) fun _ _ => ?_
  refine s_part (walk17 d i hI hL h20 h22) ?_
  rintro ⟨st, en, hc, a, x⟩ ⟨hst, hen⟩
  refine s_part (walk18 d i hI hL h20 h22 hst hen hc) fun _ _ => ?_
  refine s_part (walk19 d i hI hL h20 h22) ?_
  rintro ⟨st, en⟩ ⟨hst, hen⟩
  refine s_part (walk20 d i hI hL h20 h22 hst hen) fun _ _ => ?_
  refine s_part (walk21 d i hI hL h20 h22) ?_
  intro s28 hs28
  refine s_part (walk22 d i hI hL h20 h22 hs28) ?_
  rintro ⟨st, en, hc, a, x⟩ ⟨hst, hen⟩
  refine s_part (walk23 d i hI hL h20 h22 hst hen hc) ?_
  rintro ⟨st, en, hc, x⟩ ⟨hst, hen⟩
  refine s_sweep d i hI hL w16 31 (by decide) hst hen _ _ _ rfl _ fun _ => ?_
  refine s_rest _ _ _ ?_
  unfold Sw Kept
  iintro ⟨H7, H8, H12, ⟨%g9, %hD, H9⟩, H16, Hs11, HA, HO, Hs10, ⟨%y15, H15⟩, H11, ⟨%g10, %hW, H10⟩, H13, H14, HR3, Hv0, HR4, Hv1, Hv2, Hv3, HR5, HR6⟩
  iapply (Transfers.wp_dmaLocal EC 𝒱₀ (thr d i) none none ((outRow i w5).view.dmaCredit) rfl (View.dmaCredit_pos _ (by decide))
    (src := w9) (dst := outRow i w5) (fs := g9) (fd := R5) (Sd := (outRow i w5).view.set) (Finset.Subset.refl _)) $$ [H9 HR5 Hv2]
  · isplitl [H9]
    · rw [show w9.view.set = Finset.univ from View.set_whole _]; iexact H9
    isplitl [HR5]; · iexact HR5
    iexact Hv2
  iintro HF
  iapply (s_wait_own d i (dstw := outRow i w5)) $$ [HF HO]
  · isplitl [HF]; · iexact HF
    iexact HO
  iintro ⟨⟨HR5, H9⟩, Hv2, HO⟩
  rw [show w9.view.set = Finset.univ from View.set_whole _]
  iapply (Transfers.wp_dmaLocal EC 𝒱₀ (thr d i) none none ((outRow i w6).view.dmaCredit) rfl (View.dmaCredit_pos _ (by decide))
    (src := w10) (dst := outRow i w6) (fs := g10) (fd := R6) (Sd := (outRow i w6).view.set) (Finset.Subset.refl _)) $$ [H10 HR6 Hv3]
  · isplitl [H10]
    · rw [show w10.view.set = Finset.univ from View.set_whole _]; iexact H10
    isplitl [HR6]; · iexact HR6
    iexact Hv3
  iintro HF
  simp only [Prog.bind, wp_pure]
  imodintro
  isplitr; · ipureintro; trivial
  unfold Last
  isplitl [HF]
  · iapply (Transfers.Flight_mono EC (thr d i) (D' := iprop(_ ∗ _)) ?_) $$ HF
    rw [show w10.view.set = Finset.univ from View.set_whole _]
    iintro ⟨HR6, H10⟩
    isplitl [HR6]
    · iapply (Entails.of_eq (row_written (c := thr d i) (outRow i w6) R6 (mexp M4) (wts_row i hW)))
      iexact HR6
    iexists g10
    iexact H10
  isplitl [HO]; · iexact HO
  isplitl [HA]; · iexact HA
  isplitl [HR3]; · iexact HR3
  isplitl [HR4]; · iexact HR4
  isplitl [HR5]
  · iapply (Entails.of_eq (row_written (c := thr d i) (outRow i w5) R5 (predm A I3 M4) (done_row i hI hD)))
    iexact HR5
  isplitl [H7]; · iexists _; iexact H7
  isplitl [H8]; · iexists _; iexact H8
  isplitl [H9]; · iexists g9; iexact H9
  isplitl [H11]; · iexact H11
  isplitl [H12]; · iexists _; iexact H12
  isplitl [H13]; · iexact H13
  isplitl [H14]; · iexact H14
  isplitl [H15]
  · iapply (of_held (thr d i) w15 (Memref.set_access_whole _) y15) $$ H15
  isplitl [H16]
  · iapply (of_held (thr d i) w16 (Memref.set_access_whole _) _) $$ H16
  isplitl [Hs10]; · iexact Hs10
  isplitl [Hs11]; · iexact Hs11
  isplitl [Hv0]; · iexact Hv0
  isplitl [Hv1]; · iexact Hv1
  iexact Hv2

include hI in
/-- The tile's program: its rows of the results come to hold its entries and its masks. -/
theorem walk {R5 R6 : Vec F S32x2000 .f32} :
    iprop(Opnds d i A q I3 M4 R5 R6 ∗ Bufs d i ∗ Sems d i ∗ Owed d i O W)
      ⊢ wp frame (wpE defs₀ 𝒱₀ (thr d i) none) Set.univ
          (cc0_k (F := F) i w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3)
          (fun _ => iprop(Opnds d i A q I3 M4 (predm A I3 M4) (mexp M4) ∗ Bufs d i ∗ Sems d i ∗ Owed d i O W)) := by
  unfold cc0_k
  refine s_part (walk24 d i hI) fun _ _ => ?_
  unfold Last Opnds Bufs Sems
  iintro ⟨HF, HO, HA, HR3, HR4, HR5, H7, H8, H9, H11, H12, H13, H14, H15, H16, Hs10, Hs11, Hv0, Hv1, Hv2⟩
  iapply (s_wait_own d i (dstw := outRow i w6)) $$ [HF HO]
  · isplitl [HF]; · iexact HF
    iexact HO
  iintro ⟨⟨HR6, H10⟩, Hv3, HO⟩
  rw [wp_pure]
  imodintro
  isplitl [HA HR3 HR4 HR5 HR6]
  · isplitl [HA]; · iexact HA
    isplitl [HR3]; · iexact HR3
    isplitl [HR4]; · iexact HR4
    isplitl [HR5]; · iexact HR5
    iexact HR6
  isplitl [H7 H8 H9 H10 H11 H12 H13 H14 H15 H16]
  · isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [Hs10 Hs11 Hv0 Hv1 Hv2 Hv3]
  · isplitl [Hs10]; · iexact Hs10
    isplitl [Hs11]; · iexact Hs11
    isplitl [Hv0]; · iexact Hv0
    isplitl [Hv1]; · iexact Hv1
    isplitl [Hv2]; · iexact Hv2
    iexact Hv3
  iexact HO

end Walk

end Cert.Proof.Tile
-- ==== Proof.Deal.lean ====
/-
  What the launch asks of the tiles: what each is handed and hands back, its program run from its own storage, and how
  the arrays split among them.
-/
module

public import proofs.«01_k».proof.Proof.Tail

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

/-! ## A tile's storage -/

section Storage

variable (d : Dev nD) (i : grid0.Coords)

/-- The scratch buffers. -/
abbrev refs : Finset (Ref sig .scVector) :=
  {cc0_scratch0, cc0_scratch1, cc0_scratch2, cc0_scratch3, cc0_scratch4, cc0_scratch5, cc0_scratch6, cc0_scratch7, cc0_scratch8, cc0_scratch9}

/-- The transfers' semaphores. -/
abbrev sems : Finset (DmaSem sig) :=
  {cc0_scratch10.sem, cc0_scratch11.sem, cc0_scoped0.sem, cc0_scoped1.sem, cc0_scoped2.sem, cc0_scoped3.sem}

theorem refs_own : refs.image (thr d i).2.devRef ⊆ ownRefs (thr d i).2 := by
  intro b hb
  obtain ⟨r, hr, rfl⟩ := Finset.mem_image.1 hb
  refine SparseCore.Cfg.mem_ownRefs_of_owner ?_
  simp only [refs, Finset.mem_insert, Finset.mem_singleton] at hr
  rcases hr with rfl | rfl | rfl | rfl | rfl | rfl | rfl | rfl | rfl | rfl <;> rfl

/-- The scratch buffers, one by one. -/
theorem refs_sep (Φ : Ref sig .scVector → sProp 𝕄) :
    bigSep refs Φ = iprop(Φ cc0_scratch0 ∗ Φ cc0_scratch1 ∗ Φ cc0_scratch2 ∗ Φ cc0_scratch3 ∗ Φ cc0_scratch4 ∗ Φ cc0_scratch5 ∗ Φ cc0_scratch6
      ∗ Φ cc0_scratch7 ∗ Φ cc0_scratch8 ∗ Φ cc0_scratch9) := by
  unfold refs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A tile's own buffers are its scratch buffers and others. -/
theorem ownBufs_tile : ∃ R : sProp 𝕄, (ownBufs (thr d i) : sProp 𝕄) = iprop(Bufs d i ∗ R) := by
  refine ⟨bigSep (ownRefs (thr d i).2 \ refs.image (thr d i).2.devRef) fun b => iprop(∃ f, (((thr d i).1, b) : Loc nD τ sig) ↦{fullShare} f), ?_⟩
  unfold SparseCore.Cfg.ownBufs
  rw [SparseCore.bigSep_sdiff_split' (refs_own d i), SparseCore.bigSep_image_of_injOn (fun a _ b _ e => Proc.devRef_injective _ e), refs_sep]
  rfl

/-- A tile's own semaphores are those of its transfers and others. -/
theorem ownSems_tile : ∃ R : sProp 𝕄, (ownSems0 (thr d i) : sProp 𝕄) = iprop(Sems d i ∗ R) := by
  have hin : sems.image (fun s => ((thr d i, SemLoc.dma s) : GSem nD τ sig)) ⊆ ownCells (thr d i) := by
    intro g hg
    obtain ⟨s, hs, rfl⟩ := Finset.mem_image.1 hg
    refine mem_ownCells.2 ⟨rfl, ?_⟩
    show (SemLoc.dma s : SemLoc sig).isScoped .scVector = true
    exact (show ∀ s ∈ sems, (SemLoc.dma s : SemLoc sig).isScoped .scVector = true by decide) s hs
  refine ⟨_, (SparseCore.bigSep_sdiff_split' hin).trans (congrArg (fun x : sProp 𝕄 => iprop(x ∗ _)) ?_)⟩
  rw [SparseCore.bigSep_image_of_injOn (fun a _ b _ e => by injection (Prod.mk.inj e).2)]
  unfold sems Sems
  rw [SparseCore.bigSep_insert' (by decide), SparseCore.bigSep_insert' (by decide), SparseCore.bigSep_insert' (by decide),
    SparseCore.bigSep_insert' (by decide), SparseCore.bigSep_insert' (by decide), bigSep_singleton]

end Storage

/-! ## What the handshakes carry -/

theorem nCore_zero : (K (F := F)).nCore 0 = 2 := rfl
theorem nSub_zero : (K (F := F)).nSub 0 = 16 := rfl

/-- The share of the input SparseCore `c`'s tile `s` reads it at. -/
abbrev shareOf (c : Fin 2) (s : Fin 16) : PosShare TreeShare :=
  Transfers.dealOf (Transfers.dealOf fullShare Finset.univ c) Finset.univ s

variable (A : Dev nD → Vec F S64x2x512x512 .f32) (I3 M4 : Dev nD → Vec F S32x1000 .i32) (R5 R6 : Dev nD → Vec F S32x2000 .f32)

/-- What a tile is handed: its operands, its rows of the results as they were. -/
abbrev Go (d : Dev nD) (c : Fin 2) (s : Fin 16) : sProp 𝕄 := Opnds d (tileAt c s) (A d) (shareOf c s) (I3 d) (M4 d) (R5 d) (R6 d)

/-- What it hands back: the same, its rows of the results computed. -/
abbrev Td (d : Dev nD) (c : Fin 2) (s : Fin 16) : sProp 𝕄 :=
  Opnds d (tileAt c s) (A d) (shareOf c s) (I3 d) (M4 d) (predm (A d) (I3 d) (M4 d)) (mexp (M4 d))

instance opnds_storable (d : Dev nD) (i : grid0.Coords) (A : Vec F S64x2x512x512 .f32) (q : PosShare TreeShare) (I3 M4 : Vec F S32x1000 .i32)
    (R5 R6 : Vec F S32x2000 .f32) : BI.Storable (upEmb : UEmb _ 𝕄) (Opnds d i A q I3 M4 R5 R6) := by
  unfold Opnds Home
  infer_instance

/-- The call's payloads: a SparseCore's are its sixteen tiles'. -/
def P : (K (F := F)).Pay (nD := nD) (Val := Elt F) (Name := ℕ) (U := UU) where
  st := fun q d c => match q with | 0 => bigSep Finset.univ fun s : Fin 16 => Go A I3 M4 R5 R6 d (Fin.cast nCore_zero c) s
  dn := fun q d c => match q with | 0 => bigSep Finset.univ fun s : Fin 16 => Td A I3 M4 d (Fin.cast nCore_zero c) s
  go := fun q d c s => match q with | 0 => Go A I3 M4 R5 R6 d (Fin.cast nCore_zero c) (Fin.cast nSub_zero s)
  td := fun q d c s => match q with | 0 => Td A I3 M4 d (Fin.cast nCore_zero c) (Fin.cast nSub_zero s)
  x := fun _ _ => iprop(emp)

instance P_storable : (P A I3 M4 R5 R6).IsStorable where
  st q d c := match q with
    | 0 => (inferInstance : BI.Storable (upEmb : UEmb _ 𝕄) (bigSep Finset.univ fun s : Fin 16 => Go A I3 M4 R5 R6 d (Fin.cast nCore_zero c) s))
  dn q d c := match q with
    | 0 => (inferInstance : BI.Storable (upEmb : UEmb _ 𝕄) (bigSep Finset.univ fun s : Fin 16 => Td A I3 M4 d (Fin.cast nCore_zero c) s))
  go q d c s := match q with
    | 0 => (inferInstance : BI.Storable (upEmb : UEmb _ 𝕄) (Go A I3 M4 R5 R6 d (Fin.cast nCore_zero c) (Fin.cast nSub_zero s)))
  td q d c s := match q with
    | 0 => (inferInstance : BI.Storable (upEmb : UEmb _ 𝕄) (Td A I3 M4 d (Fin.cast nCore_zero c) (Fin.cast nSub_zero s)))

/-! ## A tile's task -/

/-- What the proof asks of the positions: they name elements of an image. -/
def InRange (I3 : Dev nD → Vec F S32x1000 .i32) : Prop := ∀ d y, (I3 d y).toNat < 2 ^ 18

variable {I3} in
theorem InRange.row (h : InRange I3) (d : Dev nD) (i : grid0.Coords) (x : S1000.Idx) : (fiOf i (I3 d) x).toNat < 2 ^ 18 := h d _

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A tile's program from what the launch hands it to what it hands back. -/
theorem task (hI : InRange I3) (d : Dev nD) (c : Fin 2) (s : Fin 16) (O : CellTallies nD τ sig (HIx 1)) (W : Waits sig (HIx 1)) (hO : ∀ g, O g none = 0) :
    iprop(levAts (K (F := F)).L (K (F := F)).lev ∗ emp ∗ Go A I3 M4 R5 R6 d c s
        ∗ scopedBufs (thr d (tileAt c s)) ∗ scopedSems0 (thr d (tileAt c s)) ∗ owes (thr d (tileAt c s)) O W)
      ⊢ wp frame (wpE (defs₀ (F := F)) 𝒱₀ (thr d (tileAt c s)) none) Set.univ
          (cc0_k (F := F) (tileAt c s) w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3)
          fun _ => iprop(Td A I3 M4 d c s ∗ scopedBufs (thr d (tileAt c s)) ∗ scopedSems0 (thr d (tileAt c s))
            ∗ ∃ W', ⌜∀ p ∈ W', p ∈ W ∨ p.2 = none⌝ ∗ owes (thr d (tileAt c s)) O W') := by
  obtain ⟨RB, hB⟩ := ownBufs_tile (F := F) d (tileAt c s)
  obtain ⟨RS, hS⟩ := ownSems_tile (F := F) d (tileAt c s)
  rw [show (scopedBufs (thr d (tileAt c s)) : sProp 𝕄) = _ from ((K (F := F)).scopedBufs_V facts d _ _).trans hB,
    show (scopedSems0 (thr d (tileAt c s)) : sProp 𝕄) = _ from (SparseCore.Cfg.scopedSems0_V (Val := Elt F) d _ _).trans hS]
  iintro ⟨#Hlv, -, HG, ⟨HB, HRB⟩, ⟨HS, HRS⟩, HO⟩
  iapply (((sep_mono_left (walk d (tileAt c s) (InRange.row hI d _) (A := A d) (q := shareOf c s) (O := O) (W := W) (M4 := M4 d) (R5 := R5 d) (R6 := R6 d))).trans
    (wp_frame_r _ _ _ (R := iprop(RB ∗ RS)))).trans (wp_mono _ _ _ fun _ => (?_ : iprop(_ ∗ _) ⊢ _))) $$ [HG HB HS HO HRB HRS]
  rotate_left
  · isplitl [HG HB HS HO]
    · isplitl [HG]; · iexact HG
      isplitl [HB]; · iexact HB
      isplitl [HS]; · iexact HS
      unfold Owed
      isplitr
      · iapply ((K (F := F)).mayWaits_none (thr := thr d (tileAt c s)) hO); iexact Hlv
      iexists W
      isplitr
      · ipureintro; exact fun p hp => Or.inl hp
      iexact HO
    isplitl [HRB]; · iexact HRB
    iexact HRS
  iintro ⟨⟨HG, HB, HS, HO⟩, HRB, HRS⟩
  unfold Owed
  icases HO with ⟨-, HO⟩
  isplitl [HG]; · iexact HG
  isplitl [HB HRB]
  · isplitl [HB]; · iexact HB
    iexact HRB
  isplitl [HS HRS]
  · isplitl [HS]; · iexact HS
    iexact HRS
  iexact HO

theorem obl_post {c : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes c O W')
      ⊢ iprop(A ∗ B ∗ C ∗ ∃ W', ⌜∀ p ∈ W', p ∈ W ∨ p.2 = none ∨ p.2 = some q⌝ ∗ owes c O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_tile (c : Fin τ.nSC) (s : Fin τ.nSub) :
    defs₀ (F := F) (.scVector c s) 0 ()
      = SparseCore.onTile hcore0 hsub0 (fun c s => cc0_k (tileAt c s) w2 (Memref.isWhole_whole _) w3 (Memref.isWhole_whole _) w4 (Memref.isWhole_whole _) w5 (Memref.isWhole_whole _) w6 (Memref.isWhole_whole _) w7 (Memref.isWhole_whole _) w8 (Memref.isWhole_whole _) w9 (Memref.isWhole_whole _) w10 (Memref.isWhole_whole _) w11 (Memref.isWhole_whole _) w12 (Memref.isWhole_whole _) w13 (Memref.isWhole_whole _) w14 (Memref.isWhole_whole _) w15 (Memref.isWhole_whole _) w16 (Memref.isWhole_whole _) cc0_scratch10 cc0_scratch11 cc0_scoped0 cc0_scoped1 cc0_scoped2 cc0_scoped3) ⟨⟩ c s := rfl

/-- The tiles' obligation at the call. -/
theorem tileObl (hI : InRange I3) : (K (F := F)).TileObl (D (F := F)) 𝒱 (P A I3 M4 R5 R6) v₀ 0 := by
  intro d c s O W hO _ _
  simp only [show (P A I3 M4 R5 R6).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_tile]; simp only [SparseCore.onTile, hc, and_self, ↓reduceDIte]
  exact (task A I3 M4 R5 R6 hI d ⟨_, hc.1⟩ ⟨_, hc.2⟩ O W hO).trans (wp_mono frame _ _ fun _ => obl_post)

/-- A SparseCore's operands are its tiles', and so its results. -/
theorem vecSplit : (K (F := F)).VecSplit' (P A I3 M4 R5 R6) 0 := by
  intro d c
  show (bigSep Finset.univ fun s : Fin 16 => Go A I3 M4 R5 R6 d (Fin.cast nCore_zero c) s) ⊢ |={Set.univ}=> iprop(
      (bigSep Finset.univ fun s : Fin 16 => Go A I3 M4 R5 R6 d (Fin.cast nCore_zero c) s)
      ∗ ((bigSep Finset.univ fun s : Fin 16 => Td A I3 M4 d (Fin.cast nCore_zero c) s)
          -∗ bigSep Finset.univ fun s : Fin 16 => Td A I3 M4 d (Fin.cast nCore_zero c) s))
  iintro H; imodintro
  isplitl [H]; · iexact H
  iintro H
  iexact H

/-! ## The arrays, split among the tiles -/

/-- Every element whose row is below 32 belongs to one of the tiles. -/
theorem tiles_cover {α : Type} [Fintype α] [DecidableEq α] (r : α → ℕ) (hr : ∀ y, r y < 32) :
    (Finset.univ : Finset (Fin 2)).biUnion (fun c => (Finset.univ : Finset (Fin 16)).biUnion fun s =>
      Finset.univ.filter fun y : α => r y = c.val * 16 + s.val) = Finset.univ := by
  ext y
  simp only [Finset.mem_univ, Finset.mem_biUnion, Finset.mem_filter, true_and, iff_true]
  have := hr y
  exact ⟨⟨r y / 16, by omega⟩, ⟨r y % 16, Nat.mod_lt _ (by decide)⟩, (Nat.div_add_mod' _ _).symm⟩

/-- An array whose elements lie in 32 rows is the tiles' rows of it. -/
theorem pointsTo_tiles {ℓ : Loc nD τ sig} {f : Buf (Elt F) ℓ} (r : Idx ℓ → ℕ) (hr : ∀ y, r y < 32) :
    (ℓ ↦{fullShare} f : sProp 𝕄) = bigSep Finset.univ fun c : Fin 2 => bigSep Finset.univ fun s : Fin 16 =>
      (ℓ ↦[Finset.univ.filter fun y => r y = c.val * 16 + s.val]{fullShare} f) := by
  refine (congrArg (fun I => (ℓ ↦[I]{fullShare} f : sProp 𝕄)) (tiles_cover r hr).symm).trans
    ((pointsTo_biUnion _ _ ?_).trans (bigSep_congr ?_))
  rotate_left
  · intro c _
    refine pointsTo_biUnion _ _ ?_
    intro s _ s' _ h
    refine Finset.disjoint_left.2 fun y h1 h2 => h (Fin.ext ?_)
    have e1 := (Finset.mem_filter.1 h1).2
    have e2 := (Finset.mem_filter.1 h2).2
    omega
  · intro c _ c' _ h
    refine Finset.disjoint_left.2 fun y h1 h2 => h (Fin.ext ?_)
    obtain ⟨s, -, h1⟩ := Finset.mem_biUnion.1 h1
    obtain ⟨s', -, h2⟩ := Finset.mem_biUnion.1 h2
    have e1 := (Finset.mem_filter.1 h1).2
    have e2 := (Finset.mem_filter.1 h2).2
    have := s.isLt
    have := s'.isLt
    omega

/-- The positions are the tiles' rows of them. -/
theorem split3 (d : Dev nD) (I : Vec F S32x1000 .i32) :
    ((SparseCore.T d).loc main_v0 ↦{fullShare} I : sProp 𝕄) = bigSep Finset.univ fun c : Fin 2 => bigSep Finset.univ fun s : Fin 16 => RowIn d (tileAt c s) w3 I :=
  (pointsTo_tiles (ℓ := (SparseCore.T d).loc main_v0) (fun y : S32x1000.Idx => (y 0).val) (fun y => (y 0).isLt)).trans
    (bigSep_congr fun c _ => bigSep_congr fun s _ => by
      unfold RowIn
      rw [set_inRow]
      rfl)

/-- The masks are the tiles' rows of them. -/
theorem split4 (d : Dev nD) (I : Vec F S32x1000 .i32) :
    ((SparseCore.T d).loc main_v1 ↦{fullShare} I : sProp 𝕄) = bigSep Finset.univ fun c : Fin 2 => bigSep Finset.univ fun s : Fin 16 => RowIn d (tileAt c s) w4 I :=
  (pointsTo_tiles (ℓ := (SparseCore.T d).loc main_v1) (fun y : S32x1000.Idx => (y 0).val) (fun y => (y 0).isLt)).trans
    (bigSep_congr fun c _ => bigSep_congr fun s _ => by
      unfold RowIn
      rw [show (inRow (tileAt c s) w4).view.set = _ from set_inRow (tileAt c s)]
      rfl)

/-- The first results are the tiles' rows of them. -/
theorem split5 (d : Dev nD) (R : Vec F S32x2000 .f32) :
    ((SparseCore.T d).loc main_v3_0 ↦{fullShare} R : sProp 𝕄) = bigSep Finset.univ fun c : Fin 2 => bigSep Finset.univ fun s : Fin 16 => RowOut d (tileAt c s) w5 R :=
  (pointsTo_tiles (ℓ := (SparseCore.T d).loc main_v3_0) (fun y : S32x2000.Idx => (y 0).val) (fun y => (y 0).isLt)).trans
    (bigSep_congr fun c _ => bigSep_congr fun s _ => by
      unfold RowOut
      rw [set_outRow]
      rfl)

/-- The second results are the tiles' rows of them. -/
theorem split6 (d : Dev nD) (R : Vec F S32x2000 .f32) :
    ((SparseCore.T d).loc main_v3_1 ↦{fullShare} R : sProp 𝕄) = bigSep Finset.univ fun c : Fin 2 => bigSep Finset.univ fun s : Fin 16 => RowOut d (tileAt c s) w6 R :=
  (pointsTo_tiles (ℓ := (SparseCore.T d).loc main_v3_1) (fun y : S32x2000.Idx => (y 0).val) (fun y => (y 0).isLt)).trans
    (bigSep_congr fun c _ => bigSep_congr fun s _ => by
      unfold RowOut
      rw [show (outRow (tileAt c s) w6).view.set = _ from set_outRow (tileAt c s)]
      rfl)

/-- The input is the tiles' shares of it. -/
theorem split2 (d : Dev nD) (A : Vec F S64x2x512x512 .f32) :
    ((SparseCore.T d).loc main_arg0 ↦{fullShare} A : sProp 𝕄) = bigSep Finset.univ fun c : Fin 2 => bigSep Finset.univ fun s : Fin 16 => Home d (tileAt c s) A (shareOf c s) :=
  (Transfers.pointsTo_deal (ι := Fin 2) Finset.univ ⟨0, Finset.mem_univ _⟩ fullShare).trans
    (bigSep_congr fun c _ => Transfers.pointsTo_deal (ι := Fin 16) Finset.univ ⟨0, Finset.mem_univ _⟩ _)

/-- The call's operands, whole, are the tiles'. -/
theorem opnds_split (d : Dev nD) (A : Vec F S64x2x512x512 .f32) (I3 M4 : Vec F S32x1000 .i32) (R5 R6 : Vec F S32x2000 .f32) :
    iprop(((SparseCore.T d).loc main_arg0 ↦{fullShare} A) ∗ ((SparseCore.T d).loc main_v0 ↦{fullShare} I3) ∗ ((SparseCore.T d).loc main_v1 ↦{fullShare} M4)
        ∗ ((SparseCore.T d).loc main_v3_0 ↦{fullShare} R5) ∗ ((SparseCore.T d).loc main_v3_1 ↦{fullShare} R6))
      = (bigSep Finset.univ fun c : Fin 2 => bigSep Finset.univ fun s : Fin 16 => Opnds d (tileAt c s) A (shareOf c s) I3 M4 R5 R6 : sProp 𝕄) := by
  rw [split2, split3, split4, split5, split6]
  unfold Opnds
  simp only [bigSep_sep']

end Cert.Proof.Tile
-- ==== Proof.Mean.lean ====
/-
  The TensorCore's kernel: from the tiles' two arrays and the targets to the loss, and its pallas_call as a step of @main.
-/
module

public import proofs.«01_k».proof.Proof.Deal
public import proofs.«01_k».proof.Proof.Gen.KernelIdeal.Launch
public import Idealize.ShloMosaic.Lib.Pipeline.Regions

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.ShloMosaic.Pipeline (Dat Window BodyObligation)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

/-! ## The body -/

/-- The sum of an array's elements, as the kernel takes it. -/
def total (X : Vec F S32x2000 .f32) : F .f32 :=
  extractAt ![0, 0, 0] (shapeCast S1x1x1 (multiReduction .add [1, 2] S1 (shapeCast S1x32x2000 X shapeCasts_S32x2000_S1x32x2000 : FVec F S1x32x2000 .f32)
    0x00000000#32 reduces_S1x32x2000_S1 (.inl rfl) rfl : FVec F S1 .f32) shapeCasts_S1_S1x1x1) inpos_S1x1x1_p0_0_0

/-- The loss: the sum of the differences' absolute values, over the sum of the weights and a small constant. -/
def loss (X M Y : Vec F S32x2000 .f32) : F .f32 :=
  Scalar.divf (total (absf (subf X (mulf Y M)))) (Scalar.addf (total M) (Scalar.ofBits .f32 0x38D1B717#32))

abbrev s0 : Memref sig .tc .vmem S32x2000 .f32 := Memref.whole cc1_stg0_0
abbrev s1 : Memref sig .tc .vmem S32x2000 .f32 := Memref.whole cc1_stg1_0
abbrev s2 : Memref sig .tc .vmem S32x2000 .f32 := Memref.whole cc1_stg2_0
abbrev s3 : Memref sig .tc .smem S1x1 .f32 := Memref.whole cc1_stg3_0

/-- The body: the three arrays in their staging buffers, it leaves the loss in the fourth. -/
theorem mean (c : Dev nD) (X M Y : Vec F S32x2000 .f32) (Z : Vec F S1x1 .f32) (Q : PUnit → sProp 𝕄) :
    iprop((s0.view.loc (c : Thread nD τ) ↦{fullShare} X) ∗ (s1.view.loc (c : Thread nD τ) ↦{fullShare} M) ∗ (s2.view.loc (c : Thread nD τ) ↦{fullShare} Y)
      ∗ (s3.view.loc (c : Thread nD τ) ↦{fullShare} Z)
      ∗ (iprop((s0.view.loc (c : Thread nD τ) ↦{fullShare} X) ∗ (s1.view.loc (c : Thread nD τ) ↦{fullShare} M) ∗ (s2.view.loc (c : Thread nD τ) ↦{fullShare} Y)
        ∗ (s3.view.loc (c : Thread nD τ) ↦{fullShare} fun _ => loss X M Y)) -∗ Q ⟨⟩))
    ⊢ wp frame (wpE (defs₀ (F := F)) Variants.none (c : Thread nD τ) none) Set.univ
        (cc1_body s0 (hstage1_0 0) s1 (hstage1_1 0) s2 (hstage1_2 0) s3 (hstage1_3 0)) Q := by
  iintro ⟨H0, H1, H2, H3, Hk⟩
  sl_exec!
  sl_step
  iapply Hk
  isplitl [H0]; · iexact H0
  isplitl [H1]; · iexact H1
  isplitl [H2]; · iexact H2
  have e : s3.view.writes (Elt F) s3.view.junk (mean.sl.H3_1 X M Y) = fun _ => loss X M Y := by
    delta mean.sl.H3_1
    refine (View.writes_singleton _ _ _ _).trans ((Memref.write_access_unit_zero_univ _ _ (by funext a; fin_cases a <;> rfl) _ _ _).trans ?_)
    funext y
    delta mean.sl.v18 mean.sl.v12 mean.sl.v17 mean.sl.v11 mean.sl.v10 mean.sl.v9 mean.sl.v8 mean.sl.v7 mean.sl.v16 mean.sl.v15 mean.sl.v14 mean.sl.v13 mean.sl.cst_6 mean.sl.v6 mean.sl.v5 mean.sl.v3 mean.sl.v1
    have z : (![0, 0] : Fin 2 → ℕ) = fun _ => 0 := by funext a; fin_cases a <;> rfl
    rw [shapeCast_self, shapeCast_self, shapeCast_self]
    rw [show View.readAt (Elt F) s0.view (Rect.unit ![0, 0] S32x2000.size inb_S32x2000_S32x2000_0_0).toLoadRect X = X from
        Memref.readAt_unit_zero _ _ z _ _,
      show View.readAt (Elt F) s1.view (Rect.unit ![0, 0] S32x2000.size inb_S32x2000_S32x2000_0_0).toLoadRect M = M from
        Memref.readAt_unit_zero _ _ z _ _,
      show View.readAt (Elt F) s2.view (Rect.unit ![0, 0] S32x2000.size inb_S32x2000_S32x2000_0_0).toLoadRect Y = Y from
        Memref.readAt_unit_zero _ _ z _ _]
    rfl
  iapply (Entails.of_eq (congrArg (fun f => (s3.view.loc (c : Thread nD τ) ↦{fullShare} f : sProp 𝕄)) e))
  iexact H3

/-! ## The pipeline's proof data -/

section Data

variable (X M Y : Dev nD → Vec F S32x2000 .f32) (R : Dev nD → Vec F S1x1 .f32)

/-- What the windows' arrays hold when the call begins. -/
def entryA (c : Dev nD) : (w : Fin cfg1.W) → Buf (Elt F) ((cfg1.win w).arr.view.loc (c : Thread nD τ))
  | ⟨0, _⟩ => X c
  | ⟨1, _⟩ => M c
  | ⟨2, _⟩ => Y c
  | ⟨3, _⟩ => R c

/-- What the staging buffers hold after the body. -/
def left (c : Dev nD) : (w : Fin cfg1.W) → (cfg1.win w).block.Idx → Elt F (cfg1.win w).elt
  | ⟨0, _⟩ => X c
  | ⟨1, _⟩ => M c
  | ⟨2, _⟩ => Y c
  | ⟨3, _⟩ => fun _ => loss (X c) (M c) (Y c)

/-- The waits a TensorCore may have recorded when the call begins, and when it ends. -/
def low (c : Dev nD) : Set (SemLoc sig × HIx 1) := {p | (K (F := F)).lev ((c : Thread nD τ), p.1) p.2 ≤ 8}

/-- The proof data: nothing is owed, nothing is carried. -/
def dats (_ : Fin 1) (c : Dev nD) : Dat τ (Elt F) (HIx 1) ℕ UU ℕ cfg1 c where
  A := entryA X M Y R c
  after w _ := left X M Y c w
  Φ _ := iprop(emp)
  q _ := fullShare
  owed _ := 0
  recorded _ := low (F := F) c

theorem before_0 (c : Dev nD) (x) : (dats X M Y R 0 c).before 0 t1_0 x = X c := by
  unfold Dat.before; rw [if_pos (by decide)]
  refine (show _ = ((cfg1.win 0).blk t1_0).view.read (Elt F) (X c) from rfl).trans ?_
  exact Memref.read_access_unit_zero _ _ (by funext a; fin_cases a <;> rfl) _ _
theorem before_1 (c : Dev nD) (x) : (dats X M Y R 0 c).before 1 t1_0 x = M c := by
  unfold Dat.before; rw [if_pos (by decide)]
  refine (show _ = ((cfg1.win 1).blk t1_0).view.read (Elt F) (M c) from rfl).trans ?_
  exact Memref.read_access_unit_zero _ _ (by funext a; fin_cases a <;> rfl) _ _
theorem before_2 (c : Dev nD) (x) : (dats X M Y R 0 c).before 2 t1_0 x = Y c := by
  unfold Dat.before; rw [if_pos (by decide)]
  refine (show _ = ((cfg1.win 2).blk t1_0).view.read (Elt F) (Y c) from rfl).trans ?_
  exact Memref.read_access_unit_zero _ _ (by funext a; fin_cases a <;> rfl) _ _

/-- The body, as the pipeline calls it. -/
theorem body_obligation (c : Dev nD) : BodyObligation (dats X M Y R 0 c) (defs₀ (F := F)) 𝒱₀ none Set.univ := fun t => by
  obtain rfl := fin_N1 t
  rw [bigSep_W1, bigSep_W1]
  simp only [owns_whole_eq]
  unfold Dat.owesAt Pipeline.owesWithin
  rw [show (dats X M Y R 0 c).owed t1_0.castSucc = 0 from rfl, show (dats X M Y R 0 c).owed t1_0.succ = 0 from rfl]
  iintro ⟨-, ⟨%W, %hW, HO⟩, ⟨%d0, %f0, %h0, H0⟩, ⟨%d1, %f1, %h1, H1⟩, ⟨%d2, %f2, %h2, H2⟩, ⟨%d3, %f3, %h3, H3⟩⟩
  rw [before_0] at h0
  rw [before_1] at h1
  rw [before_2] at h2
  subst h0 h1 h2
  iapply (mean c (X c) (M c) (Y c) f3)
  isplitl [H0]; · iexact H0
  isplitl [H1]; · iexact H1
  isplitl [H2]; · iexact H2
  isplitl [H3]; · iexact H3
  iintro ⟨H0, H1, H2, H3⟩
  isplitr; · iempintro
  isplitl [HO]
  · iexists W; isplitr; · ipureintro; exact hW
    iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

/-! ## The call -/

/-- The fourth array after the call holds the loss. -/
theorem out_eq (c : Dev nD) : (dats X M Y R 0 c).arrAt 3 cfg1.N = fun _ => loss (X c) (M c) (Y c) := by
  refine ((dats X M Y R 0 c).arrAt_succ 3 t1_0).trans ?_
  rw [if_pos (by decide)]
  exact Memref.write_access_unit_zero_univ _ _ (by funext a; fin_cases a <;> rfl) _ _ _

/-- The TensorCore's state about its waits: nothing owed, and only low waits recorded. -/
abbrev Quiet (c : Dev nD) : sProp 𝕄 :=
  iprop(∃ W, ⌜(K (F := F)).WBelow (SparseCore.T c) W 8⌝ ∗ owes (SparseCore.T c) (0 : CellTallies nD τ sig (HIx 1)) W)

/-- The four arrays, as the call finds them or leaves them. -/
abbrev Arrs (c : Dev nD) (Z : Vec F S1x1 .f32) : sProp 𝕄 :=
  iprop(((c : Thread nD τ).loc main_v3_0 ↦{fullShare} X c) ∗ ((c : Thread nD τ).loc main_v3_1 ↦{fullShare} M c)
    ∗ ((c : Thread nD τ).loc main_v2 ↦{fullShare} Y c) ∗ ((c : Thread nD τ).loc main_v4 ↦{fullShare} Z))

/-- The pipeline library's arrays are those four. -/
theorem arrays_eq (c : Dev nD) (f : (w : Fin cfg1.W) → Buf (Elt F) ((cfg1.win w).arr.view.loc (c : Thread nD τ))) :
    ((dats X M Y R 0 c).arrays f : sProp 𝕄)
      = iprop(((c : Thread nD τ).loc main_v3_0 ↦{fullShare} f 0) ∗ ((c : Thread nD τ).loc main_v3_1 ↦{fullShare} f 1)
        ∗ ((c : Thread nD τ).loc main_v2 ↦{fullShare} f 2) ∗ ((c : Thread nD τ).loc main_v4 ↦{fullShare} f 3)) := by
  unfold Dat.arrays
  refine (bigSep_W1 _).trans ?_
  rw [show (cfg1.win 0).arr.view.set = Finset.univ from View.set_whole _, show (cfg1.win 1).arr.view.set = Finset.univ from View.set_whole _,
    show (cfg1.win 2).arr.view.set = Finset.univ from View.set_whole _, show (cfg1.win 3).arr.view.set = Finset.univ from View.set_whole _]
  rw [(dats X M Y R 0 c).share_full (fun _ => rfl)]
  rfl

abbrev adm : (p : Fin 1) → (pcfgs (F := F) p).Adm := fun p => (cfgs p).toPCfg_adm

set_option backward.isDefEq.respectTransparency.types false in
/-- The call as a region: entered with the four arrays, left with the loss in the fourth. -/
def region : Pipeline.RegionSeg (pcfgs (F := F)) adm (dats X M Y R) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation X M Y R c).loose
  hwaits := Pipeline.hwaits_of_owed_zero _ _ _ _ (K (F := F)).L (K (F := F)).lev 0 fun _ _ => rfl
  pre c := iprop(Arrs X M Y c (R c) ∗ Quiet c)
  post c := iprop(Arrs X M Y c (fun _ => loss (X c) (M c) (Y c)) ∗ Quiet c)
  X c := iprop(emp)
  Y c := iprop(emp)
  Z c := iprop(emp)
  hentry c := by
    rw [arrays_eq]
    iintro ⟨⟨Ha, ⟨%W, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (dats X M Y R 0 c).Φ 0 = iprop(emp) from rfl, show Pipeline.scopedRest _ c = (BI.emp : sProp 𝕄) from scopedRest1_eq c]
    iintro ⟨-, -, -⟩; iempintro
  hout c := by
    rw [Pipeline.ownSems0_none, show Pipeline.scopedRest _ c = (BI.emp : sProp 𝕄) from scopedRest1_eq c]
    iintro -
    isplitr; · iempintro
    isplitr; · iempintro
    iempintro
  hexit c := by
    rw [arrays_eq]
    rw [show (dats X M Y R 0 c).arrAt 3 _ = _ from out_eq X M Y R c, (dats X M Y R 0 c).arrAt_in 0 rfl _, (dats X M Y R 0 c).arrAt_in 1 rfl _, (dats X M Y R 0 c).arrAt_in 2 rfl _]
    iintro ⟨Ha, HO, -, -⟩
    imodintro
    isplitr [HO]
    · iexact Ha
    · unfold Pipeline.Dat.owesAt Pipeline.owesWithin
      icases HO with ⟨%W, %hW, HO⟩; iexists W; isplitr; swap; (· iexact HO)
      ipureintro
      intro p hp
      rcases hW hp with h | ⟨w, s, h⟩
      · exact h
      · rw [show p.2 = none from congrArg Prod.snd h]; exact Nat.zero_le _

/-- The call as a step of @main: from the four arrays it returns with the loss in the fourth. -/
theorem call_step [∀ e, Nonempty (Elt F e)] (c : Dev nD) (Q : PUnit → sProp 𝕄) :
    iprop((iprop(boundary (SparseCore.T c) ∗ Arrs X M Y c (fun _ => loss (X c) (M c) (Y c)) ∗ Quiet c) -∗ Q ⟨⟩)
      ∗ boundary (SparseCore.T c) ∗ (Arrs X M Y c (R c) ∗ Quiet c) ∗ levAts (K (F := F)).L (K (F := F)).lev
      ∗ Pipeline.cellsGhost (nD := nD) (τ := τ) cfgs (EP (F := F))  0 c ∗ Pipeline.toksInit (nD := nD) (τ := τ) cfgs (EP (F := F))  0 c)
    ⊢ wp frame (wpE ((K (F := F)).defs D) 𝒱 (SparseCore.T c) none) Set.univ
        (Prog.lift (.customCall (SparseCore.inner (Pipeline.entry 0)) ())) Q := by
  have h := Pipeline.RegionSeg.wp (pcfgs (F := F)) adm (dats X M Y R) none cellOf_inj EP defs₀ 𝒱₀ (K (F := F)).L (K (F := F)).lev
    (region X M Y R) c none (fun _ h => nomatch h) .ret Q
  have hpre : (region X M Y R).pre c = iprop(Arrs X M Y c (R c) ∗ Quiet c) := rfl
  have hpost : (region X M Y R).post c = iprop(Arrs X M Y c (fun _ => loss (X c) (M c) (Y c)) ∗ Quiet c) := rfl
  rw [hpre, hpost] at h
  have g := (K (F := F)).wp_liftProg D 𝒱 (SparseCore.T c) Set.univ none (.op (.customCall (Pipeline.entry 0) ()) .ret) Q
  refine BIBase.Entails.trans ?_ g
  refine BIBase.Entails.trans ?_ h
  simp only [wp_ret]
  iintro ⟨Hk, Hb, Hr, Hl, Hc, Ht⟩
  isplitl [Hk]
  · iintro ⟨Hb, HR⟩
    imodintro
    iapply Hk
    isplitl [Hb]; · iexact Hb
    iexact HR
  isplitl [Hb]; · iexact Hb
  isplitl [Hr]; · iexact Hr
  isplitl [Hl]; · iexact Hl
  isplitl [Hc]; · iexact Hc
  iexact Ht

end Data

end Cert.Proof.Tile

end
-- ==== Proof.Main.lean ====
/-
  The program's run: the launch, the TensorCore's program, and the final memory.
-/
module

public import proofs.«01_k».proof.Proof.Mean
public import Idealize.ShloMosaic.Lib.SparseCore.Quiescent
public import Idealize.ShloMosaic.Lib.StableHlo.Run

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.ShloMosaic.StableHlo (held wp_hlo_within)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Flight MayWaits)
open Idealize.ShloMosaic.ValueIdx
open Cert.Proof.Lanes Cert.Proof.Order Cert.Proof.Words

variable {F : FTy → Type} [FloatOps F]

local notation "𝕄" => MT nD τ sig (HIx 1) (Elt F) ℕ UU ℕ

/-! ## The host's reshapes -/

section Host

/-- A reshape on the TensorCore: from the operand and the result's buffer, the result is the operand at the new shape. -/
theorem reshape_step (d : Dev nD) (x y : Ref sig .tc) (he : x.ty.elt = y.ty.elt) (hn : x.ty.shape.ShapeCasts y.ty.shape)
    (hx : x.space ≠ .host ∧ (Proc.devRef (τ := τ) .tc x).isScoped = false) (hy : y.space ≠ .host ∧ (Proc.devRef (τ := τ) .tc y).isScoped = false)
    (hxy : x ≠ y) (V : Valuation τ sig (Elt F)) (Q : PUnit → sProp 𝕄) :
    iprop(boundary (SparseCore.T d) ∗ ((SparseCore.T d).loc x ↦{fullShare} V (Proc.devRef .tc x)) ∗ ((SparseCore.T d).loc y ↦{fullShare} V (Proc.devRef .tc y))
      ∗ (iprop(boundary (SparseCore.T d) ∗ ((SparseCore.T d).loc x ↦{fullShare} V (Proc.devRef .tc x))
          ∗ ((SparseCore.T d).loc y ↦{fullShare} fun i => he ▸ shapeCast y.ty.shape (V (Proc.devRef .tc x)) hn i)) -∗ Q ⟨⟩))
    ⊢ wp frame (wpE ((K (F := F)).defs (D (F := F))) 𝒱 (SparseCore.T d) none) Set.univ
        (hlo rfl (StableHlo.reshape x y he hn hx hy) fun _ => .ret ⟨⟩) Q := by
  have hne : Proc.devRef (τ := τ) .tc x ≠ Proc.devRef .tc y := StableHlo.devRef_ne_of_ne hxy
  have hheld : ∀ W : Valuation τ sig (Elt F), (held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    intro W; unfold held
    rw [SparseCore.bigSep_insert' (by rw [Finset.mem_singleton]; exact hne), bigSep_singleton]
  iintro ⟨Hb, Hx, Hy, Hk⟩
  iapply (wp_hlo_within 𝒱 (SparseCore.T d) none Set.univ (op := StableHlo.reshape x y he hn hx hy) (S := {Proc.devRef .tc x, Proc.devRef .tc y}) subset_rfl (V := V)) $$ [Hb Hx Hy]
  · isplitl [Hb]; · iexact Hb
    rw [hheld]
    isplitl [Hx]; · iexact Hx
    iexact Hy
  iintro ⟨Hb, H⟩
  have hres := hheld ((StableHlo.reshape x y he hn hx hy).result V)
  rw [StableHlo.reshape_result, StableHlo.result_of_writes_ne _ _ y x rfl hxy] at hres
  ihave H' := (Entails.of_eq hres) $$ H
  icases H' with ⟨Hx, Hy⟩
  rw [wp_ret]; imodintro
  iapply Hk
  isplitl [Hb]; · iexact Hb
  isplitl [Hx]; · iexact Hx
  iexact Hy

end Host

/-! ## The launch memory -/

section Run

variable (m : (ℓ : Loc nD τ sig) → Buf (Elt F) ℓ) (ρ : Dev nD → PrngReg)

/-- The image, the positions and the masks by rows, the targets by rows, and the results' buffers as they were. -/
def mA (d : Dev nD) : Vec F S64x2x512x512 .f32 := m ((SparseCore.T d).loc main_arg0)
def mI (d : Dev nD) : Vec F S32x1000 .i32 := shapeCast S32x1000 (m ((SparseCore.T d).loc main_arg2) : Vec F S64x500 .i32) shapeCasts_S64x500_S32x1000
def mM (d : Dev nD) : Vec F S32x1000 .i32 := shapeCast S32x1000 (m ((SparseCore.T d).loc main_arg1) : Vec F S64x500 .i32) shapeCasts_S64x500_S32x1000
def mY (d : Dev nD) : Vec F S32x2000 .f32 := shapeCast S32x2000 (m ((SparseCore.T d).loc main_arg3) : Vec F S64x500x2 .f32) shapeCasts_S64x500x2_S32x2000
def mR5 (d : Dev nD) : Vec F S32x2000 .f32 := m ((SparseCore.T d).loc main_v3_0)
def mR6 (d : Dev nD) : Vec F S32x2000 .f32 := m ((SparseCore.T d).loc main_v3_1)
def mR4 (d : Dev nD) : Vec F S1x1 .f32 := m ((SparseCore.T d).loc main_v4)

/-- The tiles' two results. -/
def mX (d : Dev nD) : Vec F S32x2000 .f32 := predm (mA m d) (mI m d) (mM m d)
def mW (d : Dev nD) : Vec F S32x2000 .f32 := mexp (mM m d)

/-- The kernel's result: the loss of the tiles' two arrays against the targets. -/
def value (d : Dev nD) : F .f32 := loss (mX m d) (mW m d) (mY m d)

abbrev PP : (K (F := F)).Pay (nD := nD) (Val := Elt F) (Name := ℕ) (U := UU) := P (mA m) (mI m) (mM m) (mR5 m) (mR6 m)

/-! ## What the launch hands out -/

theorem unscoped_eq (d : Dev nD) (W : (b : Ref sig .tc) → Buf (Elt F) ((SparseCore.T d).loc b)) :
    (unscopedBufs d W : sProp 𝕄)
      = iprop(((SparseCore.T d).loc main_arg0 ↦{fullShare} W main_arg0) ∗ ((SparseCore.T d).loc main_arg1 ↦{fullShare} W main_arg1)
        ∗ ((SparseCore.T d).loc main_arg2 ↦{fullShare} W main_arg2) ∗ ((SparseCore.T d).loc main_arg3 ↦{fullShare} W main_arg3)
        ∗ ((SparseCore.T d).loc main_v0 ↦{fullShare} W main_v0) ∗ ((SparseCore.T d).loc main_v1 ↦{fullShare} W main_v1)
        ∗ ((SparseCore.T d).loc main_v2 ↦{fullShare} W main_v2) ∗ ((SparseCore.T d).loc main_v3_0 ↦{fullShare} W main_v3_0)
        ∗ ((SparseCore.T d).loc main_v3_1 ↦{fullShare} W main_v3_1) ∗ ((SparseCore.T d).loc main_v4 ↦{fullShare} W main_v4)
        ∗ ((SparseCore.T d).loc main_v5 ↦{fullShare} W main_v5)) := by
  unfold unscopedBufs
  rw [show (Finset.univ.filter fun b : Ref sig .tc => ¬ b.isScoped)
      = {main_arg0, main_arg1, main_arg2, main_arg3, main_v0, main_v1, main_v2, main_v3_0, main_v3_1, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The call's operands, whole, are what the SparseCores are handed. -/
theorem st0_eq (d : Dev nD) : (bigSep Finset.univ fun c : Fin ((K (F := F)).nCore 0) => (PP m).st 0 d c)
    = (iprop(((SparseCore.T d).loc main_arg0 ↦{fullShare} mA m d) ∗ ((SparseCore.T d).loc main_v0 ↦{fullShare} mI m d) ∗ ((SparseCore.T d).loc main_v1 ↦{fullShare} mM m d)
        ∗ ((SparseCore.T d).loc main_v3_0 ↦{fullShare} mR5 m d) ∗ ((SparseCore.T d).loc main_v3_1 ↦{fullShare} mR6 m d)) : sProp 𝕄) :=
  (opnds_split d (mA m d) (mI m d) (mM m d) (mR5 m d) (mR6 m d)).symm

/-- What they hand back is the operands and the two results, whole. -/
theorem dn0_eq (d : Dev nD) : (bigSep Finset.univ fun c : Fin ((K (F := F)).nCore 0) => (PP m).dn 0 d c)
    = (iprop(((SparseCore.T d).loc main_arg0 ↦{fullShare} mA m d) ∗ ((SparseCore.T d).loc main_v0 ↦{fullShare} mI m d) ∗ ((SparseCore.T d).loc main_v1 ↦{fullShare} mM m d)
        ∗ ((SparseCore.T d).loc main_v3_0 ↦{fullShare} mX m d) ∗ ((SparseCore.T d).loc main_v3_1 ↦{fullShare} mW m d)) : sProp 𝕄) :=
  (opnds_split d (mA m d) (mI m d) (mM m d) (mX m d) (mW m d)).symm

/-- The TensorCore's state after the call, taken apart: its waits, and the rest. -/
theorem tcSt_one (d : Dev nD) : ∃ R : sProp 𝕄, ((K (F := F)).tcSt EH d 1 : sProp 𝕄) = iprop(Quiet (F := F) d ∗ R) := by
  unfold SparseCore.Cfg.tcSt
  rw [(K (F := F)).Otc_end d (n := 1) le_rfl]
  exact ⟨_, rfl⟩

/-- The pallas_call's staging cells and tokens. -/
abbrev G (d : Dev nD) : sProp 𝕄 :=
  iprop(Pipeline.cellsGhost (nD := nD) (τ := τ) cfgs (EP (F := F)) 0 d ∗ Pipeline.toksInit (nD := nD) (τ := τ) cfgs (EP (F := F)) 0 d)

def u₀ : UU := (initOf (K (F := F)).hsCells (K (F := F)).hsToks, (initOf (Pipeline.cells cfgs cellOf_inj) (Pipeline.launchToks cfgs cellOf_inj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

/-- The launch's ghost state: the handshakes', and the pallas_call's on each device. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (PP m).x q thr) : sProp 𝕄) := by
  unfold u₀
  iintro Hu
  ihave H := (ownU_split _ _) $$ Hu
  icases H with ⟨HH, HP⟩
  imod (Pipeline.fund_ghost cfgs (EP (F := F)) cellOf_inj) $$ HP with ⟨Hc, Ht⟩
  imodintro
  isplitl [HH]; · iexact HH
  isplitl [Hc Ht]
  · rw [bigSep_sep']
    isplitl [Hc]
    · iapply (Entails.of_eq (show (bigSep Finset.univ fun d : Dev nD => bigSep Finset.univ fun p : Fin 1 => (Pipeline.cellsGhost (nD := nD) (τ := τ) cfgs (EP (F := F)) p d : sProp 𝕄))
          = bigSep Finset.univ fun d : Dev nD => Pipeline.cellsGhost (nD := nD) (τ := τ) cfgs (EP (F := F)) 0 d from
        bigSep_congr fun d _ => bigSep_univ_of_subsingleton (0 : Fin 1))); iexact Hc
    · iapply (Entails.of_eq (show (bigSep Finset.univ fun d : Dev nD => bigSep Finset.univ fun p : Fin 1 => (Pipeline.toksInit (nD := nD) (τ := τ) cfgs (EP (F := F)) p d : sProp 𝕄))
          = bigSep Finset.univ fun d : Dev nD => Pipeline.toksInit (nD := nD) (τ := τ) cfgs (EP (F := F)) 0 d from
        bigSep_congr fun d _ => bigSep_univ_of_subsingleton (0 : Fin 1))); iexact Ht
  · rw [show (bigSep Finset.univ fun thr : Thread nD τ => bigSep Finset.univ fun q : Fin 1 => (PP m).x q thr) = (iprop(emp) : sProp 𝕄) from
      (bigSep_congr fun _ _ => BI.bigSep_emp_const _).trans (BI.bigSep_emp_const _)]
    iempintro

/-! ## @main -/

/-- What @main leaves: the arguments as they were, the result computed. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v5 ↦{fullShare} fun _ => value m d))

/-- The launch memory on a device. -/
def V0 (d : Dev nD) : Valuation τ sig (Elt F) := fun b => m (d, b)

/-- The same, the loss in the pallas_call's result. -/
def V1 (d : Dev nD) : Valuation τ sig (Elt F) := Function.update (V0 m d) (Proc.devRef .tc main_v4) (fun _ => value m d)

/-- The TensorCore's program: three reshapes, the SparseCores' call, the pallas_call, a reshape of its result. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨RS, hRS⟩ := tcSt_one (F := F) d
  unfold SparseCore.Cfg.tcRes SparseCore.Cfg.tcEnd
  rw [unscoped_eq]
  simp only [main, wp_bind, wp_pure]
  iintro ⟨#Hctx, Hst, ⟨Hb, ⟨Ha0, Ha1, Ha2, Ha3, Hv0, Hv1, Hv2, H30, H31, Hv4, Hv5⟩, Hts, -⟩, ⟨Hcg, Htk⟩⟩
  iapply (reshape_step d main_arg2 main_v0 rfl shapeCasts_S64x500_S32x1000 ⟨by decide, rfl⟩ ⟨by decide, rfl⟩ (by decide) (V0 m d))
  isplitl [Hb]; · iexact Hb
  isplitl [Ha2]; · iexact Ha2
  isplitl [Hv0]; · iexact Hv0
  iintro ⟨Hb, Ha2, Hv0⟩
  iapply (reshape_step d main_arg1 main_v1 rfl shapeCasts_S64x500_S32x1000 ⟨by decide, rfl⟩ ⟨by decide, rfl⟩ (by decide) (V0 m d))
  isplitl [Hb]; · iexact Hb
  isplitl [Ha1]; · iexact Ha1
  isplitl [Hv1]; · iexact Hv1
  iintro ⟨Hb, Ha1, Hv1⟩
  iapply (reshape_step d main_arg3 main_v2 rfl shapeCasts_S64x500x2_S32x2000 ⟨by decide, rfl⟩ ⟨by decide, rfl⟩ (by decide) (V0 m d))
  isplitl [Hb]; · iexact Hb
  isplitl [Ha3]; · iexact Ha3
  isplitl [Hv2]; · iexact Hv2
  iintro ⟨Hb, Ha3, Hv2⟩
  iapply ((K (F := F)).wp_run (D (F := F)) 𝒱 (EH := EH) (P := PP m) κ d 0) $$ [Hst Hb Ha0 Ha1 Ha2 Ha3 Hv0 Hv1 Hv2 H30 H31 Hv4 Hv5 Hts Hcg Htk]
  isplitr; · iexact Hctx
  isplitl [Hst]; · iexact Hst
  isplitl [Ha0 Hv0 Hv1 H30 H31]
  · rw [st0_eq]
    isplitl [Ha0]; · iexact Ha0
    isplitl [Hv0]; · iexact Hv0
    isplitl [Hv1]; · iexact Hv1
    isplitl [H30]; · iexact H30
    iexact H31
  iintro ⟨Hst, Hdn⟩
  ihave Hdn' := (Entails.of_eq (dn0_eq m d)) $$ Hdn
  icases Hdn' with ⟨Ha0, -, -, H30, H31⟩
  ihave Hst' := (Entails.of_eq (show ((K (F := F)).tcSt EH d ((0 : Fin 1).val + 1) : sProp 𝕄) = _ from hRS)) $$ Hst
  icases Hst' with ⟨HQ, HRS⟩
  ihave Hlv := ((K (F := F)).ctx_levAts κ) $$ Hctx
  iapply (call_step (mX m) (mW m) (mY m) (mR4 m) d)
  isplitr [Hb H30 H31 Hv2 Hv4 HQ Hlv Hcg Htk]
  rotate_left
  · isplitl [Hb]; · iexact Hb
    isplitl [H30 H31 Hv2 Hv4 HQ]
    · isplitr [HQ]; swap; (· iexact HQ)
      isplitl [H30]; · iexact H30
      isplitl [H31]; · iexact H31
      isplitl [Hv2]; · iexact Hv2
      iexact Hv4
    isplitl [Hlv]; · iexact Hlv
    isplitl [Hcg]; · iexact Hcg
    iexact Htk
  iintro ⟨Hb, ⟨-, -, -, Hv4⟩, HQ⟩
  have e4 : V1 m d (Proc.devRef .tc main_v4) = fun _ => value m d := Function.update_self _ _ _
  have e5 : V1 m d (Proc.devRef .tc main_v5) = m ((SparseCore.T d).loc main_v5) := Function.update_of_ne (show Proc.devRef .tc main_v5 ≠ Proc.devRef .tc main_v4 by decide) _ _
  iapply (reshape_step d main_v4 main_v5 rfl shapeCasts_S1x1_S_ ⟨by decide, rfl⟩ ⟨by decide, rfl⟩ (by decide) (V1 m d))
  rw [e4, e5]
  isplitl [Hb]; · iexact Hb
  isplitl [Hv4]; · iexact Hv4
  isplitl [Hv5]; · iexact Hv5
  iintro ⟨Hb, -, Hv5⟩
  imodintro
  isplitl [HQ HRS]
  · rw [hRS]
    isplitl [HQ]; · iexact HQ
    iexact HRS
  isplitr [Hb Hts]
  · isplitl [Ha0]; · iexact Ha0
    isplitl [Ha1]; · iexact Ha1
    isplitl [Ha2]; · iexact Ha2
    isplitl [Ha3]; · iexact Ha3
    iexact Hv5
  isplitl [Hb] <;> iassumption

/-! ## The final memory -/

/-- A buffer held whole reads as it is held. -/
theorem read_off (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

/-- The final memory: the arguments unchanged, the result computed. -/
def Final (d : Dev nD) (s : MemSt nD τ sig (Elt F)) : Prop :=
  s.mem ((SparseCore.T d).loc main_v5) = (fun _ => value m d)
    ∧ s.mem ((SparseCore.T d).loc main_arg0) = m ((SparseCore.T d).loc main_arg0) ∧ s.mem ((SparseCore.T d).loc main_arg1) = m ((SparseCore.T d).loc main_arg1)
    ∧ s.mem ((SparseCore.T d).loc main_arg2) = m ((SparseCore.T d).loc main_arg2) ∧ s.mem ((SparseCore.T d).loc main_arg3) = m ((SparseCore.T d).loc main_arg3)

theorem hfin (d : Dev nD) (s' : Phys nD τ sig (Elt F)) : iprop(FIN m d ∗ SI s') ⊢ (⌜Final m d s'.mem⌝ : sProp 𝕄) := by
  iintro ⟨⟨H0, H1, H2, H3, H5⟩, HSI⟩
  ihave H := (read_off s' _ _) $$ [H0 HSI]
  · isplitl [H0] <;> iassumption
  icases H with ⟨%h0, HSI⟩
  ihave H := (read_off s' _ _) $$ [H1 HSI]
  · isplitl [H1] <;> iassumption
  icases H with ⟨%h1, HSI⟩
  ihave H := (read_off s' _ _) $$ [H2 HSI]
  · isplitl [H2] <;> iassumption
  icases H with ⟨%h2, HSI⟩
  ihave H := (read_off s' _ _) $$ [H3 HSI]
  · isplitl [H3] <;> iassumption
  icases H with ⟨%h3, HSI⟩
  ihave H := (read_off s' _ _) $$ [H5 HSI]
  · isplitl [H5] <;> iassumption
  icases H with ⟨%h5, -⟩
  ipureintro
  exact ⟨h5, h0, h1, h2, h3⟩

/-- The program's run, over any float values, when every position names an element of an image: it ends, the arguments are
    unchanged, the result is the loss of the tiles' arrays, every semaphore is back at zero. -/
theorem run_main [∀ e, Nonempty (Elt F e)] (hI : InRange (mI m)) :
    θ_run (Cert.KernelIdeal.defs (F := F)) (Cert.KernelIdeal.threads (F := F)) ⟨m, fun _ => 0, ρ⟩
      (fun r => (∀ d, Final m d r.2) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (mA m) (mI m) (mM m) (mR5 m) (mR6 m) hI)
    (fun q _ => match q with | 0 => SparseCore.Cfg.VecSplit.of_plain (vecSplit (mA m) (mI m) (mM m) (mR5 m) (mR6 m)))
    m ρ main (fun d => G (F := F) d) (FIN m) (u₀ (F := F)) (sep_elim_left.trans (hu₀ m)) (hmain m ρ) (fun d s => Final m d s.mem) (hfin m)
    (fun r => (∀ d, Final m d r.2) ∧ r.2.sem = fun _ => 0) (fun _ h hz => ⟨h, hz⟩)

end Run

end Cert.Proof.Tile

end
-- ==== Proof.Frames.lean ====
/-
  The frames: what the precondition says of the positions, and the programs' runs read at their arguments.
-/
module

public import proofs.«01_k».proof.Proof.Main
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import Idealize.ShloMosaic.Lib.ReduceAll

@[expose] public section

noncomputable section

namespace Cert.Proof.Frames

open Idealize.ShloMosaic Idealize.ShloMosaic.TcCoe Idealize.SL.Sem

variable {F : FTy → Type} [FloatOps F]

/-- The precondition, all ones, says that every position is below the number of an image's elements. -/
theorem positions (a0 : FVec F Cert.Pre_in_range.S64x2x512x512 .f32) (a1 a2 : IVec Cert.Pre_in_range.S64x500 32) (a3 : FVec F Cert.Pre_in_range.S64x500x2 .f32)
    (h : Cert.Pre_in_range.fn a0 a1 a2 a3 = fun _ => 1#1) (i : Cert.Pre_in_range.S64x500.Idx) : (a2 i).toNat < 2 ^ 18 := by
  have : Subsingleton Cert.Pre_in_range.S_.Idx := ⟨fun a b => funext fun x => x.elim0⟩
  have e := Host.reduce_andi_all _ _ _ _ _ (congrFun h fun x => x.elim0) i
  have andi_one (p q : BitVec 1) : IntOp.andi p q = 1#1 → p = 1#1 ∧ q = 1#1 := by
    revert p q; decide
  have e' : IntOp.andi (IntOp.cmpi .sge (a2 i) 0#32) (IntOp.cmpi .slt (a2 i) 262144#32) = 1#1 := e
  obtain ⟨h1, h2⟩ := andi_one _ _ e'
  have h3 := IntOp.cmpi_sge.1 h1
  have h4 := IntOp.cmpi_slt.1 h2
  simp only [BitVec.toInt_eq_toNat_cond, BitVec.toNat_ofNat, Nat.reducePow, Nat.reduceMod] at h3 h4
  omega

/-- The positions by rows are in range when the positions are. -/
theorem inRange_of (m : (ℓ : Loc Cert.KernelIdeal.nD Cert.KernelIdeal.τ Cert.KernelIdeal.sig) → Buf (Elt F) ℓ)
    (h : ∀ c : Dev Cert.KernelIdeal.nD, Cert.Pre_in_range.fn
      (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3))
        = fun _ => 1#1) : Cert.Proof.Tile.InRange (Cert.Proof.Tile.mI m) :=
  fun d y => positions _ _ _ _ (h d) _

/-- The two programs, of the same text, run the same SparseCore kernel on a vector subcore. -/
theorem defs_tile (c : Fin _) (s : Fin _) (a : PUnit) :
    @Cert.Kernel.defs₀ F _ _ (.scVector c s) (0 : Fin 2) a = @Cert.KernelIdeal.defs₀ F _ _ (.scVector c s) (0 : Fin 2) a := rfl

/-- They run the same kernel on the TensorCore. -/
theorem defs_tc (a) : @Cert.Kernel.defs₀ F _ _ .tc (1 : Fin 2) a = @Cert.KernelIdeal.defs₀ F _ _ .tc (1 : Fin 2) a := rfl

/-- Their kernels' body tables are the same, label by label. -/
theorem defs_kernels : @Cert.Kernel.defs₀ F _ _ = @Cert.KernelIdeal.defs₀ F _ _ := by
  funext c ℓ a
  match c, ℓ, a with
  | .scVector c s, (0 : Fin 2), a => exact defs_tile c s a
  | .scVector c s, (1 : Fin 2), a => rfl
  | .scScalar c, (0 : Fin 2), a => rfl
  | .scScalar c, (1 : Fin 2), a => rfl
  | .tc, (0 : Fin 2), a => rfl
  | .tc, (1 : Fin 2), a => exact defs_tc a

/-- Their body tables are the same. -/
theorem defs_same : @Cert.Kernel.defs F _ _ = @Cert.KernelIdeal.defs F _ _ :=
  congrArg (fun D => (Cert.KernelIdeal.sc (F := F)).defs (Pipeline.defs Cert.KernelIdeal.pcfgs D)) defs_kernels

set_option maxHeartbeats 1000000 in
/-- The kernel's frame, at machine floats: the run over any floats, read at the arguments and the semaphores. -/
theorem frame_kernel : Cert.quiescent_Kernel := fun m ρ h => by
  rw [defs_same]
  exact (θ_run Cert.KernelIdeal.defs _ _).mono (fun _ h => ⟨fun c => (h.1 c).2, h.2⟩) (Cert.Proof.Tile.run_main (F := Bits) m ρ (inRange_of m h))

/-- The same at ideal floats. -/
theorem frame_ideal : Cert.quiescent_KernelIdeal := fun m ρ h =>
  (θ_run Cert.KernelIdeal.defs _ _).mono (fun _ h => ⟨fun c => (h.1 c).2, h.2⟩) (Cert.Proof.Tile.run_main (F := Ideal) m ρ (inRange_of m h))

/-- The reference's frame: its operations write no argument, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Frames

end
-- ==== Proof.Refer.lean ====
/-
  What the reference computes, element by element: the element of the first operand that a position names, its mask and
  its target.
-/
module

public import proofs.«01_k».proof.ReferenceIdeal
public import proofs.«01_k».proof.Proof.Gen.ReferenceIdeal
public import proofs.«01_k».proof.Proof.Gen.ReferenceIdeal.Run
public import Idealize.ShloMosaic.Lib.Pipeline.Value
public import Idealize.ShloMosaic.Lib.IdealHost

@[expose] public section

noncomputable section

namespace Cert.Proof.Refer

open Cert.ReferenceIdeal Cert.ReferenceIdeal.Gen
open Idealize.ShloMosaic Idealize.ShloMosaic.ValueIdx Idealize.ShloMosaic.TcCoe Idealize.SL.Sem

variable {F : FTy → Type} [FloatOps F]

/-! ## The reference's arrays -/

/-- A table of one word or float per position, repeated for the two channels. -/
def both {α : Type} (X : S64x500.Idx → α) : S64x500x2.Idx → α :=
  broadcastInDim S64x500x2 ![0, 1, 2] bcast_S64x500x1_S64x500x2_0_1_2 (broadcastInDim S64x500x1 ![0, 1] bcast_S64x500_S64x500x1_0_1 X)

/-- The positions, a negative one counted from the end. -/
def wrapped (I : IVec S64x500 32) : IVec S64x500x2x1 32 :=
  shapeCast _ (select (cmpi .slt (both I) (broadcastInDim S64x500x2 ![] bcast_S_S64x500x2 (constantI S_ 32 0#32)))
    (addi (both I) (broadcastInDim S64x500x2 ![] bcast_S_S64x500x2 (constantI S_ 32 262144#32))) (both I)) shapeCasts_S64x500x2_S64x500x2x1

/-- Which positions name an element. -/
def named (I : IVec S64x500 32) : IVec S64x500x2 1 :=
  Host.reduce IntOp.andi (andi (cmpi .sge (wrapped I) (broadcastInDim S64x500x2x1 ![] bcast_S_S64x500x2x1 (constantI S_ 32 0#32)))
    (cmpi .sle (wrapped I) (broadcastInDim S64x500x2x1 ![0, 1, 2, 3] bcast_S1x1x1x1_S64x500x2x1_0_1_2_3
      (broadcastInDim S1x1x1x1 ![3] bcast_S1_S1x1x1x1_3 (constantI S1 32 262143#32)))))
    (constantI S_ 1 1#1) reducesTo_S64x500x2x1_S64x500x2_d3 h_S_

/-- The elements that the positions name. -/
def found (A : FVec F S64x2x512x512 .f32) (I : IVec S64x500 32) : FVec F S64x500x2 .f32 :=
  Host.gather gather_S64x262144x2_S64x500x2x1_S64x500x2_n_1_02_02_1_3_111
    (shapeCast _ (transpose S64x512x512x2 [0, 2, 3, 1] A transposes_S64x2x512x512_S64x512x512x2_0_2_3_1) shapeCasts_S64x512x512x2_S64x262144x2) (wrapped I)

/-- Those elements, or a NaN where a position names none. -/
def taken (A : FVec F S64x2x512x512 .f32) (I : IVec S64x500 32) : FVec F S64x500x2 .f32 :=
  select (named I) (found A I) (broadcastInDim S64x500x2 ![] bcast_S_S64x500x2 (constant S_ .f32 0x7FC00000#32))

/-- The masks as floats. -/
def masks (M : IVec S64x500 32) : FVec F S64x500x2 .f32 := both (sitofp .f32 M)

/-- The absolute differences. -/
def gaps (A : FVec F S64x2x512x512 .f32) (M I : IVec S64x500 32) (Y : FVec F S64x500x2 .f32) : FVec F S64x500x2 .f32 :=
  Host.absf (subf (mulf (taken A I) (masks M)) (mulf Y (masks M)))

/-- The reference's result. -/
def answer (A : FVec F S64x2x512x512 .f32) (M I : IVec S64x500 32) (Y : FVec F S64x500x2 .f32) : FVec F S_ .f32 :=
  Host.divf (Host.reduceAdd (gaps A M I Y) (constant S_ .f32 0x00000000#32) reducesTo_S64x500x2_S_d0_1_2 h_S_)
    (addf (Host.reduceAdd (masks M) (constant S_ .f32 0x00000000#32) reducesTo_S64x500x2_S_d0_1_2 h_S_) (constant S_ .f32 0x38D1B717#32))

/-- Every execution of the reference ends with `answer` of the arguments, and with the arguments unchanged. -/
theorem run_answer (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v15) = answer (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Cert.ReferenceIdeal.Value.run m ρ

/-! ## Their elements -/

/-- The position of a result's element. -/
def spot (y : S64x500x2.Idx) : S64x500.Idx := ix2 (n0 := 64) (n1 := 500) (y 0) (y 1)

/-- The element of the first operand that position `p` of element `y` names. -/
def place (y : S64x500x2.Idx) (p : ℕ) : S64x2x512x512.Idx :=
  ix4 (n0 := 64) (n1 := 2) (n2 := 512) (n3 := 512) (y 0) (y 2) ⟨p / 512 % 512, Nat.mod_lt _ (by decide)⟩ ⟨p % 512, Nat.mod_lt _ (by decide)⟩

theorem both_apply {α : Type} (X : S64x500.Idx → α) (y : S64x500x2.Idx) : both X y = X (spot y) := by
  unfold both
  refine (broadcastInDim_apply _ _ _ y (ix3 (n0 := 64) (n1 := 500) (n2 := 1) (y 0) (y 1) 0 : S64x500x1.Idx) (fun a => by
    match a with
    | ⟨0, _⟩ => rfl
    | ⟨1, _⟩ => rfl
    | ⟨2, _⟩ => rfl)).trans ?_
  exact broadcastInDim_apply _ _ _ _ (spot y) (fun a => by
    match a with
    | ⟨0, _⟩ => rfl
    | ⟨1, _⟩ => rfl)

section
variable (I : IVec S64x500 32) (hI : ∀ x, (I x).toNat < 2 ^ 18)

theorem not_negative (x : BitVec 32) (hx : x.toNat < 2 ^ 18) : ¬ IntOp.cmpi .slt x 0#32 = 1 := by
  intro h
  have h := IntOp.cmpi_slt.1 h
  simp only [BitVec.toInt_eq_toNat_cond, BitVec.toNat_ofNat, Nat.reducePow, Nat.reduceMod] at h
  omega

theorem at_least (x : BitVec 32) (hx : x.toNat < 2 ^ 18) : IntOp.cmpi .sge x 0#32 = 1#1 := by
  refine IntOp.cmpi_sge.2 ?_
  simp only [BitVec.toInt_eq_toNat_cond, BitVec.toNat_ofNat, Nat.reducePow, Nat.reduceMod]
  omega

theorem at_most (x : BitVec 32) (hx : x.toNat < 2 ^ 18) : IntOp.cmpi .sle x 262143#32 = 1#1 := by
  refine IntOp.cmpi_sle.2 ?_
  simp only [BitVec.toInt_eq_toNat_cond, BitVec.toNat_ofNat, Nat.reducePow, Nat.reduceMod]
  omega

include hI

/-- A position in range is left as it is. -/
theorem wrapped_apply (z : S64x500x2x1.Idx) : wrapped I z = I (ix2 (n0 := 64) (n1 := 500) (z 0) (z 1)) := by
  unfold wrapped
  refine (shapeCast_apply _ _ z (ix3 (n0 := 64) (n1 := 500) (n2 := 2) (z 0) (z 1) (z 2) : S64x500x2.Idx) (by
    rw [Shape.rowMajor_val_three, Shape.rowMajor_val_four]
    have h3 : (z 3).val < 1 := (z 3).isLt
    show ((z 0).val * 500 + (z 1).val) * 2 + (z 2).val = (((z 0).val * 500 + (z 1).val) * 2 + (z 2).val) * 1 + (z 3).val
    omega)).trans ?_
  show Scalar.select (IntOp.cmpi .slt (both I _) 0#32) _ (both I _) = _
  rw [both_apply]
  exact if_neg (not_negative _ (hI _))

/-- Every position names an element. -/
theorem named_apply (y : S64x500x2.Idx) : named I y = 1#1 := by
  unfold named
  rw [Host.reduce_eq_foldl]
  have key : ∀ l : List S64x500x2x1.Idx, l.foldl (fun r i => IntOp.andi r (IntOp.andi (IntOp.cmpi .sge (wrapped I i) 0#32) (IntOp.cmpi .sle (wrapped I i) 262143#32))) 1#1 = 1#1 := by
    intro l
    induction l with
    | nil => rfl
    | cons a l ih =>
      rw [List.foldl_cons, wrapped_apply I hI, at_least _ (hI _), at_most _ (hI _)]
      exact ih
  exact key _

/-- The gather reads the operand at the position's own element. -/
theorem operandIdx_eq (y : S64x500x2.Idx) (p : ℕ) (hp : (I (spot y)).toNat = p) (hlt : p < 262144) (a : Fin 3) :
    (gather_S64x262144x2_S64x500x2x1_S64x500x2_n_1_02_02_1_3_111.operandIdx y (wrapped I) a).val
      = (ix3 (n0 := 64) (n1 := 262144) (n2 := 2) (y 0) ⟨p, hlt⟩ (y 2) a).val := by
  show gather_S64x262144x2_S64x500x2x1_S64x500x2_n_1_02_02_1_3_111.start y (wrapped I) a + gather_S64x262144x2_S64x500x2x1_S64x500x2_n_1_02_02_1_3_111.batchCoord y a + gather_S64x262144x2_S64x500x2x1_S64x500x2_n_1_02_02_1_3_111.offCoord y a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide), wrapped_apply I hI]
    show min (I (spot y)).toInt.toNat 262143 = p
    rw [BitVec.toInt_eq_toNat_cond]
    split <;> omega
  · rw [GatherDims.start_batching _ _ _ _ (by decide), GatherDims.offCoord_eq_zero _ _ _ (by decide)]
    simp only [Nat.zero_add, Nat.add_zero]
    unfold GatherDims.batchCoord
    rw [dif_pos (by decide)]
    rfl

/-- The element that a position names. -/
theorem found_apply (A : FVec F S64x2x512x512 .f32) (y : S64x500x2.Idx) : found A I y = A (place y (I (spot y)).toNat) := by
  have hlt := hI (spot y)
  obtain ⟨p, hp⟩ : ∃ p, (I (spot y)).toNat = p := ⟨_, rfl⟩
  rw [hp] at hlt ⊢
  have hop := operandIdx_eq I hI y p hp (by omega)
  unfold found Host.gather
  refine (congrArg _ (funext fun a => Fin.ext (hop a))).trans ?_
  refine (shapeCast_apply _ _ _ (ix4 (n0 := 64) (n1 := 512) (n2 := 512) (n3 := 2) (y 0) ⟨p / 512 % 512, Nat.mod_lt _ (by decide)⟩
    ⟨p % 512, Nat.mod_lt _ (by decide)⟩ (y 2) : S64x512x512x2.Idx) (by
      rw [Shape.rowMajor_val_four, Shape.rowMajor_val_three]
      show (((y 0).val * 512 + p / 512 % 512) * 512 + p % 512) * 2 + (y 2).val = ((y 0).val * 262144 + p) * 2 + (y 2).val
      omega)).trans ?_
  exact transpose_apply _ _ _ _ (place y p) (fun b => by
      match b with
      | ⟨0, _⟩ => rfl
      | ⟨1, _⟩ => rfl
      | ⟨2, _⟩ => rfl
      | ⟨3, _⟩ => rfl)

omit hI in
theorem select_all (X Y : FVec F S64x500x2 .f32) : select (fun _ => 1#1) X Y = X := rfl

theorem taken_eq (A : FVec F S64x2x512x512 .f32) : taken A I = found A I := by
  unfold taken
  rw [show named I = fun _ => 1#1 from funext (named_apply I hI)]
  exact select_all _ _

end

end Cert.Proof.Refer

end
-- ==== Proof.Equal.lean ====
/-
  The kernel's loss is the reference's: the same element, weight and target at each place, in another shape, and so the
  same sums.
-/
module

public import proofs.«01_k».proof.Proof.Frames
public import proofs.«01_k».proof.Proof.Refer
public import Idealize.ShloMosaic.PureOps.Ideal.Laws

@[expose] public section

noncomputable section

namespace Cert.Proof.Equal

open Cert.KernelIdeal Cert.KernelIdeal.Gen
open Idealize.ShloMosaic Idealize.ShloMosaic.ValueIdx Idealize.ShloMosaic.TcCoe Idealize.SL.Sem
open Cert.Proof.Tile Cert.Proof.Words
open Cert.Proof.Refer (spot place)

variable {F : FTy → Type} [FloatOps F]

/-! ## The same elements -/

/-- The result's element at a place of the tiles' arrays. -/
def back (z : S32x2000.Idx) : S64x500x2.Idx :=
  ix3 (n0 := 64) (n1 := 500) (n2 := 2)
    ⟨(z 0).val * 2 + (z 1).val / 1000, by have h0 : (z 0).val < 32 := (z 0).isLt; have h1 : (z 1).val < 2000 := (z 1).isLt; omega⟩
    ⟨(z 1).val % 1000 / 2, by omega⟩ ⟨(z 1).val % 2, Nat.mod_lt _ (by decide)⟩

theorem reshape_eq (z : S32x2000.Idx) (h : S32x2000.numel = S64x500x2.numel) : Shape.reshapeEquiv h z = back z :=
  Shape.reshapeEquiv_eq_of_rowMajor h (by
    rw [Shape.rowMajor_val_three, Shape.rowMajor_val_two]
    show (((z 0).val * 2 + (z 1).val / 1000) * 500 + (z 1).val % 1000 / 2) * 2 + (z 1).val % 2 = (z 0).val * 2000 + (z 1).val
    omega)

/-- A tile's words are the table's. -/
theorem words_apply (I : IVec S64x500 32) (z : S32x2000.Idx) :
    rowOf (F := F) (shapeCast S32x1000 I shapeCasts_S64x500_S32x1000) (z 0).val (at1 1000 ((z 1).val / 2) (by decide)) = I (spot (back z)) := by
  unfold rowOf
  exact shapeCast_apply _ _ _ _ (by
    rw [Shape.rowMajor_val_two, Shape.rowMajor_val_two]
    have h0 : (z 0).val < 32 := (z 0).isLt
    have h1 : (z 1).val < 2000 := (z 1).isLt
    show ((z 0).val * 2 + (z 1).val / 1000) * 500 + (z 1).val % 1000 / 2 = (z 0).val % 32 * 1000 + (z 1).val / 2 % 1000
    omega)

/-- The element of the rows that an entry names is the one that the reference's position names. -/
theorem cell_apply (A : FVec F S64x2x512x512 .f32) (fi : Vec F S1000 .i32) (z : S32x2000.Idx) (p : ℕ) (hp : hw fi (z 1).val = p) (hlt : p < 2 ^ 18) :
    cell A (z 0).val (row fi (z 1).val) p = A (place (back z) p) := by
  unfold cell row
  rw [hp]
  show A (Shape.reshapeEquiv _ _) = _
  refine congrArg A (Shape.reshapeEquiv_eq_of_rowMajor _ ?_)
  rw [Shape.rowMajor_val_four, Shape.rowMajor_val_two]
  have h0 : (z 0).val < 32 := (z 0).isLt
  have h1 : (z 1).val < 2000 := (z 1).isLt
  show (((((z 0).val * 2 + (z 1).val / 1000) * 2 + (z 1).val % 2) * 512 + p / 512 % 512) * 512 + p % 512
    = (2048 * (z 0).val + (((z 1).val / 1000 * 2 + (z 1).val % 2) * 512 + p / 512)) % 65536 * 512 + p % 512)
  omega

variable (A : FVec F S64x2x512x512 .f32) (M I : IVec S64x500 32) (Y : FVec F S64x500x2 .f32)

theorem mexp_apply (z : S32x2000.Idx) : mexp (F := F) (shapeCast S32x1000 M shapeCasts_S64x500_S32x1000) z = Refer.masks (F := F) M (back z) := by
  unfold mexp weight Refer.masks
  rw [Refer.both_apply]
  exact congrArg (FloatOps.sitofp .f32) (words_apply M z)

theorem predm_apply (hI : ∀ x, (I x).toNat < 2 ^ 18) (z : S32x2000.Idx) :
    predm A (shapeCast S32x1000 I shapeCasts_S64x500_S32x1000) (shapeCast S32x1000 M shapeCasts_S64x500_S32x1000) z
      = FloatOps.mulf (Refer.taken A I (back z)) (Refer.masks (F := F) M (back z)) := by
  have hp : hw (rowOf (F := F) (shapeCast S32x1000 I shapeCasts_S64x500_S32x1000) (z 0).val) (z 1).val = (I (spot (back z))).toNat :=
    congrArg BitVec.toNat (words_apply I z)
  rw [Refer.taken_eq I hI, Refer.found_apply I hI, ← mexp_apply]
  unfold predm entry
  refine congrArg₂ FloatOps.mulf ?_ rfl
  rw [hp]
  exact cell_apply A _ z _ hp (hI _)

theorem gaps_apply (hI : ∀ x, (I x).toNat < 2 ^ 18) (z : S32x2000.Idx) :
    absf (subf (predm A (shapeCast S32x1000 I shapeCasts_S64x500_S32x1000) (shapeCast S32x1000 M shapeCasts_S64x500_S32x1000))
      (mulf (shapeCast S32x2000 Y shapeCasts_S64x500x2_S32x2000 : FVec F S32x2000 .f32) (mexp (shapeCast S32x1000 M shapeCasts_S64x500_S32x1000)))) z
      = FloatOps.absf (FloatOps.subf (FloatOps.mulf (Refer.taken A I (back z)) (Refer.masks (F := F) M (back z)))
          (FloatOps.mulf (Y (back z)) (Refer.masks (F := F) M (back z)))) := by
  have hY : (shapeCast S32x2000 Y shapeCasts_S64x500x2_S32x2000 : FVec F S32x2000 .f32) z = Y (back z) :=
    congrArg Y (reshape_eq z _)
  rw [← predm_apply A M I hI, ← mexp_apply, ← hY]
  rfl

/-! ## The same sums -/

/-- The kernel's sum is the sum over the places. -/
theorem total_eq (X : FVec Ideal S32x2000 .f32) : total (F := Ideal) X = ∑ z : S32x2000.Idx, X z := by
  have hs : ∀ j : S1.Idx, multiReduction .add [1, 2] S1 (shapeCast S1x32x2000 X shapeCasts_S32x2000_S1x32x2000 : FVec Ideal S1x32x2000 .f32)
      0x00000000#32 reduces_S1x32x2000_S1 (.inl rfl) rfl j = ∑ z : S32x2000.Idx, X z := fun j =>
    (Ideal.multiReduction_add_total _ _ _ (fun b => by match b with | ⟨0, _⟩ => rfl) _ _ j).trans
      (Equiv.sum_comp (Shape.reshapeEquiv shapeCasts_S32x2000_S1x32x2000) X)
  exact hs _

/-- It is the reference's sum of the same elements. -/
theorem total_back (X : FVec Ideal S32x2000 .f32) (R : FVec Ideal S64x500x2 .f32) (h : ∀ z, X z = R (back z)) (j : Cert.ReferenceIdeal.S_.Idx) :
    total (F := Ideal) X = Host.reduceAdd R (constant Cert.ReferenceIdeal.S_ .f32 0x00000000#32)
      Cert.ReferenceIdeal.Gen.reducesTo_S64x500x2_S_d0_1_2 Cert.ReferenceIdeal.Gen.h_S_ j := by
  rw [total_eq, hostReduceAdd_apply, Ideal.hostReduceAdd_total _ (fun b => b.elim0)]
  have hz : (constant (F := Ideal) Cert.ReferenceIdeal.S_ .f32 0x00000000#32) (Shape.Idx.first Cert.ReferenceIdeal.Gen.h_S_) = (0 : EReal) := Ideal.ofBits_zero_f32
  rw [hz, zero_add, ← Equiv.sum_comp (Shape.reshapeEquiv shapeCasts_S64x500x2_S32x2000) R]
  refine Finset.sum_congr rfl fun z _ => ?_
  rw [reshape_eq]
  exact h z

/-- The kernel's loss is the reference's result. -/
theorem loss_eq (A : FVec Ideal S64x2x512x512 .f32) (M I : IVec S64x500 32) (Y : FVec Ideal S64x500x2 .f32) (hI : ∀ x, (I x).toNat < 2 ^ 18)
    (j : Cert.ReferenceIdeal.S_.Idx) :
    loss (F := Ideal) (predm A (shapeCast S32x1000 I shapeCasts_S64x500_S32x1000) (shapeCast S32x1000 M shapeCasts_S64x500_S32x1000))
      (mexp (shapeCast S32x1000 M shapeCasts_S64x500_S32x1000)) (shapeCast S32x2000 Y shapeCasts_S64x500x2_S32x2000)
      = Refer.answer A M I Y j := by
  have h1 := total_back _ (Refer.gaps A M I Y) (gaps_apply A M I Y hI) j
  have h2 := total_back (mexp (F := Ideal) (shapeCast S32x1000 M shapeCasts_S64x500_S32x1000)) (Refer.masks M) (mexp_apply M) j
  exact congrArg₂ Scalar.divf h1 (congrArg₂ Scalar.addf h2 rfl)

/-- What the kernel leaves is what the reference's arguments say. -/
theorem value_eq (m : (ℓ : Loc nD τ sig) → Buf (Elt Ideal) ℓ) (d : Dev nD) (hI : ∀ x : S64x500.Idx, ((m ((d : Thread nD τ).loc main_arg2) : IVec S64x500 32) x).toNat < 2 ^ 18)
    (j : Cert.ReferenceIdeal.S_.Idx) :
    value m d = Refer.answer (F := Ideal) (m ((d : Thread nD τ).loc main_arg0)) (m ((d : Thread nD τ).loc main_arg1)) (m ((d : Thread nD τ).loc main_arg2))
      (m ((d : Thread nD τ).loc main_arg3)) j := by
  unfold value mX mW mY mA mI mM
  exact loss_eq _ _ _ _ hI j

/-- The value claim: both programs end with the loss of their arguments, and leave the arguments as they were. -/
theorem same_value : Cert.algebraic_KernelIdeal_ReferenceIdeal := fun m g m' g' hpre hargs => by
  refine ⟨fun c => fun _ => value m c, ?_, ?_⟩
  · exact (θ_run Cert.KernelIdeal.defs _ _).mono (fun _ h c => h.1 c) (Cert.Proof.Tile.run_main (F := Ideal) m g (Frames.inRange_of m hpre))
  · refine (θ_run Cert.ReferenceIdeal.defs _ _).mono (fun r h c => ⟨(h c).1.trans ?_, (h c).2⟩) (Refer.run_answer (F := Ideal) m' g')
    obtain ⟨h0, h1, h2, h3⟩ := hargs c
    have key := fun j => (value_eq m c (Frames.positions _ _ _ _ (hpre c)) j).symm
    rw [← h0, ← h1, ← h2, ← h3] at key
    exact funext key

end Cert.Proof.Equal

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem

/-- The claims: the three frames; that the idealized kernel is the kernel, rewritten nowhere; and that it computes the
    reference's loss. -/
theorem claim : Cert.Claim := ⟨Cert.Kernel.Gen.facts, Cert.KernelIdeal.Gen.facts, Cert.ReferenceIdeal.Gen.facts, Cert.Pre_in_range.Gen.facts,
  Frames.frame_kernel, Frames.frame_ideal, Frames.frame_reference, trivial, Equal.same_value⟩

end Cert.Proof

end
